-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite [hPre_finite : Cert.Pre_finite.Facts] (m : (ℓ : Loc Cert.DiffIdeal.nD Cert.DiffIdeal.τ Cert.DiffIdeal.sig) → Buf (Elt Ideal) ℓ) : Prop :=
  ∀ c : Dev Cert.DiffIdeal.nD,
    (Cert.Pre_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_alive [hPre_alive : Cert.Pre_alive.Facts] (m : (ℓ : Loc Cert.SbIdeal.nD Cert.SbIdeal.τ Cert.SbIdeal.sig) → Buf (Elt Ideal) ℓ) : Prop :=
  ∀ c : Dev Cert.SbIdeal.nD,
    (Cert.Pre_alive.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_alive [hPre_alive : Cert.Pre_alive.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_alive.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))) = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_finite [hDiffIdeal : Cert.DiffIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_alive [hSbIdeal : Cert.SbIdeal.Facts] [hPre_alive : Cert.Pre_alive.Facts] : Prop :=
  ∀ (m : (ℓ : Loc Cert.SbIdeal.nD Cert.SbIdeal.τ Cert.SbIdeal.sig) → Buf (Elt Ideal) ℓ) (g : Dev Cert.SbIdeal.nD → PrngReg), Pre_SbIdeal_alive m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_alive [hSbRefIdeal : Cert.SbRefIdeal.Facts] [hPre_alive : Cert.Pre_alive.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_alive m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def preserves_Diff_DiffIdeal : Prop :=
  True

def algebraic_DiffIdeal_DiffRefIdeal_pre_finite [hDiffIdeal : Cert.DiffIdeal.Facts] [hDiffRefIdeal : Cert.DiffRefIdeal.Facts] [hPre_finite : Cert.Pre_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)) →
    ∃ (v0 : (c : Dev Cert.DiffIdeal.nD) → Buf (Elt Ideal) ((c.tc : Thread Cert.DiffIdeal.nD Cert.DiffIdeal.τ).loc Cert.DiffIdeal.main_v3)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v3) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v69) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v28_0)) (v1 : (c : Dev Cert.ProjIdeal.nD) → Buf (Elt Ideal) ((c.tc : Thread Cert.ProjIdeal.nD Cert.ProjIdeal.τ).loc Cert.ProjIdeal.main_v28_1)) (v2 : (c : Dev Cert.ProjIdeal.nD) → Buf (Elt Ideal) ((c.tc : Thread Cert.ProjIdeal.nD Cert.ProjIdeal.τ).loc Cert.ProjIdeal.main_v28_2)) (v3 : (c : Dev Cert.ProjIdeal.nD) → Buf (Elt Ideal) ((c.tc : Thread Cert.ProjIdeal.nD Cert.ProjIdeal.τ).loc Cert.ProjIdeal.main_v28_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28_0) = v0 c
          ∧ r.2.mem ((c.tc : Thread Cert.ProjIdeal.nD Cert.ProjIdeal.τ).loc Cert.ProjIdeal.main_v28_1) = v1 c
          ∧ r.2.mem ((c.tc : Thread Cert.ProjIdeal.nD Cert.ProjIdeal.τ).loc Cert.ProjIdeal.main_v28_2) = v2 c
          ∧ r.2.mem ((c.tc : Thread Cert.ProjIdeal.nD Cert.ProjIdeal.τ).loc Cert.ProjIdeal.main_v28_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v96) = v0 c
          ∧ r.2.mem ((c.tc : Thread Cert.ProjRefIdeal.nD Cert.ProjRefIdeal.τ).loc Cert.ProjRefIdeal.main_v97) = v1 c
          ∧ r.2.mem ((c.tc : Thread Cert.ProjRefIdeal.nD Cert.ProjRefIdeal.τ).loc Cert.ProjRefIdeal.main_v98) = v2 c
          ∧ r.2.mem ((c.tc : Thread Cert.ProjRefIdeal.nD Cert.ProjRefIdeal.τ).loc Cert.ProjRefIdeal.main_v99) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)) →
    ∃ (v0 : (c : Dev Cert.SmallIdeal.nD) → Buf (Elt Ideal) ((c.tc : Thread Cert.SmallIdeal.nD Cert.SmallIdeal.τ).loc Cert.SmallIdeal.main_v30_0)) (v1 : (c : Dev Cert.SmallIdeal.nD) → Buf (Elt Ideal) ((c.tc : Thread Cert.SmallIdeal.nD Cert.SmallIdeal.τ).loc Cert.SmallIdeal.main_v30_1)) (v2 : (c : Dev Cert.SmallIdeal.nD) → Buf (Elt Ideal) ((c.tc : Thread Cert.SmallIdeal.nD Cert.SmallIdeal.τ).loc Cert.SmallIdeal.main_v30_2)) (v3 : (c : Dev Cert.SmallIdeal.nD) → Buf (Elt Ideal) ((c.tc : Thread Cert.SmallIdeal.nD Cert.SmallIdeal.τ).loc Cert.SmallIdeal.main_v30_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v30_0) = v0 c
          ∧ r.2.mem ((c.tc : Thread Cert.SmallIdeal.nD Cert.SmallIdeal.τ).loc Cert.SmallIdeal.main_v30_1) = v1 c
          ∧ r.2.mem ((c.tc : Thread Cert.SmallIdeal.nD Cert.SmallIdeal.τ).loc Cert.SmallIdeal.main_v30_2) = v2 c
          ∧ r.2.mem ((c.tc : Thread Cert.SmallIdeal.nD Cert.SmallIdeal.τ).loc Cert.SmallIdeal.main_v30_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v98) = v0 c
          ∧ r.2.mem ((c.tc : Thread Cert.SmallRefIdeal.nD Cert.SmallRefIdeal.τ).loc Cert.SmallRefIdeal.main_v99) = v1 c
          ∧ r.2.mem ((c.tc : Thread Cert.SmallRefIdeal.nD Cert.SmallRefIdeal.τ).loc Cert.SmallRefIdeal.main_v100) = v2 c
          ∧ r.2.mem ((c.tc : Thread Cert.SmallRefIdeal.nD Cert.SmallRefIdeal.τ).loc Cert.SmallRefIdeal.main_v101) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)) →
    ∃ (v0 : (c : Dev Cert.MergeSIdeal.nD) → Buf (Elt Ideal) ((c.tc : Thread Cert.MergeSIdeal.nD Cert.MergeSIdeal.τ).loc Cert.MergeSIdeal.main_v7)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v7) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v45) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v4)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v4) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v34) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_Sb_SbIdeal : Prop :=
  True

def algebraic_SbIdeal_SbRefIdeal_pre_alive [hSbIdeal : Cert.SbIdeal.Facts] [hSbRefIdeal : Cert.SbRefIdeal.Facts] [hPre_alive : Cert.Pre_alive.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_alive m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v11)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v11) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v31) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def Claim : Prop :=
  ∃ (hDiff : Cert.Diff.Facts) (hDiffIdeal : Cert.DiffIdeal.Facts) (hDiffRefIdeal : Cert.DiffRefIdeal.Facts) (hProj : Cert.Proj.Facts) (hProjIdeal : Cert.ProjIdeal.Facts) (hProjRefIdeal : Cert.ProjRefIdeal.Facts) (hSmall : Cert.Small.Facts) (hSmallIdeal : Cert.SmallIdeal.Facts) (hSmallRefIdeal : Cert.SmallRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hMergeS : Cert.MergeS.Facts) (hMergeSIdeal : Cert.MergeSIdeal.Facts) (hMergeSRefIdeal : Cert.MergeSRefIdeal.Facts) (hFfnS : Cert.FfnS.Facts) (hFfnSIdeal : Cert.FfnSIdeal.Facts) (hFfnSRefIdeal : Cert.FfnSRefIdeal.Facts) (hSb : Cert.Sb.Facts) (hSbIdeal : Cert.SbIdeal.Facts) (hSbRefIdeal : Cert.SbRefIdeal.Facts) (hPre_finite : Cert.Pre_finite.Facts) (hPre_alive : Cert.Pre_alive.Facts),
    quiescent_Diff (hDiff := hDiff)
    ∧ quiescent_DiffIdeal (hDiffIdeal := hDiffIdeal)
    ∧ quiescent_DiffIdeal_pre_finite (hDiffIdeal := hDiffIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Small (hSmall := hSmall)
    ∧ quiescent_SmallIdeal (hSmallIdeal := hSmallIdeal)
    ∧ quiescent_SmallRefIdeal (hSmallRefIdeal := hSmallRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Sb (hSb := hSb)
    ∧ quiescent_SbIdeal (hSbIdeal := hSbIdeal)
    ∧ quiescent_SbIdeal_pre_alive (hSbIdeal := hSbIdeal) (hPre_alive := hPre_alive)
    ∧ quiescent_SbRefIdeal (hSbRefIdeal := hSbRefIdeal)
    ∧ quiescent_SbRefIdeal_pre_alive (hSbRefIdeal := hSbRefIdeal) (hPre_alive := hPre_alive)
    ∧ preserves_Diff_DiffIdeal
    ∧ algebraic_DiffIdeal_DiffRefIdeal_pre_finite (hDiffIdeal := hDiffIdeal) (hDiffRefIdeal := hDiffRefIdeal) (hPre_finite := hPre_finite)
    ∧ preserves_Proj_ProjIdeal
    ∧ algebraic_ProjIdeal_ProjRefIdeal (hProjIdeal := hProjIdeal) (hProjRefIdeal := hProjRefIdeal)
    ∧ preserves_Small_SmallIdeal
    ∧ algebraic_SmallIdeal_SmallRefIdeal (hSmallIdeal := hSmallIdeal) (hSmallRefIdeal := hSmallRefIdeal)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_MergeS_MergeSIdeal
    ∧ algebraic_MergeSIdeal_MergeSRefIdeal (hMergeSIdeal := hMergeSIdeal) (hMergeSRefIdeal := hMergeSRefIdeal)
    ∧ preserves_FfnS_FfnSIdeal
    ∧ algebraic_FfnSIdeal_FfnSRefIdeal (hFfnSIdeal := hFfnSIdeal) (hFfnSRefIdeal := hFfnSRefIdeal)
    ∧ preserves_Sb_SbIdeal
    ∧ algebraic_SbIdeal_SbRefIdeal_pre_alive (hSbIdeal := hSbIdeal) (hSbRefIdeal := hSbRefIdeal) (hPre_alive := hPre_alive)
-- ==== Pre_alive.lean ====
abbrev S8192x6144 : Shape := ⟨2, ![8192, 6144]⟩
abbrev S144x6144 : Shape := ⟨2, ![144, 6144]⟩
abbrev S16x3072 : Shape := ⟨2, ![16, 3072]⟩
abbrev S8192x3072 : Shape := ⟨2, ![8192, 3072]⟩
abbrev S8208x3072 : Shape := ⟨2, ![8208, 3072]⟩
abbrev S8192x1024 : Shape := ⟨2, ![8192, 1024]⟩
abbrev S8192x8x128 : Shape := ⟨3, ![8192, 8, 128]⟩
abbrev S8208x1024 : Shape := ⟨2, ![8208, 1024]⟩
abbrev S8208x8x128 : Shape := ⟨3, ![8208, 8, 128]⟩
abbrev S8208 : Shape := ⟨1, ![8208]⟩
abbrev S8x8192x8208 : Shape := ⟨3, ![8, 8192, 8208]⟩
abbrev S1x8208 : Shape := ⟨2, ![1, 8208]⟩
abbrev S8192 : Shape := ⟨1, ![8192]⟩
abbrev S8192x1 : Shape := ⟨2, ![8192, 1]⟩
abbrev S8192x8208 : Shape := ⟨2, ![8192, 8208]⟩
abbrev S_ : Shape := ⟨0, ![]⟩
abbrev S8x8192 : Shape := ⟨2, ![8, 8192]⟩

class Facts : Prop where
  slices_S144x6144_S16x3072_0_0 : S144x6144.Slices ![0, 0] S16x3072
  slices_S8192x6144_S8192x3072_0_0 : S8192x6144.Slices ![0, 0] S8192x3072
  concatenates_S16x3072_S8192x3072_S8208x3072_d0 : Shape.Concatenates [S16x3072, S8192x3072] S8208x3072 0
  bitsLt_bf16_f32 : FTy.bits .bf16 < FTy.bits .f32
  slices_S8208x3072_S8192x1024_16_0 : S8208x3072.Slices ![16, 0] S8192x1024
  shapeCasts_S8192x1024_S8192x8x128 : S8192x1024.ShapeCasts S8192x8x128
  slices_S8208x3072_S8208x1024_0_1024 : S8208x3072.Slices ![0, 1024] S8208x1024
  shapeCasts_S8208x1024_S8208x8x128 : S8208x1024.ShapeCasts S8208x8x128
  bcast_S8208_S1x8208_1 : S8208.BroadcastsInDim S1x8208 (![1] : Fin 1 → Fin S1x8208.rank)
  slices_S8208_S8192_16 : S8208.Slices ![16] S8192
  bcast_S8192_S8192x1_0 : S8192.BroadcastsInDim S8192x1 (![0] : Fin 1 → Fin S8192x1.rank)
  bcast_S1x8208_S8192x8208_0_1 : S1x8208.BroadcastsInDim S8192x8208 (![0, 1] : Fin 2 → Fin S8192x8208.rank)
  bcast_S8192x1_S8192x8208_0_1 : S8192x1.BroadcastsInDim S8192x8208 (![0, 1] : Fin 2 → Fin S8192x8208.rank)
  bcast_S_S8x8192x8208 : S_.BroadcastsInDim S8x8192x8208 (![] : Fin 0 → Fin S8x8192x8208.rank)
  bcast_S8192x8208_S8x8192x8208_1_2 : S8192x8208.BroadcastsInDim S8x8192x8208 (![1, 2] : Fin 2 → Fin S8x8192x8208.rank)
  reducesTo_S8x8192x8208_S8x8192_d2 : S8x8192x8208.ReducesTo [2] S8x8192
  h_S_ : 0 < S_.numel
  bcast_S_S8x8192 : S_.BroadcastsInDim S8x8192 (![] : Fin 0 → Fin S8x8192.rank)
  reducesTo_S8x8192_S_d0_1 : S8x8192.ReducesTo [0, 1] S_
  dot_S8192x8x128_S8208x8x128_S8x8192x8208_2_2_0_0_1_1_wf : DotDims.WF S8192x8x128 S8208x8x128 S8x8192x8208 [2] [2] [0] [0] [1] [1]

variable [Facts]

def dot_S8192x8x128_S8208x8x128_S8x8192x8208_2_2_0_0_1_1 : DotDims S8192x8x128 S8208x8x128 S8x8192x8208 where
  lhsContracting := [2]
  rhsContracting := [2]
  lhsNonContracting := [0]
  rhsNonContracting := [0]
  lhsBatch := [1]
  rhsBatch := [1]
  wf := dot_S8192x8x128_S8208x8x128_S8x8192x8208_2_2_0_0_1_1_wf
def fn_softplus {F : FTy → Type} [FloatOps F] (arg0 : FVec F S8x8192x8208 .f32) : FVec F S8x8192x8208 .f32 :=
  let cst : FVec F S_ .f32 := constant S_ .f32 0x00000000#32
  let v0 : FVec F S8x8192x8208 .f32 := broadcastInDim S8x8192x8208 ![] bcast_S_S8x8192x8208 cst
  let v1 : FVec F S8x8192x8208 .f32 := maximumf arg0 v0
  let v2 : FVec F S8x8192x8208 .f32 := broadcastInDim S8x8192x8208 ![] bcast_S_S8x8192x8208 cst
  let v3 : FVec F S8x8192x8208 .f32 := subf arg0 v2
  let v4 : IVec S8x8192x8208 1 := cmpf .une v3 v3
  let v5 : FVec F S8x8192x8208 .f32 := broadcastInDim S8x8192x8208 ![] bcast_S_S8x8192x8208 cst
  let v6 : FVec F S8x8192x8208 .f32 := addf arg0 v5
  let v7 : FVec F S8x8192x8208 .f32 := Host.absf v3
  let v8 : FVec F S8x8192x8208 .f32 := Host.negf v7
  let v9 : FVec F S8x8192x8208 .f32 := Host.exp v8
  let v10 : FVec F S8x8192x8208 .f32 := Host.log1p v9
  let v11 : FVec F S8x8192x8208 .f32 := addf v1 v10
  let v12 : FVec F S8x8192x8208 .f32 := select v4 v6 v11
  v12

def fn_log_sigmoid {F : FTy → Type} [FloatOps F] (arg0 : FVec F S8x8192x8208 .f32) : FVec F S8x8192x8208 .f32 :=
  let v0 : FVec F S8x8192x8208 .f32 := Host.negf arg0
  let v1 : FVec F S8x8192x8208 .f32 := fn_softplus (F := F) v0
  let v2 : FVec F S8x8192x8208 .f32 := Host.negf v1
  v2

def fn_where {F : FTy → Type} [FloatOps F] (arg0 : IVec S8192x8208 1) (arg1 : FVec F S8x8192x8208 .f32) (arg2 : FVec F S_ .f32) : FVec F S8x8192x8208 .f32 :=
  let v0 : FVec F S_ .f32 := id arg2
  let v1 : IVec S8x8192x8208 1 := broadcastInDim S8x8192x8208 ![1, 2] bcast_S8192x8208_S8x8192x8208_1_2 arg0
  let v2 : FVec F S8x8192x8208 .f32 := broadcastInDim S8x8192x8208 ![] bcast_S_S8x8192x8208 v0
  let v3 : FVec F S8x8192x8208 .f32 := select v1 arg1 v2
  v3

def fn_part1 {F : FTy → Type} [FloatOps F] (main_v19 : FVec F S8x8192 .f32) (main_v20 : FVec F S8x8192 .f32) : IVec S_ 1 :=
  let main_v21 : IVec S8x8192 1 := cmpf .ogt main_v19 main_v20
  let main_c : IVec S_ 1 := constantI S_ 1 1#1
  let main_v22 : IVec S_ 1 := (fun x v => Host.reduce IntOp.andi x v reducesTo_S8x8192_S_d0_1 h_S_) main_v21 main_c
  main_v22

def fn {F : FTy → Type} [FloatOps F] (main_arg0 : FVec F S8192x6144 .bf16) (main_arg1 : FVec F S144x6144 .bf16) : IVec S_ 1 :=
  let main_v0 : FVec F S16x3072 .bf16 := (extractStridedSlice S16x3072 ![0, 0] · slices_S144x6144_S16x3072_0_0) main_arg1
  let main_v1 : FVec F S8192x3072 .bf16 := (extractStridedSlice S8192x3072 ![0, 0] · slices_S8192x6144_S8192x3072_0_0) main_arg0
  let main_v2 : FVec F S8208x3072 .bf16 := (fun a b => concatenate S8208x3072 0 [⟨S16x3072, a⟩, ⟨S8192x3072, b⟩] concatenates_S16x3072_S8192x3072_S8208x3072_d0) main_v0 main_v1
  let main_v3 : FVec F S8208x3072 .f32 := (extf .f32 · bitsLt_bf16_f32) main_v2
  let main_v4 : FVec F S8192x1024 .f32 := (extractStridedSlice S8192x1024 ![16, 0] · slices_S8208x3072_S8192x1024_16_0) main_v3
  let main_v5 : FVec F S8192x8x128 .f32 := shapeCast S8192x8x128 main_v4 shapeCasts_S8192x1024_S8192x8x128
  let main_v6 : FVec F S8208x1024 .f32 := (extractStridedSlice S8208x1024 ![0, 1024] · slices_S8208x3072_S8208x1024_0_1024) main_v3
  let main_v7 : FVec F S8208x8x128 .f32 := shapeCast S8208x8x128 main_v6 shapeCasts_S8208x1024_S8208x8x128
  let main_v8 : IVec S8208 32 := iotaInDim S8208 32 0
  let main_v9 : FVec F S8x8192x8208 .f32 := (fun l r => Host.dotGeneral dot_S8192x8x128_S8208x8x128_S8x8192x8208_2_2_0_0_1_1 none l r) main_v5 main_v7
  let main_v10 : IVec S1x8208 32 := broadcastInDim S1x8208 ![1] bcast_S8208_S1x8208_1 main_v8
  let main_v11 : IVec S8192 32 := (extractStridedSlice S8192 ![16] · slices_S8208_S8192_16) main_v8
  let main_v12 : IVec S8192x1 32 := broadcastInDim S8192x1 ![0] bcast_S8192_S8192x1_0 main_v11
  let main_v13 : IVec S8192x8208 32 := broadcastInDim S8192x8208 ![0, 1] bcast_S1x8208_S8192x8208_0_1 main_v10
  let main_v14 : IVec S8192x8208 32 := broadcastInDim S8192x8208 ![0, 1] bcast_S8192x1_S8192x8208_0_1 main_v12
  let main_v15 : IVec S8192x8208 1 := cmpi .slt main_v13 main_v14
  let main_v16 : FVec F S8x8192x8208 .f32 := Host.negf main_v9
  let main_v17 : FVec F S8x8192x8208 .f32 := fn_log_sigmoid (F := F) main_v16
  let main_cst : FVec F S_ .f32 := constant S_ .f32 0x00000000#32
  let main_v18 : FVec F S8x8192x8208 .f32 := fn_where (F := F) main_v15 main_v17 main_cst
  let main_cst_0 : FVec F S_ .f32 := constant S_ .f32 0x00000000#32
  let main_v19 : FVec F S8x8192 .f32 := (fun x v => Host.reduceAdd x v reducesTo_S8x8192x8208_S8x8192_d2 h_S_) main_v18 main_cst_0
  let main_cst_1 : FVec F S_ .f32 := constant S_ .f32 0xC2D00000#32
  let main_v20 : FVec F S8x8192 .f32 := broadcastInDim S8x8192 ![] bcast_S_S8x8192 main_cst_1
  fn_part1 (F := F) main_v19 main_v20
-- ==== Pre_finite.lean ====
abbrev S8192x6144 : Shape := ⟨2, ![8192, 6144]⟩
abbrev S144x6144 : Shape := ⟨2, ![144, 6144]⟩
abbrev S1x128 : Shape := ⟨2, ![1, 128]⟩
abbrev S1x256 : Shape := ⟨2, ![1, 256]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S144x6144 : S_.BroadcastsInDim S144x6144 (![] : Fin 0 → Fin S144x6144.rank)
  reducesTo_S144x6144_S_d0_1 : S144x6144.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_arg5 : FVec F S1x128 .f32) (main_v15 : IVec S_ 1) (main_v16 : FVec F S1x128 .f32) (main_cst_4 : FVec F S_ .f32) : IVec S_ 1 :=
  let main_v17 : FVec F S1x128 .f32 := broadcastInDim S1x128 ![] bcast_S_S1x128 main_cst_4
  let main_v18 : IVec S1x128 1 := cmpf .olt main_v16 main_v17
  let main_c_5 : IVec S_ 1 := constantI S_ 1 1#1
  let main_v19 : IVec S_ 1 := (fun x v => Host.reduce IntOp.andi x v reducesTo_S1x128_S_d0_1 h_S_) main_v18 main_c_5
  let main_v20 : IVec S_ 1 := andi main_v15 main_v19
  let main_v21 : FVec F S1x128 .f32 := Host.absf main_arg4
  let main_cst_6 : FVec F S_ .f32 := constant S_ .f32 0x7F800000#32
  let main_v22 : FVec F S1x128 .f32 := broadcastInDim S1x128 ![] bcast_S_S1x128 main_cst_6
  let main_v23 : IVec S1x128 1 := cmpf .olt main_v21 main_v22
  let main_c_7 : IVec S_ 1 := constantI S_ 1 1#1
  let main_v24 : IVec S_ 1 := (fun x v => Host.reduce IntOp.andi x v reducesTo_S1x128_S_d0_1 h_S_) main_v23 main_c_7
  let main_v25 : IVec S_ 1 := andi main_v20 main_v24
  let main_v26 : FVec F S1x128 .f32 := Host.absf main_arg5
  let main_cst_8 : FVec F S_ .f32 := constant S_ .f32 0x7F800000#32
  let main_v27 : FVec F S1x128 .f32 := broadcastInDim S1x128 ![] bcast_S_S1x128 main_cst_8
  let main_v28 : IVec S1x128 1 := cmpf .olt main_v26 main_v27
  let main_c_9 : IVec S_ 1 := constantI S_ 1 1#1
  let main_v29 : IVec S_ 1 := (fun x v => Host.reduce IntOp.andi x v reducesTo_S1x128_S_d0_1 h_S_) main_v28 main_c_9
  let main_v30 : IVec S_ 1 := andi main_v25 main_v29
  main_v30

def fn {F : FTy → Type} [FloatOps F] (main_arg0 : FVec F S8192x6144 .bf16) (main_arg1 : FVec F S144x6144 .bf16) (main_arg2 : FVec F S1x128 .f32) (main_arg3 : FVec F S1x128 .f32) (main_arg4 : FVec F S1x128 .f32) (main_arg5 : FVec F S1x128 .f32) (main_arg6 : FVec F S1x256 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S144x6144 .f32 := (extf .f32 · bitsLt_bf16_f32) main_arg1
  let main_v6 : FVec F S144x6144 .f32 := Host.absf main_v5
  let main_cst_0 : FVec F S_ .f32 := constant S_ .f32 0x7F800000#32
  let main_v7 : FVec F S144x6144 .f32 := broadcastInDim S144x6144 ![] bcast_S_S144x6144 main_cst_0
  let main_v8 : IVec S144x6144 1 := cmpf .olt main_v6 main_v7
  let main_c_1 : IVec S_ 1 := constantI S_ 1 1#1
  let main_v9 : IVec S_ 1 := (fun x v => Host.reduce IntOp.andi x v reducesTo_S144x6144_S_d0_1 h_S_) main_v8 main_c_1
  let main_v10 : IVec S_ 1 := andi main_v4 main_v9
  let main_v11 : FVec F S1x128 .f32 := Host.absf main_arg2
  let main_cst_2 : FVec F S_ .f32 := constant S_ .f32 0x7F800000#32
  let main_v12 : FVec F S1x128 .f32 := broadcastInDim S1x128 ![] bcast_S_S1x128 main_cst_2
  let main_v13 : IVec S1x128 1 := cmpf .olt main_v11 main_v12
  let main_c_3 : IVec S_ 1 := constantI S_ 1 1#1
  let main_v14 : IVec S_ 1 := (fun x v => Host.reduce IntOp.andi x v reducesTo_S1x128_S_d0_1 h_S_) main_v13 main_c_3
  let main_v15 : IVec S_ 1 := andi main_v10 main_v14
  let main_v16 : FVec F S1x128 .f32 := Host.absf main_arg3
  let main_cst_4 : FVec F S_ .f32 := constant S_ .f32 0x7F800000#32
  fn_part1 (F := F) main_arg4 main_arg5 main_v15 main_v16 main_cst_4
-- ==== Diff.lean ====
abbrev S8192x6144 : Shape := ⟨2, ![8192, 6144]⟩
abbrev S144x6144 : Shape := ⟨2, ![144, 6144]⟩
abbrev S1x128 : Shape := ⟨2, ![1, 128]⟩
abbrev S1x256 : Shape := ⟨2, ![1, 256]⟩
abbrev S16x6144 : Shape := ⟨2, ![16, 6144]⟩
abbrev S_ : Shape := ⟨0, ![]⟩
abbrev S240x6144 : Shape := ⟨2, ![240, 6144]⟩
abbrev S256x6144 : Shape := ⟨2, ![256, 6144]⟩
abbrev S8192x1024 : Shape := ⟨2, ![8192, 1024]⟩
abbrev S1024x128 : Shape := ⟨2, ![1024, 128]⟩
abbrev S8192x128 : Shape := ⟨2, ![8192, 128]⟩
abbrev S8192x256 : Shape := ⟨2, ![8192, 256]⟩
abbrev S256x128 : Shape := ⟨2, ![256, 128]⟩
abbrev S256x256 : Shape := ⟨2, ![256, 256]⟩
abbrev S1024x256 : Shape := ⟨2, ![1024, 256]⟩
abbrev S1 : Shape := ⟨1, ![1]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 23
  | .smem => 0
  | _ => 0

abbrev bufTy : (tb : Table) → Fin (tcTables nBuf tb) → BufTy
  | .hbm, ⟨0, _⟩ => ⟨S8192x6144, .bf16⟩
  | .hbm, ⟨1, _⟩ => ⟨S144x6144, .bf16⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x256, .f32⟩
  | .hbm, ⟨7, _⟩ => ⟨S16x6144, .bf16⟩
  | .hbm, ⟨8, _⟩ => ⟨S_, .bf16⟩
  | .hbm, ⟨9, _⟩ => ⟨S240x6144, .bf16⟩
  | .hbm, ⟨10, _⟩ => ⟨S256x6144, .bf16⟩
  | .hbm, ⟨11, _⟩ => ⟨S8192x1024, .bf16⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x256, .f32⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S8192x128, .bf16⟩
  | .local _ .vmem, ⟨13, _⟩ => ⟨S8192x256, .bf16⟩
  | .local _ .vmem, ⟨14, _⟩ => ⟨S8192x256, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x256, .bf16⟩
  | .local _ .vmem, ⟨20, _⟩ => ⟨S256x256, .bf16⟩
  | .local _ .vmem, ⟨21, _⟩ => ⟨S1024x256, .bf16⟩
  | .local _ .vmem, ⟨22, _⟩ => ⟨S1024x256, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v17 : BitVec 32 := Scalar.muli arg1 c1_i32
  let v42 : BitVec 32 := Scalar.subi v17 c0_i32
  let c1_i32_22 : BitVec 32 := 1#32
  let v44 : BitVec 32 := Scalar.divsi v42 c1_i32_22
  let v45 : BitVec 32 := Scalar.muli v44 c1_i32_22
  let v46 : BitVec 32 := Scalar.addi c0_i32 v45
  let c1_i32_23 : BitVec 32 := 1#32
  ⟨c0_i32, v46, c1_i32_23⟩
def k0_mult1 (i : grid0.Coords) (k0_t1 : Fin (k0_t1_loop i).trips) : BitVec 32 :=
  let c0_i32 : BitVec 32 := 0#32
  let c1_i32_23 : BitVec 32 := 1#32
  let arg16 : BitVec 32 := Scf.iv c0_i32 c1_i32_23 k0_t1
  let c1024_i32_75 : BitVec 32 := 1024#32
  let v232 : BitVec 32 := Scalar.muli arg16 c1024_i32_75
  v232
def k0_off1 (i : grid0.Coords) (k0_t1 : Fin (k0_t1_loop i).trips) : Fin 2 → Nat :=
  let c0_i32 : BitVec 32 := 0#32
  let c1_i32_23 : BitVec 32 := 1#32
  let arg16 : BitVec 32 := Scf.iv c0_i32 c1_i32_23 k0_t1
  let c1024_i32_75 : BitVec 32 := 1024#32
  let v232 : BitVec 32 := Scalar.muli arg16 c1024_i32_75
  let v233 : BitVec 32 := v232
  let v234 : Index := Scalar.indexCast v233
  let c0_76 : Index := 0#32
  ![v234.toNat, 0]
def k0_off2 (i : grid0.Coords) (k0_t1 : Fin (k0_t1_loop i).trips) : Fin 2 → Nat :=
  let c0_i32 : BitVec 32 := 0#32
  let c1_i32_23 : BitVec 32 := 1#32
  let arg16 : BitVec 32 := Scf.iv c0_i32 c1_i32_23 k0_t1
  let c1024_i32_75 : BitVec 32 := 1024#32
  let v232 : BitVec 32 := Scalar.muli arg16 c1024_i32_75
  let v233 : BitVec 32 := v232
  let v238 : Index := Scalar.indexCast v233
  let c0_78 : Index := 0#32
  ![v238.toNat, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v17 : BitVec 32 := Scalar.muli arg1 c1_i32
  let v42 : BitVec 32 := Scalar.subi v17 c0_i32
  let c1_i32_22 : BitVec 32 := 1#32
  let v44 : BitVec 32 := Scalar.divsi v42 c1_i32_22
  let v45 : BitVec 32 := Scalar.muli v44 c1_i32_22
  let v46 : BitVec 32 := Scalar.addi c0_i32 v45
  let v43 : BitVec 32 := Scalar.addi c0_i32 v42
  let c1_i32_24 : BitVec 32 := 1#32
  ⟨v46, v43, c1_i32_24⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v17 : BitVec 32 := Scalar.muli arg1 c1_i32
  let v42 : BitVec 32 := Scalar.subi v17 c0_i32
  let c1_i32_22 : BitVec 32 := 1#32
  let v44 : BitVec 32 := Scalar.divsi v42 c1_i32_22
  let v45 : BitVec 32 := Scalar.muli v44 c1_i32_22
  let v46 : BitVec 32 := Scalar.addi c0_i32 v45
  let c1_i32_24 : BitVec 32 := 1#32
  let arg16 : BitVec 32 := Scf.iv v46 c1_i32_24 k0_t2
  let c1024_i32_75 : BitVec 32 := 1024#32
  let v232 : BitVec 32 := Scalar.muli arg16 c1024_i32_75
  v232
def k0_off3 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v17 : BitVec 32 := Scalar.muli arg1 c1_i32
  let v42 : BitVec 32 := Scalar.subi v17 c0_i32
  let c1_i32_22 : BitVec 32 := 1#32
  let v44 : BitVec 32 := Scalar.divsi v42 c1_i32_22
  let v45 : BitVec 32 := Scalar.muli v44 c1_i32_22
  let v46 : BitVec 32 := Scalar.addi c0_i32 v45
  let c1_i32_24 : BitVec 32 := 1#32
  let arg16 : BitVec 32 := Scf.iv v46 c1_i32_24 k0_t2
  let c1024_i32_75 : BitVec 32 := 1024#32
  let v232 : BitVec 32 := Scalar.muli arg16 c1024_i32_75
  let v233 : BitVec 32 := v232
  let v234 : Index := Scalar.indexCast v233
  let c0_76 : Index := 0#32
  ![v234.toNat, 0]
def k0_off4 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v17 : BitVec 32 := Scalar.muli arg1 c1_i32
  let v42 : BitVec 32 := Scalar.subi v17 c0_i32
  let c1_i32_22 : BitVec 32 := 1#32
  let v44 : BitVec 32 := Scalar.divsi v42 c1_i32_22
  let v45 : BitVec 32 := Scalar.muli v44 c1_i32_22
  let v46 : BitVec 32 := Scalar.addi c0_i32 v45
  let c1_i32_24 : BitVec 32 := 1#32
  let arg16 : BitVec 32 := Scf.iv v46 c1_i32_24 k0_t2
  let c1024_i32_75 : BitVec 32 := 1024#32
  let v232 : BitVec 32 := Scalar.muli arg16 c1024_i32_75
  let v233 : BitVec 32 := v232
  let v238 : Index := Scalar.indexCast v233
  let c0_78 : Index := 0#32
  ![v238.toNat, 0]
def k0_mult3 (i : grid0.Coords) : BitVec 32 :=
  let arg1 : BitVec 32 := BitVec.ofNat 32 (i 1).val
  let c1024_i32 : BitVec 32 := 1024#32
  let v49 : BitVec 32 := Scalar.muli arg1 c1024_i32
  let c0_i32_25 : BitVec 32 := 0#32
  let v50 : BitVec 32 := Scalar.addi v49 c0_i32_25
  v50
def k0_off5 (i : grid0.Coords) : Fin 2 → Nat :=
  let arg1 : BitVec 32 := BitVec.ofNat 32 (i 1).val
  let c1024_i32 : BitVec 32 := 1024#32
  let v49 : BitVec 32 := Scalar.muli arg1 c1024_i32
  let c0_i32_25 : BitVec 32 := 0#32
  let v50 : BitVec 32 := Scalar.addi v49 c0_i32_25
  let v51 : BitVec 32 := v50
  let v52 : Index := Scalar.indexCast v51
  let c0_26 : Index := 0#32
  ![v52.toNat, 0]
@[reducible] def k0_t3_loop (i : grid0.Coords) : Scf.Loop 32 :=
  let c0_i32_49 : BitVec 32 := 0#32
  let arg1 : BitVec 32 := BitVec.ofNat 32 (i 1).val
  let c1_i32 : BitVec 32 := 1#32
  let v17 : BitVec 32 := Scalar.muli arg1 c1_i32
  let v135 : BitVec 32 := Scalar.subi v17 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_51 : BitVec 32 := 1#32
  ⟨c0_i32_49, v139, c1_i32_51⟩
def k0_mult4 (i : grid0.Coords) (k0_t3 : Fin (k0_t3_loop i).trips) : BitVec 32 :=
  let c0_i32_49 : BitVec 32 := 0#32
  let c1_i32_51 : BitVec 32 := 1#32
  let arg16 : BitVec 32 := Scf.iv c0_i32_49 c1_i32_51 k0_t3
  let c1024_i32_75 : BitVec 32 := 1024#32
  let v232 : BitVec 32 := Scalar.muli arg16 c1024_i32_75
  v232
def k0_off6 (i : grid0.Coords) (k0_t3 : Fin (k0_t3_loop i).trips) : Fin 2 → Nat :=
  let c0_i32_49 : BitVec 32 := 0#32
  let c1_i32_51 : BitVec 32 := 1#32
  let arg16 : BitVec 32 := Scf.iv c0_i32_49 c1_i32_51 k0_t3
  let c1024_i32_75 : BitVec 32 := 1024#32
  let v232 : BitVec 32 := Scalar.muli arg16 c1024_i32_75
  let v233 : BitVec 32 := v232
  let v234 : Index := Scalar.indexCast v233
  let c0_76 : Index := 0#32
  ![v234.toNat, 0]
def k0_off7 (i : grid0.Coords) (k0_t3 : Fin (k0_t3_loop i).trips) : Fin 2 → Nat :=
  let c0_i32_49 : BitVec 32 := 0#32
  let c1_i32_51 : BitVec 32 := 1#32
  let arg16 : BitVec 32 := Scf.iv c0_i32_49 c1_i32_51 k0_t3
  let c1024_i32_75 : BitVec 32 := 1024#32
  let v232 : BitVec 32 := Scalar.muli arg16 c1024_i32_75
  let v233 : BitVec 32 := v232
  let v238 : Index := Scalar.indexCast v233
  let c0_78 : Index := 0#32
  ![v238.toNat, 0]
@[reducible] def k0_t4_loop (i : grid0.Coords) : Scf.Loop 32 :=
  let c0_i32_49 : BitVec 32 := 0#32
  let arg1 : BitVec 32 := BitVec.ofNat 32 (i 1).val
  let c1_i32 : BitVec 32 := 1#32
  let v17 : BitVec 32 := Scalar.muli arg1 c1_i32
  let v135 : BitVec 32 := Scalar.subi v17 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let v136 : BitVec 32 := Scalar.addi c0_i32_49 v135
  let c1_i32_52 : BitVec 32 := 1#32
  ⟨v139, v136, c1_i32_52⟩
def k0_mult5 (i : grid0.Coords) (k0_t4 : Fin (k0_t4_loop i).trips) : BitVec 32 :=
  let c0_i32_49 : BitVec 32 := 0#32
  let arg1 : BitVec 32 := BitVec.ofNat 32 (i 1).val
  let c1_i32 : BitVec 32 := 1#32
  let v17 : BitVec 32 := Scalar.muli arg1 c1_i32
  let v135 : BitVec 32 := Scalar.subi v17 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_52 : BitVec 32 := 1#32
  let arg16 : BitVec 32 := Scf.iv v139 c1_i32_52 k0_t4
  let c1024_i32_75 : BitVec 32 := 1024#32
  let v232 : BitVec 32 := Scalar.muli arg16 c1024_i32_75
  v232
def k0_off8 (i : grid0.Coords) (k0_t4 : Fin (k0_t4_loop i).trips) : Fin 2 → Nat :=
  let c0_i32_49 : BitVec 32 := 0#32
  let arg1 : BitVec 32 := BitVec.ofNat 32 (i 1).val
  let c1_i32 : BitVec 32 := 1#32
  let v17 : BitVec 32 := Scalar.muli arg1 c1_i32
  let v135 : BitVec 32 := Scalar.subi v17 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_52 : BitVec 32 := 1#32
  let arg16 : BitVec 32 := Scf.iv v139 c1_i32_52 k0_t4
  let c1024_i32_75 : BitVec 32 := 1024#32
  let v232 : BitVec 32 := Scalar.muli arg16 c1024_i32_75
  let v233 : BitVec 32 := v232
  let v234 : Index := Scalar.indexCast v233
  let c0_76 : Index := 0#32
  ![v234.toNat, 0]
def k0_off9 (i : grid0.Coords) (k0_t4 : Fin (k0_t4_loop i).trips) : Fin 2 → Nat :=
  let c0_i32_49 : BitVec 32 := 0#32
  let arg1 : BitVec 32 := BitVec.ofNat 32 (i 1).val
  let c1_i32 : BitVec 32 := 1#32
  let v17 : BitVec 32 := Scalar.muli arg1 c1_i32
  let v135 : BitVec 32 := Scalar.subi v17 c0_i32_49
  let c1_i32_50 : BitVec 32 := 1#32
  let v137 : BitVec 32 := Scalar.divsi v135 c1_i32_50
  let v138 : BitVec 32 := Scalar.muli v137 c1_i32_50
  let v139 : BitVec 32 := Scalar.addi c0_i32_49 v138
  let c1_i32_52 : BitVec 32 := 1#32
  let arg16 : BitVec 32 := Scf.iv v139 c1_i32_52 k0_t4
  let c1024_i32_75 : BitVec 32 := 1024#32
  let v232 : BitVec 32 := Scalar.muli arg16 c1024_i32_75
  let v233 : BitVec 32 := v232
  let v238 : Index := Scalar.indexCast v233
  let c0_78 : Index := 0#32
  ![v238.toNat, 0]
def k0_mult6 (i : grid0.Coords) : BitVec 32 :=
  let arg1 : BitVec 32 := BitVec.ofNat 32 (i 1).val
  let c1024_i32_53 : BitVec 32 := 1024#32
  let v142 : BitVec 32 := Scalar.muli arg1 c1024_i32_53
  let c0_i32_54 : BitVec 32 := 0#32
  let v143 : BitVec 32 := Scalar.addi v142 c0_i32_54
  v143
def k0_off10 (i : grid0.Coords) : Fin 2 → Nat :=
  let arg1 : BitVec 32 := BitVec.ofNat 32 (i 1).val
  let c1024_i32_53 : BitVec 32 := 1024#32
  let v142 : BitVec 32 := Scalar.muli arg1 c1024_i32_53
  let c0_i32_54 : BitVec 32 := 0#32
  let v143 : BitVec 32 := Scalar.addi v142 c0_i32_54
  let v144 : BitVec 32 := v143
  let v149 : Index := Scalar.indexCast v144
  let c0_57 : Index := 0#32
  ![v149.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c24_i32 : BitVec 32 := 24#32
  let v1 : BitVec 32 := Scalar.addi c24_i32 v0
  let c0_i32 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c24_i32 : BitVec 32 := 24#32
  let v1 : BitVec 32 := Scalar.addi c24_i32 v0
  let c1_i32 : BitVec 32 := 1#32
  let v2 : BitVec 32 := Scalar.addi v1 c1_i32
  let c0_i32 : BitVec 32 := 0#32
  ![arg1.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c32_i32 : BitVec 32 := 32#32
  let v1 : BitVec 32 := Scalar.addi c32_i32 v0
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c32_i32 : BitVec 32 := 32#32
  let v1 : BitVec 32 := Scalar.addi c32_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_9 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c32_i32 : BitVec 32 := 32#32
  let v1 : BitVec 32 := Scalar.addi c32_i32 v0
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c32_i32 : BitVec 32 := 32#32
  let v1 : BitVec 32 := Scalar.addi c32_i32 v0
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_12 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== DiffRefIdeal.lean ====
abbrev S8192x6144 : Shape := ⟨2, ![8192, 6144]⟩
abbrev S144x6144 : Shape := ⟨2, ![144, 6144]⟩
abbrev S1x128 : Shape := ⟨2, ![1, 128]⟩
abbrev S1x256 : Shape := ⟨2, ![1, 256]⟩
abbrev S16x3072 : Shape := ⟨2, ![16, 3072]⟩
abbrev S8192x3072 : Shape := ⟨2, ![8192, 3072]⟩
abbrev S8208x3072 : Shape := ⟨2, ![8208, 3072]⟩
abbrev S8208x1024 : Shape := ⟨2, ![8208, 1024]⟩
abbrev S8192x1024 : Shape := ⟨2, ![8192, 1024]⟩
abbrev S8192x4x2x128 : Shape := ⟨4, ![8192, 4, 2, 128]⟩
abbrev S8208x4x2x128 : Shape := ⟨4, ![8208, 4, 2, 128]⟩
abbrev S8208x4x256 : Shape := ⟨3, ![8208, 4, 256]⟩
abbrev S8208 : Shape := ⟨1, ![8208]⟩
abbrev S8192 : Shape := ⟨1, ![8192]⟩
abbrev S128 : Shape := ⟨1, ![128]⟩
abbrev S_ : Shape := ⟨0, ![]⟩
abbrev S4x2x8192x8208 : Shape := ⟨4, ![4, 2, 8192, 8208]⟩
abbrev S1x8208 : Shape := ⟨2, ![1, 8208]⟩
abbrev S8192x1 : Shape := ⟨2, ![8192, 1]⟩
abbrev S8192x8208 : Shape := ⟨2, ![8192, 8208]⟩
abbrev S4x2x8192 : Shape := ⟨3, ![4, 2, 8192]⟩
abbrev S4x2x8192x1 : Shape := ⟨4, ![4, 2, 8192, 1]⟩
abbrev S4x1x8192x8208 : Shape := ⟨4, ![4, 1, 8192, 8208]⟩
abbrev S4x8192x8208 : Shape := ⟨3, ![4, 8192, 8208]⟩
abbrev S4x256x8192 : Shape := ⟨3, ![4, 256, 8192]⟩
abbrev S8192x4x256 : Shape := ⟨3, ![8192, 4, 256]⟩
abbrev S8192x4 : Shape := ⟨2, ![8192, 4]⟩
abbrev S8192x4x1 : Shape := ⟨3, ![8192, 4, 1]⟩
abbrev S256 : Shape := ⟨1, ![256]⟩
abbrev S1x1x256 : Shape := ⟨3, ![1, 1, 256]⟩

abbrev nBuf : Space → Nat
  | .hbm => 91
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S144x6144, .bf16⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x256, .f32⟩
  | .hbm, ⟨7, _⟩ => ⟨S16x3072, .bf16⟩
  | .hbm, ⟨8, _⟩ => ⟨S8192x3072, .bf16⟩
  | .hbm, ⟨9, _⟩ => ⟨S8208x3072, .bf16⟩
  | .hbm, ⟨10, _⟩ => ⟨S8208x3072, .f32⟩
  | .hbm, ⟨11, _⟩ => ⟨S8208x1024, .f32⟩
  | .hbm, ⟨12, _⟩ => ⟨S8208x1024, .f32⟩
  | .hbm, ⟨13, _⟩ => ⟨S8208x1024, .f32⟩
  | .hbm, ⟨14, _⟩ => ⟨S8192x1024, .f32⟩
  | .hbm, ⟨15, _⟩ => ⟨S8192x4x2x128, .f32⟩
  | .hbm, ⟨16, _⟩ => ⟨S8208x4x2x128, .f32⟩
  | .hbm, ⟨17, _⟩ => ⟨S8208x4x256, .f32⟩
  | .hbm, ⟨18, _⟩ => ⟨S8208, .i32⟩
  | .hbm, ⟨19, _⟩ => ⟨S8192, .i32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x2x8192x8208, .f32⟩
  | .hbm, ⟨36, _⟩ => ⟨S1x8208, .i32⟩
  | .hbm, ⟨37, _⟩ => ⟨S8192x1, .i32⟩
  | .hbm, ⟨38, _⟩ => ⟨S8192x8208, .i32⟩
  | .hbm, ⟨39, _⟩ => ⟨S8192x8208, .i32⟩
  | .hbm, ⟨40, _⟩ => ⟨S8192x8208, .i1⟩
  | .hbm, ⟨41, _⟩ => ⟨S_, .f32⟩
  | .hbm, ⟨42, _⟩ => ⟨S_, .f32⟩
  | .hbm, ⟨43, _⟩ => ⟨S4x2x8192x8208, .i1⟩
  | .hbm, ⟨44, _⟩ => ⟨S4x2x8192x8208, .f32⟩
  | .hbm, ⟨45, _⟩ => ⟨S4x2x8192x8208, .f32⟩
  | .hbm, ⟨46, _⟩ => ⟨S_, .f32⟩
  | .hbm, ⟨47, _⟩ => ⟨S4x2x8192, .f32⟩
  | .hbm, ⟨48, _⟩ => ⟨S_, .f32⟩
  | .hbm, ⟨49, _⟩ => ⟨S4x2x8192, .f32⟩
  | .hbm, ⟨50, _⟩ => ⟨S4x2x8192, .f32⟩
  | .hbm, ⟨51, _⟩ => ⟨S4x2x8192x1, .f32⟩
  | .hbm, ⟨52, _⟩ => ⟨S4x2x8192x8208, .f32⟩
  | .hbm, ⟨53, _⟩ => ⟨S4x2x8192x8208, .f32⟩
  | .hbm, ⟨54, _⟩ => ⟨S4x2x8192x8208, .f32⟩
  | .hbm, ⟨55, _⟩ => ⟨S_, .f32⟩
  | .hbm, ⟨56, _⟩ => ⟨S4x2x8192, .f32⟩
  | .hbm, ⟨57, _⟩ => ⟨S4x2x8192x1, .f32⟩
  | .hbm, ⟨58, _⟩ => ⟨S4x2x8192x8208, .f32⟩
  | .hbm, ⟨59, _⟩ => ⟨S4x2x8192x8208, .f32⟩
  | .hbm, ⟨60, _⟩ => ⟨S4x1x8192x8208, .f32⟩
  | .hbm, ⟨61, _⟩ => ⟨S4x8192x8208, .f32⟩
  | .hbm, ⟨62, _⟩ => ⟨S4x1x8192x8208, .f32⟩
  | .hbm, ⟨63, _⟩ => ⟨S4x8192x8208, .f32⟩
  | .hbm, ⟨64, _⟩ => ⟨S4x8192x8208, .f32⟩
  | .hbm, ⟨65, _⟩ => ⟨S4x8192x8208, .f32⟩
  | .hbm, ⟨66, _⟩ => ⟨S4x8192x8208, .f32⟩
  | .hbm, ⟨67, _⟩ => ⟨S4x256x8192, .f32⟩
  | .hbm, ⟨68, _⟩ => ⟨S8192x4x256, .f32⟩
  | .hbm, ⟨69, _⟩ => ⟨S8192x4x256, .f32⟩
  | .hbm, ⟨70, _⟩ => ⟨S_, .f32⟩
  | .hbm, ⟨71, _⟩ => ⟨S8192x4, .f32⟩
  | .hbm, ⟨72, _⟩ => ⟨S8192x4x1, .f32⟩
  | .hbm, ⟨73, _⟩ => ⟨S_, .f32⟩
  | .hbm, ⟨74, _⟩ => ⟨S8192x4x1, .f32⟩
  | .hbm, ⟨75, _⟩ => ⟨S8192x4x1, .f32⟩
  | .hbm, ⟨76, _⟩ => ⟨S_, .f32⟩
  | .hbm, ⟨77, _⟩ => ⟨S8192x4x1, .f32⟩
  | .hbm, ⟨78, _⟩ => ⟨S8192x4x1, .f32⟩
  | .hbm, ⟨79, _⟩ => ⟨S8192x4x1, .f32⟩
  | .hbm, ⟨80, _⟩ => ⟨S8192x4x256, .f32⟩
  | .hbm, ⟨81, _⟩ => ⟨S8192x4x256, .f32⟩
  | .hbm, ⟨82, _⟩ => ⟨S256, .f32⟩
  | .hbm, ⟨83, _⟩ => ⟨S1x1x256, .f32⟩
  | .hbm, ⟨84, _⟩ => ⟨S8192x4x256, .f32⟩
  | .hbm, ⟨85, _⟩ => ⟨S8192x4x256, .f32⟩
  | .hbm, ⟨86, _⟩ => ⟨S_, .f32⟩
  | .hbm, ⟨87, _⟩ => ⟨S8192x4x256, .f32⟩
  | .hbm, ⟨88, _⟩ => ⟨S8192x4x256, .f32⟩
  | .hbm, ⟨89, _⟩ => ⟨S8192x1024, .f32⟩
  | .hbm, ⟨90, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Proj.lean ====
abbrev S1x8192x2048 : Shape := ⟨3, ![1, 8192, 2048]⟩
abbrev S1x2048x10240 : Shape := ⟨3, ![1, 2048, 10240]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x384 : Shape := ⟨2, ![8192, 384]⟩
abbrev S8192x2048 : Shape := ⟨2, ![8192, 2048]⟩
abbrev S2048x10240 : Shape := ⟨2, ![2048, 10240]⟩
abbrev S8192x6144 : Shape := ⟨2, ![8192, 6144]⟩
abbrev S8192x4096 : Shape := ⟨2, ![8192, 4096]⟩
abbrev S1024x2048 : Shape := ⟨2, ![1024, 2048]⟩
abbrev S2048x512 : Shape := ⟨2, ![2048, 512]⟩
abbrev S1024x384 : Shape := ⟨2, ![1024, 384]⟩
abbrev S1024x512 : Shape := ⟨2, ![1024, 512]⟩
abbrev S1024x128 : Shape := ⟨2, ![1024, 128]⟩

abbrev nBuf : Space → Nat
  | .hbm => 40
  | .vmem => 15
  | .smem => 0
  | _ => 0

abbrev bufTy : (tb : Table) → Fin (tcTables nBuf tb) → BufTy
  | .hbm, ⟨0, _⟩ => ⟨S1x8192x2048, .f32⟩
  | .hbm, ⟨1, _⟩ => ⟨S1x2048x10240, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S8192, .f32⟩
  | .hbm, ⟨15, _⟩ => ⟨S8192x1, .f32⟩
  | .hbm, ⟨16, _⟩ => ⟨S1x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S_, .f32⟩
  | .hbm, ⟨23, _⟩ => ⟨S8192x96, .f32⟩
  | .hbm, ⟨24, _⟩ => ⟨S_, .f32⟩
  | .hbm, ⟨25, _⟩ => ⟨S8192x96, .f32⟩
  | .hbm, ⟨26, _⟩ => ⟨S_, .f32⟩
  | .hbm, ⟨27, _⟩ => ⟨S8192x16, .f32⟩
  | .hbm, ⟨28, _⟩ => ⟨S8192x128, .f32⟩
  | .hbm, ⟨29, _⟩ => ⟨S8192x16, .f32⟩
  | .hbm, ⟨30, _⟩ => ⟨S8192x128, .f32⟩
  | .hbm, ⟨31, _⟩ => ⟨S8192x128, .f32⟩
  | .hbm, ⟨32, _⟩ => ⟨S8192x384, .f32⟩
  | .hbm, ⟨33, _⟩ => ⟨S8192x2048, .f32⟩
  | .hbm, ⟨34, _⟩ => ⟨S2048x10240, .f32⟩
  | .hbm, ⟨35, _⟩ => ⟨S2048x10240, .bf16⟩
  | .hbm, ⟨36, _⟩ => ⟨S8192x6144, .bf16⟩
  | .hbm, ⟨37, _⟩ => ⟨S8192x2048, .f32⟩
  | .hbm, ⟨38, _⟩ => ⟨S8192x2048, .f32⟩
  | .hbm, ⟨39, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x384, .f32⟩
  | .local _ .vmem, ⟨5, _⟩ => ⟨S1024x384, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev main_v28_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 20], ![false, false]⟩

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c1_i32_11 : BitVec 32 := 1#32
  let v27 : BitVec 1 := Scalar.cmpi .eq v23 c1_i32_11
  let c2_i32_12 : BitVec 32 := 2#32
  let v28 : BitVec 1 := Scalar.cmpi .eq v23 c2_i32_12
  let v29 : BitVec 1 := Scalar.ori v27 v28
  let v30 : BitVec 32 := Scalar.extui v29
  let c0_i32_13 : BitVec 32 := 0#32
  let v31 : BitVec 1 := Scalar.cmpi .ne v30 c0_i32_13
  v31

def k0_cond4 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c3_i32 : BitVec 32 := 3#32
  let v32 : BitVec 1 := Scalar.cmpi .eq v23 c3_i32
  let v33 : BitVec 32 := Scalar.extui v32
  let c0_i32_14 : BitVec 32 := 0#32
  let v34 : BitVec 1 := Scalar.cmpi .ne v33 c0_i32_14
  v34

def k0_cond5 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c4_i32 : BitVec 32 := 4#32
  let v35 : BitVec 1 := Scalar.cmpi .eq v23 c4_i32
  let v36 : BitVec 32 := Scalar.extui v35
  let c0_i32_15 : BitVec 32 := 0#32
  let v37 : BitVec 1 := Scalar.cmpi .ne v36 c0_i32_15
  v37

def k0_cond6 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c5_i32 : BitVec 32 := 5#32
  let v38 : BitVec 1 := Scalar.cmpi .eq v23 c5_i32
  let v39 : BitVec 32 := Scalar.extui v38
  let c0_i32_16 : BitVec 32 := 0#32
  let v40 : BitVec 1 := Scalar.cmpi .ne v39 c0_i32_16
  v40

def k0_cond7 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c6_i32 : BitVec 32 := 6#32
  let v41 : BitVec 1 := Scalar.cmpi .sge v23 c6_i32
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S1x8192x2048 : Shape := ⟨3, ![1, 8192, 2048]⟩
abbrev S1x2048x10240 : Shape := ⟨3, ![1, 2048, 10240]⟩
abbrev S8192x2048 : Shape := ⟨2, ![8192, 2048]⟩
abbrev S8192 : Shape := ⟨1, ![8192]⟩
abbrev S_ : Shape := ⟨0, ![]⟩
abbrev S2048x10240 : Shape := ⟨2, ![2048, 10240]⟩
abbrev S8192x10240 : Shape := ⟨2, ![8192, 10240]⟩
abbrev S8192x1024 : Shape := ⟨2, ![8192, 1024]⟩
abbrev S8192x4x2x128 : Shape := ⟨4, ![8192, 4, 2, 128]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x1x16 : Shape := ⟨4, ![8192, 1, 1, 16]⟩
abbrev S8192x4x2x16 : Shape := ⟨4, ![8192, 4, 2, 16]⟩
abbrev S8192x4x2x96 : Shape := ⟨4, ![8192, 4, 2, 96]⟩
abbrev S8192x6144 : Shape := ⟨2, ![8192, 6144]⟩
abbrev S8192x4096 : Shape := ⟨2, ![8192, 4096]⟩

abbrev nBuf : Space → Nat
  | .hbm => 113
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x10240, .f32⟩
  | .hbm, ⟨2, _⟩ => ⟨S8192x2048, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S2048x10240, .f32⟩
  | .hbm, ⟨8, _⟩ => ⟨S8192x10240, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x2048, .f32⟩
  | .hbm, ⟨16, _⟩ => ⟨S8192x2048, .f32⟩
  | .hbm, ⟨17, _⟩ => ⟨S8192x4x2x128, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S8192, .f32⟩
  | .hbm, ⟨27, _⟩ => ⟨S8192x1, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x1x1x16, .f32⟩
  | .hbm, ⟨34, _⟩ => ⟨S8192x16, .f32⟩
  | .hbm, ⟨35, _⟩ => ⟨S8192x1x1x16, .f32⟩
  | .hbm, ⟨36, _⟩ => ⟨S8192x4x2x16, .f32⟩
  | .hbm, ⟨37, _⟩ => ⟨S8192x4x2x16, .f32⟩
  | .hbm, ⟨38, _⟩ => ⟨S8192x4x2x96, .f32⟩
  | .hbm, ⟨39, _⟩ => ⟨S8192x4x2x16, .f32⟩
  | .hbm, ⟨40, _⟩ => ⟨S8192x4x2x16, .f32⟩
  | .hbm, ⟨41, _⟩ => ⟨S8192x4x2x16, .f32⟩
  | .hbm, ⟨42, _⟩ => ⟨S8192x4x2x16, .f32⟩
  | .hbm, ⟨43, _⟩ => ⟨S8192x4x2x16, .f32⟩
  | .hbm, ⟨44, _⟩ => ⟨S8192x4x2x16, .f32⟩
  | .hbm, ⟨45, _⟩ => ⟨S8192x4x2x16, .f32⟩
  | .hbm, ⟨46, _⟩ => ⟨S8192x4x2x16, .f32⟩
  | .hbm, ⟨47, _⟩ => ⟨S8192x4x2x16, .f32⟩
  | .hbm, ⟨48, _⟩ => ⟨S8192x4x2x16, .f32⟩
  | .hbm, ⟨49, _⟩ => ⟨S8192x4x2x128, .f32⟩
  | .hbm, ⟨50, _⟩ => ⟨S8192x1024, .f32⟩
  | .hbm, ⟨51, _⟩ => ⟨S8192x4x2x128, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S8192, .f32⟩
  | .hbm, ⟨61, _⟩ => ⟨S8192x1, .f32⟩
  | .hbm, ⟨62, _⟩ => ⟨S1x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x1x1x16, .f32⟩
  | .hbm, ⟨68, _⟩ => ⟨S8192x16, .f32⟩
  | .hbm, ⟨69, _⟩ => ⟨S8192x1x1x16, .f32⟩
  | .hbm, ⟨70, _⟩ => ⟨S8192x4x2x16, .f32⟩
  | .hbm, ⟨71, _⟩ => ⟨S8192x4x2x16, .f32⟩
  | .hbm, ⟨72, _⟩ => ⟨S8192x4x2x96, .f32⟩
  | .hbm, ⟨73, _⟩ => ⟨S8192x4x2x16, .f32⟩
  | .hbm, ⟨74, _⟩ => ⟨S8192x4x2x16, .f32⟩
  | .hbm, ⟨75, _⟩ => ⟨S8192x4x2x16, .f32⟩
  | .hbm, ⟨76, _⟩ => ⟨S8192x4x2x16, .f32⟩
  | .hbm, ⟨77, _⟩ => ⟨S8192x4x2x16, .f32⟩
  | .hbm, ⟨78, _⟩ => ⟨S8192x4x2x16, .f32⟩
  | .hbm, ⟨79, _⟩ => ⟨S8192x4x2x16, .f32⟩
  | .hbm, ⟨80, _⟩ => ⟨S8192x4x2x16, .f32⟩
  | .hbm, ⟨81, _⟩ => ⟨S8192x4x2x16, .f32⟩
  | .hbm, ⟨82, _⟩ => ⟨S8192x4x2x16, .f32⟩
  | .hbm, ⟨83, _⟩ => ⟨S8192x4x2x128, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S8192x6144, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S8192x2048, .f32⟩
  | .hbm, ⟨96, _⟩ => ⟨S8192x2048, .f32⟩
  | .hbm, ⟨97, _⟩ => ⟨S_, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S_, .f32⟩
  | .hbm, ⟨103, _⟩ => ⟨S8192x2048, .f32⟩
  | .hbm, ⟨104, _⟩ => ⟨S8192x2048, .f32⟩
  | .hbm, ⟨105, _⟩ => ⟨S_, .f32⟩
  | .hbm, ⟨106, _⟩ => ⟨S8192x2048, .f32⟩
  | .hbm, ⟨107, _⟩ => ⟨S8192x2048, .f32⟩
  | .hbm, ⟨108, _⟩ => ⟨S8192x4096, .f32⟩
  | .hbm, ⟨109, _⟩ => ⟨S8192x6144, .bf16⟩
  | .hbm, ⟨110, _⟩ => ⟨S8192x2048, .f32⟩
  | .hbm, ⟨111, _⟩ => ⟨S8192x2048, .f32⟩
  | .hbm, ⟨112, _⟩ => ⟨S8192x4096, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_1 : Ref sig .tc := ⟨.hbm, 54, rfl⟩
abbrev main_v49 : Ref sig .tc := ⟨.hbm, 55, rfl⟩
abbrev main_v50 : Ref sig .tc := ⟨.hbm, 56, rfl⟩
abbrev main_cst_2 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_cst_3 : Ref sig .tc := ⟨.hbm, 85, rfl⟩
abbrev main_v78 : Ref sig .tc := ⟨.hbm, 86, rfl⟩
abbrev main_v79 : Ref sig .tc := ⟨.hbm, 87, rfl⟩
abbrev main_cst_4 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_5 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_7 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩

abbrev nD : Nat := 1
abbrev τ : Topo := Topo.v7x

variable {F : FTy → Type} [FloatOps F]
-- ==== Small.lean ====
abbrev S128x1x2048 : Shape := ⟨3, ![128, 1, 2048]⟩
abbrev S16x2048 : Shape := ⟨2, ![16, 2048]⟩
abbrev S1x2048x10240 : Shape := ⟨3, ![1, 2048, 10240]⟩
abbrev S128x2048 : Shape := ⟨2, ![128, 2048]⟩
abbrev S144x2048 : Shape := ⟨2, ![144, 2048]⟩
abbrev S16 : Shape := ⟨1, ![16]⟩
abbrev S_ : Shape := ⟨0, ![]⟩
abbrev S128 : Shape := ⟨1, ![128]⟩
abbrev S144 : Shape := ⟨1, ![144]⟩
abbrev S2048x10240 : Shape := ⟨2, ![2048, 10240]⟩
abbrev S144x1 : Shape := ⟨2, ![144, 1]⟩
abbrev S1x16 : Shape := ⟨2, ![1, 16]⟩
abbrev S144x16 : Shape := ⟨2, ![144, 16]⟩
abbrev S144x96 : Shape := ⟨2, ![144, 96]⟩
abbrev S144x128 : Shape := ⟨2, ![144, 128]⟩
abbrev S144x384 : Shape := ⟨2, ![144, 384]⟩
abbrev S144x6144 : Shape := ⟨2, ![144, 6144]⟩
abbrev S144x4096 : Shape := ⟨2, ![144, 4096]⟩
abbrev S2048x512 : Shape := ⟨2, ![2048, 512]⟩
abbrev S144x512 : Shape := ⟨2, ![144, 512]⟩

abbrev nBuf : Space → Nat
  | .hbm => 43
  | .vmem => 13
  | .smem => 0
  | _ => 0

abbrev bufTy : (tb : Table) → Fin (tcTables nBuf tb) → BufTy
  | .hbm, ⟨0, _⟩ => ⟨S128x1x2048, .f32⟩
  | .hbm, ⟨1, _⟩ => ⟨S16x2048, .f32⟩
  | .hbm, ⟨2, _⟩ => ⟨S1x2048x10240, .f32⟩
  | .hbm, ⟨3, _⟩ => ⟨S128x2048, .f32⟩
  | .hbm, ⟨4, _⟩ => ⟨S144x2048, .f32⟩
  | .hbm, ⟨5, _⟩ => ⟨S16, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S144, .i32⟩
  | .hbm, ⟨10, _⟩ => ⟨S2048x10240, .f32⟩
  | .hbm, ⟨11, _⟩ => ⟨S2048x10240, .bf16⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S144, .f32⟩
  | .hbm, ⟨21, _⟩ => ⟨S144x1, .f32⟩
  | .hbm, ⟨22, _⟩ => ⟨S1x16, .f32⟩
  | .hbm, ⟨23, _⟩ => ⟨S144x16, .f32⟩
  | .hbm, ⟨24, _⟩ => ⟨S144x16, .f32⟩
  | .hbm, ⟨25, _⟩ => ⟨S144x16, .f32⟩
  | .hbm, ⟨26, _⟩ => ⟨S144x16, .f32⟩
  | .hbm, ⟨27, _⟩ => ⟨S144x16, .f32⟩
  | .hbm, ⟨28, _⟩ => ⟨S_, .f32⟩
  | .hbm, ⟨29, _⟩ => ⟨S144x96, .f32⟩
  | .hbm, ⟨30, _⟩ => ⟨S_, .f32⟩
  | .hbm, ⟨31, _⟩ => ⟨S144x96, .f32⟩
  | .hbm, ⟨32, _⟩ => ⟨S_, .f32⟩
  | .hbm, ⟨33, _⟩ => ⟨S144x16, .f32⟩
  | .hbm, ⟨34, _⟩ => ⟨S144x128, .f32⟩
  | .hbm, ⟨35, _⟩ => ⟨S144x16, .f32⟩
  | .hbm, ⟨36, _⟩ => ⟨S144x128, .f32⟩
  | .hbm, ⟨37, _⟩ => ⟨S144x128, .f32⟩
  | .hbm, ⟨38, _⟩ => ⟨S144x384, .f32⟩
  | .hbm, ⟨39, _⟩ => ⟨S144x6144, .bf16⟩
  | .hbm, ⟨40, _⟩ => ⟨S144x2048, .f32⟩
  | .hbm, ⟨41, _⟩ => ⟨S144x2048, .f32⟩
  | .hbm, ⟨42, _⟩ => ⟨S144x4096, .bf16⟩
  | .local _ .vmem, ⟨0, _⟩ => ⟨S144x2048, .f32⟩
  | .local _ .vmem, ⟨1, _⟩ => ⟨S2048x512, .bf16⟩
  | .local _ .vmem, ⟨2, _⟩ => ⟨S2048x512, .bf16⟩
  | .local _ .vmem, ⟨3, _⟩ => ⟨S144x384, .f32⟩
  | .local _ .vmem, ⟨4, _⟩ => ⟨S144x512, .bf16⟩
  | .local _ .vmem, ⟨5, _⟩ => ⟨S144x512, .bf16⟩
  | .local _ .vmem, ⟨6, _⟩ => ⟨S144x512, .f32⟩
  | .local _ .vmem, ⟨7, _⟩ => ⟨S144x512, .f32⟩
  | .local _ .vmem, ⟨8, _⟩ => ⟨S144x512, .f32⟩
  | .local _ .vmem, ⟨9, _⟩ => ⟨S144x512, .f32⟩
  | .local _ .vmem, ⟨10, _⟩ => ⟨S144x512, .bf16⟩
  | .local _ .vmem, ⟨11, _⟩ => ⟨S144x512, .bf16⟩
  | .local _ .vmem, ⟨12, _⟩ => ⟨S144x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v30_2 : Ref sig .tc := ⟨.hbm, 41, rfl⟩
abbrev main_v30_3 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 20], ![false, false]⟩

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c0_i32_9 : BitVec 32 := 0#32
  let v24 : BitVec 1 := Scalar.cmpi .eq v23 c0_i32_9
  let v25 : BitVec 32 := Scalar.extui v24
  let c0_i32_10 : BitVec 32 := 0#32
  let v26 : BitVec 1 := Scalar.cmpi .ne v25 c0_i32_10
  v26

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c1_i32_11 : BitVec 32 := 1#32
  let v27 : BitVec 1 := Scalar.cmpi .eq v23 c1_i32_11
  let c2_i32_12 : BitVec 32 := 2#32
  let v28 : BitVec 1 := Scalar.cmpi .eq v23 c2_i32_12
  let v29 : BitVec 1 := Scalar.ori v27 v28
  let v30 : BitVec 32 := Scalar.extui v29
  let c0_i32_13 : BitVec 32 := 0#32
  let v31 : BitVec 1 := Scalar.cmpi .ne v30 c0_i32_13
  v31

def k0_cond4 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c3_i32 : BitVec 32 := 3#32
  let v32 : BitVec 1 := Scalar.cmpi .eq v23 c3_i32
  let v33 : BitVec 32 := Scalar.extui v32
  let c0_i32_14 : BitVec 32 := 0#32
  let v34 : BitVec 1 := Scalar.cmpi .ne v33 c0_i32_14
  v34

def k0_cond5 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c4_i32 : BitVec 32 := 4#32
  let v35 : BitVec 1 := Scalar.cmpi .eq v23 c4_i32
  let v36 : BitVec 32 := Scalar.extui v35
  let c0_i32_15 : BitVec 32 := 0#32
  let v37 : BitVec 1 := Scalar.cmpi .ne v36 c0_i32_15
  v37

def k0_cond6 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c5_i32 : BitVec 32 := 5#32
  let v38 : BitVec 1 := Scalar.cmpi .eq v23 c5_i32
  let v39 : BitVec 32 := Scalar.extui v38
  let c0_i32_16 : BitVec 32 := 0#32
  let v40 : BitVec 1 := Scalar.cmpi .ne v39 c0_i32_16
  v40

def k0_cond7 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .slt arg1 c0_i32_5
  let v11 : BitVec 32 := Scalar.extui v10
  let v12 : BitVec 32 := Scalar.subi v9 v11
  let c2_i32 : BitVec 32 := 2#32
  let c0_i32_6 : BitVec 32 := 0#32
  let v13 : BitVec 1 := Scalar.cmpi .sgt c2_i32 c0_i32_6
  let v14 : BitVec 32 := Scalar.extui v13
  let c0_i32_7 : BitVec 32 := 0#32
  let v15 : BitVec 1 := Scalar.cmpi .slt c2_i32 c0_i32_7
  let v16 : BitVec 32 := Scalar.extui v15
  let v17 : BitVec 32 := Scalar.subi v14 v16
  let v18 : BitVec 1 := Scalar.cmpi .ne v12 v17
  let v19 : BitVec 32 := Scalar.remsi arg1 c2_i32
  let c0_i32_8 : BitVec 32 := 0#32
  let v20 : BitVec 1 := Scalar.cmpi .ne v19 c0_i32_8
  let v21 : BitVec 1 := Scalar.andi v18 v20
  let v7 : BitVec 32 := Scalar.divsi arg1 c2_i32
  let c1_i32 : BitVec 32 := 1#32
  let v22 : BitVec 32 := Scalar.subi v7 c1_i32
  let v23 : BitVec 32 := Scalar.select v21 v22 v7
  let c6_i32 : BitVec 32 := 6#32
  let v41 : BitVec 1 := Scalar.cmpi .sge v23 c6_i32
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 1 → Memref sig .tc .vmem S144x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S144x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S144x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S144x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S144x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SmallRefIdeal.lean ====
abbrev S128x1x2048 : Shape := ⟨3, ![128, 1, 2048]⟩
abbrev S16x2048 : Shape := ⟨2, ![16, 2048]⟩
abbrev S1x2048x10240 : Shape := ⟨3, ![1, 2048, 10240]⟩
abbrev S128x2048 : Shape := ⟨2, ![128, 2048]⟩
abbrev S144x2048 : Shape := ⟨2, ![144, 2048]⟩
abbrev S16 : Shape := ⟨1, ![16]⟩
abbrev S_ : Shape := ⟨0, ![]⟩
abbrev S128 : Shape := ⟨1, ![128]⟩
abbrev S144 : Shape := ⟨1, ![144]⟩
abbrev S2048x10240 : Shape := ⟨2, ![2048, 10240]⟩
abbrev S144x10240 : Shape := ⟨2, ![144, 10240]⟩
abbrev S144x1024 : Shape := ⟨2, ![144, 1024]⟩
abbrev S144x4x2x128 : Shape := ⟨4, ![144, 4, 2, 128]⟩
abbrev S144x1 : Shape := ⟨2, ![144, 1]⟩
abbrev S1x16 : Shape := ⟨2, ![1, 16]⟩
abbrev S144x16 : Shape := ⟨2, ![144, 16]⟩
abbrev S144x1x1x16 : Shape := ⟨4, ![144, 1, 1, 16]⟩
abbrev S144x4x2x16 : Shape := ⟨4, ![144, 4, 2, 16]⟩
abbrev S144x4x2x96 : Shape := ⟨4, ![144, 4, 2, 96]⟩
abbrev S144x6144 : Shape := ⟨2, ![144, 6144]⟩
abbrev S144x4096 : Shape := ⟨2, ![144, 4096]⟩

abbrev nBuf : Space → Nat
  | .hbm => 116
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S16x2048, .f32⟩
  | .hbm, ⟨2, _⟩ => ⟨S1x2048x10240, .f32⟩
  | .hbm, ⟨3, _⟩ => ⟨S128x2048, .f32⟩
  | .hbm, ⟨4, _⟩ => ⟨S144x2048, .f32⟩
  | .hbm, ⟨5, _⟩ => ⟨S16, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S144, .i32⟩
  | .hbm, ⟨10, _⟩ => ⟨S2048x10240, .f32⟩
  | .hbm, ⟨11, _⟩ => ⟨S144x10240, .f32⟩
  | .hbm, ⟨12, _⟩ => ⟨S144x1024, .f32⟩
  | .hbm, ⟨13, _⟩ => ⟨S144x1024, .f32⟩
  | .hbm, ⟨14, _⟩ => ⟨S144x1024, .f32⟩
  | .hbm, ⟨15, _⟩ => ⟨S144x1024, .f32⟩
  | .hbm, ⟨16, _⟩ => ⟨S144x1024, .f32⟩
  | .hbm, ⟨17, _⟩ => ⟨S144x1024, .f32⟩
  | .hbm, ⟨18, _⟩ => ⟨S144x2048, .f32⟩
  | .hbm, ⟨19, _⟩ => ⟨S144x2048, .f32⟩
  | .hbm, ⟨20, _⟩ => ⟨S144x4x2x128, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S144, .f32⟩
  | .hbm, ⟨30, _⟩ => ⟨S144x1, .f32⟩
  | .hbm, ⟨31, _⟩ => ⟨S1x16, .f32⟩
  | .hbm, ⟨32, _⟩ => ⟨S144x16, .f32⟩
  | .hbm, ⟨33, _⟩ => ⟨S144x16, .f32⟩
  | .hbm, ⟨34, _⟩ => ⟨S144x16, .f32⟩
  | .hbm, ⟨35, _⟩ => ⟨S144x16, .f32⟩
  | .hbm, ⟨36, _⟩ => ⟨S144x1x1x16, .f32⟩
  | .hbm, ⟨37, _⟩ => ⟨S144x16, .f32⟩
  | .hbm, ⟨38, _⟩ => ⟨S144x1x1x16, .f32⟩
  | .hbm, ⟨39, _⟩ => ⟨S144x4x2x16, .f32⟩
  | .hbm, ⟨40, _⟩ => ⟨S144x4x2x16, .f32⟩
  | .hbm, ⟨41, _⟩ => ⟨S144x4x2x96, .f32⟩
  | .hbm, ⟨42, _⟩ => ⟨S144x4x2x16, .f32⟩
  | .hbm, ⟨43, _⟩ => ⟨S144x4x2x16, .f32⟩
  | .hbm, ⟨44, _⟩ => ⟨S144x4x2x16, .f32⟩
  | .hbm, ⟨45, _⟩ => ⟨S144x4x2x16, .f32⟩
  | .hbm, ⟨46, _⟩ => ⟨S144x4x2x16, .f32⟩
  | .hbm, ⟨47, _⟩ => ⟨S144x4x2x16, .f32⟩
  | .hbm, ⟨48, _⟩ => ⟨S144x4x2x16, .f32⟩
  | .hbm, ⟨49, _⟩ => ⟨S144x4x2x16, .f32⟩
  | .hbm, ⟨50, _⟩ => ⟨S144x4x2x16, .f32⟩
  | .hbm, ⟨51, _⟩ => ⟨S144x4x2x16, .f32⟩
  | .hbm, ⟨52, _⟩ => ⟨S144x4x2x128, .f32⟩
  | .hbm, ⟨53, _⟩ => ⟨S144x1024, .f32⟩
  | .hbm, ⟨54, _⟩ => ⟨S144x4x2x128, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S144, .f32⟩
  | .hbm, ⟨64, _⟩ => ⟨S144x1, .f32⟩
  | .hbm, ⟨65, _⟩ => ⟨S1x16, .f32⟩
  | .hbm, ⟨66, _⟩ => ⟨S144x16, .f32⟩
  | .hbm, ⟨67, _⟩ => ⟨S144x16, .f32⟩
  | .hbm, ⟨68, _⟩ => ⟨S144x16, .f32⟩
  | .hbm, ⟨69, _⟩ => ⟨S144x16, .f32⟩
  | .hbm, ⟨70, _⟩ => ⟨S144x1x1x16, .f32⟩
  | .hbm, ⟨71, _⟩ => ⟨S144x16, .f32⟩
  | .hbm, ⟨72, _⟩ => ⟨S144x1x1x16, .f32⟩
  | .hbm, ⟨73, _⟩ => ⟨S144x4x2x16, .f32⟩
  | .hbm, ⟨74, _⟩ => ⟨S144x4x2x16, .f32⟩
  | .hbm, ⟨75, _⟩ => ⟨S144x4x2x96, .f32⟩
  | .hbm, ⟨76, _⟩ => ⟨S144x4x2x16, .f32⟩
  | .hbm, ⟨77, _⟩ => ⟨S144x4x2x16, .f32⟩
  | .hbm, ⟨78, _⟩ => ⟨S144x4x2x16, .f32⟩
  | .hbm, ⟨79, _⟩ => ⟨S144x4x2x16, .f32⟩
  | .hbm, ⟨80, _⟩ => ⟨S144x4x2x16, .f32⟩
  | .hbm, ⟨81, _⟩ => ⟨S144x4x2x16, .f32⟩
  | .hbm, ⟨82, _⟩ => ⟨S144x4x2x16, .f32⟩
  | .hbm, ⟨83, _⟩ => ⟨S144x4x2x16, .f32⟩
  | .hbm, ⟨84, _⟩ => ⟨S144x4x2x16, .f32⟩
  | .hbm, ⟨85, _⟩ => ⟨S144x4x2x16, .f32⟩
  | .hbm, ⟨86, _⟩ => ⟨S144x4x2x128, .f32⟩
  | .hbm, ⟨87, _⟩ => ⟨S144x1024, .f32⟩
  | .hbm, ⟨88, _⟩ => ⟨S_, .f32⟩
  | .hbm, ⟨89, _⟩ => ⟨S144x1024, .f32⟩
  | .hbm, ⟨90, _⟩ => ⟨S144x1024, .f32⟩
  | .hbm, ⟨91, _⟩ => ⟨S_, .f32⟩
  | .hbm, ⟨92, _⟩ => ⟨S144x1024, .f32⟩
  | .hbm, ⟨93, _⟩ => ⟨S144x1024, .f32⟩
  | .hbm, ⟨94, _⟩ => ⟨S144x6144, .f32⟩
  | .hbm, ⟨95, _⟩ => ⟨S144x2048, .f32⟩
  | .hbm, ⟨96, _⟩ => ⟨S144x2048, .f32⟩
  | .hbm, ⟨97, _⟩ => ⟨S_, .f32⟩
  | .hbm, ⟨98, _⟩ => ⟨S144x2048, .f32⟩
  | .hbm, ⟨99, _⟩ => ⟨S144x2048, .f32⟩
  | .hbm, ⟨100, _⟩ => ⟨S_, .f32⟩
  | .hbm, ⟨101, _⟩ => ⟨S144x2048, .f32⟩
  | .hbm, ⟨102, _⟩ => ⟨S144x2048, .f32⟩
  | .hbm, ⟨103, _⟩ => ⟨S144x2048, .f32⟩
  | .hbm, ⟨104, _⟩ => ⟨S144x2048, .f32⟩
  | .hbm, ⟨105, _⟩ => ⟨S_, .f32⟩
  | .hbm, ⟨106, _⟩ => ⟨S144x2048, .f32⟩
  | .hbm, ⟨107, _⟩ => ⟨S144x2048, .f32⟩
  | .hbm, ⟨108, _⟩ => ⟨S_, .f32⟩
  | .hbm, ⟨109, _⟩ => ⟨S144x2048, .f32⟩
  | .hbm, ⟨110, _⟩ => ⟨S144x2048, .f32⟩
  | .hbm, ⟨111, _⟩ => ⟨S144x4096, .f32⟩
  | .hbm, ⟨112, _⟩ => ⟨S144x6144, .bf16⟩
  | .hbm, ⟨113, _⟩ => ⟨S144x2048, .f32⟩
  | .hbm, ⟨114, _⟩ => ⟨S144x2048, .f32⟩
  | .hbm, ⟨115, _⟩ => ⟨S144x4096, .bf16⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_1 : Ref sig .tc := ⟨.hbm, 57, rfl⟩
abbrev main_v51 : Ref sig .tc := ⟨.hbm, 58, rfl⟩
abbrev main_v52 : Ref sig .tc := ⟨.hbm, 59, rfl⟩
abbrev main_cst_2 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_3 : Ref sig .tc := ⟨.hbm, 88, rfl⟩
abbrev main_v80 : Ref sig .tc := ⟨.hbm, 89, rfl⟩
abbrev main_v81 : Ref sig .tc := ⟨.hbm, 90, rfl⟩
abbrev main_cst_4 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_5 : Ref sig .tc := ⟨.hbm, 97, rfl⟩
abbrev main_v87 : Ref sig .tc := ⟨.hbm, 98, rfl⟩
abbrev main_v88 : Ref sig .tc := ⟨.hbm, 99, rfl⟩
abbrev main_cst_6 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_7 : Ref sig .tc := ⟨.hbm, 105, rfl⟩
abbrev main_v93 : Ref sig .tc := ⟨.hbm, 106, rfl⟩
abbrev main_v94 : Ref sig .tc := ⟨.hbm, 107, rfl⟩
abbrev main_cst_8 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩

abbrev nD : Nat := 1
abbrev τ : Topo := Topo.v7x

variable {F : FTy → Type} [FloatOps F]
-- ==== Merge.lean ====
abbrev S1x8192x2048 : Shape := ⟨3, ![1, 8192, 2048]⟩
abbrev S8192x1024 : Shape := ⟨2, ![8192, 1024]⟩
abbrev S8192x4096 : Shape := ⟨2, ![8192, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S1024x2048 : Shape := ⟨2, ![1024, 2048]⟩
abbrev S2048x2048 : Shape := ⟨2, ![2048, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .hbm, ⟨2, _⟩ => ⟨S8192x1024, .bf16⟩
  | .hbm, ⟨3, _⟩ => ⟨S8192x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S1x8192x2048 : Shape := ⟨3, ![1, 8192, 2048]⟩
abbrev S8192x1024 : Shape := ⟨2, ![8192, 1024]⟩
abbrev S8192x4096 : Shape := ⟨2, ![8192, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S8192x2048 : Shape := ⟨2, ![8192, 2048]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .hbm, ⟨2, _⟩ => ⟨S8192x1024, .bf16⟩
  | .hbm, ⟨3, _⟩ => ⟨S8192x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x1024, .f32⟩
  | .hbm, ⟨14, _⟩ => ⟨S1024x2048, .f32⟩
  | .hbm, ⟨15, _⟩ => ⟨S8192x2048, .f32⟩
  | .hbm, ⟨16, _⟩ => ⟨S8192x1024, .f32⟩
  | .hbm, ⟨17, _⟩ => ⟨S1024x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2048x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Ffn.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x8192 : Shape := ⟨2, ![8192, 8192]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== MergeS.lean ====
abbrev S128x1x2048 : Shape := ⟨3, ![128, 1, 2048]⟩
abbrev S128x1024 : Shape := ⟨2, ![128, 1024]⟩
abbrev S128x4096 : Shape := ⟨2, ![128, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S128x2048 : Shape := ⟨2, ![128, 2048]⟩
abbrev S1024x2048 : Shape := ⟨2, ![1024, 2048]⟩
abbrev S2048x2048 : Shape := ⟨2, ![2048, 2048]⟩
abbrev S128 : Shape := ⟨1, ![128]⟩
abbrev S128x1 : Shape := ⟨2, ![128, 1]⟩

abbrev nBuf : Space → Nat
  | .hbm => 17
  | .vmem => 11
  | .smem => 0
  | _ => 0

abbrev bufTy : (tb : Table) → Fin (tcTables nBuf tb) → BufTy
  | .hbm, ⟨0, _⟩ => ⟨S128x1x2048, .f32⟩
  | .hbm, ⟨1, _⟩ => ⟨S128x1024, .bf16⟩
  | .hbm, ⟨2, _⟩ => ⟨S128x1024, .bf16⟩
  | .hbm, ⟨3, _⟩ => ⟨S128x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S128x2048, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S128x2048, .f32⟩
  | .local _ .vmem, ⟨0, _⟩ => ⟨S128x2048, .f32⟩
  | .local _ .vmem, ⟨1, _⟩ => ⟨S128x1024, .bf16⟩
  | .local _ .vmem, ⟨2, _⟩ => ⟨S128x1024, .bf16⟩
  | .local _ .vmem, ⟨3, _⟩ => ⟨S128x2048, .bf16⟩
  | .local _ .vmem, ⟨4, _⟩ => ⟨S128x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== MergeSRefIdeal.lean ====
abbrev S128x1x2048 : Shape := ⟨3, ![128, 1, 2048]⟩
abbrev S128x1024 : Shape := ⟨2, ![128, 1024]⟩
abbrev S128x4096 : Shape := ⟨2, ![128, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x128x2048 : Shape := ⟨3, ![1, 128, 2048]⟩
abbrev S128x2048 : Shape := ⟨2, ![128, 2048]⟩
abbrev S1024x2048 : Shape := ⟨2, ![1024, 2048]⟩
abbrev S2048x2048 : Shape := ⟨2, ![2048, 2048]⟩
abbrev S_ : Shape := ⟨0, ![]⟩
abbrev S2048 : Shape := ⟨1, ![2048]⟩
abbrev S128 : Shape := ⟨1, ![128]⟩
abbrev S128x1 : Shape := ⟨2, ![128, 1]⟩

abbrev nBuf : Space → Nat
  | .hbm => 61
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1024, .bf16⟩
  | .hbm, ⟨2, _⟩ => ⟨S128x1024, .bf16⟩
  | .hbm, ⟨3, _⟩ => ⟨S128x4096, .bf16⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048, .f32⟩
  | .hbm, ⟨9, _⟩ => ⟨S1x128x2048, .f32⟩
  | .hbm, ⟨10, _⟩ => ⟨S128x2048, .bf16⟩
  | .hbm, ⟨11, _⟩ => ⟨S128x2048, .f32⟩
  | .hbm, ⟨12, _⟩ => ⟨S128x2048, .bf16⟩
  | .hbm, ⟨13, _⟩ => ⟨S128x2048, .f32⟩
  | .hbm, ⟨14, _⟩ => ⟨S128x1024, .f32⟩
  | .hbm, ⟨15, _⟩ => ⟨S1024x2048, .f32⟩
  | .hbm, ⟨16, _⟩ => ⟨S128x2048, .f32⟩
  | .hbm, ⟨17, _⟩ => ⟨S128x1024, .f32⟩
  | .hbm, ⟨18, _⟩ => ⟨S1024x2048, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S128x2048, .f32⟩
  | .hbm, ⟨23, _⟩ => ⟨S2048x2048, .f32⟩
  | .hbm, ⟨24, _⟩ => ⟨S128x2048, .f32⟩
  | .hbm, ⟨25, _⟩ => ⟨S128x2048, .f32⟩
  | .hbm, ⟨26, _⟩ => ⟨S_, .f32⟩
  | .hbm, ⟨27, _⟩ => ⟨S128x2048, .f32⟩
  | .hbm, ⟨28, _⟩ => ⟨S128x2048, .f32⟩
  | .hbm, ⟨29, _⟩ => ⟨S128x2048, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S128x2048, .f32⟩
  | .hbm, ⟨48, _⟩ => ⟨S128x2048, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S128x1, .f32⟩
  | .hbm, ⟨53, _⟩ => ⟨S128x2048, .f32⟩
  | .hbm, ⟨54, _⟩ => ⟨S128x2048, .f32⟩
  | .hbm, ⟨55, _⟩ => ⟨S1x2048, .f32⟩
  | .hbm, ⟨56, _⟩ => ⟨S128x2048, .f32⟩
  | .hbm, ⟨57, _⟩ => ⟨S128x2048, .f32⟩
  | .hbm, ⟨58, _⟩ => ⟨S1x2048, .f32⟩
  | .hbm, ⟨59, _⟩ => ⟨S128x2048, .f32⟩
  | .hbm, ⟨60, _⟩ => ⟨S128x2048, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== FfnS.lean ====
abbrev S128x2048 : Shape := ⟨2, ![128, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S8192x2048 : Shape := ⟨2, ![8192, 2048]⟩
abbrev S2048x512 : Shape := ⟨2, ![2048, 512]⟩
abbrev S512x2048 : Shape := ⟨2, ![512, 2048]⟩
abbrev S128x512 : Shape := ⟨2, ![128, 512]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S8192x2048, .f32⟩
  | .hbm, ⟨8, _⟩ => ⟨S8192x2048, .bf16⟩
  | .hbm, ⟨9, _⟩ => ⟨S128x2048, .f32⟩
  | .local _ .vmem, ⟨0, _⟩ => ⟨S128x2048, .f32⟩
  | .local _ .vmem, ⟨1, _⟩ => ⟨S2048x512, .bf16⟩
  | .local _ .vmem, ⟨2, _⟩ => ⟨S2048x512, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnSRefIdeal.lean ====
abbrev S128x2048 : Shape := ⟨2, ![128, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S128x8192 : Shape := ⟨2, ![128, 8192]⟩
abbrev S_ : Shape := ⟨0, ![]⟩
abbrev S8192x2048 : Shape := ⟨2, ![8192, 2048]⟩
abbrev S2048 : Shape := ⟨1, ![2048]⟩
abbrev S128 : Shape := ⟨1, ![128]⟩
abbrev S128x1 : Shape := ⟨2, ![128, 1]⟩

abbrev nBuf : Space → Nat
  | .hbm => 48
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S128x8192, .f32⟩
  | .hbm, ⟨7, _⟩ => ⟨S_, .f32⟩
  | .hbm, ⟨8, _⟩ => ⟨S128x8192, .f32⟩
  | .hbm, ⟨9, _⟩ => ⟨S128x8192, .f32⟩
  | .hbm, ⟨10, _⟩ => ⟨S128x8192, .f32⟩
  | .hbm, ⟨11, _⟩ => ⟨S8192x2048, .f32⟩
  | .hbm, ⟨12, _⟩ => ⟨S128x2048, .f32⟩
  | .hbm, ⟨13, _⟩ => ⟨S_, .f32⟩
  | .hbm, ⟨14, _⟩ => ⟨S128x2048, .f32⟩
  | .hbm, ⟨15, _⟩ => ⟨S128x2048, .f32⟩
  | .hbm, ⟨16, _⟩ => ⟨S128x2048, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x2048, .f32⟩
  | .hbm, ⟨35, _⟩ => ⟨S128x2048, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S128x1, .f32⟩
  | .hbm, ⟨40, _⟩ => ⟨S128x2048, .f32⟩
  | .hbm, ⟨41, _⟩ => ⟨S128x2048, .f32⟩
  | .hbm, ⟨42, _⟩ => ⟨S1x2048, .f32⟩
  | .hbm, ⟨43, _⟩ => ⟨S128x2048, .f32⟩
  | .hbm, ⟨44, _⟩ => ⟨S128x2048, .f32⟩
  | .hbm, ⟨45, _⟩ => ⟨S1x2048, .f32⟩
  | .hbm, ⟨46, _⟩ => ⟨S128x2048, .f32⟩
  | .hbm, ⟨47, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Sb.lean ====
abbrev S8192x6144 : Shape := ⟨2, ![8192, 6144]⟩
abbrev S144x6144 : Shape := ⟨2, ![144, 6144]⟩
abbrev S16x6144 : Shape := ⟨2, ![16, 6144]⟩
abbrev S_ : Shape := ⟨0, ![]⟩
abbrev S240x6144 : Shape := ⟨2, ![240, 6144]⟩
abbrev S256x6144 : Shape := ⟨2, ![256, 6144]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192x1024 : Shape := ⟨2, ![8192, 1024]⟩
abbrev S256x512 : Shape := ⟨2, ![256, 512]⟩
abbrev S8192x512 : Shape := ⟨2, ![8192, 512]⟩
abbrev S1024x256 : Shape := ⟨2, ![1024, 256]⟩
abbrev S1024x128 : Shape := ⟨2, ![1024, 128]⟩
abbrev S256x128 : Shape := ⟨2, ![256, 128]⟩
abbrev S1024x1 : Shape := ⟨2, ![1024, 1]⟩
abbrev S1x1024x256 : Shape := ⟨3, ![1, 1024, 256]⟩
abbrev S1 : Shape := ⟨1, ![1]⟩
abbrev S1x1x1 : Shape := ⟨3, ![1, 1, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x6144, .bf16⟩
  | .hbm, ⟨1, _⟩ => ⟨S144x6144, .bf16⟩
  | .hbm, ⟨2, _⟩ => ⟨S16x6144, .bf16⟩
  | .hbm, ⟨3, _⟩ => ⟨S_, .bf16⟩
  | .hbm, ⟨4, _⟩ => ⟨S240x6144, .bf16⟩
  | .hbm, ⟨5, _⟩ => ⟨S256x6144, .bf16⟩
  | .hbm, ⟨6, _⟩ => ⟨S256, .i32⟩
  | .hbm, ⟨7, _⟩ => ⟨S256x1, .i32⟩
  | .hbm, ⟨8, _⟩ => ⟨S256, .i32⟩
  | .hbm, ⟨9, _⟩ => ⟨S1x256, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .bf16⟩
  | .hbm, ⟨14, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x256, .bf16⟩
  | .local _ .vmem, ⟨11, _⟩ => ⟨S256x512, .bf16⟩
  | .local _ .vmem, ⟨12, _⟩ => ⟨S256x512, .bf16⟩
  | .local _ .vmem, ⟨13, _⟩ => ⟨S1024x256, .f32⟩
  | .local _ .vmem, ⟨14, _⟩ => ⟨S1024x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32_9 : BitVec 32 := 256#32
  let v24 : BitVec 32 := Scalar.muli arg1 c256_i32_9
  v24
def k0_off1 (i : grid0.Coords) : Fin 2 → Nat :=
  let arg1 : BitVec 32 := BitVec.ofNat 32 (i 1).val
  let c256_i32_9 : BitVec 32 := 256#32
  let v24 : BitVec 32 := Scalar.muli arg1 c256_i32_9
  let v25 : BitVec 32 := v24
  let v29 : Index := Scalar.indexCast v25
  let c0_11 : Index := 0#32
  ![v29.toNat, 0]
def k0_off2 (i : grid0.Coords) : Fin 2 → Nat :=
  let arg1 : BitVec 32 := BitVec.ofNat 32 (i 1).val
  let c256_i32_9 : BitVec 32 := 256#32
  let v24 : BitVec 32 := Scalar.muli arg1 c256_i32_9
  let v25 : BitVec 32 := v24
  let v32 : Index := Scalar.indexCast v25
  let c128_13 : Index := 128#32
  ![v32.toNat, 128]
def k0_off3 (i : grid0.Coords) : Fin 2 → Nat :=
  let arg1 : BitVec 32 := BitVec.ofNat 32 (i 1).val
  let c256_i32_9 : BitVec 32 := 256#32
  let v24 : BitVec 32 := Scalar.muli arg1 c256_i32_9
  let v25 : BitVec 32 := v24
  let v35 : Index := Scalar.indexCast v25
  let c256_15 : Index := 256#32
  ![v35.toNat, 256]
def k0_off4 (i : grid0.Coords) : Fin 2 → Nat :=
  let arg1 : BitVec 32 := BitVec.ofNat 32 (i 1).val
  let c256_i32_9 : BitVec 32 := 256#32
  let v24 : BitVec 32 := Scalar.muli arg1 c256_i32_9
  let v25 : BitVec 32 := v24
  let v38 : Index := Scalar.indexCast v25
  let c384_17 : Index := 384#32
  ![v38.toNat, 384]
def k0_mult2 (arg11 : BitVec 32) : BitVec 32 :=
  let c256_i32_57 : BitVec 32 := 256#32
  let v123 : BitVec 32 := Scalar.muli arg11 c256_i32_57
  v123

def k0_off5 (arg11 : BitVec 32) : Fin 2 → Nat :=
  let c256_i32_57 : BitVec 32 := 256#32
  let v123 : BitVec 32 := Scalar.muli arg11 c256_i32_57
  let v124 : BitVec 32 := v123
  let v127 : Index := Scalar.indexCast v124
  let c0_62 : Index := 0#32
  ![v127.toNat, 0]
def k0_off6 (arg11 : BitVec 32) : Fin 2 → Nat :=
  let c256_i32_57 : BitVec 32 := 256#32
  let v123 : BitVec 32 := Scalar.muli arg11 c256_i32_57
  let v124 : BitVec 32 := v123
  let v130 : Index := Scalar.indexCast v124
  let c128_64 : Index := 128#32
  ![v130.toNat, 128]
def k0_off7 (arg11 : BitVec 32) : Fin 2 → Nat :=
  let c256_i32_57 : BitVec 32 := 256#32
  let v123 : BitVec 32 := Scalar.muli arg11 c256_i32_57
  let v124 : BitVec 32 := v123
  let v133 : Index := Scalar.indexCast v124
  let c256_66 : Index := 256#32
  ![v133.toNat, 256]
def k0_off8 (arg11 : BitVec 32) : Fin 2 → Nat :=
  let c256_i32_57 : BitVec 32 := 256#32
  let v123 : BitVec 32 := Scalar.muli arg11 c256_i32_57
  let v124 : BitVec 32 := v123
  let v136 : Index := Scalar.indexCast v124
  let c384_68 : Index := 384#32
  ![v136.toNat, 384]

def k0_chk1 (arg11 : BitVec 32) : Prop :=
  (256 ∣ (k0_mult2 arg11).toNat) ∧
  (∀ a, (k0_off5 arg11) a + S256x128.size a ≤ S8192x512.size a) ∧
  (∀ a, (k0_off6 arg11) a + S256x128.size a ≤ S8192x512.size a) ∧
  (∀ a, (k0_off7 arg11) a + S256x128.size a ≤ S8192x512.size a) ∧
  (∀ a, (k0_off8 arg11) a + S256x128.size a ≤ S8192x512.size a)
theorem k0_mult2_dvd : ∀ (arg11 : BitVec 32) (k0_hw1 : k0_chk1 arg11), 256 ∣ (k0_mult2 arg11).toNat := fun arg11 k0_hw1 => k0_hw1.1
theorem k0_off5_inb : ∀ (arg11 : BitVec 32) (k0_hw1 : k0_chk1 arg11), ∀ a, (k0_off5 arg11) a + S256x128.size a ≤ S8192x512.size a := fun arg11 k0_hw1 => k0_hw1.2.1
theorem k0_off6_inb : ∀ (arg11 : BitVec 32) (k0_hw1 : k0_chk1 arg11), ∀ a, (k0_off6 arg11) a + S256x128.size a ≤ S8192x512.size a := fun arg11 k0_hw1 => k0_hw1.2.2.1
theorem k0_off7_inb : ∀ (arg11 : BitVec 32) (k0_hw1 : k0_chk1 arg11), ∀ a, (k0_off7 arg11) a + S256x128.size a ≤ S8192x512.size a := fun arg11 k0_hw1 => k0_hw1.2.2.2.1
theorem k0_off8_inb : ∀ (arg11 : BitVec 32) (k0_hw1 : k0_chk1 arg11), ∀ a, (k0_off8 arg11) a + S256x128.size a ≤ S8192x512.size a := fun arg11 k0_hw1 => k0_hw1.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SbRefIdeal.lean ====
abbrev S8192x6144 : Shape := ⟨2, ![8192, 6144]⟩
abbrev S144x6144 : Shape := ⟨2, ![144, 6144]⟩
abbrev S16x3072 : Shape := ⟨2, ![16, 3072]⟩
abbrev S8192x3072 : Shape := ⟨2, ![8192, 3072]⟩
abbrev S8208x3072 : Shape := ⟨2, ![8208, 3072]⟩
abbrev S8208x1024 : Shape := ⟨2, ![8208, 1024]⟩
abbrev S8192x1024 : Shape := ⟨2, ![8192, 1024]⟩
abbrev S8192x8x128 : Shape := ⟨3, ![8192, 8, 128]⟩
abbrev S8208x8x128 : Shape := ⟨3, ![8208, 8, 128]⟩
abbrev S8208 : Shape := ⟨1, ![8208]⟩
abbrev S8192 : Shape := ⟨1, ![8192]⟩
abbrev S8x8192x8208 : Shape := ⟨3, ![8, 8192, 8208]⟩
abbrev S1x8208 : Shape := ⟨2, ![1, 8208]⟩
abbrev S8192x1 : Shape := ⟨2, ![8192, 1]⟩
abbrev S8192x8208 : Shape := ⟨2, ![8192, 8208]⟩
abbrev S_ : Shape := ⟨0, ![]⟩
abbrev S8x128x8192 : Shape := ⟨3, ![8, 128, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S144x6144, .bf16⟩
  | .hbm, ⟨2, _⟩ => ⟨S16x3072, .bf16⟩
  | .hbm, ⟨3, _⟩ => ⟨S8192x3072, .bf16⟩
  | .hbm, ⟨4, _⟩ => ⟨S8208x3072, .bf16⟩
  | .hbm, ⟨5, _⟩ => ⟨S8208x3072, .f32⟩
  | .hbm, ⟨6, _⟩ => ⟨S8208x1024, .f32⟩
  | .hbm, ⟨7, _⟩ => ⟨S8208x1024, .f32⟩
  | .hbm, ⟨8, _⟩ => ⟨S8208x1024, .f32⟩
  | .hbm, ⟨9, _⟩ => ⟨S8192x1024, .f32⟩
  | .hbm, ⟨10, _⟩ => ⟨S8192x8x128, .f32⟩
  | .hbm, ⟨11, _⟩ => ⟨S8208x8x128, .f32⟩
  | .hbm, ⟨12, _⟩ => ⟨S8208x8x128, .f32⟩
  | .hbm, ⟨13, _⟩ => ⟨S8208, .i32⟩
  | .hbm, ⟨14, _⟩ => ⟨S8192, .i32⟩
  | .hbm, ⟨15, _⟩ => ⟨S8x8192x8208, .f32⟩
  | .hbm, ⟨16, _⟩ => ⟨S1x8208, .i32⟩
  | .hbm, ⟨17, _⟩ => ⟨S8192x1, .i32⟩
  | .hbm, ⟨18, _⟩ => ⟨S8192x8208, .i32⟩
  | .hbm, ⟨19, _⟩ => ⟨S8192x8208, .i32⟩
  | .hbm, ⟨20, _⟩ => ⟨S8192x8208, .i1⟩
  | .hbm, ⟨21, _⟩ => ⟨S8x8192x8208, .f32⟩
  | .hbm, ⟨22, _⟩ => ⟨S8x8192x8208, .f32⟩
  | .hbm, ⟨23, _⟩ => ⟨S_, .f32⟩
  | .hbm, ⟨24, _⟩ => ⟨S8x8192x8208, .f32⟩
  | .hbm, ⟨25, _⟩ => ⟨S8x8192x8208, .f32⟩
  | .hbm, ⟨26, _⟩ => ⟨S8x8192x8208, .f32⟩
  | .hbm, ⟨27, _⟩ => ⟨S8x8192x8208, .f32⟩
  | .hbm, ⟨28, _⟩ => ⟨S8x8192x8208, .i1⟩
  | .hbm, ⟨29, _⟩ => ⟨S8x8192x8208, .f32⟩
  | .hbm, ⟨30, _⟩ => ⟨S8x8192x8208, .f32⟩
  | .hbm, ⟨31, _⟩ => ⟨S8x8192x8208, .f32⟩
  | .hbm, ⟨32, _⟩ => ⟨S8x8192x8208, .f32⟩
  | .hbm, ⟨33, _⟩ => ⟨S8x8192x8208, .f32⟩
  | .hbm, ⟨34, _⟩ => ⟨S8x8192x8208, .f32⟩
  | .hbm, ⟨35, _⟩ => ⟨S8x8192x8208, .f32⟩
  | .hbm, ⟨36, _⟩ => ⟨S8x8192x8208, .f32⟩
  | .hbm, ⟨37, _⟩ => ⟨S8x8192x8208, .f32⟩
  | .hbm, ⟨38, _⟩ => ⟨S_, .f32⟩
  | .hbm, ⟨39, _⟩ => ⟨S_, .f32⟩
  | .hbm, ⟨40, _⟩ => ⟨S8x8192x8208, .i1⟩
  | .hbm, ⟨41, _⟩ => ⟨S8x8192x8208, .f32⟩
  | .hbm, ⟨42, _⟩ => ⟨S8x8192x8208, .f32⟩
  | .hbm, ⟨43, _⟩ => ⟨S_, .f32⟩
  | .hbm, ⟨44, _⟩ => ⟨S_, .f32⟩
  | .hbm, ⟨45, _⟩ => ⟨S8x8192x8208, .f32⟩
  | .hbm, ⟨46, _⟩ => ⟨S8x8192x8208, .f32⟩
  | .hbm, ⟨47, _⟩ => ⟨S8x8192x8208, .f32⟩
  | .hbm, ⟨48, _⟩ => ⟨S_, .f32⟩
  | .hbm, ⟨49, _⟩ => ⟨S8x8192x8208, .f32⟩
  | .hbm, ⟨50, _⟩ => ⟨S8x8192x8208, .f32⟩
  | .hbm, ⟨51, _⟩ => ⟨S8x8192x8208, .f32⟩
  | .hbm, ⟨52, _⟩ => ⟨S8x8192x8208, .f32⟩
  | .hbm, ⟨53, _⟩ => ⟨S8x8192x8208, .i1⟩
  | .hbm, ⟨54, _⟩ => ⟨S8x8192x8208, .f32⟩
  | .hbm, ⟨55, _⟩ => ⟨S8x8192x8208, .f32⟩
  | .hbm, ⟨56, _⟩ => ⟨S8x8192x8208, .f32⟩
  | .hbm, ⟨57, _⟩ => ⟨S8x8192x8208, .f32⟩
  | .hbm, ⟨58, _⟩ => ⟨S8x8192x8208, .f32⟩
  | .hbm, ⟨59, _⟩ => ⟨S8x8192x8208, .f32⟩
  | .hbm, ⟨60, _⟩ => ⟨S8x8192x8208, .f32⟩
  | .hbm, ⟨61, _⟩ => ⟨S8x8192x8208, .f32⟩
  | .hbm, ⟨62, _⟩ => ⟨S8x8192x8208, .f32⟩
  | .hbm, ⟨63, _⟩ => ⟨S8x8192x8208, .f32⟩
  | .hbm, ⟨64, _⟩ => ⟨S8x8192x8208, .f32⟩
  | .hbm, ⟨65, _⟩ => ⟨S_, .f32⟩
  | .hbm, ⟨66, _⟩ => ⟨S_, .f32⟩
  | .hbm, ⟨67, _⟩ => ⟨S8x8192x8208, .i1⟩
  | .hbm, ⟨68, _⟩ => ⟨S8x8192x8208, .f32⟩
  | .hbm, ⟨69, _⟩ => ⟨S8x8192x8208, .f32⟩
  | .hbm, ⟨70, _⟩ => ⟨S8x128x8192, .f32⟩
  | .hbm, ⟨71, _⟩ => ⟨S8192x8x128, .f32⟩
  | .hbm, ⟨72, _⟩ => ⟨S8192x1024, .f32⟩
  | .hbm, ⟨73, _⟩ => ⟨S8192x1024, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_0 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Proof.Diff.Row.lean ====
module

public import Idealize.ShloMosaic.PureOps.Ideal
public import Mathlib.Data.EReal.Inv
public import Mathlib.Algebra.BigOperators.Field

@[expose] public section

/-!
One row of the differential attention over the extended reals: two softmax rows over the same keys, the
second one subtracted from the first with weight `lam`, applied to a column of values.
-/

namespace Diff

open Idealize.ShloMosaic Finset

noncomputable section

/-- The largest of the first 8208 scores. -/
def top (s : ℕ → EReal) : EReal := (range 8208).sup s

/-- A score's weight before normalisation. -/
def wt (s : ℕ → EReal) (p : ℕ) : EReal := Ideal.exp (s p - top s)

/-- The sum of the weights. -/
def mass (s : ℕ → EReal) : EReal := ∑ p ∈ range 8208, wt s p

/-- The row as the kernel takes it: each stream's weighted values divided by that stream's mass. -/
def rowK (s₁ s₂ v : ℕ → EReal) (lam : EReal) : EReal :=
  Ideal.div (∑ p ∈ range 8208, wt s₁ p * v p) (mass s₁) - lam * Ideal.div (∑ p ∈ range 8208, wt s₂ p * v p) (mass s₂)

/-- The row as the reference takes it: the difference of the two probability rows applied to the values. -/
def rowR (s₁ s₂ v : ℕ → EReal) (lam : EReal) : EReal :=
  ∑ p ∈ range 8208, v p * (Ideal.div (wt s₁ p) (mass s₁) - lam * Ideal.div (wt s₂ p) (mass s₂))

/-- A row of scores with a real first score, every other one real or `⊥`. -/
def Scores (s : ℕ → EReal) : Prop := (∃ r : ℝ, s 0 = r) ∧ ∀ p, s p = ⊥ ∨ ∃ r : ℝ, s p = r

/-- The largest score is a real number. -/
theorem top_real {s : ℕ → EReal} (h : Scores s) : ∃ r : ℝ, top s = r := by
  obtain ⟨⟨r0, h0⟩, h⟩ := h
  have hlt : top s < ⊤ := (Finset.sup_lt_iff (by simp)).2 fun p _ => by
    rcases h p with e | ⟨r, e⟩ <;> rw [e]
    · exact bot_lt_top
    · exact EReal.coe_lt_top r
  have hge : (r0 : EReal) ≤ top s := h0 ▸ Finset.le_sup (f := s) (by simp : 0 ∈ range 8208)
  exact ⟨(top s).toReal, (EReal.coe_toReal hlt.ne fun hb => by simp [hb] at hge).symm⟩

/-- Every weight is a non-negative real. -/
theorem wt_real {s : ℕ → EReal} (h : Scores s) : ∃ e : ℕ → ℝ, (∀ p, wt s p = e p) ∧ (∀ p, 0 ≤ e p) ∧ 0 < e 0 := by
  obtain ⟨m, hm⟩ := top_real h
  have key : ∀ p, ∃ e : ℝ, wt s p = e ∧ 0 ≤ e := fun p => by
    rcases h.2 p with e | ⟨r, e⟩
    · exact ⟨0, by rw [wt, e, hm]; rfl, le_rfl⟩
    · exact ⟨Real.exp (r - m), by rw [wt, e, hm, ← EReal.coe_sub]; rfl, (Real.exp_pos _).le⟩
  choose e he hn using key
  refine ⟨e, he, hn, ?_⟩
  obtain ⟨r, hr⟩ := h.1
  have : (e 0 : EReal) = Real.exp (r - m) := by rw [← he, wt, hr, hm, ← EReal.coe_sub]; rfl
  rw [EReal.coe_eq_coe_iff.1 this]
  exact Real.exp_pos _

/-- A finite sum of reals, as an extended real. -/
theorem coe_sum {ι : Type*} (t : Finset ι) (f : ι → ℝ) : ((∑ i ∈ t, f i : ℝ) : EReal) = ∑ i ∈ t, (f i : EReal) := by
  classical
  induction t using Finset.induction with
  | empty => simp
  | insert a t ha ih => rw [sum_insert ha, sum_insert ha, EReal.coe_add, ih]

/-- The mass is a positive real. -/
theorem mass_real {s : ℕ → EReal} (h : Scores s) {e : ℕ → ℝ} (he : ∀ p, wt s p = e p) (hn : ∀ p, 0 ≤ e p) (h0 : 0 < e 0) :
    mass s = (∑ p ∈ range 8208, e p : ℝ) ∧ 0 < ∑ p ∈ range 8208, e p := by
  refine ⟨?_, ?_⟩
  · rw [mass, coe_sum]; exact sum_congr rfl fun p _ => he p
  · exact sum_pos' (fun p _ => hn p) ⟨0, by simp, h0⟩

/-- A quotient of reals. -/
theorem div_real (x y : ℝ) (h : y ≠ 0) : Ideal.div (x : EReal) (y : EReal) = ((x / y : ℝ) : EReal) := by
  rw [Ideal.div_coe h, ← EReal.coe_mul, mul_one_div]

/-- For real values and a real weight the two readings of a row agree. -/
theorem rowK_eq_rowR {s₁ s₂ v : ℕ → EReal} {lam : EReal} (h₁ : Scores s₁) (h₂ : Scores s₂) (hv : ∀ p, ∃ r : ℝ, v p = r)
    (hl : ∃ r : ℝ, lam = r) : rowK s₁ s₂ v lam = rowR s₁ s₂ v lam := by
  obtain ⟨e₁, he₁, hn₁, hp₁⟩ := wt_real h₁
  obtain ⟨e₂, he₂, hn₂, hp₂⟩ := wt_real h₂
  obtain ⟨hm₁, hz₁⟩ := mass_real h₁ he₁ hn₁ hp₁
  obtain ⟨hm₂, hz₂⟩ := mass_real h₂ he₂ hn₂ hp₂
  choose w hw using hv
  obtain ⟨a, rfl⟩ := hl
  unfold rowK rowR
  rw [hm₁, hm₂]
  simp only [he₁, he₂, hw, ← EReal.coe_mul, ← coe_sum, div_real _ _ hz₁.ne', div_real _ _ hz₂.ne', ← EReal.coe_sub]
  refine EReal.coe_eq_coe_iff.2 ?_
  rw [sum_div, sum_div, mul_sum, ← sum_sub_distrib]
  refine sum_congr rfl fun p _ => ?_
  ring

end

end Diff
-- ==== Proof.Diff.Spec.lean ====
module

public import Idealize.ShloMosaic.Lib.ValueIdx
public import proofs.«01_k».proof.Proof.Diff.Row

@[expose] public section

/-!
The differential attention in plain indices: `P` holds the prompt's 8192 projected rows, `A` the 16 meta rows
first. Columns from 3072 on hold the queries, keys and values of the four heads.
-/

namespace Diff

open Idealize.ShloMosaic
open Idealize.ShloMosaic.ValueIdx Finset

noncomputable section

/-- Column `d` of the query of head `h`, stream `k`. -/
def qcol (h : Fin 4) (k : Fin 2) (d : Fin 128) : Fin 6144 := ⟨3072 + (256 * h.val + 128 * k.val + d.val), by omega⟩
/-- Column `d` of the key of head `h`, stream `k`. -/
def kcol (h : Fin 4) (k : Fin 2) (d : Fin 128) : Fin 6144 := ⟨4096 + (256 * h.val + 128 * k.val + d.val), by omega⟩
/-- Column `e` of the value of head `h`. -/
def vcol (h : Fin 4) (e : Fin 256) : Fin 6144 := ⟨5120 + (256 * h.val + e.val), by omega⟩

variable (P : (⟨2, ![8192, 6144]⟩ : Shape).Idx → EReal) (A : (⟨2, ![144, 6144]⟩ : Shape).Idx → EReal)

/-- Entry `t` of a column: the 16 meta rows, then the prompt's rows. -/
def entry (c : Fin 6144) (t : ℕ) : EReal :=
  if h : t < 16 then A (ix2 ⟨t, by omega⟩ c) else if h' : t - 16 < 8192 then P (ix2 ⟨t - 16, h'⟩ c) else 0

/-- The masked scores of query row `n`. -/
def score (h : Fin 4) (k : Fin 2) (n : Fin 8192) (t : ℕ) : EReal :=
  if t ≤ 16 + n.val then ∑ d : Fin 128, P (ix2 n (qcol h k d)) * entry P A (kcol h k d) t else ⊥

/-- The head norm over a row `x` of 256 numbers, with weights `g`. -/
def headNorm (x : Fin 256 → EReal) (g : Fin 256 → EReal) (e : Fin 256) : EReal :=
  x e * Ideal.rsqrt (Ideal.div (∑ e : Fin 256, x e * x e) (Ideal.ofBits .f32 0x43800000#32) + Ideal.ofBits .f32 0x3727C5AC#32)
    * g e * Ideal.ofBits .f32 0x3F4CCCCD#32

/-- The second stream's weight. -/
def weight (a b c d : (⟨2, ![1, 128]⟩ : Shape).Idx → EReal) : EReal :=
  Ideal.exp (∑ k : Fin 128, a (ix2 0 k) * b (ix2 0 k)) - Ideal.exp (∑ k : Fin 128, c (ix2 0 k) * d (ix2 0 k))
    + Ideal.ofBits .f32 0x3E4CCCCD#32

end

end Diff
-- ==== Proof.Diff.Windows.lean ====
module

public import proofs.«01_k».proof.Proof.Gen.DiffIdeal.Value
public import proofs.«01_k».proof.Proof.Diff.Spec
public import Idealize.ShloMosaic.Lib.Pipeline.ValueKit

@[expose] public section

set_option maxRecDepth 16384

/-!
What the blocks of the attention call hold: point `t` is head `t / 8` and block `t % 8` of the queries.
-/

namespace Cert.DiffIdeal.Windows

open Idealize.ShloMosaic hiding ix0 ix1 ix2 ix3 ix4
open Idealize.ShloMosaic.ValueIdx Idealize.ShloMosaic.TcCoe Idealize.SL.Sem
open Cert.DiffIdeal Cert.DiffIdeal.Gen

noncomputable section

variable (m : (ℓ : Loc nD τ sig) → Buf (Elt Ideal) ℓ) (c : Dev nD)

/-- The point's head. -/
def head (t : Fin cfg0.N) : Fin 4 := ⟨t.val / 8, by have h : t.val < 32 := t.isLt; omega⟩

/-- The point's row `r`, as a row of the prompt. -/
def row (t : Fin cfg0.N) (r : Fin 1024) : Fin 8192 := ⟨1024 * (t.val % 8) + r.val, by omega⟩

/-- The second grid coordinate is the block of queries. -/
theorem coord (t : Fin cfg0.N) : ((grid0.coords t) 1).val = t.val % 8 :=
  (by decide +kernel : ∀ t : Fin grid0.N, ((grid0.coords t) 1).val = t.val % 8) t

theorem idx0 : ∀ t : Fin cfg0.N, win0_0.index t = ![0, 0] ∧ win0_1.index t = ![0, 0] ∧ win0_2.index t = ![0, 0]
    ∧ win0_3.index t = ![0, 0] ∧ win0_4.index t = ![0, 0] := (by decide +kernel : ∀ t : Fin grid0.N, _)
theorem idx5 : ∀ t : Fin cfg0.N, win0_5.index t = ![t.val % 8, 24 + 2 * (t.val / 8)] := (by decide +kernel : ∀ t : Fin grid0.N, _)
theorem idx6 : ∀ t : Fin cfg0.N, win0_6.index t = ![t.val % 8, 25 + 2 * (t.val / 8)] := (by decide +kernel : ∀ t : Fin grid0.N, _)
theorem idx7 : ∀ t : Fin cfg0.N, win0_7.index t = ![0, 32 + 2 * (t.val / 8)] := (by decide +kernel : ∀ t : Fin grid0.N, _)
theorem idx8 : ∀ t : Fin cfg0.N, win0_8.index t = ![0, 33 + 2 * (t.val / 8)] := (by decide +kernel : ∀ t : Fin grid0.N, _)
theorem idx9 : ∀ t : Fin cfg0.N, win0_9.index t = ![0, 20 + t.val / 8] := (by decide +kernel : ∀ t : Fin grid0.N, _)
theorem idx10 : ∀ t : Fin cfg0.N, win0_10.index t = ![0, 32 + 2 * (t.val / 8)] := (by decide +kernel : ∀ t : Fin grid0.N, _)
theorem idx11 : ∀ t : Fin cfg0.N, win0_11.index t = ![0, 33 + 2 * (t.val / 8)] := (by decide +kernel : ∀ t : Fin grid0.N, _)
theorem idx12 : ∀ t : Fin cfg0.N, win0_12.index t = ![0, 20 + t.val / 8] := (by decide +kernel : ∀ t : Fin grid0.N, _)
theorem idx13 : ∀ t : Fin cfg0.N, win0_13.index t = ![t.val % 8, t.val / 8] := (by decide +kernel : ∀ t : Fin grid0.N, _)

/-- The prompt's rows. -/
abbrev P : (⟨2, ![8192, 6144]⟩ : Shape).Idx → EReal := m ((c : Thread nD τ).loc main_arg0)
/-- The small rows, the meta rows first. -/
abbrev A : (⟨2, ![144, 6144]⟩ : Shape).Idx → EReal := m ((c : Thread nD τ).loc main_arg1)

theorem blk0 (t : Fin cfg0.N) : iblk m c 0 t = m ((c : Thread nD τ).loc main_arg2) := by blk_ext! [iblk, V, (idx0 t)]
theorem blk1 (t : Fin cfg0.N) : iblk m c 1 t = m ((c : Thread nD τ).loc main_arg3) := by blk_ext! [iblk, V, (idx0 t)]
theorem blk2 (t : Fin cfg0.N) : iblk m c 2 t = m ((c : Thread nD τ).loc main_arg4) := by blk_ext! [iblk, V, (idx0 t)]
theorem blk3 (t : Fin cfg0.N) : iblk m c 3 t = m ((c : Thread nD τ).loc main_arg5) := by blk_ext! [iblk, V, (idx0 t)]
theorem blk4 (t : Fin cfg0.N) : iblk m c 4 t = m ((c : Thread nD τ).loc main_arg6) := by blk_ext! [iblk, V, (idx0 t)]

/-- The first query block. -/
theorem blk5 (t : Fin cfg0.N) (r : Fin 1024) (d : Fin 128) :
    (iblk m c 5 t : S1024x128.Idx → EReal) (ix2 r d) = P m c (ix2 (row t r) (Diff.qcol (head t) 0 d)) := by
  blk_ext! [iblk, V, (idx5 t), row, head, Diff.qcol, ValueIdx.ix2]
/-- The second query block. -/
theorem blk6 (t : Fin cfg0.N) (r : Fin 1024) (d : Fin 128) :
    (iblk m c 6 t : S1024x128.Idx → EReal) (ix2 r d) = P m c (ix2 (row t r) (Diff.qcol (head t) 1 d)) := by
  blk_ext! [iblk, V, (idx6 t), row, head, Diff.qcol, ValueIdx.ix2]
/-- The first keys. -/
theorem blk7 (t : Fin cfg0.N) (p : Fin 8192) (d : Fin 128) :
    (iblk m c 7 t : S8192x128.Idx → EReal) (ix2 p d) = P m c (ix2 p (Diff.kcol (head t) 0 d)) := by
  blk_ext! [iblk, V, (idx7 t), row, head, Diff.kcol, ValueIdx.ix2]
/-- The second keys. -/
theorem blk8 (t : Fin cfg0.N) (p : Fin 8192) (d : Fin 128) :
    (iblk m c 8 t : S8192x128.Idx → EReal) (ix2 p d) = P m c (ix2 p (Diff.kcol (head t) 1 d)) := by
  blk_ext! [iblk, V, (idx8 t), row, head, Diff.kcol, ValueIdx.ix2]
/-- The values. -/
theorem blk9 (t : Fin cfg0.N) (p : Fin 8192) (e : Fin 256) :
    (iblk m c 9 t : S8192x256.Idx → EReal) (ix2 p e) = P m c (ix2 p (Diff.vcol (head t) e)) := by
  blk_ext! [iblk, V, (idx9 t), row, head, Diff.vcol, ValueIdx.ix2]

/-- The padded meta rows the host prepares: the first 16 are the small rows'. -/
theorem meta_apply (j : Fin 256) (hj : j.val < 16) (k : Fin 6144) :
    (V m c main_v2 : S256x6144.Idx → EReal) (ix2 j k) = A m c (ix2 ⟨j.val, by omega⟩ k) := by
  entry_read
  show (concatenate S256x6144 0 _ _ : S256x6144.Idx → EReal) (Idealize.ShloMosaic.ix2 j k) = _
  pointwise
  exact dif_pos hj
/-- The first meta keys. -/
theorem blk10 (t : Fin cfg0.N) (j : Fin 256) (hj : j.val < 16) (d : Fin 128) :
    (iblk m c 10 t : S256x128.Idx → EReal) (ix2 j d) = A m c (ix2 ⟨j.val, by omega⟩ (Diff.kcol (head t) 0 d)) := by
  rw [← meta_apply m c j hj]
  blk_ext [iblk, (idx10 t), row, head, Diff.kcol, ValueIdx.ix2]
/-- The second meta keys. -/
theorem blk11 (t : Fin cfg0.N) (j : Fin 256) (hj : j.val < 16) (d : Fin 128) :
    (iblk m c 11 t : S256x128.Idx → EReal) (ix2 j d) = A m c (ix2 ⟨j.val, by omega⟩ (Diff.kcol (head t) 1 d)) := by
  rw [← meta_apply m c j hj]
  blk_ext [iblk, (idx11 t), row, head, Diff.kcol, ValueIdx.ix2]
/-- The meta values. -/
theorem blk12 (t : Fin cfg0.N) (j : Fin 256) (hj : j.val < 16) (e : Fin 256) :
    (iblk m c 12 t : S256x256.Idx → EReal) (ix2 j e) = A m c (ix2 ⟨j.val, by omega⟩ (Diff.vcol (head t) e)) := by
  rw [← meta_apply m c j hj]
  blk_ext [iblk, (idx12 t), row, head, Diff.vcol, ValueIdx.ix2]

end

end Cert.DiffIdeal.Windows
-- ==== Proof.Diff.Loops.lean ====
module

public import proofs.«01_k».proof.Proof.Gen.DiffIdeal.Value
public import Idealize.ShloMosaic.Lib.Pipeline.ValueKit

@[expose] public section

set_option maxRecDepth 16384

/-! The body's two loops over whole key blocks, as recursions over the block number. -/

namespace Cert.DiffIdeal.Body

open Cert.DiffIdeal Cert.DiffIdeal.Gen Idealize.ShloMosaic Idealize.ShloMosaic.TcCoe Idealize.SL.Sem

noncomputable section

variable {F : FTy → Type} [FloatOps F]

/-- The lane maxima of both streams after `n` whole key blocks. -/
def loop1 (i : grid0.Coords) (q₁ q₂ : Vec F S1024x128 .bf16) (K₁ K₂ : Vec F S8192x128 .bf16)
    (init : FVec F S1024x128 .f32 × FVec F S1024x128 .f32) : ℕ → FVec F S1024x128 .f32 × FVec F S1024x128 .f32
  | 0 => init
  | n + 1 =>
    if h : n < (k0_t1_loop i).trips then
      (k0_pay21 q₁ (loop1 i q₁ q₂ K₁ K₂ init n).1 (View.ld K₁ (Rect.unit (k0_off1 i ⟨n, h⟩) S1024x128.size (k0_off1_inb i ⟨n, h⟩))),
        k0_pay22 q₂ (loop1 i q₁ q₂ K₁ K₂ init n).2 (View.ld K₂ (Rect.unit (k0_off1 i ⟨n, h⟩) S1024x128.size (k0_off1_inb i ⟨n, h⟩))))
    else loop1 i q₁ q₂ K₁ K₂ init n

/-- The lane sums and the weighted values of both streams after `n` whole key blocks. -/
def loop3 (i : grid0.Coords) (q₁ q₂ : Vec F S1024x128 .bf16) (m₁ m₂ : FVec F S1024x1 .f32) (K₁ K₂ : Vec F S8192x128 .bf16)
    (V : Vec F S8192x256 .bf16)
    (init : FVec F S1024x128 .f32 × FVec F S1024x256 .f32 × FVec F S1024x128 .f32 × FVec F S1024x256 .f32) :
    ℕ → FVec F S1024x128 .f32 × FVec F S1024x256 .f32 × FVec F S1024x128 .f32 × FVec F S1024x256 .f32
  | 0 => init
  | n + 1 =>
    if h : n < (k0_t3_loop i).trips then
      (k0_pay4 q₁ m₁ (loop3 i q₁ q₂ m₁ m₂ K₁ K₂ V init n).1
          (View.ld K₁ (Rect.unit (k0_off6 i ⟨n, h⟩) S1024x128.size (k0_off6_inb i ⟨n, h⟩))),
        k0_pay5 q₁ m₁ (loop3 i q₁ q₂ m₁ m₂ K₁ K₂ V init n).2.1
          (View.ld K₁ (Rect.unit (k0_off6 i ⟨n, h⟩) S1024x128.size (k0_off6_inb i ⟨n, h⟩)))
          (View.ld V (Rect.unit (k0_off7 i ⟨n, h⟩) S1024x256.size (k0_off7_inb i ⟨n, h⟩))),
        k0_pay6 q₂ m₂ (loop3 i q₁ q₂ m₁ m₂ K₁ K₂ V init n).2.2.1
          (View.ld K₂ (Rect.unit (k0_off6 i ⟨n, h⟩) S1024x128.size (k0_off6_inb i ⟨n, h⟩))),
        k0_pay41 (loop3 i q₁ q₂ m₁ m₂ K₁ K₂ V init n).2.2.2
          (View.ld V (Rect.unit (k0_off7 i ⟨n, h⟩) S1024x256.size (k0_off7_inb i ⟨n, h⟩)))
          (k0_pay7 q₂ m₂ (View.ld K₂ (Rect.unit (k0_off6 i ⟨n, h⟩) S1024x128.size (k0_off6_inb i ⟨n, h⟩)))))
    else loop3 i q₁ q₂ m₁ m₂ K₁ K₂ V init n

variable (𝒱 : Variants) (c : Dev nD) (bd : Option 𝒱.V)
variable (i : grid0.Coords) (arg2 : Memref sig .tc .vmem S1x128 .f32) (harg2 : arg2.IsWhole)
  (arg3 : Memref sig .tc .vmem S1x128 .f32) (harg3 : arg3.IsWhole) (arg4 : Memref sig .tc .vmem S1x128 .f32)
  (harg4 : arg4.IsWhole) (arg5 : Memref sig .tc .vmem S1x128 .f32) (harg5 : arg5.IsWhole)
  (arg6 : Memref sig .tc .vmem S1x256 .f32) (harg6 : arg6.IsWhole) (arg7 : Memref sig .tc .vmem S1024x128 .bf16)
  (harg7 : arg7.IsWhole) (arg8 : Memref sig .tc .vmem S1024x128 .bf16) (harg8 : arg8.IsWhole)
  (arg9 : Memref sig .tc .vmem S8192x128 .bf16) (harg9 : arg9.IsWhole) (arg10 : Memref sig .tc .vmem S8192x128 .bf16)
  (harg10 : arg10.IsWhole) (arg11 : Memref sig .tc .vmem S8192x256 .bf16) (harg11 : arg11.IsWhole)
  (arg12 : Memref sig .tc .vmem S256x128 .bf16) (harg12 : arg12.IsWhole) (arg13 : Memref sig .tc .vmem S256x128 .bf16)
  (harg13 : arg13.IsWhole) (arg14 : Memref sig .tc .vmem S256x256 .bf16) (harg14 : arg14.IsWhole)
  (arg15 : Memref sig .tc .vmem S1024x256 .bf16) (harg15 : arg15.IsWhole)

/-- The first loop's state is that recursion. -/
theorem st1_eq (arg1 : BitVec 32) (v15 v16 : Vec F S1024x128 .bf16) (v17 : BitVec 32) (v20 : IVec S1024x256 1)
    (v21 v22 : IVec S1024x1024 32) (v23 : FVec F S1024x128 .f32) (v29 v31 : FVec F S1024x256 .f32) (cst_21 : F .f32)
    (K₁ K₂ : Vec F S8192x128 .bf16) (X : BufTy.Contents (Elt F) arg11.view.ty)
    (init : FVec F S1024x128 .f32 × FVec F S1024x128 .f32) (n : ℕ) :
    st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v15 v16 v17 v20 v21 v22 v23 v29 v31 cst_21 (harg9.unread K₁) (harg10.unread K₂) X init n
      = loop1 i v15 v16 K₁ K₂ init n := by
  induction n with
  | zero => rfl
  | succ n ih =>
    rw [st_k0_t1.eq_2, loop1, ← ih]
    unfold st_k0_t1Step
    refine dite_congr rfl (fun h => ?_) fun _ => rfl
    unfold tripR_k0_t1 trip_k0_t1
    dsimp only
    sl_unfold_words
    simp only [View.readAt_eq_ld, Memref.IsWhole.read_unread]

/-- The second loop's state is that recursion. -/
theorem st3_eq (arg1 : BitVec 32) (v15 v16 : Vec F S1024x128 .bf16) (v17 : BitVec 32)
    (v21 v22 : IVec S1024x1024 32) (v98 v100 : FVec F S1024x1 .f32) (v101 : FVec F S1024x128 .f32) (v102 : FVec F S1024x256 .f32)
    (v108 : FVec F S256x256 .bf16) (v117 v120 : FVec F S1024x256 .f32) (v124 : FVec F S1024x128 .f32)
    (K₁ K₂ : Vec F S8192x128 .bf16) (V : Vec F S8192x256 .bf16)
    (init : FVec F S1024x128 .f32 × FVec F S1024x256 .f32 × FVec F S1024x128 .f32 × FVec F S1024x256 .f32) (n : ℕ) :
    st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v15 v16 v17 v21 v22 v98 v100 v101 v102 v108 v117 v120 v124 (harg9.unread K₁) (harg10.unread K₂) (harg11.unread V) init n
      = loop3 i v15 v16 v98 v100 K₁ K₂ V init n := by
  induction n with
  | zero => rfl
  | succ n ih =>
    rw [st_k0_t3.eq_2, loop3, ← ih]
    unfold st_k0_t3Step
    refine dite_congr rfl (fun h => ?_) fun _ => rfl
    unfold tripR_k0_t3 trip_k0_t3
    dsimp only
    sl_unfold_words
    simp only [View.readAt_eq_ld, Memref.IsWhole.read_unread]

/-- The trailing loop after the first one makes no trip. -/
theorem st2_eq (arg1 : BitVec 32) (v15 v16 : Vec F S1024x128 .bf16) (v17 : BitVec 32) (v20 : IVec S1024x256 1)
    (v21 v22 : IVec S1024x1024 32) (v23 : FVec F S1024x128 .f32) (v29 v31 : FVec F S1024x256 .f32) (cst_21 : F .f32)
    (X₉ : BufTy.Contents (Elt F) arg9.view.ty) (X₁₀ : BufTy.Contents (Elt F) arg10.view.ty)
    (X : BufTy.Contents (Elt F) arg11.view.ty) (init : FVec F S1024x128 .f32 × FVec F S1024x128 .f32) (n : ℕ) :
    st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v15 v16 v17 v20 v21 v22 v23 v29 v31 cst_21 X₉ X₁₀ X init n = init := by
  induction n with
  | zero => rfl
  | succ n ih =>
    rw [st_k0_t2.eq_2]
    unfold st_k0_t2Step
    rw [dif_neg fun h => absurd (lt_of_lt_of_le h (k0_t2_abs i).2.1) (Nat.not_lt_zero n), ih]

/-- The trailing loop after the second one makes no trip. -/
theorem st4_eq (arg1 : BitVec 32) (v15 v16 : Vec F S1024x128 .bf16) (v17 : BitVec 32)
    (v21 v22 : IVec S1024x1024 32) (v98 v100 : FVec F S1024x1 .f32) (v101 : FVec F S1024x128 .f32) (v102 : FVec F S1024x256 .f32)
    (v108 : FVec F S256x256 .bf16) (v117 v120 : FVec F S1024x256 .f32) (v124 : FVec F S1024x128 .f32) (v139 : BitVec 32)
    (X₉ : BufTy.Contents (Elt F) arg9.view.ty) (X₁₀ : BufTy.Contents (Elt F) arg10.view.ty)
    (X : BufTy.Contents (Elt F) arg11.view.ty)
    (init : FVec F S1024x128 .f32 × FVec F S1024x256 .f32 × FVec F S1024x128 .f32 × FVec F S1024x256 .f32) (n : ℕ) :
    st_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v15 v16 v17 v21 v22 v98 v100 v101 v102 v108 v117 v120 v124 v139 X₉ X₁₀ X init n = init := by
  induction n with
  | zero => rfl
  | succ n ih =>
    rw [st_k0_t4.eq_2]
    unfold st_k0_t4Step
    rw [dif_neg fun h => absurd (lt_of_lt_of_le h (k0_t4_abs i).2.1) (Nat.not_lt_zero n), ih]

end

end Cert.DiffIdeal.Body
-- ==== Proof.Diff.Body.lean ====
module

public import proofs.«01_k».proof.Proof.Diff.Loops

@[expose] public section

set_option maxRecDepth 16384

/-! What one grid point of the differential attention writes, as one term of the blocks it reads. -/

namespace Cert.DiffIdeal.Body

open Cert.DiffIdeal Cert.DiffIdeal.Gen Idealize.ShloMosaic Idealize.ShloMosaic.TcCoe Idealize.SL.Sem

noncomputable section

variable {F : FTy → Type} [FloatOps F]

/-- The row number of every entry of a diagonal tile. -/
def rowId : IVec S1024x1024 32 := iota .tc S1024x1024 32 [0] iota_S1024x1024_d0_w32
/-- The column number of every entry of a diagonal tile. -/
def colId : IVec S1024x1024 32 := iota .tc S1024x1024 32 [1] iota_S1024x1024_d1_w32

section
variable (i : grid0.Coords) (q₁ q₂ : Vec F S1024x128 .bf16) (K₁ K₂ : Vec F S8192x128 .bf16) (V : Vec F S8192x256 .bf16)
  (M₁ M₂ : Vec F S256x128 .bf16) (MV : Vec F S256x256 .bf16)

/-- The diagonal block of a stream's keys. -/
def diagK (K : Vec F S8192x128 .bf16) : Vec F S1024x128 .bf16 :=
  View.ld K (Rect.unit (k0_off5 i) S1024x128.size (k0_off5_inb i))
/-- The diagonal block of the values. -/
def diagV : Vec F S1024x256 .bf16 := View.ld V (Rect.unit (k0_off10 i) S1024x256.size (k0_off10_inb i))

/-- The lane maxima of both streams before the diagonal block. -/
def lanesMax : FVec F S1024x128 .f32 × FVec F S1024x128 .f32 :=
  loop1 i q₁ q₂ K₁ K₂ (k0_pay19 (k0_pay16 (F := F)) (k0_pay18 q₁ M₁),
    k0_pay20 k0_pay15 (k0_pay16 (F := F)) (k0_pay17 q₂ M₂) (Scalar.ofBits .f32 0xFF800000#32)) (k0_t1_loop i).trips

/-- The first stream's row maxima. -/
def max1 : FVec F S1024x1 .f32 :=
  k0_pay30 (lanesMax i q₁ q₂ K₁ K₂ M₁ M₂).1 (k0_pay28 q₁ rowId colId (diagK i K₁)) (k0_pay29 q₁ rowId colId (diagK i K₁))
/-- The second stream's row maxima. -/
def max2 : FVec F S1024x1 .f32 := k0_pay31 (lanesMax i q₁ q₂ K₁ K₂ M₁ M₂).2 (k0_pay27 q₂ rowId colId (diagK i K₂))

/-- The first stream's weights of the meta tile. -/
def mexp1 : FVec F S1024x256 .f32 :=
  k0_pay35 q₁ k0_pay15 (lanesMax i q₁ q₂ K₁ K₂ M₁ M₂).1 (k0_pay28 q₁ rowId colId (diagK i K₁))
    (k0_pay29 q₁ rowId colId (diagK i K₁)) M₁
/-- The second stream's weights of the meta tile. -/
def mexp2 : FVec F S1024x256 .f32 :=
  k0_pay36 q₂ k0_pay15 (lanesMax i q₁ q₂ K₁ K₂ M₁ M₂).2 (k0_pay27 q₂ rowId colId (diagK i K₂)) M₂

/-- The lane sums and weighted values of both streams before the diagonal block. -/
def sums : FVec F S1024x128 .f32 × FVec F S1024x256 .f32 × FVec F S1024x128 .f32 × FVec F S1024x256 .f32 :=
  loop3 i q₁ q₂ (max1 i q₁ q₂ K₁ K₂ M₁ M₂) (max2 i q₁ q₂ K₁ K₂ M₁ M₂) K₁ K₂ V
    (k0_pay37 q₁ k0_pay15 (lanesMax i q₁ q₂ K₁ K₂ M₁ M₂).1 (k0_pay28 q₁ rowId colId (diagK i K₁))
        (k0_pay29 q₁ rowId colId (diagK i K₁)) M₁,
      k0_pay38 (k0_pay33 (F := F)) (k0_pay34 MV) (mexp1 i q₁ q₂ K₁ K₂ M₁ M₂),
      k0_pay39 (k0_pay32 (F := F)) (mexp2 i q₁ q₂ K₁ K₂ M₁ M₂),
      k0_pay40 (k0_pay33 (F := F)) (k0_pay34 MV) (mexp2 i q₁ q₂ K₁ K₂ M₁ M₂)) (k0_t3_loop i).trips

/-- The attention rows before the head norm. -/
def rows (lam : FVec F S1x1 .f32) : FVec F S1024x256 .f32 :=
  k0_pay47 lam (sums i q₁ q₂ K₁ K₂ V M₁ M₂ MV).1 (sums i q₁ q₂ K₁ K₂ V M₁ M₂ MV).2.1
    (sums i q₁ q₂ K₁ K₂ V M₁ M₂ MV).2.2.1 (sums i q₁ q₂ K₁ K₂ V M₁ M₂ MV).2.2.2 (diagV i V)
    (k0_pay44 q₁ rowId colId (max1 i q₁ q₂ K₁ K₂ M₁ M₂) (diagK i K₁))
    (k0_pay45 q₂ rowId colId (max2 i q₁ q₂ K₁ K₂ M₁ M₂) (diagK i K₂))
    (k0_pay46 q₁ rowId colId (max1 i q₁ q₂ K₁ K₂ M₁ M₂) (diagK i K₁))

/-- Their mean squares. -/
def meanSq (lam : FVec F S1x1 .f32) : FVec F S1024x1 .f32 :=
  k0_pay48 lam (sums i q₁ q₂ K₁ K₂ V M₁ M₂ MV).1 (sums i q₁ q₂ K₁ K₂ V M₁ M₂ MV).2.1
    (sums i q₁ q₂ K₁ K₂ V M₁ M₂ MV).2.2.1 (sums i q₁ q₂ K₁ K₂ V M₁ M₂ MV).2.2.2 (diagV i V)
    (k0_pay44 q₁ rowId colId (max1 i q₁ q₂ K₁ K₂ M₁ M₂) (diagK i K₁))
    (k0_pay45 q₂ rowId colId (max2 i q₁ q₂ K₁ K₂ M₁ M₂) (diagK i K₂))
    (k0_pay46 q₁ rowId colId (max1 i q₁ q₂ K₁ K₂ M₁ M₂) (diagK i K₁))
end

variable (m : (ℓ : Loc nD τ sig) → Buf (Elt F) ℓ) (ρ : Dev nD → PrngReg)

/-- What a point leaves in its output block. -/
theorem out_eq (c : Dev nD) (t : Fin cfg0.N) : outsAt0 m c t
    = k0_pay1 (rows (grid0.coords t) (iblk m c 5 t) (iblk m c 6 t) (iblk m c 7 t) (iblk m c 8 t) (iblk m c 9 t)
        (iblk m c 10 t) (iblk m c 11 t) (iblk m c 12 t) (k0_pay14 (iblk m c 0 t) (iblk m c 1 t) (iblk m c 2 t) (iblk m c 3 t)))
      (iblk m c 4 t)
      (meanSq (grid0.coords t) (iblk m c 5 t) (iblk m c 6 t) (iblk m c 7 t) (iblk m c 8 t) (iblk m c 9 t)
        (iblk m c 10 t) (iblk m c 11 t) (iblk m c 12 t) (k0_pay14 (iblk m c 0 t) (iblk m c 1 t) (iblk m c 2 t) (iblk m c 3 t))) := by
  unfold outsAt0
  frame_out
  simp only [st1_eq, st2_eq, st3_eq, st4_eq]
  rfl

end

end Cert.DiffIdeal.Body
-- ==== Proof.Blocks.lean ====
module

public import Mathlib.Algebra.BigOperators.Intervals
public import Mathlib.Data.EReal.Operations
public import Mathlib.Order.CompleteLattice.Finset

@[expose] public section

noncomputable section

/-!
The keys of one query row come in pieces: 16 meta tokens inside a padded tile of 256, whole blocks of
1024 keys, one masked block on the diagonal. A sum (or a maximum) taken piece by piece, and inside a piece
lane by lane, is the sum (or maximum) over all 8208 keys.
-/

namespace Blocks

open Finset

variable {M : Type*} [AddCommMonoid M]

/-- A sum over `G` groups of `w` taken group by group is the sum over all of them. -/
theorem sum_groups (w G : ℕ) (h : ℕ → M) :
    ∑ g ∈ range G, ∑ l ∈ range w, h (w * g + l) = ∑ j ∈ range (w * G), h j := by
  induction G with
  | zero => simp
  | succ G ih => rw [sum_range_succ, ih, Nat.mul_succ, sum_range_add]

/-- The same with the lanes outside. -/
theorem sum_lanes (w G : ℕ) (h : ℕ → M) :
    ∑ l ∈ range w, ∑ g ∈ range G, h (w * g + l) = ∑ j ∈ range (w * G), h j := by
  rw [sum_comm, sum_groups]

/-- The padded meta tile, the `n` whole blocks and the diagonal block together are all 8208 keys, when the keys
beyond the diagonal block contribute nothing. -/
theorem sum_blocks (f : ℕ → M) (n : ℕ) (hn : n < 8) (h0 : ∀ p, 16 + 1024 * (n + 1) ≤ p → f p = 0) :
    (∑ j ∈ range 256, if j < 16 then f j else 0) + (∑ b ∈ range n, ∑ j ∈ range 1024, f (16 + (1024 * b + j)))
        + ∑ j ∈ range 1024, f (16 + (1024 * n + j))
      = ∑ p ∈ range 8208, f p := by
  have e1 : (∑ j ∈ range 256, if j < 16 then f j else 0) = ∑ j ∈ range 16, f j := by
    rw [← sum_filter]
    congr 1
  rw [e1, sum_groups 1024 n fun j => f (16 + j), add_assoc,
    ← sum_range_add (fun j => f (16 + j)) (1024 * n) 1024, ← sum_range_add f 16 (1024 * n + 1024)]
  refine sum_subset (fun p hp => ?_) fun p _ hp => h0 p ?_
  · simp only [mem_range] at hp ⊢; omega
  · simp only [mem_range] at hp; omega

/-- The extended reals with the maximum as their addition and `⊥` as its unit. -/
@[ext] structure Max where
  /-- The number itself. -/
  val : EReal

instance : Add Max := ⟨fun a b => ⟨max a.val b.val⟩⟩
instance : Zero Max := ⟨⟨⊥⟩⟩

/-- Addition in `Max` is the maximum. -/
theorem Max.val_add (a b : Max) : (a + b).val = max a.val b.val := rfl
/-- Zero in `Max` is `⊥`. -/
theorem Max.val_zero : (0 : Max).val = ⊥ := rfl

instance : AddCommMonoid Max where
  add_assoc a b c := Max.ext (max_assoc _ _ _)
  zero_add a := Max.ext (max_eq_right bot_le)
  add_zero a := Max.ext (max_eq_left bot_le)
  add_comm a b := Max.ext (max_comm _ _)
  nsmul := nsmulRec

/-- A sum in `Max` is a supremum. -/
theorem Max.val_sum {ι : Type*} (s : Finset ι) (f : ι → Max) : (∑ i ∈ s, f i).val = s.sup fun i => (f i).val := by
  classical
  induction s using Finset.induction with
  | empty => rfl
  | insert a s ha ih => rw [sum_insert ha, sup_insert, Max.val_add, ih]

/-- Lane by lane, the two groups of the meta tile, the eight groups of every whole block and the eight groups of
the diagonal block are all 8208 keys. -/
theorem sum_blocks_lanes (f : ℕ → M) (n : ℕ) (hn : n < 8) (h0 : ∀ p, 16 + 1024 * (n + 1) ≤ p → f p = 0) :
    ∑ l ∈ range 128, ((∑ g ∈ range 2, if 128 * g + l < 16 then f (128 * g + l) else 0)
        + (∑ b ∈ range n, ∑ g ∈ range 8, f (16 + (1024 * b + (128 * g + l))))
        + ∑ g ∈ range 8, f (16 + (1024 * n + (128 * g + l))))
      = ∑ p ∈ range 8208, f p := by
  rw [sum_add_distrib, sum_add_distrib, sum_comm (s := range 128) (t := range n),
    sum_lanes 128 2 fun j => if j < 16 then f j else 0, sum_lanes 128 8 fun j => f (16 + (1024 * n + j)),
    ← sum_blocks f n hn h0]
  refine congrArg₂ (· + ·) (congrArg₂ (· + ·) rfl (sum_congr rfl fun b _ => ?_)) rfl
  exact sum_lanes 128 8 fun j => f (16 + (1024 * b + j))

/-- The same for maxima, the keys beyond the diagonal block being `⊥`. -/
theorem sup_blocks_lanes (f : ℕ → EReal) (n : ℕ) (hn : n < 8) (h0 : ∀ p, 16 + 1024 * (n + 1) ≤ p → f p = ⊥) :
    ((range 128).sup fun l =>
        max (max ((range 2).sup fun g => if 128 * g + l < 16 then f (128 * g + l) else ⊥)
          ((range n).sup fun b => (range 8).sup fun g => f (16 + (1024 * b + (128 * g + l)))))
        ((range 8).sup fun g => f (16 + (1024 * n + (128 * g + l)))))
      = (range 8208).sup f := by
  have h := congrArg Max.val (sum_blocks_lanes (fun p => (⟨f p⟩ : Max)) n hn fun p hp => Max.ext (h0 p hp))
  simp only [Max.val_sum, Max.val_add, apply_ite Max.val, Max.val_zero] at h
  exact h

end Blocks
-- ==== Proof.Read.lean ====
module

public import proofs.«01_k».proof.Proof.Blocks
public import Idealize.ShloMosaic.Lib.Pipeline.ValueKit
public import Idealize.ShloMosaic.Lib.Pointwise
public import Idealize.ShloMosaic.Lib.ValueIdx
public import Idealize.ShloMosaic.Lib.ValueLayout
public import Idealize.ShloMosaic.Lib.ValueLayoutCasts
public import Idealize.ShloMosaic.Lib.MatmulPlain

@[expose] public section

/-! Layout operations and row reductions of two-axis arrays, read at one index. -/

namespace Read

open Idealize.ShloMosaic hiding ix1 ix2 ix3 ix4
open Idealize.ShloMosaic.ValueIdx
open scoped BigOperators

variable {α : Type}

/-- A slice of columns, read at one index. -/
theorem slice_cols {a b c o : ℕ} (v : (⟨2, ![a, c]⟩ : Shape).Idx → α)
    (h : (⟨2, ![a, c]⟩ : Shape).Slices ![0, o] ⟨2, ![a, b]⟩) (r : Fin a) (l : Fin b) (hl : o + l.val < c) :
    extractStridedSlice ⟨2, ![a, b]⟩ ![0, o] v h (ix2 r l) = v (ix2 r ⟨o + l.val, hl⟩) := by
  refine extractStridedSlice_apply _ _ _ _ _ fun k => ?_
  match k with
  | ⟨0, _⟩ => simp
  | ⟨1, _⟩ => rfl

/-- A column repeated along the rows. -/
theorem bcol {a b : ℕ} (v : (⟨2, ![a, 1]⟩ : Shape).Idx → α)
    (h : (⟨2, ![a, 1]⟩ : Shape).Broadcasts ⟨2, ![a, b]⟩) (r : Fin a) (l : Fin b) :
    broadcastTo ⟨2, ![a, b]⟩ v h (ix2 r l) = v (ix2 r 0) := by
  refine broadcastTo_apply _ _ _ _ fun k => ?_
  match k with
  | ⟨0, _⟩ =>
    by_cases ha : a = 1
    · subst ha; simp
    · simp [ha]
  | ⟨1, _⟩ => simp

/-- One number repeated over a whole array. -/
theorem bone {a b : ℕ} (v : (⟨2, ![1, 1]⟩ : Shape).Idx → α)
    (h : (⟨2, ![1, 1]⟩ : Shape).Broadcasts ⟨2, ![a, b]⟩) (r : Fin a) (l : Fin b) :
    broadcastTo ⟨2, ![a, b]⟩ v h (ix2 r l) = v (ix2 0 0) := by
  refine broadcastTo_apply _ _ _ _ fun k => ?_
  match k with
  | ⟨0, _⟩ => simp
  | ⟨1, _⟩ => simp

variable {φ : FTy}

/-- A row's sum. -/
theorem rowSum {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) : multiReduction .add [1] ⟨1, ![a]⟩ v acc h hφ hacc (ix1 r) = ∑ l : Fin b, v (ix2 r l) := by
  rw [Ideal.multiReduction_add_single]
  refine Finset.sum_congr rfl fun l _ => congrArg v ?_
  funext k
  match k with
  | ⟨0, _⟩ => rfl
  | ⟨1, _⟩ => rfl

/-- A row's maximum. -/
theorem rowMax {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hbot : (FloatOps.ofBits φ acc : Ideal φ) = (⊥ : EReal)) (r : Fin a) :
    multiReduction .maximumf [1] ⟨1, ![a]⟩ v acc h hφ hacc (ix1 r)
      = (Finset.univ : Finset (Fin b)).sup fun l => (v (ix2 r l) : EReal) := by
  rw [Ideal.multiReduction_maximumf_single, hbot]
  refine congrArg (fun f => (Finset.univ : Finset (Fin b)).fold max (⊥ : EReal) f) ?_
  funext l
  refine congrArg v ?_
  funext k
  match k with
  | ⟨0, _⟩ => rfl
  | ⟨1, _⟩ => rfl

/-- A supremum over `Fin n` as one over the first `n` numbers. -/
theorem sup_fin (n : ℕ) (f : ℕ → EReal) : ((Finset.univ : Finset (Fin n)).sup fun l => f l) = (Finset.range n).sup f := by
  have h := Finset.sum_range (n := n) fun l => (⟨f l⟩ : Blocks.Max)
  have h' := congrArg Blocks.Max.val h
  rw [Blocks.Max.val_sum, Blocks.Max.val_sum] at h'
  exact h'.symm

end Read
-- ==== Proof.Diff.Pay.lean ====
module

public import proofs.«01_k».proof.Proof.Gen.DiffIdeal.Skeleton
public import Idealize.ShloMosaic.Lib.WordCmp
public import proofs.«01_k».proof.Proof.Read
public import proofs.«01_k».proof.Proof.Blocks
public import proofs.«01_k».proof.Proof.Diff.Row

@[expose] public section

set_option maxRecDepth 16384

/-! What the body's value terms are at one index, over the extended reals. -/

namespace Cert.DiffIdeal.Pay

open Idealize.ShloMosaic hiding ix1 ix2 ix3 ix4
open Idealize.ShloMosaic.ValueIdx Cert.DiffIdeal Cert.DiffIdeal.Gen
open Finset

noncomputable section

/-- Eight maxima in a row. -/
theorem sup8 (h : ℕ → EReal) : (range 8).sup h
    = max (max (max (max (max (max (max (h 0) (h 1)) (h 2)) (h 3)) (h 4)) (h 5)) (h 6)) (h 7) := by
  simp only [range_add_one, range_zero, sup_insert, sup_empty]
  simp only [bot_sup_eq, sup_bot_eq, sup_comm, sup_left_comm]

/-- Eight sums in a row. -/
theorem sum8 (h : ℕ → EReal) : ∑ g ∈ range 8, h g = h 0 + h 1 + h 2 + h 3 + h 4 + h 5 + h 6 + h 7 := by
  simp only [sum_range_succ, sum_range_zero, zero_add]

/-- Two maxima. -/
theorem sup2 (h : ℕ → EReal) : (range 2).sup h = max (h 0) (h 1) := by
  simp only [range_add_one, range_zero, sup_insert, sup_empty]
  simp only [bot_sup_eq, sup_bot_eq, sup_comm]

/-- Two sums. -/
theorem sum2 (h : ℕ → EReal) : ∑ g ∈ range 2, h g = h 0 + h 1 := by
  simp only [sum_range_succ, sum_range_zero, zero_add]

/-- The pattern of minus infinity. -/
theorem negInf : (Ideal.ofBits .f32 0xFF800000#32 : EReal) = ⊥ := by simp [Ideal.ofBits, Ideal.ieee]

/-- A query row against a block of keys. -/
theorem score_apply (q k : FVec Ideal S1024x128 .bf16) (r j : Fin 1024) :
    matmul dot_S1024x128_S1024x128_S1024x1024_1_1_0_0_n_n none q k (constant (F := Ideal) S1024x1024 .f32 0x00000000#32) (ix2 r j)
      = ∑ d : Fin 128, (q (ix2 r d) * k (ix2 j d) : EReal) := by
  refine (Ideal.matmul_transposedRhs_apply (M := 1024) (K := 128) (N := 1024) none q k _ r j).trans ?_
  rw [constant_apply, Ideal.ofBits_zero_f32, zero_add]

/-- A query row against the meta tile. -/
theorem mscore_apply (q : FVec Ideal S1024x128 .bf16) (k : FVec Ideal S256x128 .bf16) (r : Fin 1024) (j : Fin 256) :
    matmul dot_S1024x128_S256x128_S1024x256_1_1_0_0_n_n none q k (constant (F := Ideal) S1024x256 .f32 0x00000000#32) (ix2 r j)
      = ∑ d : Fin 128, (q (ix2 r d) * k (ix2 j d) : EReal) := by
  refine (Ideal.matmul_transposedRhs_apply (M := 1024) (K := 128) (N := 256) none q k _ r j).trans ?_
  rw [constant_apply, Ideal.ofBits_zero_f32, zero_add]

/-- A row of weights against a block of values. -/
theorem pv_apply (p : FVec Ideal S1024x1024 .bf16) (v : FVec Ideal S1024x256 .bf16) (r : Fin 1024) (e : Fin 256) :
    matmul dot_S1024x1024_S1024x256_S1024x256_1_0_0_1_n_n none p v (constant (F := Ideal) S1024x256 .f32 0x00000000#32) (ix2 r e)
      = ∑ j : Fin 1024, (p (ix2 r j) * v (ix2 j e) : EReal) := by
  refine (Ideal.matmul_plain_apply (M := 1024) (K := 1024) (N := 256) none p v _ r e).trans ?_
  rw [constant_apply, Ideal.ofBits_zero_f32, zero_add]

/-- A row of weights against the meta tile's values. -/
theorem mpv_apply (p : FVec Ideal S1024x256 .bf16) (v : FVec Ideal S256x256 .bf16) (r : Fin 1024) (e : Fin 256) :
    matmul dot_S1024x256_S256x256_S1024x256_1_0_0_1_n_n none p v (constant (F := Ideal) S1024x256 .f32 0x00000000#32) (ix2 r e)
      = ∑ j : Fin 256, (p (ix2 r j) * v (ix2 j e) : EReal) := by
  refine (Ideal.matmul_plain_apply (M := 1024) (K := 256) (N := 256) none p v _ r e).trans ?_
  rw [constant_apply, Ideal.ofBits_zero_f32, zero_add]

/-- The weights of a block of scores. -/
theorem pay2_apply (q : Vec Ideal S1024x128 .bf16) (m : FVec Ideal S1024x1 .f32) (k : Vec Ideal S1024x128 .bf16) (r j : Fin 1024) :
    k0_pay2 q m k (ix2 r j) = Ideal.exp ((∑ d : Fin 128, (q (ix2 r d) * k (ix2 j d) : EReal)) - m (ix2 r 0)) := by
  unfold k0_pay2
  show Ideal.exp (_ - _) = _
  rw [score_apply, Read.bcol]

/-- Eight lane groups of 128 of a row `f` of 1024, added. -/
theorem groups_add (v : FVec Ideal S1024x1024 .f32) (f : ℕ → EReal) (r : Fin 1024) (l : Fin 128)
    (hf : ∀ j : Fin 1024, v (ix2 r j) = f j) :
    extractStridedSlice S1024x128 ![0, 0] v slices_S1024x1024_o0_0_S1024x128 (ix2 r l) = f (128 * 0 + l) ∧
    extractStridedSlice S1024x128 ![0, 128] v slices_S1024x1024_o0_128_S1024x128 (ix2 r l) = f (128 * 1 + l) ∧
    extractStridedSlice S1024x128 ![0, 256] v slices_S1024x1024_o0_256_S1024x128 (ix2 r l) = f (128 * 2 + l) ∧
    extractStridedSlice S1024x128 ![0, 384] v slices_S1024x1024_o0_384_S1024x128 (ix2 r l) = f (128 * 3 + l) ∧
    extractStridedSlice S1024x128 ![0, 512] v slices_S1024x1024_o0_512_S1024x128 (ix2 r l) = f (128 * 4 + l) ∧
    extractStridedSlice S1024x128 ![0, 640] v slices_S1024x1024_o0_640_S1024x128 (ix2 r l) = f (128 * 5 + l) ∧
    extractStridedSlice S1024x128 ![0, 768] v slices_S1024x1024_o0_768_S1024x128 (ix2 r l) = f (128 * 6 + l) ∧
    extractStridedSlice S1024x128 ![0, 896] v slices_S1024x1024_o0_896_S1024x128 (ix2 r l) = f (128 * 7 + l) := by
  have hl := l.isLt
  have key : ∀ (o : ℕ) (h : S1024x1024.Slices ![0, o] S1024x128) (ho : o + l.val < 1024),
      extractStridedSlice S1024x128 ![0, o] v h (ix2 r l) = f (o + l) := fun o h ho =>
    (Read.slice_cols v h r l ho).trans (hf _)
  exact ⟨key _ _ (by omega), key _ _ (by omega), key _ _ (by omega), key _ _ (by omega), key _ _ (by omega),
    key _ _ (by omega), key _ _ (by omega), key _ _ (by omega)⟩

/-- The two lane groups of a row of the meta tile. -/
theorem groups_meta (v : FVec Ideal S1024x256 .f32) (f : ℕ → EReal) (r : Fin 1024) (l : Fin 128)
    (hf : ∀ j : Fin 256, v (ix2 r j) = f j) :
    extractStridedSlice S1024x128 ![0, 0] v slices_S1024x256_o0_0_S1024x128 (ix2 r l) = f (128 * 0 + l) ∧
    extractStridedSlice S1024x128 ![0, 128] v slices_S1024x256_o0_128_S1024x128 (ix2 r l) = f (128 * 1 + l) := by
  have hl := l.isLt
  exact ⟨(Read.slice_cols v _ r l (by omega)).trans (hf _), (Read.slice_cols v _ r l (by omega)).trans (hf _)⟩

/-- One step of the first loop: the running lane maxima against a block's scores. -/
theorem pay21_apply (q : Vec Ideal S1024x128 .bf16) (a : FVec Ideal S1024x128 .f32) (k : Vec Ideal S1024x128 .bf16)
    (f : ℕ → EReal) (r : Fin 1024) (l : Fin 128)
    (hf : ∀ j : Fin 1024, (∑ d : Fin 128, (q (ix2 r d) * k (ix2 j d) : EReal)) = f j) :
    k0_pay21 q a k (ix2 r l) = max (a (ix2 r l)) ((range 8).sup fun g => f (128 * g + l)) := by
  obtain ⟨h0, h1, h2, h3, h4, h5, h6, h7⟩ := groups_add _ f r l fun j => (score_apply q k r j).trans (hf j)
  unfold k0_pay21
  simp only [maximumf_apply, h0, h1, h2, h3, h4, h5, h6, h7, sup8]

/-- The second stream's step is the same text. -/
theorem pay22_eq : k0_pay22 (F := Ideal) = k0_pay21 := rfl

/-- One step of the second loop: the running lane sums against a block's weights. -/
theorem pay4_apply (q : Vec Ideal S1024x128 .bf16) (m : FVec Ideal S1024x1 .f32) (a : FVec Ideal S1024x128 .f32)
    (k : Vec Ideal S1024x128 .bf16) (f : ℕ → EReal) (r : Fin 1024) (l : Fin 128)
    (hf : ∀ j : Fin 1024, Ideal.exp ((∑ d : Fin 128, (q (ix2 r d) * k (ix2 j d) : EReal)) - m (ix2 r 0)) = f j) :
    k0_pay4 q m a k (ix2 r l) = a (ix2 r l) + ∑ g ∈ range 8, f (128 * g + l) := by
  obtain ⟨h0, h1, h2, h3, h4, h5, h6, h7⟩ := groups_add _ f r l fun j => (pay2_apply q m k r j).trans (hf j)
  unfold k0_pay4
  simp only [addf_apply, h0, h1, h2, h3, h4, h5, h6, h7, sum8]

/-- One step of the second loop: the running weighted values against a block. -/
theorem pay5_apply (q : Vec Ideal S1024x128 .bf16) (m : FVec Ideal S1024x1 .f32) (a : FVec Ideal S1024x256 .f32)
    (k : Vec Ideal S1024x128 .bf16) (v : Vec Ideal S1024x256 .bf16) (f w : ℕ → EReal) (r : Fin 1024) (e : Fin 256)
    (hf : ∀ j : Fin 1024, Ideal.exp ((∑ d : Fin 128, (q (ix2 r d) * k (ix2 j d) : EReal)) - m (ix2 r 0)) = f j)
    (hw : ∀ j : Fin 1024, v (ix2 j e) = w j) :
    k0_pay5 q m a k v (ix2 r e) = a (ix2 r e) + ∑ j ∈ range 1024, f j * w j := by
  unfold k0_pay5
  simp only [addf_apply, pv_apply, truncf_apply, pay2_apply, hf, hw, sum_range]

/-- The second stream's steps are the same texts. -/
theorem pay3_eq : k0_pay3 (F := Ideal) = k0_pay2 := rfl
/-- The second stream's lane sums. -/
theorem pay6_eq : k0_pay6 (F := Ideal) = k0_pay4 := rfl
/-- The second stream's weighted values. -/
theorem pay41_eq (q : Vec Ideal S1024x128 .bf16) (m : FVec Ideal S1024x1 .f32) (a : FVec Ideal S1024x256 .f32)
    (k : Vec Ideal S1024x128 .bf16) (v : Vec Ideal S1024x256 .bf16) :
    k0_pay41 a v (k0_pay7 q m k) = k0_pay5 q m a k v := rfl

/-- The meta tile's mask: its first 16 columns. -/
theorem pay15_apply (r : Fin 1024) (j : Fin 256) : k0_pay15 (ix2 r j) = BitVec.ofBool (decide (j.val < 16)) := by
  unfold k0_pay15
  show IntOp.cmpi .slt (iota .tc S1024x256 32 [1] iota_S1024x256_d1_w32 (ix2 r j)) (BitVec.ofNat 32 16) = _
  have hj := j.isLt
  rw [iota_single_apply]
  exact WordCmp.cmpi_slt_ofNat (w := 32) (a := j.val) (b := 16) (by omega) (by omega)

/-- The diagonal tile's mask: the columns up to the row. -/
theorem diag_apply (r j : Fin 1024) :
    k0_pay25 (iota .tc S1024x1024 32 [0] iota_S1024x1024_d0_w32) (iota .tc S1024x1024 32 [1] iota_S1024x1024_d1_w32) (ix2 r j)
      = BitVec.ofBool (decide (j.val ≤ r.val)) := by
  unfold k0_pay25
  show IntOp.cmpi .sle (iota .tc S1024x1024 32 [1] iota_S1024x1024_d1_w32 (ix2 r j) + 0#32)
    (iota .tc S1024x1024 32 [0] iota_S1024x1024_d0_w32 (ix2 r j)) = _
  have hj := j.isLt
  have hr := r.isLt
  rw [iota_single_apply, iota_single_apply, BitVec.add_zero]
  exact WordCmp.cmpi_sle_ofNat (w := 32) (a := j.val) (b := r.val) (by omega) (by omega)

/-- A choice by a decided condition. -/
theorem select_decide (p : Prop) [Decidable p] (a b : EReal) :
    Scalar.select (BitVec.ofBool (decide p)) a b = if p then a else b := by
  by_cases h : p <;> simp [h, Scalar.select]

/-- The masked meta scores. -/
theorem pay18_apply (q : Vec Ideal S1024x128 .bf16) (k : Vec Ideal S256x128 .bf16) (r : Fin 1024) (j : Fin 256) :
    k0_pay18 q k (ix2 r j) = if j.val < 16 then ∑ d : Fin 128, (q (ix2 r d) * k (ix2 j d) : EReal) else ⊥ := by
  unfold k0_pay18
  simp only [select_apply, pay15_apply, broadcast_apply, shapeCast_self, mscore_apply]
  rw [show (Scalar.ofBits .f32 0xFF800000#32 : Ideal .f32) = (⊥ : EReal) from negInf]
  exact select_decide (j.val < 16) _ _

/-- The second stream's masked meta scores give the same lane maxima. -/
theorem pay20_eq (q : Vec Ideal S1024x128 .bf16) (k : Vec Ideal S256x128 .bf16) (a : FVec Ideal S1024x128 .f32) :
    k0_pay20 k0_pay15 a (k0_pay17 q k) (Scalar.ofBits .f32 0xFF800000#32) = k0_pay19 a (k0_pay18 q k) := rfl

/-- The lane maxima of the meta scores. -/
theorem pay19_apply (v : FVec Ideal S1024x256 .f32) (f : ℕ → EReal) (r : Fin 1024) (l : Fin 128)
    (hf : ∀ j : Fin 256, v (ix2 r j) = f j) :
    k0_pay19 (k0_pay16 (F := Ideal)) v (ix2 r l) = (range 2).sup fun g => f (128 * g + l) := by
  obtain ⟨h0, h1⟩ := groups_meta v f r l hf
  unfold k0_pay19
  rw [maximumf_apply, maximumf_apply, h0, h1, sup2]
  unfold k0_pay16
  rw [broadcast_apply, show (Scalar.ofBits .f32 0xFF800000#32 : Ideal .f32) = (⊥ : EReal) from negInf]
  exact max_eq_right bot_le

/-- The masked scores of the diagonal block. -/
theorem pay26_apply (q k : Vec Ideal S1024x128 .bf16) (r j : Fin 1024) :
    k0_pay26 q (iota .tc S1024x1024 32 [0] iota_S1024x1024_d0_w32) (iota .tc S1024x1024 32 [1] iota_S1024x1024_d1_w32) k (ix2 r j)
      = if j.val ≤ r.val then ∑ d : Fin 128, (q (ix2 r d) * k (ix2 j d) : EReal) else ⊥ := by
  unfold k0_pay26
  rw [select_apply, diag_apply, broadcast_apply, score_apply]
  rw [show (Scalar.ofBits .f32 0xFF800000#32 : Ideal .f32) = (⊥ : EReal) from negInf]
  exact select_decide (j.val ≤ r.val) _ _

/-- The second stream's row maximum is the same text as the first one's. -/
theorem pay31_eq (q k : Vec Ideal S1024x128 .bf16) (a : FVec Ideal S1024x128 .f32) (u w : IVec S1024x1024 32) :
    k0_pay31 a (k0_pay27 q u w k) = k0_pay30 a (k0_pay28 q u w k) (k0_pay29 q u w k) := rfl

/-- A row's maximum: over the lanes, the lane maxima so far and the diagonal block's eight groups. -/
theorem pay30_apply (q k : Vec Ideal S1024x128 .bf16) (a : FVec Ideal S1024x128 .f32) (u w : IVec S1024x1024 32)
    (A f : ℕ → EReal) (r : Fin 1024) (hA : ∀ l : Fin 128, a (ix2 r l) = A l)
    (hf : ∀ j : Fin 1024, k0_pay26 q u w k (ix2 r j) = f j) :
    k0_pay30 a (k0_pay28 q u w k) (k0_pay29 q u w k) (ix2 r 0)
      = (univ : Finset (Fin 128)).sup fun l => max (A l) ((range 8).sup fun g => f (128 * g + l)) := by
  unfold k0_pay30
  refine (shapeCast_a_a1_apply (a := 1024) _ _ r 0).trans ?_
  refine (Read.rowMax _ _ _ _ _ negInf r).trans ?_
  refine Finset.sup_congr rfl fun l _ => ?_
  obtain ⟨h0, h1, h2, h3, h4, h5, h6, h7⟩ := groups_add _ f r l hf
  unfold k0_pay28 k0_pay29
  simp only [maximumf_apply, h0, h1, h2, h3, h4, h5, h6, h7, sup8, hA]

/-- The meta tile's weights. -/
theorem pay35_apply (q : Vec Ideal S1024x128 .bf16) (a x y : FVec Ideal S1024x128 .f32) (k : Vec Ideal S256x128 .bf16)
    (r : Fin 1024) (j : Fin 256) :
    k0_pay35 q k0_pay15 a x y k (ix2 r j) = Ideal.exp (k0_pay18 q k (ix2 r j) - k0_pay30 a x y (ix2 r 0)) := by
  unfold k0_pay35
  show Ideal.exp (_ - _) = _
  rw [Read.bcol]
  rfl

/-- The second stream's are the same text. -/
theorem pay36_eq (q k : Vec Ideal S1024x128 .bf16) (a : FVec Ideal S1024x128 .f32) (u w : IVec S1024x1024 32)
    (M : Vec Ideal S256x128 .bf16) (v : IVec S1024x256 1) :
    k0_pay36 q v a (k0_pay27 q u w k) M = k0_pay35 q v a (k0_pay28 q u w k) (k0_pay29 q u w k) M := rfl

/-- The meta tile's lane sums. -/
theorem pay39_apply (v : FVec Ideal S1024x256 .f32) (f : ℕ → EReal) (r : Fin 1024) (l : Fin 128)
    (hf : ∀ j : Fin 256, v (ix2 r j) = f j) :
    k0_pay39 (k0_pay32 (F := Ideal)) v (ix2 r l) = ∑ g ∈ range 2, f (128 * g + l) := by
  obtain ⟨h0, h1⟩ := groups_meta v f r l hf
  unfold k0_pay39
  rw [addf_apply, addf_apply, h0, h1, sum2]
  unfold k0_pay32
  rw [broadcast_apply, show (Scalar.ofBits .f32 0x00000000#32 : Ideal .f32) = (0 : EReal) from Ideal.ofBits_zero_f32, zero_add]

/-- The first stream's are the same text. -/
theorem pay37_eq (q : Vec Ideal S1024x128 .bf16) (v : IVec S1024x256 1) (a x y : FVec Ideal S1024x128 .f32) (k : Vec Ideal S256x128 .bf16) :
    k0_pay37 q v a x y k = k0_pay39 (k0_pay32 (F := Ideal)) (k0_pay35 q v a x y k) := rfl

/-- The meta tile's weighted values. -/
theorem pay38_apply (MV : Vec Ideal S256x256 .bf16) (p : FVec Ideal S1024x256 .f32) (r : Fin 1024) (e : Fin 256) :
    k0_pay38 (k0_pay33 (F := Ideal)) (k0_pay34 MV) p (ix2 r e) = ∑ j : Fin 256, (p (ix2 r j) * MV (ix2 j e) : EReal) := by
  unfold k0_pay38 k0_pay33 k0_pay34
  rw [addf_apply, mpv_apply, broadcast_apply, show (Scalar.ofBits .f32 0x00000000#32 : Ideal .f32) = (0 : EReal) from Ideal.ofBits_zero_f32,
    zero_add, shapeCast_self]
  rfl

/-- The second stream's are the same text. -/
theorem pay40_eq : k0_pay40 (F := Ideal) = k0_pay38 := rfl

/-- The diagonal block's weights. -/
theorem pay44_apply (q k : Vec Ideal S1024x128 .bf16) (u w : IVec S1024x1024 32) (m : FVec Ideal S1024x1 .f32) (r j : Fin 1024) :
    k0_pay44 q u w m k (ix2 r j) = Ideal.exp (k0_pay26 q u w k (ix2 r j) - m (ix2 r 0)) := by
  unfold k0_pay44
  show Ideal.exp (_ - _) = _
  rw [Read.bcol]
  rfl

/-- The second stream's are the same text. -/
theorem pay45_eq : k0_pay45 (F := Ideal) = k0_pay44 := rfl

/-- The attention row: both streams' weighted values over their masses. -/
theorem pay47_apply (lam : FVec Ideal S1x1 .f32) (a₀ : FVec Ideal S1024x128 .f32) (a₁ : FVec Ideal S1024x256 .f32)
    (b₀ : FVec Ideal S1024x128 .f32) (b₁ : FVec Ideal S1024x256 .f32) (v : Vec Ideal S1024x256 .bf16)
    (q k q' k' : Vec Ideal S1024x128 .bf16) (u w : IVec S1024x1024 32) (m m' : FVec Ideal S1024x1 .f32)
    (f f' : ℕ → EReal) (r : Fin 1024) (e : Fin 256)
    (hf : ∀ j : Fin 1024, k0_pay44 q u w m k (ix2 r j) = f j) (hf' : ∀ j : Fin 1024, k0_pay44 q' u w m' k' (ix2 r j) = f' j) :
    k0_pay47 lam a₀ a₁ b₀ b₁ v (k0_pay44 q u w m k) (k0_pay45 q' u w m' k') (k0_pay46 q u w m k) (ix2 r e)
      = Ideal.div (a₁ (ix2 r e) + ∑ j : Fin 1024, f j * v (ix2 j e))
            (∑ l : Fin 128, (a₀ (ix2 r l) + ∑ g ∈ range 8, f (128 * g + l)))
          - lam (ix2 0 0) * Ideal.div (b₁ (ix2 r e) + ∑ j : Fin 1024, f' j * v (ix2 j e))
            (∑ l : Fin 128, (b₀ (ix2 r l) + ∑ g ∈ range 8, f' (128 * g + l))) := by
  unfold k0_pay47 k0_pay46
  simp only [pay45_eq, subf_apply, divf_apply, mulf_apply, addf_apply]
  rw [Read.bcol, Read.bcol, Read.bone, pv_apply, pv_apply]
  simp only [truncf_apply, hf, hf']
  refine congrArg₂ (· - ·) (congrArg₂ Ideal.div rfl ?_) (congrArg₂ (· * ·) rfl (congrArg₂ Ideal.div rfl ?_))
  · refine (shapeCast_a_a1_apply (a := 1024) _ _ r 0).trans ?_
    refine (Read.rowSum _ _ _ _ _ r).trans (Finset.sum_congr rfl fun l _ => ?_)
    obtain ⟨h0, h1, h2, h3, h4, h5, h6, h7⟩ := groups_add _ f r l hf
    simp only [addf_apply, h0, h1, h2, h3, h4, h5, h6, h7, sum8]
  · refine (shapeCast_a_a1_apply (a := 1024) _ _ r 0).trans ?_
    refine (Read.rowSum _ _ _ _ _ r).trans (Finset.sum_congr rfl fun l _ => ?_)
    obtain ⟨h0, h1, h2, h3, h4, h5, h6, h7⟩ := groups_add _ f' r l hf'
    simp only [addf_apply, h0, h1, h2, h3, h4, h5, h6, h7, sum8]

/-- The rows' mean squares. -/
theorem pay48_apply (lam : FVec Ideal S1x1 .f32) (a₀ : FVec Ideal S1024x128 .f32) (a₁ : FVec Ideal S1024x256 .f32)
    (b₀ : FVec Ideal S1024x128 .f32) (b₁ : FVec Ideal S1024x256 .f32) (v : Vec Ideal S1024x256 .bf16)
    (x y : FVec Ideal S1024x1024 .f32) (z : FVec Ideal S1024x128 .f32) (r : Fin 1024) :
    k0_pay48 lam a₀ a₁ b₀ b₁ v x y z (ix2 r 0)
      = Ideal.div (∑ e : Fin 256, k0_pay47 lam a₀ a₁ b₀ b₁ v x y z (ix2 r e) * k0_pay47 lam a₀ a₁ b₀ b₁ v x y z (ix2 r e))
          (Ideal.ofBits .f32 0x43800000#32) := by
  unfold k0_pay48
  rw [divf_apply]
  refine congrArg₂ Ideal.div ?_ rfl
  refine (shapeCast_a_a1_apply (a := 1024) _ _ r 0).trans ?_
  exact Read.rowSum _ _ _ _ _ r

/-- The head norm of a row. -/
theorem pay1_apply (x : FVec Ideal S1024x256 .f32) (g : Vec Ideal S1x256 .f32) (z : FVec Ideal S1024x1 .f32) (r : Fin 1024) (e : Fin 256) :
    k0_pay1 x g z (ix2 r e)
      = x (ix2 r e) * Ideal.rsqrt (z (ix2 r 0) + Ideal.ofBits .f32 0x3727C5AC#32) * g (ix2 0 e) * Ideal.ofBits .f32 0x3F4CCCCD#32 := by
  unfold k0_pay1
  rw [truncf_apply, mulf_apply, mulf_apply, mulf_apply, Read.bcol]
  rw [broadcastTo_1b_ab_apply (a := 1024) (b := 256)]
  rfl

/-- The streams' weight. -/
theorem pay14_apply (a b c d : Vec Ideal S1x128 .f32) : k0_pay14 a b c d (ix2 0 0)
    = Ideal.exp (∑ k : Fin 128, (a (ix2 0 k) * b (ix2 0 k) : EReal)) - Ideal.exp (∑ k : Fin 128, (c (ix2 0 k) * d (ix2 0 k) : EReal))
      + Ideal.ofBits .f32 0x3E4CCCCD#32 := by
  unfold k0_pay14
  rw [addf_apply, subf_apply]
  refine congrArg₂ (· + ·) (congrArg₂ (· - ·) (congrArg Ideal.exp ?_) (congrArg Ideal.exp ?_)) rfl
  · refine (shapeCast_a_a1_apply (a := 1) _ _ 0 0).trans ?_
    exact Read.rowSum _ _ _ _ _ 0
  · refine (shapeCast_a_a1_apply (a := 1) _ _ 0 0).trans ?_
    exact Read.rowSum _ _ _ _ _ 0

end

end Cert.DiffIdeal.Pay
-- ==== Proof.Diff.Stream.lean ====
module

public import proofs.«01_k».proof.Proof.Diff.Body
public import proofs.«01_k».proof.Proof.Diff.Pay

@[expose] public section

set_option maxRecDepth 16384

/-!
The body over the extended reals, one stream at a time: a row's maximum, its weights, their sum and the
weighted values, each over all 8208 keys.
-/

namespace Cert.DiffIdeal.Stream

open Idealize.ShloMosaic hiding ix1 ix2 ix3 ix4
open Idealize.ShloMosaic.ValueIdx Cert.DiffIdeal Cert.DiffIdeal.Gen Cert.DiffIdeal.Body Cert.DiffIdeal.Pay
open Finset

noncomputable section

/-- Block `n` of a stream's keys. -/
abbrev blkK (i : grid0.Coords) (K : Vec Ideal S8192x128 .bf16) (n : Fin (k0_t1_loop i).trips) : Vec Ideal S1024x128 .bf16 :=
  View.ld K (Rect.unit (k0_off1 i n) S1024x128.size (k0_off1_inb i n))
/-- The same block as the second loop loads it. -/
abbrev blkK' (i : grid0.Coords) (K : Vec Ideal S8192x128 .bf16) (n : Fin (k0_t3_loop i).trips) : Vec Ideal S1024x128 .bf16 :=
  View.ld K (Rect.unit (k0_off6 i n) S1024x128.size (k0_off6_inb i n))
/-- Block `n` of the values. -/
abbrev blkV (i : grid0.Coords) (V : Vec Ideal S8192x256 .bf16) (n : Fin (k0_t3_loop i).trips) : Vec Ideal S1024x256 .bf16 :=
  View.ld V (Rect.unit (k0_off7 i n) S1024x256.size (k0_off7_inb i n))

/-- One stream's lane maxima after `n` whole blocks. -/
def sMax (i : grid0.Coords) (q : Vec Ideal S1024x128 .bf16) (K : Vec Ideal S8192x128 .bf16) (a : FVec Ideal S1024x128 .f32) :
    ℕ → FVec Ideal S1024x128 .f32
  | 0 => a
  | n + 1 => if h : n < (k0_t1_loop i).trips then k0_pay21 q (sMax i q K a n) (blkK i K ⟨n, h⟩) else sMax i q K a n

/-- One stream's lane sums after `n` whole blocks. -/
def sSum (i : grid0.Coords) (q : Vec Ideal S1024x128 .bf16) (m : FVec Ideal S1024x1 .f32) (K : Vec Ideal S8192x128 .bf16)
    (a : FVec Ideal S1024x128 .f32) : ℕ → FVec Ideal S1024x128 .f32
  | 0 => a
  | n + 1 => if h : n < (k0_t3_loop i).trips then k0_pay4 q m (sSum i q m K a n) (blkK' i K ⟨n, h⟩) else sSum i q m K a n

/-- One stream's weighted values after `n` whole blocks. -/
def sVal (i : grid0.Coords) (q : Vec Ideal S1024x128 .bf16) (m : FVec Ideal S1024x1 .f32) (K : Vec Ideal S8192x128 .bf16)
    (V : Vec Ideal S8192x256 .bf16) (a : FVec Ideal S1024x256 .f32) : ℕ → FVec Ideal S1024x256 .f32
  | 0 => a
  | n + 1 =>
    if h : n < (k0_t3_loop i).trips then k0_pay5 q m (sVal i q m K V a n) (blkK' i K ⟨n, h⟩) (blkV i V ⟨n, h⟩)
    else sVal i q m K V a n

/-- The first loop is the two streams' lane maxima side by side. -/
theorem loop1_eq (i : grid0.Coords) (q₁ q₂ : Vec Ideal S1024x128 .bf16) (K₁ K₂ : Vec Ideal S8192x128 .bf16)
    (a b : FVec Ideal S1024x128 .f32) (n : ℕ) :
    loop1 i q₁ q₂ K₁ K₂ (a, b) n = (sMax i q₁ K₁ a n, sMax i q₂ K₂ b n) := by
  induction n with
  | zero => rfl
  | succ n ih =>
    rw [loop1, sMax, sMax, ih]
    by_cases h : n < (k0_t1_loop i).trips
    · rw [dif_pos h, dif_pos h, dif_pos h]; rfl
    · rw [dif_neg h, dif_neg h, dif_neg h]

/-- The second loop is the two streams' sums side by side. -/
theorem loop3_eq (i : grid0.Coords) (q₁ q₂ : Vec Ideal S1024x128 .bf16) (m₁ m₂ : FVec Ideal S1024x1 .f32)
    (K₁ K₂ : Vec Ideal S8192x128 .bf16) (V : Vec Ideal S8192x256 .bf16) (a : FVec Ideal S1024x128 .f32) (a' : FVec Ideal S1024x256 .f32)
    (b : FVec Ideal S1024x128 .f32) (b' : FVec Ideal S1024x256 .f32) (n : ℕ) :
    loop3 i q₁ q₂ m₁ m₂ K₁ K₂ V (a, a', b, b') n
      = (sSum i q₁ m₁ K₁ a n, sVal i q₁ m₁ K₁ V a' n, sSum i q₂ m₂ K₂ b n, sVal i q₂ m₂ K₂ V b' n) := by
  induction n with
  | zero => rfl
  | succ n ih =>
    rw [loop3, sSum, sSum, sVal, sVal, ih]
    by_cases h : n < (k0_t3_loop i).trips
    · rw [dif_pos h, dif_pos h, dif_pos h, dif_pos h, dif_pos h]; rfl
    · rw [dif_neg h, dif_neg h, dif_neg h, dif_neg h, dif_neg h]

section
variable (i : grid0.Coords) (q : Vec Ideal S1024x128 .bf16) (K : Vec Ideal S8192x128 .bf16) (V : Vec Ideal S8192x256 .bf16)
  (M : Vec Ideal S256x128 .bf16) (MV : Vec Ideal S256x256 .bf16)

/-- A stream's lane maxima before the diagonal block. -/
def lanes : FVec Ideal S1024x128 .f32 := sMax i q K (k0_pay19 (k0_pay16 (F := Ideal)) (k0_pay18 q M)) (k0_t1_loop i).trips
/-- A stream's row maxima. -/
def rowMax : FVec Ideal S1024x1 .f32 :=
  k0_pay30 (lanes i q K M) (k0_pay28 q rowId colId (diagK i K)) (k0_pay29 q rowId colId (diagK i K))
/-- A stream's weights of the meta tile. -/
def metaW : FVec Ideal S1024x256 .f32 :=
  k0_pay35 q k0_pay15 (lanes i q K M) (k0_pay28 q rowId colId (diagK i K)) (k0_pay29 q rowId colId (diagK i K)) M
/-- A stream's lane sums before the diagonal block. -/
def laneSum : FVec Ideal S1024x128 .f32 :=
  sSum i q (rowMax i q K M) K (k0_pay39 (k0_pay32 (F := Ideal)) (metaW i q K M)) (k0_t3_loop i).trips
/-- A stream's weighted values before the diagonal block. -/
def vals : FVec Ideal S1024x256 .f32 :=
  sVal i q (rowMax i q K M) K V (k0_pay38 (k0_pay33 (F := Ideal)) (k0_pay34 MV) (metaW i q K M)) (k0_t3_loop i).trips
/-- A stream's weights of the diagonal block. -/
def diagW : FVec Ideal S1024x1024 .f32 := k0_pay44 q rowId colId (rowMax i q K M) (diagK i K)
end

section
variable (i : grid0.Coords) (q₁ q₂ : Vec Ideal S1024x128 .bf16) (K₁ K₂ : Vec Ideal S8192x128 .bf16) (V : Vec Ideal S8192x256 .bf16)
  (M₁ M₂ : Vec Ideal S256x128 .bf16) (MV : Vec Ideal S256x256 .bf16)

theorem lanesMax_eq : lanesMax i q₁ q₂ K₁ K₂ M₁ M₂ = (lanes i q₁ K₁ M₁, lanes i q₂ K₂ M₂) := by
  unfold lanesMax
  rw [loop1_eq]
  rfl

theorem max1_eq : max1 i q₁ q₂ K₁ K₂ M₁ M₂ = rowMax i q₁ K₁ M₁ := by
  unfold max1; rw [lanesMax_eq]; rfl

theorem max2_eq : max2 i q₁ q₂ K₁ K₂ M₁ M₂ = rowMax i q₂ K₂ M₂ := by
  unfold max2; rw [lanesMax_eq, pay31_eq]; rfl

theorem mexp1_eq : mexp1 i q₁ q₂ K₁ K₂ M₁ M₂ = metaW i q₁ K₁ M₁ := by
  unfold mexp1; rw [lanesMax_eq]; rfl

theorem mexp2_eq : mexp2 i q₁ q₂ K₁ K₂ M₁ M₂ = metaW i q₂ K₂ M₂ := by
  unfold mexp2; rw [lanesMax_eq, pay36_eq]; rfl

/-- Both streams' sums, one stream at a time. -/
theorem sums_eq : sums i q₁ q₂ K₁ K₂ V M₁ M₂ MV
    = (laneSum i q₁ K₁ M₁, vals i q₁ K₁ V M₁ MV, laneSum i q₂ K₂ M₂, vals i q₂ K₂ V M₂ MV) := by
  unfold sums
  rw [loop3_eq, max1_eq, max2_eq, mexp1_eq, mexp2_eq, pay40_eq, pay37_eq, lanesMax_eq]
  rfl
end

/-- The first loop makes one trip per whole block. -/
theorem trips1 : ∀ i : grid0.Coords, (k0_t1_loop i).trips = (i 1).val := by decide +kernel
/-- So does the second. -/
theorem trips3 : ∀ i : grid0.Coords, (k0_t3_loop i).trips = (i 1).val := by decide +kernel

/-- A loaded block of rows, at one index. -/
theorem ld_rows {b : ℕ} (X : (⟨2, ![8192, b]⟩ : Shape).Idx → Elt Ideal .bf16) (off : Fin 2 → ℕ) (n : ℕ)
    (inb : ∀ a, off a + (⟨2, ![1024, b]⟩ : Shape).size a ≤ (⟨2, ![8192, b]⟩ : Shape).size a) (hoff : off = ![1024 * n, 0])
    (j : Fin 1024) (d : Fin b) (h : 1024 * n + j.val < 8192) :
    View.ld (e' := (.bf16 : EltTy)) (Val := Elt Ideal) X (Rect.unit (s := ⟨2, ![8192, b]⟩) off (⟨2, ![1024, b]⟩ : Shape).size inb) (ix2 j d) = X (ix2 ⟨1024 * n + j.val, h⟩ d) := by
  subst hoff
  refine congrArg X ?_
  funext a
  refine Fin.ext ?_
  match a with
  | ⟨0, _⟩ => simp [Rect.idx_unit_val]
  | ⟨1, _⟩ => simp [Rect.idx_unit_val]

end

end Cert.DiffIdeal.Stream
-- ==== Proof.Diff.Rows.lean ====
module

public import proofs.«01_k».proof.Proof.Diff.Stream

@[expose] public section

set_option maxRecDepth 16384

/-!
One row of the kernel's attention is `Diff.rowK` of the row's scores: the running maxima, masses and weighted
values over the meta tile, the whole blocks and the diagonal block are those over all 8208 keys.
-/

namespace Cert.DiffIdeal.Stream

open Idealize.ShloMosaic hiding ix1 ix2 ix3 ix4
open Idealize.ShloMosaic.ValueIdx Cert.DiffIdeal Cert.DiffIdeal.Gen Cert.DiffIdeal.Body Cert.DiffIdeal.Pay
open Finset

noncomputable section

/-- `s` is the row of masked scores of query row `r` of the point's block: first the 16 meta keys, then the
8192 prompt keys, those after the row at `⊥`. -/
structure ScoreRow (i : grid0.Coords) (q : Vec Ideal S1024x128 .bf16) (K : Vec Ideal S8192x128 .bf16)
    (M : Vec Ideal S256x128 .bf16) (r : Fin 1024) (s : ℕ → EReal) : Prop where
  first : ∀ j : Fin 256, j.val < 16 → (∑ d : Fin 128, (q (ix2 r d) * M (ix2 j d) : EReal)) = s j
  upTo : ∀ p : Fin 8192, p.val ≤ 1024 * (i 1).val + r.val → (∑ d : Fin 128, (q (ix2 r d) * K (ix2 p d) : EReal)) = s (16 + p)
  after : ∀ p : ℕ, 16 + (1024 * (i 1).val + r.val) < p → s p = ⊥

/-- `v` is column `e` of the values: first the 16 meta rows, then the 8192 prompt rows. -/
structure ValueCol (V : Vec Ideal S8192x256 .bf16) (MV : Vec Ideal S256x256 .bf16) (e : Fin 256) (v : ℕ → EReal) : Prop where
  first : ∀ j : Fin 256, j.val < 16 → MV (ix2 j e) = v j
  rest : ∀ p : Fin 8192, V (ix2 p e) = v (16 + p)

section
variable {i : grid0.Coords} {q : Vec Ideal S1024x128 .bf16} {K : Vec Ideal S8192x128 .bf16} {M : Vec Ideal S256x128 .bf16}
  {r : Fin 1024} {s : ℕ → EReal}

theorem coord_lt (i : grid0.Coords) : (i 1).val < 8 := (i 1).isLt

/-- A whole block's scores. -/
theorem ScoreRow.block (h : ScoreRow i q K M r s) (n : Fin (k0_t1_loop i).trips) (j : Fin 1024) :
    (∑ d : Fin 128, (q (ix2 r d) * blkK i K n (ix2 j d) : EReal)) = s (16 + (1024 * n.val + j.val)) := by
  have hn : n.val < (i 1).val := (trips1 i) ▸ n.isLt
  have hi := coord_lt i
  have hj := j.isLt
  have hp : 1024 * n.val + j.val < 8192 := by omega
  refine Eq.trans (Finset.sum_congr rfl fun d _ => ?_) (h.upTo ⟨_, hp⟩ (by show 1024 * n.val + j.val ≤ _; omega))
  exact congrArg (q (ix2 r d) * · : EReal → EReal) (ld_rows K _ n.val _ (k0_off1_eq i n) j d hp)

/-- The same for the second loop's loads. -/
theorem ScoreRow.block' (h : ScoreRow i q K M r s) (n : Fin (k0_t3_loop i).trips) (j : Fin 1024) :
    (∑ d : Fin 128, (q (ix2 r d) * blkK' i K n (ix2 j d) : EReal)) = s (16 + (1024 * n.val + j.val)) := by
  have hn : n.val < (i 1).val := (trips3 i) ▸ n.isLt
  have hi := coord_lt i
  have hj := j.isLt
  have hp : 1024 * n.val + j.val < 8192 := by omega
  refine Eq.trans (Finset.sum_congr rfl fun d _ => ?_) (h.upTo ⟨_, hp⟩ (by show 1024 * n.val + j.val ≤ _; omega))
  exact congrArg (q (ix2 r d) * · : EReal → EReal) (ld_rows K _ n.val _ (k0_off6_eq i n) j d hp)

/-- The masked scores of the diagonal block. -/
theorem ScoreRow.diag (h : ScoreRow i q K M r s) (j : Fin 1024) :
    k0_pay26 q rowId colId (diagK i K) (ix2 r j) = s (16 + (1024 * (i 1).val + j.val)) := by
  have hi := coord_lt i
  have hj := j.isLt
  refine (pay26_apply q (diagK i K) r j).trans ?_
  by_cases hjr : j.val ≤ r.val
  · rw [if_pos hjr]
    have hp : 1024 * (i 1).val + j.val < 8192 := by omega
    refine Eq.trans (Finset.sum_congr rfl fun d _ => ?_) (h.upTo ⟨_, hp⟩ (by show 1024 * (i 1).val + j.val ≤ _; omega))
    exact congrArg (q (ix2 r d) * · : EReal → EReal) (ld_rows K _ (i 1).val _ (k0_off5_eq i) j d hp)
  · rw [if_neg hjr, h.after _ (by omega)]

/-- The masked meta scores. -/
theorem ScoreRow.meta (h : ScoreRow i q K M r s) (j : Fin 256) :
    k0_pay18 q M (ix2 r j) = if j.val < 16 then s j else ⊥ := by
  rw [pay18_apply]
  by_cases hj : j.val < 16
  · rw [if_pos hj, if_pos hj, h.first j hj]
  · rw [if_neg hj, if_neg hj]

/-- The lane maxima after `n` whole blocks. -/
theorem sMax_apply (h : ScoreRow i q K M r s) (a : FVec Ideal S1024x128 .f32) (l : Fin 128) (n : ℕ) (hn : n ≤ (k0_t1_loop i).trips) :
    sMax i q K a n (ix2 r l)
      = max (a (ix2 r l)) ((range n).sup fun b => (range 8).sup fun g => s (16 + (1024 * b + (128 * g + l)))) := by
  induction n with
  | zero => rw [sMax, range_zero, sup_empty]; exact (max_eq_left (bot_le : (⊥ : EReal) ≤ _)).symm
  | succ n ih =>
    rw [sMax, dif_pos (by omega : n < _)]
    rw [pay21_apply q _ _ (fun j => s (16 + (1024 * n + j))) r l fun j => h.block ⟨n, by omega⟩ j, ih (by omega), max_assoc]
    rw [range_add_one (n := n), sup_insert]
    exact congrArg (max (a (ix2 r l))) (max_comm (α := EReal) _ _)

/-- A stream's lane maxima. -/
theorem lanes_apply (h : ScoreRow i q K M r s) (l : Fin 128) :
    lanes i q K M (ix2 r l)
      = max ((range 2).sup fun g => if 128 * g + l < 16 then s (128 * g + l) else ⊥)
          ((range (i 1).val).sup fun b => (range 8).sup fun g => s (16 + (1024 * b + (128 * g + l)))) := by
  unfold lanes
  rw [sMax_apply h _ l _ le_rfl, pay19_apply _ (fun j => if j < 16 then s j else ⊥) r l h.meta, trips1]

/-- A row's maximum is the largest of all its scores. -/
theorem rowMax_apply (h : ScoreRow i q K M r s) : rowMax i q K M (ix2 r 0) = Diff.top s := by
  unfold rowMax
  refine (pay30_apply q (diagK i K) (lanes i q K M) rowId colId
    (fun l => max ((range 2).sup fun g => if 128 * g + l < 16 then s (128 * g + l) else ⊥)
          ((range (i 1).val).sup fun b => (range 8).sup fun g => s (16 + (1024 * b + (128 * g + l)))))
    (fun j => s (16 + (1024 * (i 1).val + j))) r (fun l => lanes_apply h l) h.diag).trans ?_
  rw [Read.sup_fin 128 fun l => max (max ((range 2).sup fun g => if 128 * g + l < 16 then s (128 * g + l) else ⊥)
          ((range (i 1).val).sup fun b => (range 8).sup fun g => s (16 + (1024 * b + (128 * g + l)))))
        ((range 8).sup fun g => s (16 + (1024 * (i 1).val + (128 * g + l))))]
  exact Blocks.sup_blocks_lanes s _ (coord_lt i) fun p hp => h.after p (by have := r.isLt; omega)

/-- The weights of the meta tile: those of its 16 keys, and zero. -/
theorem metaW_apply (h : ScoreRow i q K M r s) (hs : Diff.Scores s) (j : Fin 256) :
    metaW i q K M (ix2 r j) = if j.val < 16 then Diff.wt s j else 0 := by
  unfold metaW
  rw [pay35_apply, h.meta]
  have e : k0_pay30 (lanes i q K M) (k0_pay28 q rowId colId (diagK i K)) (k0_pay29 q rowId colId (diagK i K)) (ix2 r 0) = Diff.top s :=
    rowMax_apply h
  rw [e]
  by_cases hj : j.val < 16
  · rw [if_pos hj, if_pos hj]; rfl
  · rw [if_neg hj, if_neg hj]
    obtain ⟨m, hm⟩ := Diff.top_real hs
    rw [hm]; rfl

/-- Keys after the row have weight zero. -/
theorem wt_after (h : ScoreRow i q K M r s) (hs : Diff.Scores s) (p : ℕ) (hp : 16 + 1024 * ((i 1).val + 1) ≤ p) : Diff.wt s p = 0 := by
  obtain ⟨m, hm⟩ := Diff.top_real hs
  rw [Diff.wt, h.after p (by have := r.isLt; omega), hm]; rfl

/-- The lane sums after `n` whole blocks. -/
theorem sSum_apply (h : ScoreRow i q K M r s) (a : FVec Ideal S1024x128 .f32) (l : Fin 128) (n : ℕ) (hn : n ≤ (k0_t3_loop i).trips) :
    sSum i q (rowMax i q K M) K a n (ix2 r l)
      = a (ix2 r l) + ∑ b ∈ range n, ∑ g ∈ range 8, Diff.wt s (16 + (1024 * b + (128 * g + l))) := by
  induction n with
  | zero => rw [sSum, range_zero, sum_empty, add_zero]
  | succ n ih =>
    rw [sSum, dif_pos (by omega : n < _)]
    rw [pay4_apply q _ _ _ (fun j => Diff.wt s (16 + (1024 * n + j))) r l fun j => by
      rw [h.block' ⟨n, by omega⟩ j, rowMax_apply h]; rfl, ih (by omega), sum_range_succ _ n, add_assoc]

/-- A stream's lane sums. -/
theorem laneSum_apply (h : ScoreRow i q K M r s) (hs : Diff.Scores s) (l : Fin 128) :
    laneSum i q K M (ix2 r l)
      = (∑ g ∈ range 2, if 128 * g + l < 16 then Diff.wt s (128 * g + l) else 0)
          + ∑ b ∈ range (i 1).val, ∑ g ∈ range 8, Diff.wt s (16 + (1024 * b + (128 * g + l))) := by
  unfold laneSum
  rw [sSum_apply h _ l _ le_rfl, pay39_apply _ (fun j => if j < 16 then Diff.wt s j else 0) r l (metaW_apply h hs), trips3]

/-- The diagonal block's weights. -/
theorem diagW_apply (h : ScoreRow i q K M r s) (j : Fin 1024) :
    k0_pay44 q rowId colId (rowMax i q K M) (diagK i K) (ix2 r j) = Diff.wt s (16 + (1024 * (i 1).val + j.val)) := by
  rw [pay44_apply, h.diag, rowMax_apply h]; rfl

/-- A row's mass. -/
theorem mass_eq (h : ScoreRow i q K M r s) (hs : Diff.Scores s) :
    ∑ l : Fin 128, (laneSum i q K M (ix2 r l) + ∑ g ∈ range 8, Diff.wt s (16 + (1024 * (i 1).val + (128 * g + l)))) = Diff.mass s := by
  rw [Finset.sum_congr rfl fun l _ => by rw [laneSum_apply h hs l]]
  refine Eq.trans (Finset.sum_range fun l => ((∑ g ∈ range 2, if 128 * g + l < 16 then Diff.wt s (128 * g + l) else 0)
          + ∑ b ∈ range (i 1).val, ∑ g ∈ range 8, Diff.wt s (16 + (1024 * b + (128 * g + l))))
          + ∑ g ∈ range 8, Diff.wt s (16 + (1024 * (i 1).val + (128 * g + l)))).symm ?_
  exact Blocks.sum_blocks_lanes (Diff.wt s) _ (coord_lt i) (wt_after h hs)

variable {V : Vec Ideal S8192x256 .bf16} {MV : Vec Ideal S256x256 .bf16} {e : Fin 256} {v : ℕ → EReal}

/-- The weighted values after `n` whole blocks. -/
theorem sVal_apply (h : ScoreRow i q K M r s) (hv : ValueCol V MV e v) (a : FVec Ideal S1024x256 .f32) (n : ℕ)
    (hn : n ≤ (k0_t3_loop i).trips) :
    sVal i q (rowMax i q K M) K V a n (ix2 r e)
      = a (ix2 r e) + ∑ b ∈ range n, ∑ j ∈ range 1024, Diff.wt s (16 + (1024 * b + j)) * v (16 + (1024 * b + j)) := by
  have ht := trips3 i
  have hi := coord_lt i
  induction n with
  | zero => rw [sVal, range_zero, sum_empty, add_zero]
  | succ n ih =>
    rw [sVal, dif_pos (by omega : n < _)]
    rw [pay5_apply q _ _ _ _ (fun j => Diff.wt s (16 + (1024 * n + j))) (fun j => v (16 + (1024 * n + j))) r e
      (fun j => by rw [h.block' ⟨n, by omega⟩ j, rowMax_apply h]; rfl)
      (fun j => (ld_rows V _ n _ (k0_off7_eq i ⟨n, by omega⟩) j e (by have := j.isLt; omega)).trans (hv.rest _)),
      ih (by omega), sum_range_succ _ n, add_assoc]

/-- A row's weighted values. -/
theorem vals_eq (h : ScoreRow i q K M r s) (hs : Diff.Scores s) (hv : ValueCol V MV e v) :
    vals i q K V M MV (ix2 r e)
        + ∑ j : Fin 1024, Diff.wt s (16 + (1024 * (i 1).val + j.val)) * (diagV i V (ix2 j e) : EReal)
      = ∑ p ∈ range 8208, Diff.wt s p * v p := by
  have hi := coord_lt i
  unfold vals
  rw [sVal_apply h hv _ _ le_rfl, trips3, pay38_apply]
  rw [← Blocks.sum_blocks (fun p => Diff.wt s p * v p) _ hi fun p hp => by rw [wt_after h hs p hp, zero_mul]]
  refine congrArg₂ (· + ·) (congrArg (· + _) ?_) ?_
  · rw [Finset.sum_range]
    refine Finset.sum_congr rfl fun j _ => ?_
    rw [metaW_apply h hs]
    by_cases hj : j.val < 16
    · rw [if_pos hj, if_pos hj, hv.first j hj]
    · rw [if_neg hj, if_neg hj, zero_mul]
  · rw [Finset.sum_range]
    refine Finset.sum_congr rfl fun j _ => congrArg (Diff.wt s _ * · : EReal → EReal) ?_
    exact (ld_rows V _ (i 1).val _ (k0_off10_eq i) j e (by have := j.isLt; omega)).trans (hv.rest _)

end

/-- One entry of the attention rows. -/
theorem rows_apply {i : grid0.Coords} {q₁ q₂ : Vec Ideal S1024x128 .bf16} {K₁ K₂ : Vec Ideal S8192x128 .bf16}
    {V : Vec Ideal S8192x256 .bf16} {M₁ M₂ : Vec Ideal S256x128 .bf16} {MV : Vec Ideal S256x256 .bf16} {r : Fin 1024} {e : Fin 256}
    {s₁ s₂ v : ℕ → EReal} (lam : FVec Ideal S1x1 .f32) (h₁ : ScoreRow i q₁ K₁ M₁ r s₁) (h₂ : ScoreRow i q₂ K₂ M₂ r s₂)
    (hs₁ : Diff.Scores s₁) (hs₂ : Diff.Scores s₂) (hv : ValueCol V MV e v) :
    rows i q₁ q₂ K₁ K₂ V M₁ M₂ MV lam (ix2 r e) = Diff.rowK s₁ s₂ v (lam (ix2 0 0)) := by
  unfold rows
  rw [max1_eq, max2_eq, sums_eq]
  refine (pay47_apply lam _ _ _ _ _ q₁ _ q₂ _ rowId colId _ _ (fun j => Diff.wt s₁ (16 + (1024 * (i 1).val + j)))
    (fun j => Diff.wt s₂ (16 + (1024 * (i 1).val + j))) r e (diagW_apply h₁) (diagW_apply h₂)).trans ?_
  dsimp only
  rw [mass_eq h₁ hs₁, mass_eq h₂ hs₂, vals_eq h₁ hs₁ hv, vals_eq h₂ hs₂ hv]
  rfl

/-- A row's mean square. -/
theorem meanSq_apply {i : grid0.Coords} {q₁ q₂ : Vec Ideal S1024x128 .bf16} {K₁ K₂ : Vec Ideal S8192x128 .bf16}
    {V : Vec Ideal S8192x256 .bf16} {M₁ M₂ : Vec Ideal S256x128 .bf16} {MV : Vec Ideal S256x256 .bf16} (r : Fin 1024)
    (lam : FVec Ideal S1x1 .f32) :
    meanSq i q₁ q₂ K₁ K₂ V M₁ M₂ MV lam (ix2 r 0)
      = Ideal.div (∑ e : Fin 256, (rows i q₁ q₂ K₁ K₂ V M₁ M₂ MV lam (ix2 r e) * rows i q₁ q₂ K₁ K₂ V M₁ M₂ MV lam (ix2 r e) : EReal))
          (Ideal.ofBits .f32 0x43800000#32) :=
  pay48_apply lam _ _ _ _ _ _ _ _ r

end

end Cert.DiffIdeal.Stream
-- ==== Proof.Diff.Finite.lean ====
module

public import proofs.«01_k».proof.Defs
public import proofs.«01_k».proof.Proof.Gen.Pre_finite
public import proofs.«01_k».proof.Proof.Diff.Spec
public import Idealize.ShloMosaic.Lib.ReduceAll

@[expose] public section

/-!
What the precondition says: every entry of the six arrays is a real number; so are the scores and weights made of them.
-/

namespace Diff

open Idealize.ShloMosaic
open Idealize.ShloMosaic.ValueIdx Finset

noncomputable section

/-- An ideal number below plus infinity in absolute value is real. -/
theorem real_of_abs {x : EReal} (h : max x (-x) < ⊤) : ∃ r : ℝ, x = r := by
  induction x with
  | bot => simp at h
  | top => simp at h
  | coe r => exact ⟨r, rfl⟩

/-- The pattern of plus infinity. -/
theorem posInf : (Ideal.ofBits .f32 0x7F800000#32 : EReal) = ⊤ := by simp [Ideal.ofBits, Ideal.ieee]

/-- The conjunction of the comparisons of an array's absolute values with plus infinity. -/
theorem real_of_all {s t u : Shape} [Subsingleton t.Idx] {axes : List (Fin s.rank)} (x : FVec Ideal s .f32) (w : FVec Ideal s .f32)
    (hw : ∀ i, w i = (⊤ : EReal)) (init : IVec u 1) (hr : s.ReducesTo axes t) (hu : 0 < u.numel) (j : t.Idx)
    (e : Host.reduce IntOp.andi (cmpf .olt (Host.absf x) w) init hr hu j = 1#1) (i : s.Idx) : ∃ r : ℝ, (x i : EReal) = r := by
  have h := Host.reduce_andi_all _ init hr hu j e i
  refine real_of_abs ?_
  have h' : BitVec.ofBool (decide (max (x i : EReal) (-(x i)) < w i)) = 1#1 := h
  rw [hw i] at h'
  by_contra hc
  rw [decide_eq_false hc] at h'
  exact absurd h' (by decide)

variable {P : FVec Ideal ⟨2, ![8192, 6144]⟩ .bf16} {A : FVec Ideal ⟨2, ![144, 6144]⟩ .bf16}
  {a b c d : FVec Ideal ⟨2, ![1, 128]⟩ .f32} {g : FVec Ideal ⟨2, ![1, 256]⟩ .f32}

/-- The precondition of the arrays: every entry but the norm's weights' is real. -/
theorem real_of_pre (h : Cert.Pre_finite.fn P A a b c d g = fun _ => 1#1) :
    (∀ i, ∃ r : ℝ, (P i : EReal) = r) ∧ (∀ i, ∃ r : ℝ, (A i : EReal) = r) ∧ (∀ i, ∃ r : ℝ, (a i : EReal) = r) ∧
      (∀ i, ∃ r : ℝ, (b i : EReal) = r) ∧ (∀ i, ∃ r : ℝ, (c i : EReal) = r) ∧ ∀ i, ∃ r : ℝ, (d i : EReal) = r := by
  have h0 := congrFun h ix0
  unfold Cert.Pre_finite.fn Cert.Pre_finite.fn_part1 at h0
  dsimp only at h0
  obtain ⟨h1, hd⟩ := IntOp.andi_eq_one.1 h0
  obtain ⟨h2, hc⟩ := IntOp.andi_eq_one.1 h1
  obtain ⟨h3, hb⟩ := IntOp.andi_eq_one.1 h2
  obtain ⟨h4, ha⟩ := IntOp.andi_eq_one.1 h3
  obtain ⟨hP, hA⟩ := IntOp.andi_eq_one.1 h4
  exact ⟨real_of_all _ _ (fun _ => posInf) _ _ _ _ hP, real_of_all _ _ (fun _ => posInf) _ _ _ _ hA,
    real_of_all _ _ (fun _ => posInf) _ _ _ _ ha, real_of_all _ _ (fun _ => posInf) _ _ _ _ hb,
    real_of_all _ _ (fun _ => posInf) _ _ _ _ hc, real_of_all _ _ (fun _ => posInf) _ _ _ _ hd⟩

/-- The entries of a column are real. -/
theorem entry_real (hP : ∀ i, ∃ r : ℝ, (P i : EReal) = r) (hA : ∀ i, ∃ r : ℝ, (A i : EReal) = r) (k : Fin 6144) (t : ℕ) :
    ∃ r : ℝ, entry P A k t = r := by
  unfold entry
  split_ifs
  · exact hA _
  · exact hP _
  · exact ⟨0, rfl⟩

/-- A sum of products of reals is real. -/
theorem dot_real {n : ℕ} {x y : Fin n → EReal} (hx : ∀ i, ∃ r : ℝ, x i = r) (hy : ∀ i, ∃ r : ℝ, y i = r) :
    ∃ r : ℝ, ∑ i, x i * y i = r := by
  choose f hf using hx
  choose g hg using hy
  refine ⟨∑ i, f i * g i, ?_⟩
  rw [coe_sum]
  exact Finset.sum_congr rfl fun i _ => by rw [hf, hg, EReal.coe_mul]

/-- The masked scores are real or at minus infinity. -/
theorem score_real (hP : ∀ i, ∃ r : ℝ, (P i : EReal) = r) (hA : ∀ i, ∃ r : ℝ, (A i : EReal) = r) (h : Fin 4) (k : Fin 2)
    (n : Fin 8192) : Scores (score P A h k n) := by
  have hd := fun t : ℕ => dot_real (fun d : Fin 128 => hP (ix2 n (qcol h k d))) fun d => entry_real hP hA (kcol h k d) t
  refine ⟨?_, fun p => ?_⟩
  · unfold score
    rw [if_pos (Nat.zero_le _)]
    exact hd 0
  · unfold score
    split_ifs
    · exact Or.inr (hd p)
    · exact Or.inl rfl

/-- The weight of the second stream is real. -/
theorem weight_real (ha : ∀ i, ∃ r : ℝ, (a i : EReal) = r) (hb : ∀ i, ∃ r : ℝ, (b i : EReal) = r)
    (hc : ∀ i, ∃ r : ℝ, (c i : EReal) = r) (hd : ∀ i, ∃ r : ℝ, (d i : EReal) = r) : ∃ r : ℝ, weight a b c d = r := by
  obtain ⟨x, hx⟩ := dot_real (fun k : Fin 128 => ha (ix2 0 k)) fun k => hb (ix2 0 k)
  obtain ⟨y, hy⟩ := dot_real (fun k : Fin 128 => hc (ix2 0 k)) fun k => hd (ix2 0 k)
  unfold weight
  rw [hx, hy]
  have hk : ∃ z : ℝ, (Ideal.ofBits .f32 0x3E4CCCCD#32 : EReal) = z :=
    ⟨13421773 * (2 ^ 26)⁻¹, by simp [Ideal.ofBits, Ideal.ieee, EReal.coe_mul]⟩
  obtain ⟨z, hz⟩ := hk
  rw [hz]
  exact ⟨Real.exp x - Real.exp y + z, by rw [EReal.coe_add, EReal.coe_sub]; rfl⟩

end

end Diff
-- ==== Proof.Diff.RefStage.lean ====
module

public import proofs.«01_k».proof.Proof.Gen.DiffRefIdeal.Run
public import Idealize.ShloMosaic.Lib.Pointwise
public import Idealize.ShloMosaic.Lib.WordCmp
public import proofs.«01_k».proof.Proof.Diff.Spec

@[expose] public section

set_option maxRecDepth 16384

/-! The reference of the differential attention, its result read at one index stage by stage. -/

namespace Cert.DiffRefIdeal.Stage

open Idealize.ShloMosaic hiding ix1 ix2 ix3 ix4
open Idealize.ShloMosaic.ValueIdx Cert.DiffRefIdeal Cert.DiffRefIdeal.Gen
open Finset

noncomputable section

variable (P : FVec Ideal S8192x6144 .bf16) (A : FVec Ideal S144x6144 .bf16)

/-- Meta rows, then prompt rows, of the attention's columns. -/
def cat : FVec Ideal S8208x3072 .f32 :=
  extf .f32 (concatenate S8208x3072 0 [⟨S16x3072, (extractStridedSlice S16x3072 ![0, 3072] A slices_S144x6144_S16x3072_0_3072)⟩,
    ⟨S8192x3072, (extractStridedSlice S8192x3072 ![0, 3072] P slices_S8192x6144_S8192x3072_0_3072)⟩]
    concatenates_S16x3072_S8192x3072_S8208x3072_d0) bitsLt_bf16_f32

/-- The queries by head and stream. -/
def qs : FVec Ideal S8192x4x2x128 .f32 :=
  shapeCast _ (extractStridedSlice S8192x1024 ![16, 0] (extractStridedSlice S8208x1024 ![0, 0] (cat P A)
    slices_S8208x3072_S8208x1024_0_0) slices_S8208x1024_S8192x1024_16_0) shapeCasts_S8192x1024_S8192x4x2x128

/-- The keys by head and stream. -/
def ks : FVec Ideal S8208x4x2x128 .f32 :=
  shapeCast _ (extractStridedSlice S8208x1024 ![0, 1024] (cat P A) slices_S8208x3072_S8208x1024_0_1024)
    shapeCasts_S8208x1024_S8208x4x2x128

/-- The values by head. -/
def vs : FVec Ideal S8208x4x256 .f32 :=
  shapeCast _ (extractStridedSlice S8208x1024 ![0, 2048] (cat P A) slices_S8208x3072_S8208x1024_0_2048)
    shapeCasts_S8208x1024_S8208x4x256

/-- Which keys a query sees. -/
def seen : IVec S8192x8208 1 :=
  cmpi .sle (broadcastInDim S8192x8208 ![0, 1] bcast_S1x8208_S8192x8208_0_1 (broadcastInDim S1x8208 ![1] bcast_S8208_S1x8208_1 (iotaInDim S8208 32 0)))
    (broadcastInDim S8192x8208 ![0, 1] bcast_S8192x1_S8192x8208_0_1 (broadcastInDim S8192x1 ![0] bcast_S8192_S8192x1_0
      (extractStridedSlice S8192 ![16] (iotaInDim S8208 32 0) slices_S8208_S8192_16)))

/-- The masked scores. -/
def sc : FVec Ideal S4x2x8192x8208 .f32 :=
  select (broadcastInDim S4x2x8192x8208 ![2, 3] bcast_S8192x8208_S4x2x8192x8208_2_3 seen)
    (Host.dotGeneral dot_S8192x4x2x128_S8208x4x2x128_S4x2x8192x8208_3_3_0_0_12_12 none (qs P A) (ks P A))
    (broadcastInDim S4x2x8192x8208 ![] bcast_S_S4x2x8192x8208 (id (constant S_ .f32 0xFF800000#32)))

/-- Each row's largest score. -/
def mx : FVec Ideal S4x2x8192 .f32 :=
  maximumf (broadcastInDim S4x2x8192 ![] bcast_S_S4x2x8192 (constant S_ .f32 0xFF800000#32))
    (Host.reduce FloatOps.maximumf (sc P A) (constant S_ .f32 0xFF800000#32) reducesTo_S4x2x8192x8208_S4x2x8192_d3 h_S_)

/-- The weights. -/
def ex : FVec Ideal S4x2x8192x8208 .f32 :=
  Host.exp (subf (sc P A) (broadcastInDim S4x2x8192x8208 ![0, 1, 2, 3] bcast_S4x2x8192x1_S4x2x8192x8208_0_1_2_3
    (broadcastInDim S4x2x8192x1 ![0, 1, 2] bcast_S4x2x8192_S4x2x8192x1_0_1_2 (mx P A))))

/-- The probabilities. -/
def pr : FVec Ideal S4x2x8192x8208 .f32 :=
  Host.divf (ex P A) (broadcastInDim S4x2x8192x8208 ![0, 1, 2, 3] bcast_S4x2x8192x1_S4x2x8192x8208_0_1_2_3
    (broadcastInDim S4x2x8192x1 ![0, 1, 2] bcast_S4x2x8192_S4x2x8192x1_0_1_2
      (Host.reduceAdd (ex P A) (constant S_ .f32 0x00000000#32) reducesTo_S4x2x8192x8208_S4x2x8192_d3 h_S_)))

/-- The second stream's weight. -/
def lam (a b c d : FVec Ideal S1x128 .f32) : FVec Ideal S_ .f32 :=
  addf (subf (Host.exp (Host.reduceAdd (mulf (shapeCast _ a shapeCasts_S1x128_S128) (shapeCast _ b shapeCasts_S1x128_S128))
      (constant S_ .f32 0x00000000#32) reducesTo_S128_S_d0 h_S_))
    (Host.exp (Host.reduceAdd (mulf (shapeCast _ c shapeCasts_S1x128_S128) (shapeCast _ d shapeCasts_S1x128_S128))
      (constant S_ .f32 0x00000000#32) reducesTo_S128_S_d0 h_S_))) (constant S_ .f32 0x3E4CCCCD#32)

/-- The difference of the two streams' probabilities. -/
def df (l : FVec Ideal S_ .f32) : FVec Ideal S4x8192x8208 .f32 :=
  subf (shapeCast _ (extractStridedSlice S4x1x8192x8208 ![0, 0, 0, 0] (pr P A) slices_S4x2x8192x8208_S4x1x8192x8208_0_0_0_0)
      shapeCasts_S4x1x8192x8208_S4x8192x8208)
    (mulf (broadcastInDim S4x8192x8208 ![] bcast_S_S4x8192x8208 l)
      (shapeCast _ (extractStridedSlice S4x1x8192x8208 ![0, 1, 0, 0] (pr P A) slices_S4x2x8192x8208_S4x1x8192x8208_0_1_0_0)
        shapeCasts_S4x1x8192x8208_S4x8192x8208))

/-- The attention rows. -/
def rows (l : FVec Ideal S_ .f32) : FVec Ideal S8192x4x256 .f32 :=
  transpose S8192x4x256 [2, 0, 1] (Host.dotGeneral dot_S8208x4x256_S4x8192x8208_S4x256x8192_0_2_2_1_1_0 none (vs P A) (df P A l))
    transposes_S4x256x8192_S8192x4x256_2_0_1

/-- The head norm, back in rows of 1024. -/
def out (x : FVec Ideal S8192x4x256 .f32) (g : FVec Ideal S1x256 .f32) : FVec Ideal S8192x1024 .bf16 :=
  truncf .bf16 (shapeCast _ (mulf (mulf (mulf x (broadcastInDim S8192x4x256 ![0, 1, 2] bcast_S8192x4x1_S8192x4x256_0_1_2
      (Host.rsqrt (addf (Host.divf (broadcastInDim S8192x4x1 ![0, 1] bcast_S8192x4_S8192x4x1_0_1
          (Host.reduceAdd (mulf x x) (constant S_ .f32 0x00000000#32) reducesTo_S8192x4x256_S8192x4_d2 h_S_))
          (broadcastInDim S8192x4x1 ![] bcast_S_S8192x4x1 (constant S_ .f32 0x43800000#32)))
        (broadcastInDim S8192x4x1 ![] bcast_S_S8192x4x1 (constant S_ .f32 0x3727C5AC#32))))))
      (broadcastInDim S8192x4x256 ![0, 1, 2] bcast_S1x1x256_S8192x4x256_0_1_2 (broadcastInDim S1x1x256 ![2] bcast_S256_S1x1x256_2
        (shapeCast _ g shapeCasts_S1x256_S256))))
      (broadcastInDim S8192x4x256 ![] bcast_S_S8192x4x256 (constant S_ .f32 0x3F4CCCCD#32))) shapeCasts_S8192x4x256_S8192x1024) bitsLt_bf16_f32

set_option maxHeartbeats 4000000 in
/-- The stages together are the reference's result. -/
theorem res_eq (m : (ℓ : Loc nD τ sig) → Buf (Elt Ideal) ℓ) (c : Dev nD) : Value.res_out0 m c
    = out (rows (m ((c.tc : Thread nD τ).loc main_arg0)) (m ((c.tc : Thread nD τ).loc main_arg1))
        (lam (m ((c.tc : Thread nD τ).loc main_arg2)) (m ((c.tc : Thread nD τ).loc main_arg3))
          (m ((c.tc : Thread nD τ).loc main_arg4)) (m ((c.tc : Thread nD τ).loc main_arg5))))
      (m ((c.tc : Thread nD τ).loc main_arg6)) := by
  unfold Value.res_out0 Value.res_main_v69
  rfl

end

end Cert.DiffRefIdeal.Stage
-- ==== Proof.Diff.RefRead.lean ====
module

public import proofs.«01_k».proof.Proof.Diff.RefStage
public import proofs.«01_k».proof.Proof.Read

@[expose] public section

set_option maxRecDepth 16384

/-! The stages of the reference's differential attention at one index. -/

namespace Cert.DiffRefIdeal.Stage

open Idealize.ShloMosaic hiding ix0 ix1 ix2 ix3 ix4
open Idealize.ShloMosaic.ValueIdx Cert.DiffRefIdeal Cert.DiffRefIdeal.Gen
open Finset

noncomputable section

variable (P : FVec Ideal S8192x6144 .bf16) (A : FVec Ideal S144x6144 .bf16)

/-- The maximum over a last axis. -/
theorem hostMax {a b c n : ℕ} (x : FVec Ideal ⟨4, ![a, b, c, n]⟩ .f32) (v : FVec Ideal ⟨0, ![]⟩ .f32)
    (h : (⟨4, ![a, b, c, n]⟩ : Shape).ReducesTo [3] ⟨3, ![a, b, c]⟩) (hu : 0 < (⟨0, ![]⟩ : Shape).numel) (hv : ∀ i, v i = (⊥ : EReal))
    (i : Fin a) (j : Fin b) (k : Fin c) :
    Host.reduce FloatOps.maximumf x v h hu (ix3 i j k) = (univ : Finset (Fin n)).sup fun l => (x (ix4 i j k l) : EReal) := by
  pointwise
  rw [hv]
  rfl

/-- An axis of one left out. -/
theorem drop1 {α : Type} {a c n : ℕ} (x : (⟨4, ![a, 1, c, n]⟩ : Shape).Idx → α)
    (h : (⟨4, ![a, 1, c, n]⟩ : Shape).ShapeCasts ⟨3, ![a, c, n]⟩) (i : Fin a) (j : Fin c) (k : Fin n) :
    shapeCast ⟨3, ![a, c, n]⟩ x h (ix3 i j k) = x (ix4 i 0 j k) := by
  refine shapeCast_apply _ _ _ _ ?_
  rw [Shape.rowMajor_val_four, Shape.rowMajor_val_three]
  show ((i.val * 1 + 0) * c + j.val) * n + k.val = (i.val * c + j.val) * n + k.val
  rw [Nat.mul_one, Nat.add_zero]

/-- One stream of a two-stream array. -/
theorem slice1 {α : Type} {a c n : ℕ} (x : (⟨4, ![a, 2, c, n]⟩ : Shape).Idx → α) (o : ℕ)
    (h : (⟨4, ![a, 2, c, n]⟩ : Shape).Slices ![0, o, 0, 0] ⟨4, ![a, 1, c, n]⟩) (i : Fin a) (j : Fin c) (k : Fin n) (ho : o < 2) :
    extractStridedSlice ⟨4, ![a, 1, c, n]⟩ ![0, o, 0, 0] x h (ix4 i 0 j k) = x (ix4 i ⟨o, ho⟩ j k) := by
  refine congrArg x (funext fun b => Fin.ext ?_)
  match b with
  | ⟨0, _⟩ => simp
  | ⟨1, _⟩ => simp
  | ⟨2, _⟩ => simp
  | ⟨3, _⟩ => simp

/-- The rows of both parts. -/
theorem cat_apply (t : Fin 8208) (c : Fin 3072) :
    cat P A (ix2 t c) = Diff.entry P A ⟨3072 + c.val, by omega⟩ t := by
  unfold cat Diff.entry
  pointwise
  show (if h : t.val < 16 then _ else _) = _
  by_cases h : t.val < 16
  · rw [dif_pos h, dif_pos h]; rfl
  · rw [dif_neg h, dif_neg h, dif_pos (by omega : t.val - 16 < 8192)]; rfl

theorem qs_apply (h : Fin 4) (k : Fin 2) (n : Fin 8192) (d : Fin 128) :
    qs P A (ix4 n h k d) = P (ix2 n (Diff.qcol h k d)) := by
  unfold qs
  pointwise
  refine (cat_apply P A ⟨16 + n.val, _⟩ ⟨h.val * 256 + k.val * 128 + d.val, _⟩).trans ?_
  unfold Diff.entry
  rw [dif_neg (by show ¬ 16 + n.val < 16; omega), dif_pos (by show 16 + n.val - 16 < 8192; omega)]
  refine congrArg P (congrArg₂ ix2 (Fin.ext ?_) (Fin.ext ?_))
  · show 16 + n.val - 16 = n.val; omega
  · show 3072 + (h.val * 256 + k.val * 128 + d.val) = 3072 + (256 * h.val + 128 * k.val + d.val); omega

theorem ks_apply (h : Fin 4) (k : Fin 2) (t : Fin 8208) (d : Fin 128) :
    ks P A (ix4 t h k d) = Diff.entry P A (Diff.kcol h k d) t := by
  unfold ks
  pointwise
  refine (cat_apply P A t ⟨1024 + (h.val * 256 + k.val * 128 + d.val), _⟩).trans ?_
  refine congrArg (fun c => Diff.entry P A c t) (Fin.ext ?_)
  show 3072 + (1024 + (h.val * 256 + k.val * 128 + d.val)) = 4096 + (256 * h.val + 128 * k.val + d.val); omega

theorem vs_apply (h : Fin 4) (t : Fin 8208) (e : Fin 256) :
    vs P A (ix3 t h e) = Diff.entry P A (Diff.vcol h e) t := by
  unfold vs
  pointwise
  refine (cat_apply P A t ⟨2048 + (h.val * 256 + e.val), _⟩).trans ?_
  refine congrArg (fun c => Diff.entry P A c t) (Fin.ext ?_)
  show 3072 + (2048 + (h.val * 256 + e.val)) = 5120 + (256 * h.val + e.val); omega

/-- The pattern of minus infinity. -/
theorem negInf : (Ideal.ofBits .f32 0xFF800000#32 : EReal) = ⊥ := by simp [Ideal.ofBits, Ideal.ieee]

/-- The masked scores. -/
theorem sc_apply (h : Fin 4) (k : Fin 2) (n : Fin 8192) (t : Fin 8208) :
    sc P A (ix4 h k n t) = Diff.score P A h k n t := by
  unfold sc
  pointwise [seen]
  show Scalar.select (IntOp.cmpi .sle (BitVec.ofNat 32 t.val) (BitVec.ofNat 32 (16 + n.val)))
    (∑ d : Fin 128, (qs P A (ix4 n h k d) * ks P A (ix4 t h k d) : EReal)) (Ideal.ofBits .f32 0xFF800000#32) = _
  rw [negInf, WordCmp.cmpi_sle_ofNat (by omega) (by omega)]
  unfold Diff.score
  by_cases ht : t.val ≤ 16 + n.val
  · rw [if_pos ht]
    simp only [ht, decide_true]
    refine Eq.trans (b := ∑ d : Fin 128, (qs P A (ix4 n h k d) * ks P A (ix4 t h k d) : EReal)) rfl ?_
    exact Finset.sum_congr rfl fun d _ => congrArg₂ (· * ·) (qs_apply P A h k n d) (ks_apply P A h k t d)
  · rw [if_neg ht]
    simp only [ht, decide_false]
    rfl

/-- A row's largest score. -/
theorem mx_apply (h : Fin 4) (k : Fin 2) (n : Fin 8192) :
    mx P A (ix3 h k n) = Diff.top (Diff.score P A h k n) := by
  unfold mx
  rw [maximumf_apply]
  rw [show broadcastInDim S4x2x8192 ![] bcast_S_S4x2x8192 (constant (F := Ideal) S_ .f32 0xFF800000#32) (ix3 h k n) = (⊥ : EReal) from negInf]
  refine (bot_sup_eq _).trans ?_
  refine (hostMax (sc P A) _ _ _ (fun _ => negInf) h k n).trans ?_
  rw [funext fun t => sc_apply P A h k n t]
  exact Read.sup_fin 8208 _

/-- The weights. -/
theorem ex_apply (h : Fin 4) (k : Fin 2) (n : Fin 8192) (t : Fin 8208) :
    ex P A (ix4 h k n t) = Diff.wt (Diff.score P A h k n) t := by
  unfold ex
  pointwise
  exact congrArg Ideal.exp (congrArg₂ (· - ·) (sc_apply P A h k n t) (mx_apply P A h k n))

/-- The probabilities. -/
theorem pr_apply (h : Fin 4) (k : Fin 2) (n : Fin 8192) (t : Fin 8208) :
    pr P A (ix4 h k n t) = Ideal.div (Diff.wt (Diff.score P A h k n) t) (Diff.mass (Diff.score P A h k n)) := by
  unfold pr
  pointwise
  refine congrArg₂ Ideal.div (ex_apply P A h k n t) ?_
  refine Eq.trans (Finset.sum_congr rfl fun t _ => ex_apply P A h k n t) ?_
  exact (Finset.sum_range (n := 8208) _).symm

/-- The second stream's weight. -/
theorem lam_apply (a b c d : FVec Ideal S1x128 .f32) : lam a b c d ix0 = Diff.weight a b c d := by
  unfold lam
  pointwise
  rfl

/-- The difference of the probabilities. -/
theorem df_apply (l : FVec Ideal S_ .f32) (h : Fin 4) (n : Fin 8192) (t : Fin 8208) :
    df P A l (ix3 h n t) = pr P A (ix4 h 0 n t) - l ix0 * pr P A (ix4 h 1 n t) := by
  unfold df
  rw [subf_apply, mulf_apply]
  refine congrArg₂ (· - ·) ((drop1 _ _ h n t).trans (slice1 (pr P A) 0 _ h n t (by decide))) (congrArg₂ (· * ·) ?_
    ((drop1 _ _ h n t).trans (slice1 (pr P A) 1 _ h n t (by decide))))
  exact broadcastInDim_scalar_apply _ _ _

/-- The attention rows. -/
theorem rows_apply (l : FVec Ideal S_ .f32) (h : Fin 4) (n : Fin 8192) (e : Fin 256) :
    rows P A l (ix3 n h e) = Diff.rowR (Diff.score P A h 0 n) (Diff.score P A h 1 n) (Diff.entry P A (Diff.vcol h e)) (l ix0) := by
  unfold rows
  pointwise
  unfold Diff.rowR
  rw [Finset.sum_range (n := 8208)]
  refine Finset.sum_congr rfl fun t _ => congrArg₂ (· * ·) (vs_apply P A h t e) ((df_apply P A l h n t).trans ?_)
  rw [pr_apply, pr_apply]

/-- The head norm. -/
theorem out_apply (x : FVec Ideal S8192x4x256 .f32) (g : FVec Ideal S1x256 .f32) (n : Fin 8192) (h : Fin 4) (e : Fin 256) :
    out x g (ix2 n ⟨256 * h.val + e.val, by omega⟩) = Diff.headNorm (fun e => x (ix3 n h e)) (fun e => g (ix2 0 e)) e := by
  unfold out
  pointwise
  have e1 : (⟨(256 * h.val + e.val) / 256, by omega⟩ : Fin 4) = h := Fin.ext (by show (256 * h.val + e.val) / 256 = _; omega)
  have e2 : (⟨(256 * h.val + e.val) % 256, by omega⟩ : Fin 256) = e := Fin.ext (by show (256 * h.val + e.val) % 256 = _; omega)
  show x (ix3 n ⟨(256 * h.val + e.val) / 256, _⟩ ⟨(256 * h.val + e.val) % 256, _⟩) * Ideal.rsqrt (Ideal.div
    (∑ f : Fin 256, x (ix3 n ⟨(256 * h.val + e.val) / 256, _⟩ f) * x (ix3 n ⟨(256 * h.val + e.val) / 256, _⟩ f)) _ + _)
    * g (ix2 0 ⟨(256 * h.val + e.val) % 256, _⟩) * _ = _
  rw [e1, e2]
  rfl

end

end Cert.DiffRefIdeal.Stage
-- ==== Proof.Diff.Final.lean ====
module

public import proofs.«01_k».proof.Proof.Diff.Windows
public import proofs.«01_k».proof.Proof.Diff.Rows
public import proofs.«01_k».proof.Proof.Diff.Finite
public import proofs.«01_k».proof.Proof.Diff.RefRead

@[expose] public section

set_option maxRecDepth 16384

/-!
The attention call's array is the reference's.
-/

namespace Cert.DiffIdeal.Final

open Idealize.ShloMosaic hiding ix0 ix1 ix2 ix3 ix4
open Idealize.ShloMosaic.ValueIdx Idealize.ShloMosaic.TcCoe Idealize.SL.Sem
open Cert.DiffIdeal Cert.DiffIdeal.Gen Cert.DiffIdeal.Windows Cert.DiffIdeal.Stream

noncomputable section

variable (m : (ℓ : Loc nD τ sig) → Buf (Elt Ideal) ℓ) (c : Dev nD)

/-- The first stream's scores of a point's row. -/
theorem scores1 (t : Fin cfg0.N) (r : Fin 1024) :
    ScoreRow (grid0.coords t) (iblk m c 5 t) (iblk m c 7 t) (iblk m c 10 t) r (Diff.score (P m c) (A m c) (head t) 0 (row t r)) where
  first j hj := by
    unfold Diff.score
    rw [if_pos (by omega)]
    refine Finset.sum_congr rfl fun d _ => ?_
    rw [blk5, blk10 m c t j hj, Diff.entry, dif_pos hj]
  upTo p hp := by
    rw [coord] at hp
    have hp' := p.isLt
    unfold Diff.score
    rw [if_pos (by show 16 + p.val ≤ 16 + (1024 * (t.val % 8) + r.val); omega)]
    refine Finset.sum_congr rfl fun d _ => ?_
    rw [blk5, blk7, Diff.entry, dif_neg (by omega), dif_pos (by omega)]
    simp only [Nat.add_sub_cancel_left]
  after p hp := by
    rw [coord] at hp
    exact if_neg (by show ¬ p ≤ 16 + (1024 * (t.val % 8) + r.val); omega)

/-- The second stream's. -/
theorem scores2 (t : Fin cfg0.N) (r : Fin 1024) :
    ScoreRow (grid0.coords t) (iblk m c 6 t) (iblk m c 8 t) (iblk m c 11 t) r (Diff.score (P m c) (A m c) (head t) 1 (row t r)) where
  first j hj := by
    unfold Diff.score
    rw [if_pos (by omega)]
    refine Finset.sum_congr rfl fun d _ => ?_
    rw [blk6, blk11 m c t j hj, Diff.entry, dif_pos hj]
  upTo p hp := by
    rw [coord] at hp
    have hp' := p.isLt
    unfold Diff.score
    rw [if_pos (by show 16 + p.val ≤ 16 + (1024 * (t.val % 8) + r.val); omega)]
    refine Finset.sum_congr rfl fun d _ => ?_
    rw [blk6, blk8, Diff.entry, dif_neg (by omega), dif_pos (by omega)]
    simp only [Nat.add_sub_cancel_left]
  after p hp := by
    rw [coord] at hp
    exact if_neg (by show ¬ p ≤ 16 + (1024 * (t.val % 8) + r.val); omega)

/-- A column of the point's values. -/
theorem values (t : Fin cfg0.N) (e : Fin 256) :
    ValueCol (iblk m c 9 t) (iblk m c 12 t) e (Diff.entry (P m c) (A m c) (Diff.vcol (head t) e)) where
  first j hj := by rw [blk12 m c t j hj, Diff.entry, dif_pos hj]
  rest p := by
    have hp' := p.isLt
    rw [blk9, Diff.entry, dif_neg (by omega), dif_pos (by omega)]
    simp only [Nat.add_sub_cancel_left]

/-- The reference's result over the kernel's arguments. -/
def want : S8192x1024.Idx → EReal :=
  Cert.DiffRefIdeal.Stage.out (Cert.DiffRefIdeal.Stage.rows (m ((c : Thread nD τ).loc main_arg0)) (m ((c : Thread nD τ).loc main_arg1))
    (Cert.DiffRefIdeal.Stage.lam (m ((c : Thread nD τ).loc main_arg2)) (m ((c : Thread nD τ).loc main_arg3))
      (m ((c : Thread nD τ).loc main_arg4)) (m ((c : Thread nD τ).loc main_arg5)))) (m ((c : Thread nD τ).loc main_arg6))

section
variable {m c}
variable (hpre : Cert.Pre_finite.fn (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) = fun _ => 1#1)
include hpre

/-- A row of a point before the head norm. -/
theorem rows_eq (t : Fin cfg0.N) (r : Fin 1024) (e : Fin 256) :
    Body.rows (grid0.coords t) (iblk m c 5 t) (iblk m c 6 t) (iblk m c 7 t) (iblk m c 8 t) (iblk m c 9 t)
        (iblk m c 10 t) (iblk m c 11 t) (iblk m c 12 t) (k0_pay14 (iblk m c 0 t) (iblk m c 1 t) (iblk m c 2 t) (iblk m c 3 t)) (ix2 r e)
      = Cert.DiffRefIdeal.Stage.rows (m ((c : Thread nD τ).loc main_arg0)) (m ((c : Thread nD τ).loc main_arg1))
          (Cert.DiffRefIdeal.Stage.lam (m ((c : Thread nD τ).loc main_arg2)) (m ((c : Thread nD τ).loc main_arg3))
            (m ((c : Thread nD τ).loc main_arg4)) (m ((c : Thread nD τ).loc main_arg5))) (ix3 (row t r) (head t) e) := by
  obtain ⟨hP, hA, ha, hb, hc, hd⟩ := Diff.real_of_pre hpre
  rw [rows_apply _ (scores1 m c t r) (scores2 m c t r) (Diff.score_real hP hA _ _ _) (Diff.score_real hP hA _ _ _) (values m c t e)]
  refine Eq.trans ?_ (Cert.DiffRefIdeal.Stage.rows_apply _ _ _ (head t) (row t r) e).symm
  rw [Cert.DiffRefIdeal.Stage.lam_apply, Pay.pay14_apply, blk0, blk1, blk2, blk3]
  exact Diff.rowK_eq_rowR (Diff.score_real hP hA _ _ _) (Diff.score_real hP hA _ _ _) (fun p => Diff.entry_real hP hA _ p)
    (Diff.weight_real ha hb hc hd)

/-- A point's output block is the reference's at the block's place. -/
theorem point (t : Fin cfg0.N) (r : Fin 1024) (e : Fin 256) :
    outsAt0 m c t (ix2 r e) = want m c (ix2 (row t r) ⟨256 * (head t).val + e.val, by have := (head t).isLt; omega⟩) := by
  rw [Body.out_eq, Pay.pay1_apply, meanSq_apply]
  simp only [rows_eq hpre]
  refine Eq.trans ?_ (Cert.DiffRefIdeal.Stage.out_apply _ _ (row t r) (head t) e).symm
  unfold Diff.headNorm
  rw [blk4]

/-- The final array. -/
theorem final : (dats m 0 c).arrAt 13 cfg0.N = want m c := by
  refine (dats m 0 c).arrAt_eq_of_covers 13 _ (by decide +kernel) fun t hf y => ?_
  obtain ⟨r, e, rfl⟩ : ∃ (r : Fin 1024) (e : Fin 256), y = ix2 r e := ⟨y 0, y 1, by funext a; fin_cases a <;> rfl⟩
  blk_simp
  rw [after0_13]
  refine (point hpre t r e).trans (congrArg (want m c) ?_)
  blk_ext [(idx13 t), row, head, ValueIdx.ix2]
end

end

end Cert.DiffIdeal.Final
-- ==== Proof.Diff.Claims.lean ====
module

public import proofs.«01_k».proof.Defs
public import proofs.«01_k».proof.Proof.Gen.Diff.Frame
public import proofs.«01_k».proof.Proof.Diff.Final

@[expose] public section

/-!
The claims about the differential attention call.
-/

namespace Cert.Proof.Diff

open Idealize.ShloMosaic Idealize.SL.Sem

noncomputable section

/-- The kernel runs and leaves its arguments as they were. -/
theorem frame : Cert.quiescent_Diff := fun m ρ _ => Cert.Diff.Gen.frame m ρ
/-- So does the ideal kernel. -/
theorem frame_ideal : Cert.quiescent_DiffIdeal := fun m ρ _ => Cert.DiffIdeal.Gen.frame m ρ
/-- And under the precondition. -/
theorem frame_ideal_pre : Cert.quiescent_DiffIdeal_pre_finite := fun m ρ _ => Cert.DiffIdeal.Gen.frame m ρ
/-- The reference runs and leaves its arguments as they were. -/
theorem frame_ref : Cert.quiescent_DiffRefIdeal := fun m ρ _ =>
  (θ_run Cert.DiffRefIdeal.defs _ _).mono (fun r h => ⟨fun c => (h c).2, sem_eq_zero_of_no_sems (by decide) r.2⟩) (Cert.DiffRefIdeal.Value.run m ρ)
/-- And under the precondition. -/
theorem frame_ref_pre : Cert.quiescent_DiffRefIdeal_pre_finite := fun m ρ _ => frame_ref m ρ trivial

/-- Kernel and reference agree over the extended reals, of finite inputs. -/
theorem algebraic : Cert.algebraic_DiffIdeal_DiffRefIdeal_pre_finite := fun m ρ m' ρ' hp hag =>
  ⟨fun c => Cert.DiffIdeal.Final.want m c,
    (θ_run _ _ _).mono (fun _ h c => ⟨(h c).1.trans (Cert.DiffIdeal.Final.final (hp c)), (h c).2⟩) (Cert.DiffIdeal.Value.run_blocks m ρ),
    (θ_run _ _ _).mono (fun _ h c => ⟨(h c).1.trans (by
      obtain ⟨h0, h1, h2, h3, h4, h5, h6⟩ := hag c
      refine (Cert.DiffRefIdeal.Stage.res_eq m' c).trans ?_
      rw [h0, h1, h2, h3, h4, h5, h6]
      rfl), (h c).2⟩) (Cert.DiffRefIdeal.Value.run m' ρ')⟩

end

end Cert.Proof.Diff
-- ==== Proof.Proj.Step.lean ====
/- One step of the projection kernel: what its body leaves in the scratch and in the four output blocks, at any grid point. -/
module

public import proofs.«01_k».proof.Proof.Gen.ProjIdeal.Frame
public import proofs.«01_k».proof.Proof.Gen.ProjIdeal.Skeleton
public import Idealize.ShloMosaic.Lib.VecWindow

@[expose] public section

set_option maxRecDepth 16384

noncomputable section

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point opens a row of the grid: the rows of the input are cast into the scratch there. -/
abbrev opens (i : grid0.Coords) : Prop :=
  (Scalar.cmpi .ne (Scalar.extui (Scalar.cmpi .eq (BitVec.ofNat 32 (i 1).val) 0#32)) 0#32) = 1#1

/-- The rows as the product reads them: cast afresh where a row of the grid opens, else as found. -/
def rows (i : grid0.Coords) (x : Vec F S1024x2048 .f32) (s : Vec F S1024x2048 .bf16) : Vec F S1024x2048 .bf16 :=
  if opens i then k0_pay6 x else s

theorem rows_of_opens {i : grid0.Coords} (h : opens i) (x : Vec F S1024x2048 .f32) (s : Vec F S1024x2048 .bf16) :
    rows i x s = k0_pay6 x := if_pos h

theorem rows_of_not_opens {i : grid0.Coords} (h : ¬opens i) (x : Vec F S1024x2048 .f32) (s : Vec F S1024x2048 .bf16) :
    rows i x s = s := if_neg h

/-- What a storing point puts into the block of queries, keys and values. -/
def qkvPay (i : grid0.Coords) (s : Vec F S1024x2048 .bf16) (w : Vec F S2048x512 .bf16) (r : Vec F S1024x384 .f32) :
    Vec F S1024x512 .bf16 :=
  if k0_cond2 i = 1#1 then k0_pay8 s w else if k0_cond3 i = 1#1 then k0_pay9 s w
  else if k0_cond4 i = 1#1 then k0_pay1 (k0_pay7 s w) r else if k0_cond5 i = 1#1 then k0_pay3 (k0_pay7 s w) r
  else k0_pay4 (k0_pay7 s w)

/-- What a storing point puts into the block of unrounded keys and values of the differential heads. -/
def dkvPay (i : grid0.Coords) (s : Vec F S1024x2048 .bf16) (w : Vec F S2048x512 .bf16) (r : Vec F S1024x384 .f32) :
    Vec F S1024x512 .f32 :=
  if k0_cond5 i = 1#1 then k0_pay2 (k0_pay7 s w) r else k0_pay7 s w

/-- The conditions a point meets, in the order of the body's branches. -/
abbrev flags (i : grid0.Coords) : List Bool :=
  [decide (opens i), k0_cond2 i == 1#1, k0_cond3 i == 1#1, k0_cond4 i == 1#1, k0_cond5 i == 1#1, k0_cond6 i == 1#1,
    k0_cond7 i == 1#1]

/-- Beside opening a row of the grid, which only a point of the first branch does, a point meets exactly one of them. -/
abbrev Pattern (i : grid0.Coords) : Prop :=
  flags i = [true, true, false, false, false, false, false] ∨ flags i = [false, true, false, false, false, false, false]
    ∨ flags i = [false, false, true, false, false, false, false] ∨ flags i = [false, false, false, true, false, false, false]
    ∨ flags i = [false, false, false, false, true, false, false] ∨ flags i = [false, false, false, false, false, true, false]
    ∨ flags i = [false, false, false, false, false, false, true]

/-- Every point of the grid meets one of these patterns. -/
theorem pattern : ∀ t : Fin cfg0.N, Pattern (grid0.coords t) :=
  (by decide +kernel : ∀ t : Fin grid0.N, Pattern (grid0.coords t))

set_option maxHeartbeats 4000000 in
/-- THE STEP: the body leaves the inputs as they are, the scratch at `rows`, and each output block either at what the point
    stores or as it was found, as the idle table says. -/
theorem step (c : Dev nD) (i : grid0.Coords) (arg2 : Memref sig .tc .vmem S1024x2048 .f32) (harg2 : arg2.IsWhole)
    (arg3 : Memref sig .tc .vmem S2048x512 .bf16) (harg3 : arg3.IsWhole) (arg4 : Memref sig .tc .vmem S1024x384 .f32)
    (harg4 : arg4.IsWhole) (arg5 : Memref sig .tc .vmem S1024x512 .bf16) (harg5 : arg5.IsWhole)
    (arg6 : Memref sig .tc .vmem S1024x512 .f32) (harg6 : arg6.IsWhole) (arg7 : Memref sig .tc .vmem S1024x512 .f32)
    (harg7 : arg7.IsWhole) (arg8 : Memref sig .tc .vmem S1024x512 .bf16) (harg8 : arg8.IsWhole)
    (arg9 : Memref sig .tc .vmem S1024x2048 .bf16) (harg9 : arg9.IsWhole) (hp : Pattern i)
    (x : Vec F S1024x2048 .f32) (w : Vec F S2048x512 .bf16) (r : Vec F S1024x384 .f32) (s : Vec F S1024x2048 .bf16)
    (d3 : Vec F S1024x512 .bf16) (d4 d5 : Vec F S1024x512 .f32) (d6 : Vec F S1024x512 .bf16)
    (E : Set ℕ) (K : PUnit → sProp 𝕄) :
    iprop(owns (c : Thread nD τ) arg2 fullShare x ∗ owns (c : Thread nD τ) arg3 fullShare w
        ∗ owns (c : Thread nD τ) arg4 fullShare r ∗ owns (c : Thread nD τ) arg5 fullShare d3
        ∗ owns (c : Thread nD τ) arg6 fullShare d4 ∗ owns (c : Thread nD τ) arg7 fullShare d5
        ∗ owns (c : Thread nD τ) arg8 fullShare d6 ∗ owns (c : Thread nD τ) arg9 fullShare s
        ∗ (iprop(owns (c : Thread nD τ) arg2 fullShare x ∗ owns (c : Thread nD τ) arg3 fullShare w
            ∗ owns (c : Thread nD τ) arg4 fullShare r
            ∗ owns (c : Thread nD τ) arg5 fullShare (bif idle0 3 i then d3 else qkvPay i (rows i x s) w r)
            ∗ owns (c : Thread nD τ) arg6 fullShare (bif idle0 4 i then d4 else k0_pay7 (rows i x s) w)
            ∗ owns (c : Thread nD τ) arg7 fullShare (bif idle0 5 i then d5 else dkvPay i (rows i x s) w r)
            ∗ owns (c : Thread nD τ) arg8 fullShare (bif idle0 6 i then d6 else k0_pay5 (k0_pay7 (rows i x s) w))
            ∗ owns (c : Thread nD τ) arg9 fullShare (rows i x s)) -∗ K ⟨⟩))
      ⊢ wp frame (wpE (defs₀ (F := F)) Variants.none c none) E
          (cc0_proj i arg2 harg2 arg3 harg3 arg4 harg4 arg5 harg5 arg6 harg6 arg7 harg7 arg8 harg8 arg9 harg9) K := by
  rcases hp with h | h | h | h | h | h | h
  all_goals
    simp only [flags, List.cons.injEq, decide_eq_true_eq, decide_eq_false_iff_not, _root_.and_true] at h
    obtain ⟨h1, h2, h3, h4, h5, h6, h7⟩ := h
    simp only [idle0, h2, h3, h4, h5, h6, h7, Bool.not_true, Bool.not_false, Bool.and_true, Bool.and_false, cond_true,
      cond_false]
    simp only [beq_iff_eq, beq_eq_false_iff_ne, ne_eq] at h2 h3 h4 h5 h6 h7
    first | simp only [rows_of_opens h1] | simp only [rows_of_not_opens h1]
    try simp only [qkvPay, dkvPay, h2, h3, h4, h5, h6, h7, if_true, if_false]
    simp only [cc0_proj_eq_skeleton]; unfold cc0_proj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9
    have r2 : View.readAt (Elt F) arg2.view (Rect.unit (s := S1024x2048) ![0, 0] S1024x2048.size inb_S1024x2048_S1024x2048_0_0).toLoadRect (harg2.unread x) = x :=
      (View.readAt_full _ _ _).trans hf2
    have r3 : View.readAt (Elt F) arg3.view (Rect.unit (s := S2048x512) ![0, 0] S2048x512.size inb_S2048x512_S2048x512_0_0).toLoadRect (harg3.unread w) = w :=
      (View.readAt_full _ _ _).trans hf3
    have r4 : View.readAt (Elt F) arg4.view (Rect.unit (s := S1024x384) ![0, 0] S1024x384.size inb_S1024x384_S1024x384_0_0).toLoadRect (harg4.unread r) = r :=
      (View.readAt_full _ _ _).trans hf4
    have r9 : View.readAt (Elt F) arg9.view (Rect.unit (s := S1024x2048) ![0, 0] S1024x2048.size inb_S1024x2048_S1024x2048_0_0).toLoadRect (harg9.unread s) = s :=
      (View.readAt_full _ _ _).trans hf9
    sl_exec (disch := first | sl_exact h1 | sl_exact h2 | sl_exact h3 | sl_exact h4 | sl_exact h5 | sl_exact h6 | sl_exact h7)
    sl_step
    iapply Hk
    isplitl [H2]; · iexists _; isplitr; swap; (iexact H2); ipureintro; exact harg2.read_unread _
    isplitl [H3]; · iexists _; isplitr; swap; (iexact H3); ipureintro; exact harg3.read_unread _
    isplitl [H4]; · iexists _; isplitr; swap; (iexact H4); ipureintro; exact harg4.read_unread _
    isplitl [H5]
    · iexists _; isplitr; swap; (iexact H5); ipureintro
      first
      | with_reducible exact harg5.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    isplitl [H6]
    · iexists _; isplitr; swap; (iexact H6); ipureintro
      first
      | with_reducible exact harg6.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    isplitl [H7]
    · iexists _; isplitr; swap; (iexact H7); ipureintro
      first
      | with_reducible exact harg7.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    isplitl [H8]
    · iexists _; isplitr; swap; (iexact H8); ipureintro
      first
      | with_reducible exact harg8.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    iexists _; isplitr; swap; (iexact H9); ipureintro
    first
    | with_reducible exact harg9.read_unread _
    | refine (View.read_writes_full _ _ _ _ _).trans ?_
      exact congrArg k0_pay6 (rfl : x = x)

end Cert.Proof.Proj

end
-- ==== Proof.Proj.Run.lean ====
/- The run of the projection call: what every staging buffer holds after each grid point, and the frame. -/
module

public import proofs.«01_k».proof.Proof.Proj.Step
public import Idealize.ShloMosaic.Lib.Pipeline.TableIdle
public import Idealize.ShloMosaic.Lib.Claim

@[expose] public section

set_option maxRecDepth 16384

noncomputable section

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each output is stored -/

/-- The first column block of a row of the grid at which output `w` is stored. -/
def firstAt : Fin cfg0.W → ℕ
  | ⟨4, _⟩ => 2
  | ⟨5, _⟩ => 8
  | ⟨6, _⟩ => 12
  | _ => 0

/-- The last such column block. -/
def lastAt : Fin cfg0.W → ℕ
  | ⟨3, _⟩ => 11
  | ⟨4, _⟩ => 5
  | ⟨5, _⟩ => 11
  | _ => 19

/-- The four outputs. -/
abbrev outs : List (Fin cfg0.W) := [3, 4, 5, 6]

/-- An output is left alone exactly off its range of column blocks. -/
theorem idle_eq : ∀ w ∈ outs, ∀ t : Fin cfg0.N,
    cfg0.idle w (grid0.coords t) = !(decide (firstAt w ≤ t.val % 20) && decide (t.val % 20 ≤ lastAt w)) :=
  (by decide +kernel : ∀ w ∈ outs, ∀ t : Fin grid0.N,
    idle0 w (grid0.coords t) = !(decide (firstAt w ≤ t.val % 20) && decide (t.val % 20 ≤ lastAt w)))

/-- How the buffer's freshness steps: fresh up to the last storing column block of a row of the grid. -/
theorem fresh_step : ∀ w ∈ outs, ∀ t : Fin cfg0.N,
    decide ((t.val + 1) % 20 ≤ lastAt w)
      = ((cfg0.win w).flush t || (cfg0.idle w (grid0.coords t) && decide (t.val % 20 ≤ lastAt w))) :=
  (by decide +kernel : ∀ w ∈ outs, ∀ t : Fin grid0.N,
    decide ((t.val + 1) % 20 ≤ lastAt w)
      = ((win0 w).flush t || (idle0 w (grid0.coords t) && decide (t.val % 20 ≤ lastAt w))))

/-- Whether anything was stored since the last write-back, in closed form. -/
theorem fresh_eq (w : Fin cfg0.W) (hw : w ∈ outs) (t : Fin cfg0.N) :
    cfg0.fresh w t.val = decide (t.val % 20 ≤ lastAt w) :=
  cfg0.fresh_tab w (fun n => decide (n % 20 ≤ lastAt w)) (by simp) (fresh_step w hw) t.val (Nat.le_of_lt t.isLt)

/-- A point before an output's range does not write it back. -/
theorem no_flush : ∀ w ∈ outs, ∀ t : Fin cfg0.N, t.val % 20 < firstAt w → (cfg0.win w).flush t = false :=
  (by decide +kernel : ∀ w ∈ outs, ∀ t : Fin grid0.N, t.val % 20 < firstAt w → (win0 w).flush t = false)

/-- Position `j` of the row of the grid point `t` lies in. -/
def inRow (t : Fin cfg0.N) (j : ℕ) (hj : j < 20) : Fin cfg0.N :=
  ⟨20 * (t.val / 20) + j, by have h : t.val < 160 := lt_of_lt_of_eq t.isLt N_0; have e : cfg0.N = 160 := N_0; omega⟩

/-- The point whose store output `w` holds at `t`: `t` itself where it stores, the last store of the row after that. -/
def held (w : Fin cfg0.W) (t : Fin cfg0.N) : Fin cfg0.N :=
  inRow t (min (t.val % 20) (lastAt w)) (lt_of_le_of_lt (min_le_left _ _) (Nat.mod_lt _ (by omega)))

theorem held_live {w : Fin cfg0.W} {t : Fin cfg0.N} (h : t.val % 20 ≤ lastAt w) : held w t = t :=
  Fin.ext (by show 20 * (t.val / 20) + min (t.val % 20) (lastAt w) = t.val; omega)

theorem held_idle {w : Fin cfg0.W} {t : Fin cfg0.N} (h : lastAt w < t.val % 20) :
    held w t = held w ⟨t.val - 1, by omega⟩ :=
  Fin.ext (by
    show 20 * (t.val / 20) + min (t.val % 20) (lastAt w) = 20 * ((t.val - 1) / 20) + min ((t.val - 1) % 20) (lastAt w)
    omega)

/-! ## What the buffers hold -/

/-- The rows the product reads at `t`: the cast of the block fetched where the row of the grid opened. -/
def held9 (c : Dev nD) (t : Fin cfg0.N) : Vec F S1024x2048 .bf16 := k0_pay6 (iblk m c 0 (inRow t 0 (by omega)))

/-- What a storing point `t` stores into each output. -/
def qkvAt (c : Dev nD) (t : Fin cfg0.N) : Vec F S1024x512 .bf16 :=
  qkvPay (grid0.coords t) (held9 m c t) (iblk m c 1 t) (iblk m c 2 t)
def sbAt (c : Dev nD) (t : Fin cfg0.N) : Vec F S1024x512 .f32 := k0_pay7 (held9 m c t) (iblk m c 1 t)
def dkvAt (c : Dev nD) (t : Fin cfg0.N) : Vec F S1024x512 .f32 :=
  dkvPay (grid0.coords t) (held9 m c t) (iblk m c 1 t) (iblk m c 2 t)
def gateAt (c : Dev nD) (t : Fin cfg0.N) : Vec F S1024x512 .bf16 := k0_pay5 (k0_pay7 (held9 m c t) (iblk m c 1 t))

/-- The scratch before point `n`: anything before the first, then the rows of the point before. -/
def inv (c : Dev nD) : (n : ℕ) → n ≤ cfg0.N → sProp 𝕄
  | 0, _ => Pipeline.ΦA spec0 c
  | n + 1, hn => iprop(owns (c : Thread nD τ) (Memref.whole cc0_scratch0 : Memref sig .tc .vmem S1024x2048 .bf16) fullShare (held9 m c ⟨n, hn⟩)
      ∗ (∃ r, prngReg c r))

theorem inv_pos (c : Dev nD) (n : ℕ) (h : n ≤ cfg0.N) (hz : n ≠ 0) :
    inv m c n h = iprop(owns (c : Thread nD τ) (Memref.whole cc0_scratch0 : Memref sig .tc .vmem S1024x2048 .bf16) fullShare
      (held9 m c ⟨n - 1, by omega⟩) ∗ (∃ r, prngReg c r)) := by
  cases n with
  | zero => exact absurd rfl hz
  | succ n => rfl

theorem launch_inv (c : Dev nD) :
    (Pipeline.ΦA spec0 c : sProp 𝕄)
      = iprop((∃ d, owns (c : Thread nD τ) (Memref.whole cc0_scratch0 : Memref sig .tc .vmem S1024x2048 .bf16) fullShare d) ∗ (∃ r, prngReg c r)) := by
  unfold Pipeline.ΦA; rw [scopedRest0_eq]; simp only [owns_whole]; try rfl

/-- The proof data: the arrays as the call finds them, the inputs' blocks left in place, each output at the store it holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => qkvAt m c (held 3 t)
    | ⟨4, _⟩ => sbAt m c (held 4 t)
    | ⟨5, _⟩ => dkvAt m c (held 5 t)
    | ⟨6, _⟩ => gateAt m c (held 6 t)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = qkvAt m c (held 3 t) := by dsimp only [dats]
theorem after_4 (c : Dev nD) (t : Fin cfg0.N) : (dats m 0 c).after 4 t = sbAt m c (held 4 t) := by dsimp only [dats]
theorem after_5 (c : Dev nD) (t : Fin cfg0.N) : (dats m 0 c).after 5 t = dkvAt m c (held 5 t) := by dsimp only [dats]
theorem after_6 (c : Dev nD) (t : Fin cfg0.N) : (dats m 0 c).after 6 t = gateAt m c (held 6 t) := by dsimp only [dats]

/-- Past its range an output holds what it held at the point before. -/
theorem carry (c : Dev nD) (w : Fin cfg0.W) (hw : w ∈ outs) (t : Fin cfg0.N) (h : lastAt w < t.val % 20) :
    (dats m 0 c).after w t = (dats m 0 c).after w ⟨t.val - 1, by omega⟩ := by
  simp only [outs, List.mem_cons, List.not_mem_nil, or_false] at hw
  rcases hw with rfl | rfl | rfl | rfl
  · rw [after_3, after_3, held_idle h]
  · rw [after_4, after_4, held_idle h]
  · rw [after_5, after_5, held_idle h]
  · rw [after_6, after_6, held_idle h]

/-- What the body finds in an output past its range is what it held. -/
theorem before_idle (c : Dev nD) (w : Fin cfg0.W) (hw : w ∈ outs) (hout : (cfg0.win w).isOut = true)
    (hclip : ∀ (i : cfg0.grid.Coords) a, (cfg0.win w).clip i a = none) (t : Fin cfg0.N) (h : lastAt w < t.val % 20) (d) :
    (dats m 0 c).before w t d = (dats m 0 c).after w t := by
  rw [(dats m 0 c).before_out_traj w hout hclip (fun t _ _ hf => carry m c w hw t (by
      rw [fresh_eq w hw t] at hf; simpa using hf)) t.val t rfl d, fresh_eq w hw t,
    if_neg (by simpa using h), carry m c w hw t h]

/-- WHAT A STEP OWES OF AN OUTPUT: holding what the step leaves, the obligation's post for the window at the point. -/
theorem leaves (c : Dev nD) (w : Fin cfg0.W) (hw : w ∈ outs) (hout : (cfg0.win w).isOut = true)
    (hclip : ∀ (i : cfg0.grid.Coords) a, (cfg0.win w).clip i a = none) (t : Fin cfg0.N) (d) (X)
    (hX : t.val % 20 ≤ lastAt w → X = (dats m 0 c).after w t) :
    (owns (c : Thread nD τ) ((cfg0.win w).stage (cfg0.slots t w)) fullShare
        (bif cfg0.idle w (grid0.coords t) then (dats m 0 c).before w t d else X) : sProp 𝕄)
      ⊢ (dats m 0 c).leavesExact w t := by
  unfold Dat.leavesExact
  show _ ⊢ (match cfg0.idle w (grid0.coords t) with
    | true => match (cfg0.win w).flush t with
      | false => iprop(∃ d, owns c ((cfg0.win w).stage (cfg0.slots t w)) fullShare ((dats m 0 c).before w t d))
      | true => owns c ((cfg0.win w).stage (cfg0.slots t w)) fullShare ((dats m 0 c).after w t)
    | false => owns c ((cfg0.win w).stage (cfg0.slots t w)) fullShare ((dats m 0 c).after w t) : sProp 𝕄)
  have hi := idle_eq w hw t
  cases hc : cfg0.idle w (grid0.coords t) <;> rw [hc] at hi
  · rw [cond_false]; dsimp only
    rw [hX (by simp at hi; exact hi.2)]
  · rw [cond_true]; dsimp only
    cases hf : (cfg0.win w).flush t <;> dsimp only
    · iintro H; iexists d; iexact H
    · have hl : lastAt w < t.val % 20 := by
        by_contra hn
        have hlt : t.val % 20 < firstAt w := by
          by_contra hge
          simp [not_lt.mp hn, not_lt.mp hge] at hi
        exact Bool.false_ne_true ((no_flush w hw t hlt).symm.trans hf)
      rw [before_idle m c w hw hout hclip t hl d]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The scratch -/

/-- A row of the grid opens at its first column block. -/
theorem opens_iff : ∀ t : Fin cfg0.N, opens (grid0.coords t) ↔ t.val % 20 = 0 :=
  (by decide +kernel : ∀ t : Fin grid0.N, opens (grid0.coords t) ↔ t.val % 20 = 0)

/-- Opening a row of the grid, the step leaves the rows the invariant names. -/
theorem rows_open (c : Dev nD) (t : Fin cfg0.N) (h : t.val % 20 = 0) (s : Vec F S1024x2048 .bf16) :
    rows (grid0.coords t) (iblk m c 0 t) s = held9 m c t := by
  have e : inRow t 0 (by omega) = t := Fin.ext (by show 20 * (t.val / 20) + 0 = t.val; omega)
  rw [rows_of_opens ((opens_iff t).mpr h), held9, e]

/-- Anywhere else it leaves the rows of the point before, which the invariant names too. -/
theorem rows_keep (c : Dev nD) (t : Fin cfg0.N) (h : ¬t.val % 20 = 0) (x : Vec F S1024x2048 .f32) :
    rows (grid0.coords t) x (held9 m c ⟨t.val - 1, by omega⟩) = held9 m c t := by
  have e : inRow (⟨t.val - 1, by omega⟩ : Fin cfg0.N) 0 (by omega) = inRow t 0 (by omega) :=
    Fin.ext (by show 20 * ((t.val - 1) / 20) + 0 = 20 * (t.val / 20) + 0; omega)
  rw [rows_of_not_opens fun h' => h ((opens_iff t).mp h'), held9, held9, e]

theorem inv_castSucc (c : Dev nD) (t : Fin cfg0.N) : (dats m 0 c).Φ t.castSucc = inv m c t.val (Nat.le_of_lt t.isLt) := by
  dsimp only [dats]; exact Pipeline.Dat.Φ_castSucc (inv m c) t

theorem inv_succ (c : Dev nD) (t : Fin cfg0.N) : (dats m 0 c).Φ t.succ
    = iprop(owns (c : Thread nD τ) (Memref.whole cc0_scratch0 : Memref sig .tc .vmem S1024x2048 .bf16) fullShare (held9 m c t)
      ∗ (∃ r, prngReg c r)) := rfl

/-- Before any point the scratch holds something of which the step makes the rows the invariant names. -/
theorem inv_opens (c : Dev nD) (t : Fin cfg0.N) :
    inv m c t.val (Nat.le_of_lt t.isLt)
      ⊢ iprop((∃ s, ⌜rows (grid0.coords t) (iblk m c 0 t) s = held9 m c t⌝
          ∗ owns (c : Thread nD τ) (Memref.whole cc0_scratch0 : Memref sig .tc .vmem S1024x2048 .bf16) fullShare s)
        ∗ (∃ r, prngReg c r)) := by
  by_cases hz : t.val = 0
  · have e : inv m c t.val (Nat.le_of_lt t.isLt) = Pipeline.ΦA spec0 c := by
      obtain ⟨n, hn⟩ := t; cases n with
      | zero => rfl
      | succ n => exact absurd hz (Nat.succ_ne_zero n)
    rw [e, launch_inv]
    iintro ⟨⟨%s, Hs⟩, Hg⟩
    isplitl [Hs]
    · iexists s; isplitr
      swap; · iexact Hs
      ipureintro; exact rows_open m c t (by omega) s
    iexact Hg
  · rw [inv_pos m c _ _ hz]
    iintro ⟨Hs, Hg⟩
    isplitl [Hs]
    · iexists _; isplitr
      swap; · iexact Hs
      ipureintro
      by_cases h : t.val % 20 = 0
      · exact rows_open m c t h _
      · exact rows_keep m c t h _
    iexact Hg

/-! ## The body obligation and the run -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- The inputs' blocks are left in place. -/
theorem leaves_0 (c : Dev nD) (t : Fin cfg0.N) :
    (dats m 0 c).leavesExact 0 t = owns (c : Thread nD τ) (st0_0 t) fullShare (iblk m c 0 t) := by
  rw [← after_0]
theorem leaves_1 (c : Dev nD) (t : Fin cfg0.N) :
    (dats m 0 c).leavesExact 1 t = owns (c : Thread nD τ) (st0_1 t) fullShare (iblk m c 1 t) := by
  rw [← after_1]
theorem leaves_2 (c : Dev nD) (t : Fin cfg0.N) :
    (dats m 0 c).leavesExact 2 t = owns (c : Thread nD τ) (st0_2 t) fullShare (iblk m c 2 t) := by
  rw [← after_2]

set_option maxHeartbeats 1600000 in
/-- The body meets its obligation at every point: the step, between the two invariants. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, inv_castSucc,
    inv_succ, leaves_0, leaves_1, leaves_2]
  refine (sep_mono (inv_opens m c t) .rfl).trans ?_
  iintro ⟨⟨⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩⟩
  iapply (step c (grid0.coords t) _ _ _ _ _ _ _ _ _ _ _ _ _ _ _ _ (pattern t) (iblk m c 0 t) (iblk m c 1 t) (iblk m c 2 t) s
    ((dats m 0 c).before 3 t d3) ((dats m 0 c).before 4 t d4) ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  rw [hs]
  iintro ⟨H0, H1, H2, H3, H4, H5, H6, Hs⟩
  isplitl [Hs Hg]
  · isplitl [Hs]
    · iexact Hs
    iexact Hg
  isplitl [Ho]; · iexact Ho
  isplitl [H0]; · iexact H0
  isplitl [H1]; · iexact H1
  isplitl [H2]; · iexact H2
  isplitl [H3]
  · iapply (leaves m c 3 (by decide) rfl (fun _ _ => rfl) t d3 _ (fun h => by rw [after_3, held_live h])); iexact H3
  isplitl [H4]
  · iapply (leaves m c 4 (by decide) rfl (fun _ _ => rfl) t d4 _ (fun h => by rw [after_4, held_live h])); iexact H4
  isplitl [H5]
  · iapply (leaves m c 5 (by decide) rfl (fun _ _ => rfl) t d5 _ (fun h => by rw [after_5, held_live h])); iexact H5
  iapply (leaves m c 6 (by decide) rfl (fun _ _ => rfl) t d6 _ (fun h => by rw [after_6, held_live h])); iexact H6

/-- The body the pipeline runs at `t` is the kernel's on the buffers of `t`. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch provides is the invariant before the first point. -/
theorem inv_in (c : Dev nD) : Pipeline.ΦA spec0 c ⊢ (dats m 0 c).Φ 0 := by
  rw [show (dats m 0 c).Φ 0 = Pipeline.ΦA spec0 c from rfl]

/-- After the last point the scratch is given back, its contents forgotten. -/
theorem inv_out (c : Dev nD) : (dats m 0 c).Φ (Fin.last cfg0.N) ⊢ Pipeline.ΦA spec0 c := by
  have hN : cfg0.N = 160 := N_0
  rw [show (dats m 0 c).Φ (Fin.last cfg0.N) = inv m c cfg0.N (le_refl _) from rfl, inv_pos m c _ _ (by omega), launch_inv]
  iintro ⟨Hs, Hg⟩
  isplitl [Hs]
  · iexists _; iexact Hs
  iexact Hg

set_option backward.isDefEq.respectTransparency.types false in
/-- The call runs; every array the pipeline stages ends as the proof data say, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The same without the counters. -/
theorem run : θ_run defs (onTc (τ := τ) (main (F := F))) (s₀ m ρ) (Pipeline.FramePost cfgs (dats m) 0 (V m)) :=
  (θ_run defs _ _).mono (fun _ h => h.1) (run_quiescent m ρ)

/-- THE FRAME: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.Proof.Proj

end
-- ==== Proof.Proj.Frames.lean ====
/- The frames of the projection call: the run's frame at either float instance. -/
module

public import proofs.«01_k».proof.Defs
public import proofs.«01_k».proof.Proof.Proj.Run
public import proofs.«01_k».proof.Proof.Gen.Proj

@[expose] public section

set_option maxRecDepth 16384

noncomputable section

namespace Cert.Proof.Proj

open Idealize.ShloMosaic Idealize.SL.Sem

/-- The kernel's body table is the ideal kernel's: the two texts differ in their namespace only. -/
theorem body_table_eq {F : FTy → Type} [FloatOps F] : @Cert.Proj.defs₀ F _ _ = @Cert.ProjIdeal.defs₀ F _ _ := by
  unfold Cert.Proj.defs₀ Cert.ProjIdeal.defs₀
  refine congrArg Defs.onTc ?_
  funext l a
  match l, a with
  | 0, (t, s) => rfl

/-- So is the table of the whole call. -/
theorem table_eq {F : FTy → Type} [FloatOps F] : @Cert.Proj.defs F _ _ = @Cert.ProjIdeal.defs F _ _ :=
  congrArg (Pipeline.defs _) body_table_eq

/-- The ideal kernel runs and leaves its arguments as they were. -/
theorem frame_ideal : Cert.quiescent_ProjIdeal := fun m ρ _ => frame m ρ

/-- And of its entry. -/
theorem main_eq {F : FTy → Type} [FloatOps F] : @Cert.Proj.main F _ _ = @Cert.ProjIdeal.main F _ _ := rfl

/-- So does the kernel. -/
theorem frame_kernel : Cert.quiescent_Proj := fun m ρ _ => by
  have h := frame (F := Bits) m ρ
  rw [← table_eq (F := Bits), ← main_eq (F := Bits)] at h
  exact h

end Cert.Proof.Proj

end
-- ==== Proof.Proj.Pay.lean ====
/- What the stores of the projection kernel hold at one index. -/
module

public import proofs.«01_k».proof.Proof.Gen.ProjIdeal.Skeleton
public import proofs.«01_k».proof.Proof.Read

@[expose] public section

set_option maxRecDepth 16384

namespace Cert.ProjIdeal.Pay

open Idealize.ShloMosaic hiding ix0 ix1 ix2 ix3 ix4
open Idealize.ShloMosaic.ValueIdx
open Cert.ProjIdeal Cert.ProjIdeal.Gen

noncomputable section

/-- Lane `l` of a head rotated as the kernel does it: the head, and it turned by sixteen lanes either way, each times its
    part of the table. -/
def rot (z : Fin 128 → EReal) (r : Fin 384 → EReal) (l : Fin 128) : EReal :=
  z l * r ⟨l.val, by omega⟩ + z ⟨(l.val + 16) % 128, by omega⟩ * r ⟨128 + l.val, by omega⟩
    + z ⟨(l.val + 112) % 128, by omega⟩ * r ⟨256 + l.val, by omega⟩

theorem pay6_apply (x : Vec Ideal S1024x2048 .f32) (r : Fin 1024) (d : Fin 2048) : k0_pay6 x (ix2 r d) = x (ix2 r d) := by
  unfold k0_pay6
  rw [shapeCast_self, shapeCast_self]
  rfl

theorem pay7_apply (x : Vec Ideal S1024x2048 .bf16) (w : Vec Ideal S2048x512 .bf16) (r : Fin 1024) (e : Fin 512) :
    k0_pay7 x w (ix2 r e) = ∑ d : Fin 2048, (x (ix2 r d) * w (ix2 d e) : EReal) := by
  unfold k0_pay7
  rw [shapeCast_self]
  refine (Ideal.matmul_plain_apply (M := 1024) (K := 2048) (N := 512) none _ _ _ r e).trans ?_
  rw [constant_apply, Ideal.ofBits_zero_f32, zero_add]

/-- The scale of the queries. -/
abbrev scale : EReal := Ideal.ofBits .f32 0x3DB504F3#32

theorem pay8_apply (x : Vec Ideal S1024x2048 .bf16) (w : Vec Ideal S2048x512 .bf16) (r : Fin 1024) (e : Fin 512) :
    k0_pay8 x w (ix2 r e) = (k0_pay7 x w (ix2 r e) * scale : EReal) := rfl

theorem pay2_apply (z : Vec Ideal S1024x512 .f32) (r : Vec Ideal S1024x384 .f32) (n : Fin 1024) (e : Fin 512) :
    k0_pay2 z r (ix2 n e) = rot (fun l => z (ix2 n ⟨e.val / 128 * 128 + l.val, by omega⟩)) (fun q => r (ix2 n q))
      ⟨e.val % 128, by omega⟩ := by
  have hz (q q' : Fin 512) (h : q.val = q'.val) : z (Idealize.ShloMosaic.ix2 n q) = z (ix2 n q') := by
    obtain rfl := Fin.ext h; rfl
  have hr (q q' : Fin 384) (h : q.val = q'.val) : r (Idealize.ShloMosaic.ix2 n q) = r (ix2 n q') := by
    obtain rfl := Fin.ext h; rfl
  have hl : e.val < 512 := e.isLt
  pointwise [k0_pay2]
  simp only [show (ix2 n e : S1024x512.Idx) 1 = e from rfl, show (ix2 n e : S1024x512.Idx) 0 = n from rfl]
  unfold rot
  split_ifs
  all_goals
    refine congrArg₂ (· + ·) (congrArg₂ (· + ·) (congrArg₂ (· * ·) ?_ (hr _ _ ?_)) (congrArg₂ (· * ·) (hz _ _ ?_) (hr _ _ ?_)))
      (congrArg₂ (· * ·) (hz _ _ ?_) (hr _ _ ?_))
    first | (refine hz _ _ ?_; show _ = e.val / 128 * 128 + e.val % 128) | (refine hz e _ ?_; show _ = e.val / 128 * 128 + e.val % 128)
  all_goals (try dsimp only); omega

theorem pay1_apply (z : Vec Ideal S1024x512 .f32) (r : Vec Ideal S1024x384 .f32) (n : Fin 1024) (e : Fin 512) :
    k0_pay1 z r (ix2 n e) = (k0_pay2 z r (ix2 n e) * scale : EReal) := rfl

theorem pay3_apply (z : Vec Ideal S1024x512 .f32) (r : Vec Ideal S1024x384 .f32) (n : Fin 1024) (e : Fin 512) :
    k0_pay3 z r (ix2 n e) = k0_pay2 z r (ix2 n e) := rfl

theorem pay4_apply (z : Vec Ideal S1024x512 .f32) (n : Fin 1024) (e : Fin 512) :
    (k0_pay4 (F := Ideal) z (ix2 n e) : EReal) = z (ix2 n e) := rfl

theorem pay9_apply (x : Vec Ideal S1024x2048 .bf16) (w : Vec Ideal S2048x512 .bf16) (n : Fin 1024) (e : Fin 512) :
    k0_pay9 x w (ix2 n e) = k0_pay7 x w (ix2 n e) := rfl

/-- The logistic function as the reference writes it. -/
def logistic (x : EReal) : EReal := Ideal.div 1 (1 + Ideal.exp (-x))

/-- The kernel's constant one half. -/
theorem half : (Ideal.ofBits .f32 0x3F000000#32 : EReal) = ((1 / 2 : ℝ) : EReal) := by
  simp [Ideal.ofBits, Ideal.ieee, -EReal.coe_mul]; norm_num

/-- The same for real numbers. -/
theorem tanh_real (x : ℝ) : 1 / 2 * Real.tanh (1 / 2 * x) + 1 / 2 = (1 + Real.exp (-x))⁻¹ := by
  have h := Real.exp_pos (1 / 2 * x)
  have hx : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, Real.exp_neg (1 / 2 * x), hx]
  generalize Real.exp (1 / 2 * x) = t at h
  field_simp
  ring

/-- The half-angle form by the hyperbolic tangent is the logistic function, at the infinities too. -/
theorem tanh_logistic (x : EReal) : (((1 / 2 : ℝ) : EReal) * Ideal.tanh (((1 / 2 : ℝ) : EReal) * x) + ((1 / 2 : ℝ) : EReal)) = logistic x := by
  unfold logistic Ideal.div
  induction x with
  | bot =>
    rw [EReal.coe_mul_bot_of_pos (by norm_num)]
    show ((1 / 2 : ℝ) : EReal) * (-1) + ((1 / 2 : ℝ) : EReal) = if (1 + (⊤ : EReal)) = 0 then _ else 1 * (1 + (⊤ : EReal))⁻¹
    have h : (1 : EReal) + ⊤ = ⊤ := rfl
    rw [h, if_neg (by simp), EReal.inv_top, mul_zero]
    rw [show (-1 : EReal) = ((-1 : ℝ) : EReal) from rfl, ← EReal.coe_mul, ← EReal.coe_add]
    norm_num
  | top =>
    rw [EReal.coe_mul_top_of_pos (by norm_num)]
    show ((1 / 2 : ℝ) : EReal) * 1 + ((1 / 2 : ℝ) : EReal) = if (1 + (0 : EReal)) = 0 then _ else 1 * (1 + (0 : EReal))⁻¹
    rw [add_zero, if_neg one_ne_zero, mul_one, one_mul, ← EReal.coe_add, show (1 : EReal) = ((1 : ℝ) : EReal) from rfl, ← EReal.coe_inv]
    norm_num
  | coe x =>
    rw [← EReal.coe_mul]
    show ((1 / 2 : ℝ) : EReal) * ((Real.tanh (1 / 2 * x) : ℝ) : EReal) + ((1 / 2 : ℝ) : EReal)
      = if (1 + ((Real.exp (-x) : ℝ) : EReal)) = 0 then _ else 1 * (1 + ((Real.exp (-x) : ℝ) : EReal))⁻¹
    have h : (1 : EReal) + ((Real.exp (-x) : ℝ) : EReal) = ((1 + Real.exp (-x) : ℝ) : EReal) := rfl
    rw [h, if_neg (by have := Real.exp_pos (-x); exact_mod_cast (by positivity : (1 + Real.exp (-x)) ≠ 0)), one_mul, ← EReal.coe_mul,
      ← EReal.coe_add, ← EReal.coe_inv, tanh_real]

theorem pay5_apply (z : Vec Ideal S1024x512 .f32) (n : Fin 1024) (e : Fin 512) :
    (k0_pay5 (F := Ideal) z (ix2 n e) : EReal) = logistic (z (ix2 n e)) := by
  refine Eq.trans ?_ (tanh_logistic _)
  rw [← half]
  rfl

end

end Cert.ProjIdeal.Pay
-- ==== Proof.Proj.Stage.lean ====
/- The reference of the input projection, stage by stage at one index. -/
module

public import proofs.«01_k».proof.Proof.Gen.ProjRefIdeal.Run
public import proofs.«01_k».proof.Proof.Proj.Pay

@[expose] public section

set_option maxRecDepth 16384

namespace Cert.ProjRefIdeal.Stage

open Idealize.ShloMosaic hiding ix0 ix1 ix2 ix3 ix4
open Idealize.ShloMosaic.ValueIdx Cert.ProjRefIdeal Cert.ProjRefIdeal.Gen
open Finset

noncomputable section

/-- All columns of the projection. -/
def proj (x : FVec Ideal S1x8192x2048 .f32) (w : FVec Ideal S1x2048x10240 .f32) : FVec Ideal S8192x10240 .f32 :=
  Host.dotGeneral dot_S8192x2048_S2048x10240_S8192x10240_1_0_0_1_n_n none (shapeCast _ x shapeCasts_S1x8192x2048_S8192x2048)
    (shapeCast _ w shapeCasts_S1x2048x10240_S2048x10240)

/-- The angle of each row and frequency. -/
def angle : FVec Ideal S8192x16 .f32 :=
  mulf (broadcastInDim S8192x16 ![0, 1] bcast_S8192x1_S8192x16_0_1 (broadcastInDim S8192x1 ![0] bcast_S8192_S8192x1_0
      (sitofp .f32 (addi (broadcastInDim S8192 ![] bcast_S_S8192 (constantI S_ 32 16#32)) (iotaInDim S8192 32 0)))))
    (broadcastInDim S8192x16 ![0, 1] bcast_S1x16_S8192x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- An array of one number for each row and frequency, laid along every head. -/
def along (a : FVec Ideal S8192x16 .f32) : FVec Ideal S8192x4x2x16 .f32 :=
  broadcastInDim S8192x4x2x16 ![0, 1, 2, 3] bcast_S8192x1x1x16_S8192x4x2x16_0_1_2_3
    (broadcastInDim S8192x1x1x16 ![0, 3] bcast_S8192x16_S8192x1x1x16_0_3 a)

/-- The rotation of the heads. -/
def rope4 (y : FVec Ideal S8192x4x2x128 .f32) (a : FVec Ideal S8192x16 .f32) : FVec Ideal S8192x4x2x128 .f32 :=
  concatenate S8192x4x2x128 3
    [⟨S8192x4x2x16, (subf (mulf (extractStridedSlice S8192x4x2x16 ![0, 0, 0, 0] y slices_S8192x4x2x128_S8192x4x2x16_0_0_0_0) (along (Host.cos a)))
        (mulf (extractStridedSlice S8192x4x2x16 ![0, 0, 0, 16] y slices_S8192x4x2x128_S8192x4x2x16_0_0_0_16) (along (Host.sin a))) : FVec Ideal S8192x4x2x16 .f32)⟩,
     ⟨S8192x4x2x16, (addf (mulf (extractStridedSlice S8192x4x2x16 ![0, 0, 0, 16] y slices_S8192x4x2x128_S8192x4x2x16_0_0_0_16) (along (Host.cos a)))
        (mulf (extractStridedSlice S8192x4x2x16 ![0, 0, 0, 0] y slices_S8192x4x2x128_S8192x4x2x16_0_0_0_0) (along (Host.sin a))) : FVec Ideal S8192x4x2x16 .f32)⟩,
     ⟨S8192x4x2x96, (extractStridedSlice S8192x4x2x96 ![0, 0, 0, 32] y slices_S8192x4x2x128_S8192x4x2x96_0_0_0_32 : FVec Ideal S8192x4x2x96 .f32)⟩]
    concatenates_S8192x4x2x16_S8192x4x2x16_S8192x4x2x96_S8192x4x2x128_d3

/-- The same on flat rows. -/
def rope (y : FVec Ideal S8192x1024 .f32) : FVec Ideal S8192x1024 .f32 :=
  shapeCast _ (rope4 (shapeCast _ y shapeCasts_S8192x1024_S8192x4x2x128) angle) shapeCasts_S8192x4x2x128_S8192x1024

/-- The scaled queries. -/
def scaled (y : FVec Ideal S8192x1024 .f32) : FVec Ideal S8192x1024 .f32 :=
  mulf y (broadcastInDim S8192x1024 ![] bcast_S_S8192x1024 (constant S_ .f32 0x3DB504F3#32))

/-- The first result: queries, keys and values of both attentions. -/
def qkv (z : FVec Ideal S8192x10240 .f32) : FVec Ideal S8192x6144 .bf16 :=
  truncf .bf16 ((concatenate S8192x6144 1
    [⟨S8192x1024, scaled (extractStridedSlice S8192x1024 ![0, 0] z slices_S8192x10240_S8192x1024_0_0)⟩,
     ⟨S8192x1024, (extractStridedSlice S8192x1024 ![0, 1024] z slices_S8192x10240_S8192x1024_0_1024 : FVec Ideal S8192x1024 .f32)⟩,
     ⟨S8192x1024, (extractStridedSlice S8192x1024 ![0, 2048] z slices_S8192x10240_S8192x1024_0_2048 : FVec Ideal S8192x1024 .f32)⟩,
     ⟨S8192x1024, scaled (rope (extractStridedSlice S8192x1024 ![0, 3072] z slices_S8192x10240_S8192x1024_0_3072))⟩,
     ⟨S8192x1024, rope (extractStridedSlice S8192x1024 ![0, 4096] z slices_S8192x10240_S8192x1024_0_4096)⟩,
     ⟨S8192x1024, (extractStridedSlice S8192x1024 ![0, 5120] z slices_S8192x10240_S8192x1024_0_5120 : FVec Ideal S8192x1024 .f32)⟩]
    concatenates_S8192x1024_S8192x1024_S8192x1024_S8192x1024_S8192x1024_S8192x1024_S8192x6144_d1 : FVec Ideal S8192x6144 .f32)) bitsLt_bf16_f32

/-- The second result: keys and values of the first attention. -/
def sb (z : FVec Ideal S8192x10240 .f32) : FVec Ideal S8192x2048 .f32 :=
  concatenate S8192x2048 1
    [⟨S8192x1024, (extractStridedSlice S8192x1024 ![0, 1024] z slices_S8192x10240_S8192x1024_0_1024 : FVec Ideal S8192x1024 .f32)⟩,
     ⟨S8192x1024, (extractStridedSlice S8192x1024 ![0, 2048] z slices_S8192x10240_S8192x1024_0_2048 : FVec Ideal S8192x1024 .f32)⟩]
    concatenates_S8192x1024_S8192x1024_S8192x2048_d1

/-- The third result: keys, rotated, and values of the second attention. -/
def dkv (z : FVec Ideal S8192x10240 .f32) : FVec Ideal S8192x2048 .f32 :=
  concatenate S8192x2048 1
    [⟨S8192x1024, rope (extractStridedSlice S8192x1024 ![0, 4096] z slices_S8192x10240_S8192x1024_0_4096)⟩,
     ⟨S8192x1024, (extractStridedSlice S8192x1024 ![0, 5120] z slices_S8192x10240_S8192x1024_0_5120 : FVec Ideal S8192x1024 .f32)⟩]
    concatenates_S8192x1024_S8192x1024_S8192x2048_d1

/-- The logistic function of every entry. -/
def sigmoid (y : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf y)))

/-- The fourth result: the gates. -/
def gates (z : FVec Ideal S8192x10240 .f32) : FVec Ideal S8192x4096 .bf16 :=
  truncf .bf16 ((concatenate S8192x4096 1
    [⟨S8192x2048, sigmoid (extractStridedSlice S8192x2048 ![0, 6144] z slices_S8192x10240_S8192x2048_0_6144)⟩,
     ⟨S8192x2048, sigmoid (extractStridedSlice S8192x2048 ![0, 8192] z slices_S8192x10240_S8192x2048_0_8192)⟩]
    concatenates_S8192x2048_S8192x2048_S8192x4096_d1 : FVec Ideal S8192x4096 .f32)) bitsLt_bf16_f32

/-- The stages together are the reference's results. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = qkv (proj (m ((c.tc : Thread nD τ).loc main_arg0)) (m ((c.tc : Thread nD τ).loc main_arg1)))
      ∧ r.2.mem ((c.tc : Thread nD τ).loc main_v97) = sb (proj (m ((c.tc : Thread nD τ).loc main_arg0)) (m ((c.tc : Thread nD τ).loc main_arg1)))
      ∧ r.2.mem ((c.tc : Thread nD τ).loc main_v98) = dkv (proj (m ((c.tc : Thread nD τ).loc main_arg0)) (m ((c.tc : Thread nD τ).loc main_arg1)))
      ∧ r.2.mem ((c.tc : Thread nD τ).loc main_v99) = gates (proj (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by unfold Value.res_main_v96; rfl), (h c).2.1.trans rfl,
    (h c).2.2.1.trans (by unfold Value.res_main_v98; rfl), (h c).2.2.2.1.trans rfl, (h c).2.2.2.2⟩) (Value.run m ρ)

/-- One lane of a head rotated: the first sixteen lanes and the next sixteen by their angle, the rest kept. -/
def turn (z : Fin 128 → EReal) (a : Fin 16 → EReal) (l : Fin 128) : EReal :=
  if h : l.val < 16 then z l * Ideal.cos (a ⟨l.val, h⟩) - z ⟨l.val + 16, by omega⟩ * Ideal.sin (a ⟨l.val, h⟩)
  else if h : l.val - 16 < 16 then z l * Ideal.cos (a ⟨l.val - 16, h⟩) + z ⟨l.val - 16, by omega⟩ * Ideal.sin (a ⟨l.val - 16, h⟩)
  else z l

theorem proj_apply (x : FVec Ideal S1x8192x2048 .f32) (w : FVec Ideal S1x2048x10240 .f32) (n : Fin 8192) (e : Fin 10240) :
    (proj x w (ix2 n e) : EReal) = ∑ d : Fin 2048, x (ix3 0 n d) * w (ix3 0 d e) := by
  unfold proj
  pointwise
  rfl

theorem rope4_apply (y : FVec Ideal S8192x4x2x128 .f32) (a : FVec Ideal S8192x16 .f32) (n : Fin 8192) (h : Fin 4) (k : Fin 2) (l : Fin 128) :
    (rope4 y a (ix4 n h k l) : EReal) = turn (fun l => y (ix4 n h k l)) (fun i => a (ix2 n i)) l := by
  have hy (q q' : Fin 128) (e : q.val = q'.val) : y (Idealize.ShloMosaic.ix4 n h k q) = y (ix4 n h k q') := by
    obtain rfl := Fin.ext e; rfl
  pointwise [rope4, along]
  simp only [show (ix4 n h k l : S8192x4x2x128.Idx) 3 = l from rfl, show (ix4 n h k l : S8192x4x2x128.Idx) 2 = k from rfl,
    show (ix4 n h k l : S8192x4x2x128.Idx) 1 = h from rfl, show (ix4 n h k l : S8192x4x2x128.Idx) 0 = n from rfl]
  unfold turn
  by_cases h1 : l.val < 16
  · refine (dif_pos h1).trans (Eq.trans ?_ (dif_pos h1).symm)
    exact congrArg₂ (· - ·) rfl (congrArg₂ (· * ·) (hy _ _ (Nat.add_comm _ _)) rfl)
  refine (dif_neg h1).trans (Eq.trans ?_ (dif_neg h1).symm)
  by_cases h2 : l.val - 16 < 16
  · refine (dif_pos h2).trans (Eq.trans ?_ (dif_pos h2).symm)
    exact congrArg₂ (· + ·) (congrArg₂ (· * ·) (hy _ _ (show 16 + (l.val - 16) = l.val by omega)) rfl) rfl
  refine (dif_neg h2).trans (Eq.trans ?_ (dif_neg h2).symm)
  exact hy _ _ (show 32 + (l.val - 16 - 16) = l.val by omega)

theorem rope_apply (y : FVec Ideal S8192x1024 .f32) (n : Fin 8192) (e : Fin 1024) :
    (rope y (ix2 n e) : EReal)
      = turn (fun l => y (ix2 n ⟨e.val / 128 * 128 + l.val, by omega⟩)) (fun i => angle (ix2 n i)) ⟨e.val % 128, by omega⟩ := by
  unfold rope
  pointwise
  refine (rope4_apply _ _ n ⟨e.val / 256, by omega⟩ ⟨e.val / 128 % 2, by omega⟩ ⟨e.val % 128, by omega⟩).trans ?_
  refine congrArg (turn · _ _) (funext fun l => ?_)
  pointwise
  refine congrArg y (congrArg (ix2 n) (Fin.ext ?_))
  show e.val / 256 * 256 + e.val / 128 % 2 * 128 + l.val = e.val / 128 * 128 + l.val
  omega

theorem sigmoid_apply (y : FVec Ideal S8192x2048 .f32) (n : Fin 8192) (e : Fin 2048) :
    (sigmoid y (ix2 n e) : EReal) = Cert.ProjIdeal.Pay.logistic (y (ix2 n e)) := by
  unfold sigmoid
  pointwise
  rfl

/-- A column rotated within its head. -/
def turned (row : Fin 10240 → EReal) (a : Fin 16 → EReal) (e : Fin 10240) : EReal :=
  turn (fun l => row ⟨e.val / 128 * 128 + l.val, by omega⟩) a ⟨e.val % 128, by omega⟩

/-- One row of the first result, from the row of the projection. -/
def qkvRow (row : Fin 10240 → EReal) (a : Fin 16 → EReal) (e : Fin 6144) : EReal :=
  if e.val < 1024 then row ⟨e.val, by omega⟩ * Cert.ProjIdeal.Pay.scale
  else if e.val < 3072 then row ⟨e.val, by omega⟩
  else if e.val < 4096 then turned row a ⟨e.val, by omega⟩ * Cert.ProjIdeal.Pay.scale
  else if e.val < 5120 then turned row a ⟨e.val, by omega⟩
  else row ⟨e.val, by omega⟩

/-- One row of the third result. -/
def dkvRow (row : Fin 10240 → EReal) (a : Fin 16 → EReal) (e : Fin 2048) : EReal :=
  if e.val < 1024 then turned row a ⟨4096 + e.val, by omega⟩ else row ⟨4096 + e.val, by omega⟩

/-- The rotation of a slice of columns that starts with a head. -/
theorem rope_slice (z : FVec Ideal S8192x10240 .f32) (y : FVec Ideal S8192x1024 .f32) (b : ℕ) (hb : b * 128 + 1024 ≤ 10240)
    (hy : ∀ n (e : Fin 1024), y (ix2 n e) = z (ix2 n ⟨b * 128 + e.val, by omega⟩)) (n : Fin 8192) (e : Fin 1024) :
    (rope y (ix2 n e) : EReal) = turned (fun e => z (ix2 n e)) (fun i => angle (ix2 n i)) ⟨b * 128 + e.val, by omega⟩ := by
  rw [rope_apply]
  unfold turned
  refine congrArg₂ (turn · _ ·) (funext fun l => (hy _ _).trans (congrArg z (congrArg (ix2 n) (Fin.ext ?_)))) (Fin.ext ?_)
  all_goals show _ = _; dsimp only; omega

theorem sb_apply (z : FVec Ideal S8192x10240 .f32) (n : Fin 8192) (e : Fin 2048) :
    (sb z (ix2 n e) : EReal) = z (ix2 n ⟨1024 + e.val, by omega⟩) := by
  unfold sb
  pointwise
  simp only [show (ix2 n e : S8192x2048.Idx) 1 = e from rfl, show (ix2 n e : S8192x2048.Idx) 0 = n from rfl]
  by_cases h : e.val < 1024
  · exact (dif_pos h).trans rfl
  · exact (dif_neg h).trans (congrArg z (congrArg (ix2 n) (Fin.ext (show 2048 + (e.val - 1024) = 1024 + e.val by omega))))

theorem dkv_apply (z : FVec Ideal S8192x10240 .f32) (n : Fin 8192) (e : Fin 2048) :
    (dkv z (ix2 n e) : EReal) = dkvRow (fun e => z (ix2 n e)) (fun i => angle (ix2 n i)) e := by
  unfold dkv
  pointwise
  simp only [show (ix2 n e : S8192x2048.Idx) 1 = e from rfl, show (ix2 n e : S8192x2048.Idx) 0 = n from rfl]
  unfold dkvRow
  by_cases h : e.val < 1024
  · refine (dif_pos h).trans (Eq.trans ?_ (if_pos h).symm)
    exact rope_slice z _ 32 (by omega) (fun n e => by pointwise; rfl) n ⟨e.val, h⟩
  · refine (dif_neg h).trans (Eq.trans ?_ (if_neg h).symm)
    exact congrArg z (congrArg (ix2 n) (Fin.ext (show 5120 + (e.val - 1024) = 4096 + e.val by omega)))

theorem gates_apply (z : FVec Ideal S8192x10240 .f32) (n : Fin 8192) (e : Fin 4096) :
    (gates z (ix2 n e) : EReal) = Cert.ProjIdeal.Pay.logistic (z (ix2 n ⟨6144 + e.val, by omega⟩)) := by
  have he : e.val < 4096 := e.isLt
  unfold gates
  pointwise
  simp only [show (ix2 n e : S8192x4096.Idx) 1 = e from rfl, show (ix2 n e : S8192x4096.Idx) 0 = n from rfl]
  by_cases h : e.val < 2048
  · refine (dif_pos h).trans ((sigmoid_apply _ n ⟨e.val, h⟩).trans (congrArg Cert.ProjIdeal.Pay.logistic ?_))
    pointwise
    rfl
  · refine (dif_neg h).trans ((sigmoid_apply _ n ⟨e.val - 2048, by omega⟩).trans (congrArg Cert.ProjIdeal.Pay.logistic ?_))
    pointwise
    exact congrArg z (congrArg (ix2 n) (Fin.ext (show 8192 + (e.val - 2048) = 6144 + e.val by omega)))

theorem qkv_apply (z : FVec Ideal S8192x10240 .f32) (n : Fin 8192) (e : Fin 6144) :
    (qkv z (ix2 n e) : EReal) = qkvRow (fun e => z (ix2 n e)) (fun i => angle (ix2 n i)) e := by
  have hz (q q' : Fin 10240) (h : q.val = q'.val) : z (Idealize.ShloMosaic.ix2 n q) = z (ix2 n q') := by
    obtain rfl := Fin.ext h; rfl
  have hq (k : Fin 1024) (q : Fin 10240) (h : 3072 + k.val = q.val) :
      rope (extractStridedSlice S8192x1024 ![0, 3072] z slices_S8192x10240_S8192x1024_0_3072) (Idealize.ShloMosaic.ix2 n k)
        = turned (fun e => z (ix2 n e)) (fun i => angle (ix2 n i)) q := by
    exact (rope_slice z _ 24 (by omega) (fun n e => by pointwise; rfl) n k).trans (congrArg (turned _ _) (Fin.ext h))
  have hk (k : Fin 1024) (q : Fin 10240) (h : 4096 + k.val = q.val) :
      rope (extractStridedSlice S8192x1024 ![0, 4096] z slices_S8192x10240_S8192x1024_0_4096) (Idealize.ShloMosaic.ix2 n k)
        = turned (fun e => z (ix2 n e)) (fun i => angle (ix2 n i)) q := by
    exact (rope_slice z _ 32 (by omega) (fun n e => by pointwise; rfl) n k).trans (congrArg (turned _ _) (Fin.ext h))
  unfold qkv scaled
  pointwise
  simp only [show (ix2 n e : S8192x6144.Idx) 1 = e from rfl, show (ix2 n e : S8192x6144.Idx) 0 = n from rfl]
  unfold qkvRow
  have he : e.val < 6144 := e.isLt
  by_cases h0 : e.val < 1024
  · exact (dif_pos h0).trans (if_pos h0).symm
  refine (dif_neg h0).trans (Eq.trans ?_ (if_neg h0).symm)
  by_cases h1 : e.val - 1024 < 1024
  · refine (dif_pos h1).trans (Eq.trans ?_ (if_pos (by omega)).symm)
    exact hz _ _ (show 1024 + (e.val - 1024) = e.val by omega)
  refine (dif_neg h1).trans ?_
  by_cases h2 : e.val - 1024 - 1024 < 1024
  · refine (dif_pos h2).trans (Eq.trans ?_ (if_pos (by omega)).symm)
    exact hz _ _ (show 2048 + (e.val - 1024 - 1024) = e.val by omega)
  refine (dif_neg h2).trans (Eq.trans ?_ (if_neg (by omega)).symm)
  by_cases h3 : e.val - 1024 - 1024 - 1024 < 1024
  · refine (dif_pos h3).trans (Eq.trans ?_ (if_pos (by omega)).symm)
    exact congrArg (· * Cert.ProjIdeal.Pay.scale) (hq _ _ (show 3072 + (e.val - 1024 - 1024 - 1024) = e.val by omega))
  refine (dif_neg h3).trans (Eq.trans ?_ (if_neg (by omega)).symm)
  by_cases h4 : e.val - 1024 - 1024 - 1024 - 1024 < 1024
  · refine (dif_pos h4).trans (Eq.trans ?_ (if_pos (by omega)).symm)
    exact hk _ _ (show 4096 + (e.val - 1024 - 1024 - 1024 - 1024) = e.val by omega)
  refine (dif_neg h4).trans (Eq.trans ?_ (if_neg (by omega)).symm)
  exact hz _ _ (show 5120 + (e.val - 1024 - 1024 - 1024 - 1024 - 1024) = e.val by omega)

end

end Cert.ProjRefIdeal.Stage
-- ==== Proof.Proj.Final.lean ====
/- The arrays of the projection call are the reference's. -/
module

public import proofs.«01_k».proof.Proof.Proj.Run
public import proofs.«01_k».proof.Proof.Proj.Stage
public import Idealize.ShloMosaic.Lib.Pipeline.ValueKit

@[expose] public section

set_option maxRecDepth 16384

namespace Cert.ProjIdeal.Final

open Idealize.ShloMosaic hiding ix0 ix1 ix2 ix3 ix4
open Idealize.ShloMosaic.ValueIdx Idealize.ShloMosaic.TcCoe Idealize.SL.Sem
open Cert.ProjIdeal Cert.ProjIdeal.Gen Cert.Proof.Proj
open Finset

noncomputable section

variable (m : (ℓ : Loc nD τ sig) → Buf (Elt Ideal) ℓ) (c : Dev nD)

/-- The block's row `r`, as a row of the prompt. -/
def row (t : Fin cfg0.N) (r : Fin 1024) : Fin 8192 := ⟨1024 * (t.val / 20) + r.val, by have h : t.val < 160 := t.isLt; omega⟩
/-- The block's column `e`, as one of the projection's. -/
def col (t : Fin cfg0.N) (e : Fin 512) : Fin 10240 := ⟨512 * (t.val % 20) + e.val, by omega⟩

theorem idx0 : ∀ t : Fin cfg0.N, win0_0.index t = ![t.val / 20, 0] := (by decide +kernel : ∀ t : Fin grid0.N, _)
theorem idx1 : ∀ t : Fin cfg0.N, win0_1.index t = ![0, t.val % 20] := (by decide +kernel : ∀ t : Fin grid0.N, _)
theorem idx2 : ∀ t : Fin cfg0.N, win0_2.index t = ![t.val / 20, 0] := (by decide +kernel : ∀ t : Fin grid0.N, _)
theorem idx3 : ∀ t : Fin cfg0.N, win0_3.index t = ![t.val / 20, min (t.val % 20) 11] := (by decide +kernel : ∀ t : Fin grid0.N, _)
theorem idx4 : ∀ t : Fin cfg0.N, win0_4.index t = ![t.val / 20, min (t.val % 20 - 2) 3] := (by decide +kernel : ∀ t : Fin grid0.N, _)
theorem idx5 : ∀ t : Fin cfg0.N, win0_5.index t = ![t.val / 20, min (t.val % 20 - 8) 3] := (by decide +kernel : ∀ t : Fin grid0.N, _)
theorem idx6 : ∀ t : Fin cfg0.N, win0_6.index t = ![t.val / 20, min (t.val % 20 - 12) 7] := (by decide +kernel : ∀ t : Fin grid0.N, _)

/-- The rows. -/
abbrev X : S1x8192x2048.Idx → EReal := m ((c : Thread nD τ).loc main_arg0)
/-- The weights. -/
abbrev W : S1x2048x10240.Idx → EReal := m ((c : Thread nD τ).loc main_arg1)

theorem x_apply (n : Fin 8192) (d : Fin 2048) : (V m c main_v25 : S8192x2048.Idx → EReal) (ix2 n d) = X m c (ix3 0 n d) := by
  entry_read
  pointwise
  rfl

theorem w_apply (d : Fin 2048) (e : Fin 10240) : (V m c main_v27 : S2048x10240.Idx → EReal) (ix2 d e) = W m c (ix3 0 d e) := by
  entry_read
  show (truncf (F := Ideal) .bf16 _ bitsLt_bf16_f32 : S2048x10240.Idx → EReal) (Idealize.ShloMosaic.ix2 d e) = _
  pointwise
  rfl

theorem blk0 (t : Fin cfg0.N) (r : Fin 1024) (d : Fin 2048) :
    (iblk m c 0 t : S1024x2048.Idx → EReal) (ix2 r d) = X m c (ix3 0 (row t r) d) := by
  rw [← x_apply m c]
  blk_ext [iblk, (idx0 t), row, ValueIdx.ix2]

theorem blk1 (t : Fin cfg0.N) (d : Fin 2048) (e : Fin 512) :
    (iblk m c 1 t : S2048x512.Idx → EReal) (ix2 d e) = W m c (ix3 0 d (col t e)) := by
  rw [← w_apply m c]
  blk_ext [iblk, (idx1 t), col, ValueIdx.ix2]

/-- Three pieces of a third of the rotation's table. -/
def lanes (a b : FVec Ideal S8192x16 .f32) (r : FVec Ideal S8192x96 .f32) : FVec Ideal S8192x128 .f32 :=
  concatenate S8192x128 1 [⟨S8192x16, a⟩, ⟨S8192x16, b⟩, ⟨S8192x96, r⟩] concatenates_S8192x16_S8192x16_S8192x96_S8192x128_d1

/-- Zero on the first lanes. -/
abbrev zero16 : FVec Ideal S8192x16 .f32 := broadcastInDim S8192x16 ![] bcast_S_S8192x16 (constant S_ .f32 0x00000000#32)
/-- Zero on the lanes left alone. -/
abbrev zero96 : FVec Ideal S8192x96 .f32 := broadcastInDim S8192x96 ![] bcast_S_S8192x96 (constant S_ .f32 0x00000000#32)
/-- One on the lanes left alone. -/
abbrev one96 : FVec Ideal S8192x96 .f32 := broadcastInDim S8192x96 ![] bcast_S_S8192x96 (constant S_ .f32 0x3F800000#32)

/-- The rotation's table, from the angles. -/
def table (a : FVec Ideal S8192x16 .f32) : FVec Ideal S8192x384 .f32 :=
  concatenate S8192x384 1 [⟨S8192x128, lanes (Host.cos a) (Host.cos a) one96⟩, ⟨S8192x128, lanes (Host.negf (Host.sin a)) zero16 zero96⟩,
    ⟨S8192x128, lanes zero16 (Host.sin a) zero96⟩] concatenates_S8192x128_S8192x128_S8192x128_S8192x384_d1

set_option maxHeartbeats 4000000 in
theorem rope_table : V m c main_v24 = table Cert.ProjRefIdeal.Stage.angle := by
  show StableHlo.after hostOps0 (fun b => m (c, b)) main_v24 = _
  after_results_simp <;> (try dsimp only [Matrix.cons_val]) <;> (try after_results_simp) <;> (try dsimp only [Matrix.cons_val]) <;> (try after_results_simp) <;> rfl

/-- What a lane is multiplied by. -/
def tabOwn (a : Fin 16 → EReal) (l : ℕ) : EReal :=
  if h : l < 16 then Ideal.cos (a ⟨l, h⟩) else if h : l - 16 < 16 then Ideal.cos (a ⟨l - 16, h⟩) else 1
/-- What the lane sixteen above is multiplied by. -/
def tabAbove (a : Fin 16 → EReal) (l : ℕ) : EReal :=
  if h : l < 16 then -Ideal.sin (a ⟨l, h⟩) else if _h : l - 16 < 16 then 0 else 0
/-- What the lane sixteen below is multiplied by. -/
def tabBelow (a : Fin 16 → EReal) (l : ℕ) : EReal :=
  if _h : l < 16 then 0 else if h : l - 16 < 16 then Ideal.sin (a ⟨l - 16, h⟩) else 0

/-- A row of the table, from the row's angles. -/
def tab (a : Fin 16 → EReal) (q : Fin 384) : EReal :=
  if _h : q.val < 128 then tabOwn a q.val else if _h : q.val - 128 < 128 then tabAbove a (q.val - 128) else tabBelow a (q.val - 128 - 128)

theorem table_apply (a : FVec Ideal S8192x16 .f32) (n : Fin 8192) (q : Fin 384) :
    (table a (ix2 n q) : EReal) = tab (fun i => a (ix2 n i)) q := by
  unfold table lanes
  pointwise
  rfl

/-- Rotating by the table is rotating by the angles. -/
theorem rot_tab (z : Fin 128 → EReal) (a : Fin 16 → EReal) (l : Fin 128) :
    Pay.rot z (tab a) l = Cert.ProjRefIdeal.Stage.turn z a l := by
  have h0 : tab a ⟨l.val, by omega⟩ = tabOwn a l.val := dif_pos l.isLt
  have h1 : tab a ⟨128 + l.val, by omega⟩ = tabAbove a l.val := by
    unfold tab
    rw [dif_neg (by dsimp only; omega), dif_pos (by dsimp only; omega)]
    exact congrArg (tabAbove a) (Nat.add_sub_cancel_left ..)
  have h2 : tab a ⟨256 + l.val, by omega⟩ = tabBelow a l.val := by
    unfold tab
    rw [dif_neg (by dsimp only; omega), dif_neg (by dsimp only; omega)]
    exact congrArg (tabBelow a) (by dsimp only; omega)
  unfold Pay.rot
  rw [h0, h1, h2]
  unfold tabOwn tabAbove tabBelow Cert.ProjRefIdeal.Stage.turn
  by_cases hl : l.val < 16
  · rw [dif_pos hl, dif_pos hl, dif_pos hl, dif_pos hl, mul_zero, add_zero, sub_eq_add_neg, mul_neg]
    exact congrArg (fun q => _ + -(z q * _)) (Fin.ext (by dsimp only; omega))
  rw [dif_neg hl, dif_neg hl, dif_neg hl, dif_neg hl]
  by_cases hk : l.val - 16 < 16
  · rw [dif_pos hk, dif_pos hk, dif_pos hk, dif_pos hk, mul_zero, add_zero]
    exact congrArg (fun q => _ + z q * _) (Fin.ext (by dsimp only; omega))
  · rw [dif_neg hk, dif_neg hk, dif_neg hk, dif_neg hk, mul_zero, mul_zero, add_zero, add_zero, mul_one]

theorem blk2 (t : Fin cfg0.N) (r : Fin 1024) (q : Fin 384) :
    (iblk m c 2 t : S1024x384.Idx → EReal) (ix2 r q) = tab (fun i => Cert.ProjRefIdeal.Stage.angle (ix2 (row t r) i)) q := by
  refine Eq.trans ?_ (table_apply _ (row t r) q)
  rw [← rope_table m c]
  blk_ext [iblk, (idx2 t), row, ValueIdx.ix2]

/-- The projection of the kernel's arguments. -/
def Z : FVec Ideal Cert.ProjRefIdeal.S8192x10240 .f32 :=
  Cert.ProjRefIdeal.Stage.proj (m ((c : Thread nD τ).loc main_arg0)) (m ((c : Thread nD τ).loc main_arg1))

/-- The scratch's rows. -/
theorem held9_apply (t : Fin cfg0.N) (r : Fin 1024) (d : Fin 2048) :
    (held9 m c t (ix2 r d) : EReal) = X m c (ix3 0 (row t r) d) := by
  refine (Pay.pay6_apply _ r d).trans ((blk0 m c (inRow t 0 (by omega)) r d).trans ?_)
  refine congrArg (X m c) (congrArg (ix3 0 · d) (Fin.ext ?_))
  show 1024 * ((20 * (t.val / 20) + 0) / 20) + r.val = 1024 * (t.val / 20) + r.val
  omega

/-- The product at a point is its block of the projection. -/
theorem prod_apply (t : Fin cfg0.N) (r : Fin 1024) (e : Fin 512) :
    (k0_pay7 (held9 m c t) (iblk m c 1 t) (ix2 r e) : EReal) = Z m c (ix2 (row t r) (col t e)) := by
  refine (Pay.pay7_apply _ _ r e).trans (Eq.trans ?_ (Cert.ProjRefIdeal.Stage.proj_apply _ _ (row t r) (col t e)).symm)
  exact Finset.sum_congr rfl fun d _ => congrArg₂ (· * ·) (held9_apply m c t r d) (blk1 m c t d e)

/-- The rotated product likewise. -/
theorem rotated_apply (t : Fin cfg0.N) (r : Fin 1024) (e : Fin 512) :
    (k0_pay2 (k0_pay7 (held9 m c t) (iblk m c 1 t)) (iblk m c 2 t) (ix2 r e) : EReal)
      = Cert.ProjRefIdeal.Stage.turned (fun e => Z m c (ix2 (row t r) e)) (fun i => Cert.ProjRefIdeal.Stage.angle (ix2 (row t r) i)) (col t e) := by
  refine (Pay.pay2_apply _ _ r e).trans ?_
  rw [show (fun q => (iblk m c 2 t : S1024x384.Idx → EReal) (ix2 r q)) = tab (fun i => Cert.ProjRefIdeal.Stage.angle (ix2 (row t r) i))
    from funext fun q => blk2 m c t r q, rot_tab]
  have hc : (col t e).val = 512 * (t.val % 20) + e.val := rfl
  refine congrArg₂ (Cert.ProjRefIdeal.Stage.turn · _ ·) (funext fun l => (prod_apply m c t r _).trans
    (congrArg (Z m c) (congrArg (ix2 (row t r)) (Fin.ext ?_)))) (Fin.ext ?_)
  · show 512 * (t.val % 20) + (e.val / 128 * 128 + l.val) = (512 * (t.val % 20) + e.val) / 128 * 128 + l.val
    omega
  · show e.val % 128 = (512 * (t.val % 20) + e.val) % 128
    omega

/-! ## The blocks that are stored -/

/-- Which column blocks meet which condition. -/
theorem conds : ∀ t : Fin cfg0.N, (k0_cond2 (grid0.coords t) = 1#1 ↔ t.val % 20 < 2)
    ∧ (k0_cond3 (grid0.coords t) = 1#1 ↔ 2 ≤ t.val % 20 ∧ t.val % 20 < 6)
    ∧ (k0_cond4 (grid0.coords t) = 1#1 ↔ 6 ≤ t.val % 20 ∧ t.val % 20 < 8)
    ∧ (k0_cond5 (grid0.coords t) = 1#1 ↔ 8 ≤ t.val % 20 ∧ t.val % 20 < 10) :=
  (by decide +kernel : ∀ t : Fin grid0.N, (k0_cond2 (grid0.coords t) = 1#1 ↔ t.val % 20 < 2)
    ∧ (k0_cond3 (grid0.coords t) = 1#1 ↔ 2 ≤ t.val % 20 ∧ t.val % 20 < 6)
    ∧ (k0_cond4 (grid0.coords t) = 1#1 ↔ 6 ≤ t.val % 20 ∧ t.val % 20 < 8)
    ∧ (k0_cond5 (grid0.coords t) = 1#1 ↔ 8 ≤ t.val % 20 ∧ t.val % 20 < 10))

/-- A block of queries, keys and values. -/
theorem qkv_point (t : Fin cfg0.N) (ht : t.val % 20 < 12) (r : Fin 1024) (e : Fin 512) :
    (qkvAt m c t (ix2 r e) : EReal) = Cert.ProjRefIdeal.Stage.qkv (Z m c) (ix2 (row t r) ⟨512 * (t.val % 20) + e.val, by omega⟩) := by
  obtain ⟨h2, h3, h4, h5⟩ := conds t
  refine Eq.trans ?_ (Cert.ProjRefIdeal.Stage.qkv_apply (Z m c) (row t r) _).symm
  have hp := prod_apply m c t r e
  have hr := rotated_apply m c t r e
  unfold qkvAt qkvPay Cert.ProjRefIdeal.Stage.qkvRow
  dsimp only
  by_cases j2 : t.val % 20 < 2
  · rw [if_pos (h2.mpr j2), if_pos (show 512 * (t.val % 20) + e.val < 1024 by omega)]
    exact (Pay.pay8_apply _ _ r e).trans (congrArg (· * Pay.scale) hp)
  rw [if_neg (mt h2.mp j2), if_neg (show ¬ 512 * (t.val % 20) + e.val < 1024 by omega)]
  by_cases j3 : t.val % 20 < 6
  · rw [if_pos (h3.mpr ⟨by omega, j3⟩), if_pos (show 512 * (t.val % 20) + e.val < 3072 by omega)]
    exact (Pay.pay9_apply _ _ r e).trans hp
  rw [if_neg (mt h3.mp (by omega)), if_neg (show ¬ 512 * (t.val % 20) + e.val < 3072 by omega)]
  by_cases j4 : t.val % 20 < 8
  · rw [if_pos (h4.mpr ⟨by omega, j4⟩), if_pos (show 512 * (t.val % 20) + e.val < 4096 by omega)]
    exact (Pay.pay1_apply _ _ r e).trans (congrArg (· * Pay.scale) hr)
  rw [if_neg (mt h4.mp (by omega)), if_neg (show ¬ 512 * (t.val % 20) + e.val < 4096 by omega)]
  by_cases j5 : t.val % 20 < 10
  · rw [if_pos (h5.mpr ⟨by omega, j5⟩), if_pos (show 512 * (t.val % 20) + e.val < 5120 by omega)]
    exact (Pay.pay3_apply _ _ r e).trans hr
  rw [if_neg (mt h5.mp (by omega)), if_neg (show ¬ 512 * (t.val % 20) + e.val < 5120 by omega)]
  exact (Pay.pay4_apply _ r e).trans hp

/-- A block of the first attention's keys and values. -/
theorem sb_point (t : Fin cfg0.N) (ht : 2 ≤ t.val % 20) (hu : t.val % 20 < 6) (r : Fin 1024) (e : Fin 512) :
    (sbAt m c t (ix2 r e) : EReal) = Cert.ProjRefIdeal.Stage.sb (Z m c) (ix2 (row t r) ⟨512 * (t.val % 20 - 2) + e.val, by omega⟩) := by
  refine (prod_apply m c t r e).trans (Eq.trans ?_ (Cert.ProjRefIdeal.Stage.sb_apply (Z m c) (row t r) _).symm)
  refine congrArg (Z m c) (congrArg (ix2 (row t r)) (Fin.ext ?_))
  show 512 * (t.val % 20) + e.val = 1024 + (512 * (t.val % 20 - 2) + e.val)
  omega

/-- A block of the second attention's keys and values. -/
theorem dkv_point (t : Fin cfg0.N) (ht : 8 ≤ t.val % 20) (hu : t.val % 20 < 12) (r : Fin 1024) (e : Fin 512) :
    (dkvAt m c t (ix2 r e) : EReal) = Cert.ProjRefIdeal.Stage.dkv (Z m c) (ix2 (row t r) ⟨512 * (t.val % 20 - 8) + e.val, by omega⟩) := by
  obtain ⟨h2, h3, h4, h5⟩ := conds t
  refine Eq.trans ?_ (Cert.ProjRefIdeal.Stage.dkv_apply (Z m c) (row t r) _).symm
  have hc : col t e = ⟨4096 + (512 * (t.val % 20 - 8) + e.val), by omega⟩ :=
    Fin.ext (by show 512 * (t.val % 20) + e.val = 4096 + (512 * (t.val % 20 - 8) + e.val); omega)
  have hp := prod_apply m c t r e
  have hr := rotated_apply m c t r e
  rw [hc] at hp hr
  unfold dkvAt dkvPay Cert.ProjRefIdeal.Stage.dkvRow
  dsimp only
  by_cases j5 : t.val % 20 < 10
  · rw [if_pos (h5.mpr ⟨by omega, j5⟩), if_pos (by omega)]
    exact hr
  · rw [if_neg (mt h5.mp (by omega)), if_neg (by omega)]
    exact hp

/-- A block of the gates. -/
theorem gate_point (t : Fin cfg0.N) (ht : 12 ≤ t.val % 20) (r : Fin 1024) (e : Fin 512) :
    (gateAt m c t (ix2 r e) : EReal) = Cert.ProjRefIdeal.Stage.gates (Z m c) (ix2 (row t r) ⟨512 * (t.val % 20 - 12) + e.val, by omega⟩) := by
  refine (Pay.pay5_apply _ r e).trans (Eq.trans ?_ (Cert.ProjRefIdeal.Stage.gates_apply (Z m c) (row t r) _).symm)
  refine congrArg Pay.logistic ((prod_apply m c t r e).trans (congrArg (Z m c) (congrArg (ix2 (row t r)) (Fin.ext ?_))))
  show 512 * (t.val % 20) + e.val = 6144 + (512 * (t.val % 20 - 12) + e.val)
  omega

/-! ## The arrays -/

/-- The point an output holds at `t` lies in the same row of the grid. -/
theorem held_row (w : Fin cfg0.W) (t : Fin cfg0.N) : (held w t).val / 20 = t.val / 20 := by
  show (20 * (t.val / 20) + min (t.val % 20) (lastAt w)) / 20 = t.val / 20
  omega

/-- And in this column block. -/
theorem held_col (w : Fin cfg0.W) (t : Fin cfg0.N) : (held w t).val % 20 = min (t.val % 20) (lastAt w) := by
  show (20 * (t.val / 20) + min (t.val % 20) (lastAt w)) % 20 = _
  omega

/-- A point that writes an output back is not before its range. -/
theorem flush_range (w : Fin cfg0.W) (hw : w ∈ outs) (t : Fin cfg0.N) (hf : (cfg0.win w).flush t = true) : firstAt w ≤ t.val % 20 := by
  by_contra h
  exact absurd (no_flush w hw t (by omega)) (by simp [hf])

theorem final3 : (dats m 0 c).arrAt 3 cfg0.N = Cert.ProjRefIdeal.Stage.qkv (Z m c) := by
  refine (dats m 0 c).arrAt_eq_of_covers 3 _ (by decide +kernel) fun t hf y => ?_
  obtain ⟨r, e, rfl⟩ : ∃ (r : Fin 1024) (e : Fin 512), y = ix2 r e := ⟨y 0, y 1, by funext a; fin_cases a <;> rfl⟩
  have hr := held_row 3 t
  have hk : (held 3 t).val % 20 = min (t.val % 20) 11 := held_col 3 t
  blk_simp
  rw [after_3]
  refine (qkv_point m c (held 3 t) (by omega) r e).trans (congrArg (Cert.ProjRefIdeal.Stage.qkv (Z m c)) ?_)
  blk_ext [(idx3 t), row, ValueIdx.ix2, hr, hk]

theorem final4 : (dats m 0 c).arrAt 4 cfg0.N = Cert.ProjRefIdeal.Stage.sb (Z m c) := by
  refine (dats m 0 c).arrAt_eq_of_covers 4 _ (by decide +kernel) fun t hf y => ?_
  obtain ⟨r, e, rfl⟩ : ∃ (r : Fin 1024) (e : Fin 512), y = ix2 r e := ⟨y 0, y 1, by funext a; fin_cases a <;> rfl⟩
  have hr := held_row 4 t
  have hk : (held 4 t).val % 20 = min (t.val % 20) 5 := held_col 4 t
  have hl : 2 ≤ t.val % 20 := flush_range 4 (by decide) t hf
  have hm : min (t.val % 20) 5 - 2 = min (t.val % 20 - 2) 3 := by omega
  blk_simp
  rw [after_4]
  refine (sb_point m c (held 4 t) (by omega) (by omega) r e).trans (congrArg (Cert.ProjRefIdeal.Stage.sb (Z m c)) ?_)
  blk_ext [(idx4 t), row, ValueIdx.ix2, hr, hk, hm]

theorem final5 : (dats m 0 c).arrAt 5 cfg0.N = Cert.ProjRefIdeal.Stage.dkv (Z m c) := by
  refine (dats m 0 c).arrAt_eq_of_covers 5 _ (by decide +kernel) fun t hf y => ?_
  obtain ⟨r, e, rfl⟩ : ∃ (r : Fin 1024) (e : Fin 512), y = ix2 r e := ⟨y 0, y 1, by funext a; fin_cases a <;> rfl⟩
  have hr := held_row 5 t
  have hk : (held 5 t).val % 20 = min (t.val % 20) 11 := held_col 5 t
  have hl : 8 ≤ t.val % 20 := flush_range 5 (by decide) t hf
  have hm : min (t.val % 20) 11 - 8 = min (t.val % 20 - 8) 3 := by omega
  blk_simp
  rw [after_5]
  refine (dkv_point m c (held 5 t) (by omega) (by omega) r e).trans (congrArg (Cert.ProjRefIdeal.Stage.dkv (Z m c)) ?_)
  blk_ext [(idx5 t), row, ValueIdx.ix2, hr, hk, hm]

theorem final6 : (dats m 0 c).arrAt 6 cfg0.N = Cert.ProjRefIdeal.Stage.gates (Z m c) := by
  refine (dats m 0 c).arrAt_eq_of_covers 6 _ (by decide +kernel) fun t hf y => ?_
  obtain ⟨r, e, rfl⟩ : ∃ (r : Fin 1024) (e : Fin 512), y = ix2 r e := ⟨y 0, y 1, by funext a; fin_cases a <;> rfl⟩
  have hr := held_row 6 t
  have hk : (held 6 t).val % 20 = min (t.val % 20) 19 := held_col 6 t
  have hl : 12 ≤ t.val % 20 := flush_range 6 (by decide) t hf
  have hm : min (t.val % 20) 19 - 12 = min (t.val % 20 - 12) 7 := by omega
  blk_simp
  rw [after_6]
  refine (gate_point m c (held 6 t) (by omega) r e).trans (congrArg (Cert.ProjRefIdeal.Stage.gates (Z m c)) ?_)
  blk_ext [(idx6 t), row, ValueIdx.ix2, hr, hk, hm]

end

end Cert.ProjIdeal.Final
-- ==== Proof.Proj.Claims.lean ====
module

public import proofs.«01_k».proof.Defs
public import proofs.«01_k».proof.Proof.Proj.Frames
public import proofs.«01_k».proof.Proof.Proj.Final

@[expose] public section

set_option maxRecDepth 16384

/-!
The claims about the projection call.
-/

namespace Cert.Proof.Proj

open Idealize.ShloMosaic Idealize.ShloMosaic.TcCoe Idealize.SL.Sem
open Cert.ProjIdeal Cert.ProjIdeal.Gen Cert.ProjIdeal.Final

noncomputable section

/-- The reference runs and leaves its arguments as they were. -/
theorem frame_ref : Cert.quiescent_ProjRefIdeal := fun m ρ _ =>
  (θ_run Cert.ProjRefIdeal.defs _ _).mono (fun r h => ⟨fun c => (h c).2.2.2.2, sem_eq_zero_of_no_sems (by decide) r.2⟩) (Cert.ProjRefIdeal.Value.run m ρ)

/-- The kernel's run with its four arrays named. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28_0) = Cert.ProjRefIdeal.Stage.qkv (Z m c)
      ∧ r.2.mem ((c.tc : Thread nD τ).loc main_v28_1) = Cert.ProjRefIdeal.Stage.sb (Z m c)
      ∧ r.2.mem ((c.tc : Thread nD τ).loc main_v28_2) = Cert.ProjRefIdeal.Stage.dkv (Z m c)
      ∧ r.2.mem ((c.tc : Thread nD τ).loc main_v28_3) = Cert.ProjRefIdeal.Stage.gates (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 3).trans (final3 m c), ((h c).1 4).trans (final4 m c), ((h c).1 5).trans (final5 m c),
      ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run m ρ)

/-- Kernel and reference agree over the extended reals. -/
theorem algebraic : Cert.algebraic_ProjIdeal_ProjRefIdeal := fun m ρ m' ρ' _ hag =>
  ⟨fun c => Cert.ProjRefIdeal.Stage.qkv (Z m c), fun c => Cert.ProjRefIdeal.Stage.sb (Z m c),
    fun c => Cert.ProjRefIdeal.Stage.dkv (Z m c), fun c => Cert.ProjRefIdeal.Stage.gates (Z m c), run_values m ρ,
    (θ_run _ _ _).mono (fun _ h c => by
      obtain ⟨h0, h1⟩ := hag c
      have e : Cert.ProjRefIdeal.Stage.proj (m' ((c.tc : Thread Cert.ProjRefIdeal.nD Cert.ProjRefIdeal.τ).loc Cert.ProjRefIdeal.main_arg0))
          (m' ((c.tc : Thread Cert.ProjRefIdeal.nD Cert.ProjRefIdeal.τ).loc Cert.ProjRefIdeal.main_arg1)) = Z m c := by rw [h0, h1]; rfl
      have hc := h c
      rw [e] at hc
      exact hc) (Cert.ProjRefIdeal.Stage.run_stages m' ρ')⟩

end

end Cert.Proof.Proj
-- ==== Proof.Small.Step.lean ====
/- One step of the second projection call: what its body leaves in the scratch and in the four output blocks, at any grid point. -/
module

public import proofs.«01_k».proof.Proof.Gen.SmallIdeal.Frame
public import proofs.«01_k».proof.Proof.Gen.SmallIdeal.Skeleton
public import Idealize.ShloMosaic.Lib.VecWindow

@[expose] public section

set_option maxRecDepth 16384

noncomputable section

namespace Cert.Proof.Small

open Cert.SmallIdeal Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point opens a row of the grid: the rows of the input are cast into the scratch there. -/
abbrev opens (i : grid0.Coords) : Prop :=
  (Scalar.cmpi .ne (Scalar.extui (Scalar.cmpi .eq (BitVec.ofNat 32 (i 1).val) 0#32)) 0#32) = 1#1

/-- The rows as the product reads them: cast afresh where a row of the grid opens, else as found. -/
def rows (i : grid0.Coords) (x : Vec F S144x2048 .f32) (s : Vec F S144x2048 .bf16) : Vec F S144x2048 .bf16 :=
  if opens i then k0_pay6 x else s

theorem rows_of_opens {i : grid0.Coords} (h : opens i) (x : Vec F S144x2048 .f32) (s : Vec F S144x2048 .bf16) :
    rows i x s = k0_pay6 x := if_pos h

theorem rows_of_not_opens {i : grid0.Coords} (h : ¬opens i) (x : Vec F S144x2048 .f32) (s : Vec F S144x2048 .bf16) :
    rows i x s = s := if_neg h

/-- What a storing point puts into the block of queries, keys and values. -/
def qkvPay (i : grid0.Coords) (s : Vec F S144x2048 .bf16) (w : Vec F S2048x512 .bf16) (r : Vec F S144x384 .f32) :
    Vec F S144x512 .bf16 :=
  if k0_cond2 i = 1#1 then k0_pay8 s w else if k0_cond3 i = 1#1 then k0_pay9 s w
  else if k0_cond4 i = 1#1 then k0_pay1 (k0_pay7 s w) r else if k0_cond5 i = 1#1 then k0_pay3 (k0_pay7 s w) r
  else k0_pay4 (k0_pay7 s w)

/-- What a storing point puts into the block of unrounded keys and values of the differential heads. -/
def dkvPay (i : grid0.Coords) (s : Vec F S144x2048 .bf16) (w : Vec F S2048x512 .bf16) (r : Vec F S144x384 .f32) :
    Vec F S144x512 .f32 :=
  if k0_cond5 i = 1#1 then k0_pay2 (k0_pay7 s w) r else k0_pay7 s w

/-- The conditions a point meets, in the order of the body's branches. -/
abbrev flags (i : grid0.Coords) : List Bool :=
  [decide (opens i), k0_cond2 i == 1#1, k0_cond3 i == 1#1, k0_cond4 i == 1#1, k0_cond5 i == 1#1, k0_cond6 i == 1#1,
    k0_cond7 i == 1#1]

/-- Beside opening a row of the grid, which only a point of the first branch does, a point meets exactly one of them. -/
abbrev Pattern (i : grid0.Coords) : Prop :=
  flags i = [true, true, false, false, false, false, false] ∨ flags i = [false, true, false, false, false, false, false]
    ∨ flags i = [false, false, true, false, false, false, false] ∨ flags i = [false, false, false, true, false, false, false]
    ∨ flags i = [false, false, false, false, true, false, false] ∨ flags i = [false, false, false, false, false, true, false]
    ∨ flags i = [false, false, false, false, false, false, true]

/-- Every point of the grid meets one of these patterns. -/
theorem pattern : ∀ t : Fin cfg0.N, Pattern (grid0.coords t) :=
  (by decide +kernel : ∀ t : Fin grid0.N, Pattern (grid0.coords t))

set_option maxHeartbeats 4000000 in
/-- THE STEP: the body leaves the inputs as they are, the scratch at `rows`, and each output block either at what the point
    stores or as it was found, as the idle table says. -/
theorem step (c : Dev nD) (i : grid0.Coords) (arg2 : Memref sig .tc .vmem S144x2048 .f32) (harg2 : arg2.IsWhole)
    (arg3 : Memref sig .tc .vmem S2048x512 .bf16) (harg3 : arg3.IsWhole) (arg4 : Memref sig .tc .vmem S144x384 .f32)
    (harg4 : arg4.IsWhole) (arg5 : Memref sig .tc .vmem S144x512 .bf16) (harg5 : arg5.IsWhole)
    (arg6 : Memref sig .tc .vmem S144x512 .f32) (harg6 : arg6.IsWhole) (arg7 : Memref sig .tc .vmem S144x512 .f32)
    (harg7 : arg7.IsWhole) (arg8 : Memref sig .tc .vmem S144x512 .bf16) (harg8 : arg8.IsWhole)
    (arg9 : Memref sig .tc .vmem S144x2048 .bf16) (harg9 : arg9.IsWhole) (hp : Pattern i)
    (x : Vec F S144x2048 .f32) (w : Vec F S2048x512 .bf16) (r : Vec F S144x384 .f32) (s : Vec F S144x2048 .bf16)
    (d3 : Vec F S144x512 .bf16) (d4 d5 : Vec F S144x512 .f32) (d6 : Vec F S144x512 .bf16)
    (E : Set ℕ) (K : PUnit → sProp 𝕄) :
    iprop(owns (c : Thread nD τ) arg2 fullShare x ∗ owns (c : Thread nD τ) arg3 fullShare w
        ∗ owns (c : Thread nD τ) arg4 fullShare r ∗ owns (c : Thread nD τ) arg5 fullShare d3
        ∗ owns (c : Thread nD τ) arg6 fullShare d4 ∗ owns (c : Thread nD τ) arg7 fullShare d5
        ∗ owns (c : Thread nD τ) arg8 fullShare d6 ∗ owns (c : Thread nD τ) arg9 fullShare s
        ∗ (iprop(owns (c : Thread nD τ) arg2 fullShare x ∗ owns (c : Thread nD τ) arg3 fullShare w
            ∗ owns (c : Thread nD τ) arg4 fullShare r
            ∗ owns (c : Thread nD τ) arg5 fullShare (bif idle0 3 i then d3 else qkvPay i (rows i x s) w r)
            ∗ owns (c : Thread nD τ) arg6 fullShare (bif idle0 4 i then d4 else k0_pay7 (rows i x s) w)
            ∗ owns (c : Thread nD τ) arg7 fullShare (bif idle0 5 i then d5 else dkvPay i (rows i x s) w r)
            ∗ owns (c : Thread nD τ) arg8 fullShare (bif idle0 6 i then d6 else k0_pay5 (k0_pay7 (rows i x s) w))
            ∗ owns (c : Thread nD τ) arg9 fullShare (rows i x s)) -∗ K ⟨⟩))
      ⊢ wp frame (wpE (defs₀ (F := F)) Variants.none c none) E
          (cc0_proj i arg2 harg2 arg3 harg3 arg4 harg4 arg5 harg5 arg6 harg6 arg7 harg7 arg8 harg8 arg9 harg9) K := by
  rcases hp with h | h | h | h | h | h | h
  all_goals
    simp only [flags, List.cons.injEq, decide_eq_true_eq, decide_eq_false_iff_not, _root_.and_true] at h
    obtain ⟨h1, h2, h3, h4, h5, h6, h7⟩ := h
    simp only [idle0, h2, h3, h4, h5, h6, h7, Bool.not_true, Bool.not_false, Bool.and_true, Bool.and_false, cond_true,
      cond_false]
    simp only [beq_iff_eq, beq_eq_false_iff_ne, ne_eq] at h2 h3 h4 h5 h6 h7
    first | simp only [rows_of_opens h1] | simp only [rows_of_not_opens h1]
    try simp only [qkvPay, dkvPay, h2, h3, h4, h5, h6, h7, if_true, if_false]
    simp only [cc0_proj_eq_skeleton]; unfold cc0_proj_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9
    have r2 : View.readAt (Elt F) arg2.view (Rect.unit (s := S144x2048) ![0, 0] S144x2048.size inb_S144x2048_S144x2048_0_0).toLoadRect (harg2.unread x) = x :=
      (View.readAt_full _ _ _).trans hf2
    have r3 : View.readAt (Elt F) arg3.view (Rect.unit (s := S2048x512) ![0, 0] S2048x512.size inb_S2048x512_S2048x512_0_0).toLoadRect (harg3.unread w) = w :=
      (View.readAt_full _ _ _).trans hf3
    have r4 : View.readAt (Elt F) arg4.view (Rect.unit (s := S144x384) ![0, 0] S144x384.size inb_S144x384_S144x384_0_0).toLoadRect (harg4.unread r) = r :=
      (View.readAt_full _ _ _).trans hf4
    have r9 : View.readAt (Elt F) arg9.view (Rect.unit (s := S144x2048) ![0, 0] S144x2048.size inb_S144x2048_S144x2048_0_0).toLoadRect (harg9.unread s) = s :=
      (View.readAt_full _ _ _).trans hf9
    sl_exec (disch := first | sl_exact h1 | sl_exact h2 | sl_exact h3 | sl_exact h4 | sl_exact h5 | sl_exact h6 | sl_exact h7)
    sl_step
    iapply Hk
    isplitl [H2]; · iexists _; isplitr; swap; (iexact H2); ipureintro; exact harg2.read_unread _
    isplitl [H3]; · iexists _; isplitr; swap; (iexact H3); ipureintro; exact harg3.read_unread _
    isplitl [H4]; · iexists _; isplitr; swap; (iexact H4); ipureintro; exact harg4.read_unread _
    isplitl [H5]
    · iexists _; isplitr; swap; (iexact H5); ipureintro
      first
      | with_reducible exact harg5.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    isplitl [H6]
    · iexists _; isplitr; swap; (iexact H6); ipureintro
      first
      | with_reducible exact harg6.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    isplitl [H7]
    · iexists _; isplitr; swap; (iexact H7); ipureintro
      first
      | with_reducible exact harg7.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    isplitl [H8]
    · iexists _; isplitr; swap; (iexact H8); ipureintro
      first
      | with_reducible exact harg8.read_unread _
      | refine (View.read_writes_full _ _ _ _ _).trans ?_
        first
        | (simp only [r2, r3, r4, r9]; done)
        | exact congrArg₂ k0_pay8 ((View.readCov_full _ _ _ _ _).trans (congrArg k0_pay6 (rfl : x = x))) (rfl : w = w)
    iexists _; isplitr; swap; (iexact H9); ipureintro
    first
    | with_reducible exact harg9.read_unread _
    | refine (View.read_writes_full _ _ _ _ _).trans ?_
      exact congrArg k0_pay6 (rfl : x = x)

end Cert.Proof.Small

end
-- ==== Proof.Small.Run.lean ====
/- The run of the second projection call: what every staging buffer holds after each grid point, and the frame. -/
module

public import proofs.«01_k».proof.Proof.Small.Step
public import Idealize.ShloMosaic.Lib.Pipeline.TableIdle
public import Idealize.ShloMosaic.Lib.Claim

@[expose] public section

set_option maxRecDepth 16384

noncomputable section

namespace Cert.Proof.Small

open Cert.SmallIdeal Cert.SmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each output is stored -/

/-- The first column block of a row of the grid at which output `w` is stored. -/
def firstAt : Fin cfg0.W → ℕ
  | ⟨4, _⟩ => 2
  | ⟨5, _⟩ => 8
  | ⟨6, _⟩ => 12
  | _ => 0

/-- The last such column block. -/
def lastAt : Fin cfg0.W → ℕ
  | ⟨3, _⟩ => 11
  | ⟨4, _⟩ => 5
  | ⟨5, _⟩ => 11
  | _ => 19

/-- The four outputs. -/
abbrev outs : List (Fin cfg0.W) := [3, 4, 5, 6]

/-- An output is left alone exactly off its range of column blocks. -/
theorem idle_eq : ∀ w ∈ outs, ∀ t : Fin cfg0.N,
    cfg0.idle w (grid0.coords t) = !(decide (firstAt w ≤ t.val % 20) && decide (t.val % 20 ≤ lastAt w)) :=
  (by decide +kernel : ∀ w ∈ outs, ∀ t : Fin grid0.N,
    idle0 w (grid0.coords t) = !(decide (firstAt w ≤ t.val % 20) && decide (t.val % 20 ≤ lastAt w)))

/-- How the buffer's freshness steps: fresh up to the last storing column block of a row of the grid. -/
theorem fresh_step : ∀ w ∈ outs, ∀ t : Fin cfg0.N,
    decide ((t.val + 1) % 20 ≤ lastAt w)
      = ((cfg0.win w).flush t || (cfg0.idle w (grid0.coords t) && decide (t.val % 20 ≤ lastAt w))) :=
  (by decide +kernel : ∀ w ∈ outs, ∀ t : Fin grid0.N,
    decide ((t.val + 1) % 20 ≤ lastAt w)
      = ((win0 w).flush t || (idle0 w (grid0.coords t) && decide (t.val % 20 ≤ lastAt w))))

/-- Whether anything was stored since the last write-back, in closed form. -/
theorem fresh_eq (w : Fin cfg0.W) (hw : w ∈ outs) (t : Fin cfg0.N) :
    cfg0.fresh w t.val = decide (t.val % 20 ≤ lastAt w) :=
  cfg0.fresh_tab w (fun n => decide (n % 20 ≤ lastAt w)) (by simp) (fresh_step w hw) t.val (Nat.le_of_lt t.isLt)

/-- A point before an output's range does not write it back. -/
theorem no_flush : ∀ w ∈ outs, ∀ t : Fin cfg0.N, t.val % 20 < firstAt w → (cfg0.win w).flush t = false :=
  (by decide +kernel : ∀ w ∈ outs, ∀ t : Fin grid0.N, t.val % 20 < firstAt w → (win0 w).flush t = false)

/-- Position `j` of the row of the grid point `t` lies in. -/
def inRow (t : Fin cfg0.N) (j : ℕ) (hj : j < 20) : Fin cfg0.N :=
  ⟨20 * (t.val / 20) + j, by have h : t.val < 20 := lt_of_lt_of_eq t.isLt N_0; have e : cfg0.N = 20 := N_0; omega⟩

/-- The point whose store output `w` holds at `t`: `t` itself where it stores, the last store of the row after that. -/
def held (w : Fin cfg0.W) (t : Fin cfg0.N) : Fin cfg0.N :=
  inRow t (min (t.val % 20) (lastAt w)) (lt_of_le_of_lt (min_le_left _ _) (Nat.mod_lt _ (by omega)))

theorem held_live {w : Fin cfg0.W} {t : Fin cfg0.N} (h : t.val % 20 ≤ lastAt w) : held w t = t :=
  Fin.ext (by show 20 * (t.val / 20) + min (t.val % 20) (lastAt w) = t.val; omega)

theorem held_idle {w : Fin cfg0.W} {t : Fin cfg0.N} (h : lastAt w < t.val % 20) :
    held w t = held w ⟨t.val - 1, by omega⟩ :=
  Fin.ext (by
    show 20 * (t.val / 20) + min (t.val % 20) (lastAt w) = 20 * ((t.val - 1) / 20) + min ((t.val - 1) % 20) (lastAt w)
    omega)

/-! ## What the buffers hold -/

/-- The rows the product reads at `t`: the cast of the block fetched where the row of the grid opened. -/
def held9 (c : Dev nD) (t : Fin cfg0.N) : Vec F S144x2048 .bf16 := k0_pay6 (iblk m c 0 (inRow t 0 (by omega)))

/-- What a storing point `t` stores into each output. -/
def qkvAt (c : Dev nD) (t : Fin cfg0.N) : Vec F S144x512 .bf16 :=
  qkvPay (grid0.coords t) (held9 m c t) (iblk m c 1 t) (iblk m c 2 t)
def sbAt (c : Dev nD) (t : Fin cfg0.N) : Vec F S144x512 .f32 := k0_pay7 (held9 m c t) (iblk m c 1 t)
def dkvAt (c : Dev nD) (t : Fin cfg0.N) : Vec F S144x512 .f32 :=
  dkvPay (grid0.coords t) (held9 m c t) (iblk m c 1 t) (iblk m c 2 t)
def gateAt (c : Dev nD) (t : Fin cfg0.N) : Vec F S144x512 .bf16 := k0_pay5 (k0_pay7 (held9 m c t) (iblk m c 1 t))

/-- The scratch before point `n`: anything before the first, then the rows of the point before. -/
def inv (c : Dev nD) : (n : ℕ) → n ≤ cfg0.N → sProp 𝕄
  | 0, _ => Pipeline.ΦA spec0 c
  | n + 1, hn => iprop(owns (c : Thread nD τ) (Memref.whole cc0_scratch0 : Memref sig .tc .vmem S144x2048 .bf16) fullShare (held9 m c ⟨n, hn⟩)
      ∗ (∃ r, prngReg c r))

theorem inv_pos (c : Dev nD) (n : ℕ) (h : n ≤ cfg0.N) (hz : n ≠ 0) :
    inv m c n h = iprop(owns (c : Thread nD τ) (Memref.whole cc0_scratch0 : Memref sig .tc .vmem S144x2048 .bf16) fullShare
      (held9 m c ⟨n - 1, by omega⟩) ∗ (∃ r, prngReg c r)) := by
  cases n with
  | zero => exact absurd rfl hz
  | succ n => rfl

theorem launch_inv (c : Dev nD) :
    (Pipeline.ΦA spec0 c : sProp 𝕄)
      = iprop((∃ d, owns (c : Thread nD τ) (Memref.whole cc0_scratch0 : Memref sig .tc .vmem S144x2048 .bf16) fullShare d) ∗ (∃ r, prngReg c r)) := by
  unfold Pipeline.ΦA; rw [scopedRest0_eq]; simp only [owns_whole]; try rfl

/-- The proof data: the arrays as the call finds them, the inputs' blocks left in place, each output at the store it holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => qkvAt m c (held 3 t)
    | ⟨4, _⟩ => sbAt m c (held 4 t)
    | ⟨5, _⟩ => dkvAt m c (held 5 t)
    | ⟨6, _⟩ => gateAt m c (held 6 t)
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = qkvAt m c (held 3 t) := by dsimp only [dats]
theorem after_4 (c : Dev nD) (t : Fin cfg0.N) : (dats m 0 c).after 4 t = sbAt m c (held 4 t) := by dsimp only [dats]
theorem after_5 (c : Dev nD) (t : Fin cfg0.N) : (dats m 0 c).after 5 t = dkvAt m c (held 5 t) := by dsimp only [dats]
theorem after_6 (c : Dev nD) (t : Fin cfg0.N) : (dats m 0 c).after 6 t = gateAt m c (held 6 t) := by dsimp only [dats]

/-- Past its range an output holds what it held at the point before. -/
theorem carry (c : Dev nD) (w : Fin cfg0.W) (hw : w ∈ outs) (t : Fin cfg0.N) (h : lastAt w < t.val % 20) :
    (dats m 0 c).after w t = (dats m 0 c).after w ⟨t.val - 1, by omega⟩ := by
  simp only [outs, List.mem_cons, List.not_mem_nil, or_false] at hw
  rcases hw with rfl | rfl | rfl | rfl
  · rw [after_3, after_3, held_idle h]
  · rw [after_4, after_4, held_idle h]
  · rw [after_5, after_5, held_idle h]
  · rw [after_6, after_6, held_idle h]

/-- What the body finds in an output past its range is what it held. -/
theorem before_idle (c : Dev nD) (w : Fin cfg0.W) (hw : w ∈ outs) (hout : (cfg0.win w).isOut = true)
    (hclip : ∀ (i : cfg0.grid.Coords) a, (cfg0.win w).clip i a = none) (t : Fin cfg0.N) (h : lastAt w < t.val % 20) (d) :
    (dats m 0 c).before w t d = (dats m 0 c).after w t := by
  rw [(dats m 0 c).before_out_traj w hout hclip (fun t _ _ hf => carry m c w hw t (by
      rw [fresh_eq w hw t] at hf; simpa using hf)) t.val t rfl d, fresh_eq w hw t,
    if_neg (by simpa using h), carry m c w hw t h]

/-- WHAT A STEP OWES OF AN OUTPUT: holding what the step leaves, the obligation's post for the window at the point. -/
theorem leaves (c : Dev nD) (w : Fin cfg0.W) (hw : w ∈ outs) (hout : (cfg0.win w).isOut = true)
    (hclip : ∀ (i : cfg0.grid.Coords) a, (cfg0.win w).clip i a = none) (t : Fin cfg0.N) (d) (X)
    (hX : t.val % 20 ≤ lastAt w → X = (dats m 0 c).after w t) :
    (owns (c : Thread nD τ) ((cfg0.win w).stage (cfg0.slots t w)) fullShare
        (bif cfg0.idle w (grid0.coords t) then (dats m 0 c).before w t d else X) : sProp 𝕄)
      ⊢ (dats m 0 c).leavesExact w t := by
  unfold Dat.leavesExact
  show _ ⊢ (match cfg0.idle w (grid0.coords t) with
    | true => match (cfg0.win w).flush t with
      | false => iprop(∃ d, owns c ((cfg0.win w).stage (cfg0.slots t w)) fullShare ((dats m 0 c).before w t d))
      | true => owns c ((cfg0.win w).stage (cfg0.slots t w)) fullShare ((dats m 0 c).after w t)
    | false => owns c ((cfg0.win w).stage (cfg0.slots t w)) fullShare ((dats m 0 c).after w t) : sProp 𝕄)
  have hi := idle_eq w hw t
  cases hc : cfg0.idle w (grid0.coords t) <;> rw [hc] at hi
  · rw [cond_false]; dsimp only
    rw [hX (by simp at hi; exact hi.2)]
  · rw [cond_true]; dsimp only
    cases hf : (cfg0.win w).flush t <;> dsimp only
    · iintro H; iexists d; iexact H
    · have hl : lastAt w < t.val % 20 := by
        by_contra hn
        have hlt : t.val % 20 < firstAt w := by
          by_contra hge
          simp [not_lt.mp hn, not_lt.mp hge] at hi
        exact Bool.false_ne_true ((no_flush w hw t hlt).symm.trans hf)
      rw [before_idle m c w hw hout hclip t hl d]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The scratch -/

/-- A row of the grid opens at its first column block. -/
theorem opens_iff : ∀ t : Fin cfg0.N, opens (grid0.coords t) ↔ t.val % 20 = 0 :=
  (by decide +kernel : ∀ t : Fin grid0.N, opens (grid0.coords t) ↔ t.val % 20 = 0)

/-- Opening a row of the grid, the step leaves the rows the invariant names. -/
theorem rows_open (c : Dev nD) (t : Fin cfg0.N) (h : t.val % 20 = 0) (s : Vec F S144x2048 .bf16) :
    rows (grid0.coords t) (iblk m c 0 t) s = held9 m c t := by
  have e : inRow t 0 (by omega) = t := Fin.ext (by show 20 * (t.val / 20) + 0 = t.val; omega)
  rw [rows_of_opens ((opens_iff t).mpr h), held9, e]

/-- Anywhere else it leaves the rows of the point before, which the invariant names too. -/
theorem rows_keep (c : Dev nD) (t : Fin cfg0.N) (h : ¬t.val % 20 = 0) (x : Vec F S144x2048 .f32) :
    rows (grid0.coords t) x (held9 m c ⟨t.val - 1, by omega⟩) = held9 m c t := by
  have e : inRow (⟨t.val - 1, by omega⟩ : Fin cfg0.N) 0 (by omega) = inRow t 0 (by omega) :=
    Fin.ext (by show 20 * ((t.val - 1) / 20) + 0 = 20 * (t.val / 20) + 0; omega)
  rw [rows_of_not_opens fun h' => h ((opens_iff t).mp h'), held9, held9, e]

theorem inv_castSucc (c : Dev nD) (t : Fin cfg0.N) : (dats m 0 c).Φ t.castSucc = inv m c t.val (Nat.le_of_lt t.isLt) := by
  dsimp only [dats]; exact Pipeline.Dat.Φ_castSucc (inv m c) t

theorem inv_succ (c : Dev nD) (t : Fin cfg0.N) : (dats m 0 c).Φ t.succ
    = iprop(owns (c : Thread nD τ) (Memref.whole cc0_scratch0 : Memref sig .tc .vmem S144x2048 .bf16) fullShare (held9 m c t)
      ∗ (∃ r, prngReg c r)) := rfl

/-- Before any point the scratch holds something of which the step makes the rows the invariant names. -/
theorem inv_opens (c : Dev nD) (t : Fin cfg0.N) :
    inv m c t.val (Nat.le_of_lt t.isLt)
      ⊢ iprop((∃ s, ⌜rows (grid0.coords t) (iblk m c 0 t) s = held9 m c t⌝
          ∗ owns (c : Thread nD τ) (Memref.whole cc0_scratch0 : Memref sig .tc .vmem S144x2048 .bf16) fullShare s)
        ∗ (∃ r, prngReg c r)) := by
  by_cases hz : t.val = 0
  · have e : inv m c t.val (Nat.le_of_lt t.isLt) = Pipeline.ΦA spec0 c := by
      obtain ⟨n, hn⟩ := t; cases n with
      | zero => rfl
      | succ n => exact absurd hz (Nat.succ_ne_zero n)
    rw [e, launch_inv]
    iintro ⟨⟨%s, Hs⟩, Hg⟩
    isplitl [Hs]
    · iexists s; isplitr
      swap; · iexact Hs
      ipureintro; exact rows_open m c t (by omega) s
    iexact Hg
  · rw [inv_pos m c _ _ hz]
    iintro ⟨Hs, Hg⟩
    isplitl [Hs]
    · iexists _; isplitr
      swap; · iexact Hs
      ipureintro
      by_cases h : t.val % 20 = 0
      · exact rows_open m c t h _
      · exact rows_keep m c t h _
    iexact Hg

/-! ## The body obligation and the run -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- The inputs' blocks are left in place. -/
theorem leaves_0 (c : Dev nD) (t : Fin cfg0.N) :
    (dats m 0 c).leavesExact 0 t = owns (c : Thread nD τ) (st0_0 t) fullShare (iblk m c 0 t) := by
  rw [← after_0]
theorem leaves_1 (c : Dev nD) (t : Fin cfg0.N) :
    (dats m 0 c).leavesExact 1 t = owns (c : Thread nD τ) (st0_1 t) fullShare (iblk m c 1 t) := by
  rw [← after_1]
theorem leaves_2 (c : Dev nD) (t : Fin cfg0.N) :
    (dats m 0 c).leavesExact 2 t = owns (c : Thread nD τ) (st0_2 t) fullShare (iblk m c 2 t) := by
  rw [← after_2]

set_option maxHeartbeats 1600000 in
/-- The body meets its obligation at every point: the step, between the two invariants. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, inv_castSucc,
    inv_succ, leaves_0, leaves_1, leaves_2]
  refine (sep_mono (inv_opens m c t) .rfl).trans ?_
  iintro ⟨⟨⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩⟩
  iapply (step c (grid0.coords t) _ _ _ _ _ _ _ _ _ _ _ _ _ _ _ _ (pattern t) (iblk m c 0 t) (iblk m c 1 t) (iblk m c 2 t) s
    ((dats m 0 c).before 3 t d3) ((dats m 0 c).before 4 t d4) ((dats m 0 c).before 5 t d5) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  rw [hs]
  iintro ⟨H0, H1, H2, H3, H4, H5, H6, Hs⟩
  isplitl [Hs Hg]
  · isplitl [Hs]
    · iexact Hs
    iexact Hg
  isplitl [Ho]; · iexact Ho
  isplitl [H0]; · iexact H0
  isplitl [H1]; · iexact H1
  isplitl [H2]; · iexact H2
  isplitl [H3]
  · iapply (leaves m c 3 (by decide) rfl (fun _ _ => rfl) t d3 _ (fun h => by rw [after_3, held_live h])); iexact H3
  isplitl [H4]
  · iapply (leaves m c 4 (by decide) rfl (fun _ _ => rfl) t d4 _ (fun h => by rw [after_4, held_live h])); iexact H4
  isplitl [H5]
  · iapply (leaves m c 5 (by decide) rfl (fun _ _ => rfl) t d5 _ (fun h => by rw [after_5, held_live h])); iexact H5
  iapply (leaves m c 6 (by decide) rfl (fun _ _ => rfl) t d6 _ (fun h => by rw [after_6, held_live h])); iexact H6

/-- The body the pipeline runs at `t` is the kernel's on the buffers of `t`. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch provides is the invariant before the first point. -/
theorem inv_in (c : Dev nD) : Pipeline.ΦA spec0 c ⊢ (dats m 0 c).Φ 0 := by
  rw [show (dats m 0 c).Φ 0 = Pipeline.ΦA spec0 c from rfl]

/-- After the last point the scratch is given back, its contents forgotten. -/
theorem inv_out (c : Dev nD) : (dats m 0 c).Φ (Fin.last cfg0.N) ⊢ Pipeline.ΦA spec0 c := by
  have hN : cfg0.N = 20 := N_0
  rw [show (dats m 0 c).Φ (Fin.last cfg0.N) = inv m c cfg0.N (le_refl _) from rfl, inv_pos m c _ _ (by omega), launch_inv]
  iintro ⟨Hs, Hg⟩
  isplitl [Hs]
  · iexists _; iexact Hs
  iexact Hg

set_option backward.isDefEq.respectTransparency.types false in
/-- The call runs; every array the pipeline stages ends as the proof data say, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The same without the counters. -/
theorem run : θ_run defs (onTc (τ := τ) (main (F := F))) (s₀ m ρ) (Pipeline.FramePost cfgs (dats m) 0 (V m)) :=
  (θ_run defs _ _).mono (fun _ h => h.1) (run_quiescent m ρ)

/-- THE FRAME: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Proof.Small

end
-- ==== Proof.Small.Frames.lean ====
/- The frames of the second projection call: the run's frame at either float instance. -/
module

public import proofs.«01_k».proof.Defs
public import proofs.«01_k».proof.Proof.Small.Run
public import proofs.«01_k».proof.Proof.Gen.Small

@[expose] public section

set_option maxRecDepth 16384

noncomputable section

namespace Cert.Proof.Small

open Idealize.ShloMosaic Idealize.SL.Sem

/-- The kernel's body table is the ideal kernel's: the two texts differ in their namespace only. -/
theorem body_table_eq {F : FTy → Type} [FloatOps F] : @Cert.Small.defs₀ F _ _ = @Cert.SmallIdeal.defs₀ F _ _ := by
  unfold Cert.Small.defs₀ Cert.SmallIdeal.defs₀
  refine congrArg Defs.onTc ?_
  funext l a
  match l, a with
  | 0, (t, s) => rfl

/-- So is the table of the whole call. -/
theorem table_eq {F : FTy → Type} [FloatOps F] : @Cert.Small.defs F _ _ = @Cert.SmallIdeal.defs F _ _ :=
  congrArg (Pipeline.defs _) body_table_eq

/-- The ideal kernel runs and leaves its arguments as they were. -/
theorem frame_ideal : Cert.quiescent_SmallIdeal := fun m ρ _ => frame m ρ

/-- And of its entry. -/
theorem main_eq {F : FTy → Type} [FloatOps F] : @Cert.Small.main F _ _ = @Cert.SmallIdeal.main F _ _ := rfl

/-- So does the kernel. -/
theorem frame_kernel : Cert.quiescent_Small := fun m ρ _ => by
  have h := frame (F := Bits) m ρ
  rw [← table_eq (F := Bits), ← main_eq (F := Bits)] at h
  exact h

end Cert.Proof.Small

end
-- ==== Proof.Small.Stage.lean ====
/- The reference of the second projection call, stage by stage at one index. -/
module

public import proofs.«01_k».proof.Proof.Gen.SmallRefIdeal.Run
public import proofs.«01_k».proof.Proof.Proj.Stage

@[expose] public section

set_option maxRecDepth 16384

namespace Cert.SmallRefIdeal.Stage

open Idealize.ShloMosaic hiding ix0 ix1 ix2 ix3 ix4
open Idealize.ShloMosaic.ValueIdx Cert.SmallRefIdeal Cert.SmallRefIdeal.Gen
open Cert.ProjRefIdeal.Stage (turn turned qkvRow dkvRow)
open Finset

noncomputable section

/-- The rows: the meta tokens, then the samples. -/
def rows (x : FVec Ideal S128x1x2048 .f32) (t : FVec Ideal S16x2048 .f32) : FVec Ideal S144x2048 .f32 :=
  concatenate S144x2048 0 [⟨S16x2048, t⟩, ⟨S128x2048, shapeCast _ x shapeCasts_S128x1x2048_S128x2048⟩] concatenates_S16x2048_S128x2048_S144x2048_d0

/-- All columns of the projection. -/
def proj (x : FVec Ideal S144x2048 .f32) (w : FVec Ideal S1x2048x10240 .f32) : FVec Ideal S144x10240 .f32 :=
  Host.dotGeneral dot_S144x2048_S2048x10240_S144x10240_1_0_0_1_n_n none x (shapeCast _ w shapeCasts_S1x2048x10240_S2048x10240)

/-- The position of each row: the meta tokens count up from zero, every sample stands at the same one. -/
def pos : IVec S144 32 :=
  concatenate S144 0 [⟨S16, iotaInDim S16 32 0⟩, ⟨S128, broadcastInDim S128 ![] bcast_S_S128 (constantI S_ 32 2048#32)⟩] concatenates_S16_S128_S144_d0

/-- The angle of each row and frequency. -/
def angle : FVec Ideal S144x16 .f32 :=
  mulf (broadcastInDim S144x16 ![0, 1] bcast_S144x1_S144x16_0_1 (broadcastInDim S144x1 ![0] bcast_S144_S144x1_0 (sitofp .f32 pos)))
    (broadcastInDim S144x16 ![0, 1] bcast_S1x16_S144x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

/-- An array of one number for each row and frequency, laid along every head. -/
def along (a : FVec Ideal S144x16 .f32) : FVec Ideal S144x4x2x16 .f32 :=
  broadcastInDim S144x4x2x16 ![0, 1, 2, 3] bcast_S144x1x1x16_S144x4x2x16_0_1_2_3
    (broadcastInDim S144x1x1x16 ![0, 3] bcast_S144x16_S144x1x1x16_0_3 a)

/-- The rotation of the heads. -/
def rope4 (y : FVec Ideal S144x4x2x128 .f32) (a : FVec Ideal S144x16 .f32) : FVec Ideal S144x4x2x128 .f32 :=
  concatenate S144x4x2x128 3
    [⟨S144x4x2x16, (subf (mulf (extractStridedSlice S144x4x2x16 ![0, 0, 0, 0] y slices_S144x4x2x128_S144x4x2x16_0_0_0_0) (along (Host.cos a)))
        (mulf (extractStridedSlice S144x4x2x16 ![0, 0, 0, 16] y slices_S144x4x2x128_S144x4x2x16_0_0_0_16) (along (Host.sin a))) : FVec Ideal S144x4x2x16 .f32)⟩,
     ⟨S144x4x2x16, (addf (mulf (extractStridedSlice S144x4x2x16 ![0, 0, 0, 16] y slices_S144x4x2x128_S144x4x2x16_0_0_0_16) (along (Host.cos a)))
        (mulf (extractStridedSlice S144x4x2x16 ![0, 0, 0, 0] y slices_S144x4x2x128_S144x4x2x16_0_0_0_0) (along (Host.sin a))) : FVec Ideal S144x4x2x16 .f32)⟩,
     ⟨S144x4x2x96, (extractStridedSlice S144x4x2x96 ![0, 0, 0, 32] y slices_S144x4x2x128_S144x4x2x96_0_0_0_32 : FVec Ideal S144x4x2x96 .f32)⟩]
    concatenates_S144x4x2x16_S144x4x2x16_S144x4x2x96_S144x4x2x128_d3

/-- The same on flat rows. -/
def rope (y : FVec Ideal S144x1024 .f32) : FVec Ideal S144x1024 .f32 :=
  shapeCast _ (rope4 (shapeCast _ y shapeCasts_S144x1024_S144x4x2x128) angle) shapeCasts_S144x4x2x128_S144x1024

/-- The scaled queries. -/
def scaled (y : FVec Ideal S144x1024 .f32) : FVec Ideal S144x1024 .f32 :=
  mulf y (broadcastInDim S144x1024 ![] bcast_S_S144x1024 (constant S_ .f32 0x3DB504F3#32))

/-- The first result: queries, keys and values of both attentions. -/
def qkv (z : FVec Ideal S144x10240 .f32) : FVec Ideal S144x6144 .bf16 :=
  truncf .bf16 ((concatenate S144x6144 1
    [⟨S144x1024, scaled (extractStridedSlice S144x1024 ![0, 0] z slices_S144x10240_S144x1024_0_0)⟩,
     ⟨S144x1024, (extractStridedSlice S144x1024 ![0, 1024] z slices_S144x10240_S144x1024_0_1024 : FVec Ideal S144x1024 .f32)⟩,
     ⟨S144x1024, (extractStridedSlice S144x1024 ![0, 2048] z slices_S144x10240_S144x1024_0_2048 : FVec Ideal S144x1024 .f32)⟩,
     ⟨S144x1024, scaled (rope (extractStridedSlice S144x1024 ![0, 3072] z slices_S144x10240_S144x1024_0_3072))⟩,
     ⟨S144x1024, rope (extractStridedSlice S144x1024 ![0, 4096] z slices_S144x10240_S144x1024_0_4096)⟩,
     ⟨S144x1024, (extractStridedSlice S144x1024 ![0, 5120] z slices_S144x10240_S144x1024_0_5120 : FVec Ideal S144x1024 .f32)⟩]
    concatenates_S144x1024_S144x1024_S144x1024_S144x1024_S144x1024_S144x1024_S144x6144_d1 : FVec Ideal S144x6144 .f32)) bitsLt_bf16_f32

/-- The second result: keys and values of the first attention. -/
def sb (z : FVec Ideal S144x10240 .f32) : FVec Ideal S144x2048 .f32 :=
  concatenate S144x2048 1
    [⟨S144x1024, (extractStridedSlice S144x1024 ![0, 1024] z slices_S144x10240_S144x1024_0_1024 : FVec Ideal S144x1024 .f32)⟩,
     ⟨S144x1024, (extractStridedSlice S144x1024 ![0, 2048] z slices_S144x10240_S144x1024_0_2048 : FVec Ideal S144x1024 .f32)⟩]
    concatenates_S144x1024_S144x1024_S144x2048_d1

/-- The third result: keys, rotated, and values of the second attention. -/
def dkv (z : FVec Ideal S144x10240 .f32) : FVec Ideal S144x2048 .f32 :=
  concatenate S144x2048 1
    [⟨S144x1024, rope (extractStridedSlice S144x1024 ![0, 4096] z slices_S144x10240_S144x1024_0_4096)⟩,
     ⟨S144x1024, (extractStridedSlice S144x1024 ![0, 5120] z slices_S144x10240_S144x1024_0_5120 : FVec Ideal S144x1024 .f32)⟩]
    concatenates_S144x1024_S144x1024_S144x2048_d1

/-- The logistic function of every entry. -/
def sigmoid (y : FVec Ideal S144x2048 .f32) : FVec Ideal S144x2048 .f32 :=
  Host.divf (broadcastInDim S144x2048 ![] bcast_S_S144x2048 (constant S_ .f32 0x3F800000#32))
    (addf (broadcastInDim S144x2048 ![] bcast_S_S144x2048 (constant S_ .f32 0x3F800000#32)) (Host.exp (Host.negf y)))

/-- The fourth result: the gates. -/
def gates (z : FVec Ideal S144x10240 .f32) : FVec Ideal S144x4096 .bf16 :=
  truncf .bf16 ((concatenate S144x4096 1
    [⟨S144x2048, sigmoid (extractStridedSlice S144x2048 ![0, 6144] z slices_S144x10240_S144x2048_0_6144)⟩,
     ⟨S144x2048, sigmoid (extractStridedSlice S144x2048 ![0, 8192] z slices_S144x10240_S144x2048_0_8192)⟩]
    concatenates_S144x2048_S144x2048_S144x4096_d1 : FVec Ideal S144x4096 .f32)) bitsLt_bf16_f32

/-- The projection of the reference's arguments. -/
abbrev Zr (m : (ℓ : Loc nD τ sig) → Buf (Elt Ideal) ℓ) (c : Dev nD) : FVec Ideal S144x10240 .f32 :=
  proj (rows (m ((c.tc : Thread nD τ).loc main_arg0)) (m ((c.tc : Thread nD τ).loc main_arg1))) (m ((c.tc : Thread nD τ).loc main_arg2))

/-- The stages together are the reference's results. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98) = qkv (Zr m c)
      ∧ r.2.mem ((c.tc : Thread nD τ).loc main_v99) = sb (Zr m c)
      ∧ r.2.mem ((c.tc : Thread nD τ).loc main_v100) = dkv (Zr m c)
      ∧ r.2.mem ((c.tc : Thread nD τ).loc main_v101) = gates (Zr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by unfold Value.res_main_v98; rfl), (h c).2.1.trans rfl,
    (h c).2.2.1.trans (by unfold Value.res_main_v100; rfl), (h c).2.2.2.1.trans rfl, (h c).2.2.2.2⟩) (Value.run m ρ)

theorem proj_apply (x : FVec Ideal S144x2048 .f32) (w : FVec Ideal S1x2048x10240 .f32) (n : Fin 144) (e : Fin 10240) :
    (proj x w (ix2 n e) : EReal) = ∑ d : Fin 2048, x (ix2 n d) * w (ix3 0 d e) := by
  unfold proj
  pointwise
  rfl

theorem rope4_apply (y : FVec Ideal S144x4x2x128 .f32) (a : FVec Ideal S144x16 .f32) (n : Fin 144) (h : Fin 4) (k : Fin 2) (l : Fin 128) :
    (rope4 y a (ix4 n h k l) : EReal) = turn (fun l => y (ix4 n h k l)) (fun i => a (ix2 n i)) l := by
  have hy (q q' : Fin 128) (e : q.val = q'.val) : y (Idealize.ShloMosaic.ix4 n h k q) = y (ix4 n h k q') := by
    obtain rfl := Fin.ext e; rfl
  pointwise [rope4, along]
  simp only [show (ix4 n h k l : S144x4x2x128.Idx) 3 = l from rfl, show (ix4 n h k l : S144x4x2x128.Idx) 2 = k from rfl,
    show (ix4 n h k l : S144x4x2x128.Idx) 1 = h from rfl, show (ix4 n h k l : S144x4x2x128.Idx) 0 = n from rfl]
  unfold turn
  by_cases h1 : l.val < 16
  · refine (dif_pos h1).trans (Eq.trans ?_ (dif_pos h1).symm)
    exact congrArg₂ (· - ·) rfl (congrArg₂ (· * ·) (hy _ _ (Nat.add_comm _ _)) rfl)
  refine (dif_neg h1).trans (Eq.trans ?_ (dif_neg h1).symm)
  by_cases h2 : l.val - 16 < 16
  · refine (dif_pos h2).trans (Eq.trans ?_ (dif_pos h2).symm)
    exact congrArg₂ (· + ·) (congrArg₂ (· * ·) (hy _ _ (show 16 + (l.val - 16) = l.val by omega)) rfl) rfl
  refine (dif_neg h2).trans (Eq.trans ?_ (dif_neg h2).symm)
  exact hy _ _ (show 32 + (l.val - 16 - 16) = l.val by omega)

theorem rope_apply (y : FVec Ideal S144x1024 .f32) (n : Fin 144) (e : Fin 1024) :
    (rope y (ix2 n e) : EReal)
      = turn (fun l => y (ix2 n ⟨e.val / 128 * 128 + l.val, by omega⟩)) (fun i => angle (ix2 n i)) ⟨e.val % 128, by omega⟩ := by
  unfold rope
  pointwise
  refine (rope4_apply _ _ n ⟨e.val / 256, by omega⟩ ⟨e.val / 128 % 2, by omega⟩ ⟨e.val % 128, by omega⟩).trans ?_
  refine congrArg (turn · _ _) (funext fun l => ?_)
  pointwise
  refine congrArg y (congrArg (ix2 n) (Fin.ext ?_))
  show e.val / 256 * 256 + e.val / 128 % 2 * 128 + l.val = e.val / 128 * 128 + l.val
  omega

theorem sigmoid_apply (y : FVec Ideal S144x2048 .f32) (n : Fin 144) (e : Fin 2048) :
    (sigmoid y (ix2 n e) : EReal) = Cert.ProjIdeal.Pay.logistic (y (ix2 n e)) := by
  unfold sigmoid
  pointwise
  rfl

/-- The rotation of a slice of columns that starts with a head. -/
theorem rope_slice (z : FVec Ideal S144x10240 .f32) (y : FVec Ideal S144x1024 .f32) (b : ℕ) (hb : b * 128 + 1024 ≤ 10240)
    (hy : ∀ n (e : Fin 1024), y (ix2 n e) = z (ix2 n ⟨b * 128 + e.val, by omega⟩)) (n : Fin 144) (e : Fin 1024) :
    (rope y (ix2 n e) : EReal) = turned (fun e => z (ix2 n e)) (fun i => angle (ix2 n i)) ⟨b * 128 + e.val, by omega⟩ := by
  rw [rope_apply]
  unfold turned
  refine congrArg₂ (turn · _ ·) (funext fun l => (hy _ _).trans (congrArg z (congrArg (ix2 n) (Fin.ext ?_)))) (Fin.ext ?_)
  all_goals show _ = _; dsimp only; omega

theorem sb_apply (z : FVec Ideal S144x10240 .f32) (n : Fin 144) (e : Fin 2048) :
    (sb z (ix2 n e) : EReal) = z (ix2 n ⟨1024 + e.val, by omega⟩) := by
  unfold sb
  pointwise
  simp only [show (ix2 n e : S144x2048.Idx) 1 = e from rfl, show (ix2 n e : S144x2048.Idx) 0 = n from rfl]
  by_cases h : e.val < 1024
  · exact (dif_pos h).trans rfl
  · exact (dif_neg h).trans (congrArg z (congrArg (ix2 n) (Fin.ext (show 2048 + (e.val - 1024) = 1024 + e.val by omega))))

theorem dkv_apply (z : FVec Ideal S144x10240 .f32) (n : Fin 144) (e : Fin 2048) :
    (dkv z (ix2 n e) : EReal) = dkvRow (fun e => z (ix2 n e)) (fun i => angle (ix2 n i)) e := by
  unfold dkv
  pointwise
  simp only [show (ix2 n e : S144x2048.Idx) 1 = e from rfl, show (ix2 n e : S144x2048.Idx) 0 = n from rfl]
  unfold dkvRow
  by_cases h : e.val < 1024
  · refine (dif_pos h).trans (Eq.trans ?_ (if_pos h).symm)
    exact rope_slice z _ 32 (by omega) (fun n e => by pointwise; rfl) n ⟨e.val, h⟩
  · refine (dif_neg h).trans (Eq.trans ?_ (if_neg h).symm)
    exact congrArg z (congrArg (ix2 n) (Fin.ext (show 5120 + (e.val - 1024) = 4096 + e.val by omega)))

theorem gates_apply (z : FVec Ideal S144x10240 .f32) (n : Fin 144) (e : Fin 4096) :
    (gates z (ix2 n e) : EReal) = Cert.ProjIdeal.Pay.logistic (z (ix2 n ⟨6144 + e.val, by omega⟩)) := by
  have he : e.val < 4096 := e.isLt
  unfold gates
  pointwise
  simp only [show (ix2 n e : S144x4096.Idx) 1 = e from rfl, show (ix2 n e : S144x4096.Idx) 0 = n from rfl]
  by_cases h : e.val < 2048
  · refine (dif_pos h).trans ((sigmoid_apply _ n ⟨e.val, h⟩).trans (congrArg Cert.ProjIdeal.Pay.logistic ?_))
    pointwise
    rfl
  · refine (dif_neg h).trans ((sigmoid_apply _ n ⟨e.val - 2048, by omega⟩).trans (congrArg Cert.ProjIdeal.Pay.logistic ?_))
    pointwise
    exact congrArg z (congrArg (ix2 n) (Fin.ext (show 8192 + (e.val - 2048) = 6144 + e.val by omega)))

theorem qkv_apply (z : FVec Ideal S144x10240 .f32) (n : Fin 144) (e : Fin 6144) :
    (qkv z (ix2 n e) : EReal) = qkvRow (fun e => z (ix2 n e)) (fun i => angle (ix2 n i)) e := by
  have hz (q q' : Fin 10240) (h : q.val = q'.val) : z (Idealize.ShloMosaic.ix2 n q) = z (ix2 n q') := by
    obtain rfl := Fin.ext h; rfl
  have hq (k : Fin 1024) (q : Fin 10240) (h : 3072 + k.val = q.val) :
      rope (extractStridedSlice S144x1024 ![0, 3072] z slices_S144x10240_S144x1024_0_3072) (Idealize.ShloMosaic.ix2 n k)
        = turned (fun e => z (ix2 n e)) (fun i => angle (ix2 n i)) q := by
    exact (rope_slice z _ 24 (by omega) (fun n e => by pointwise; rfl) n k).trans (congrArg (turned _ _) (Fin.ext h))
  have hk (k : Fin 1024) (q : Fin 10240) (h : 4096 + k.val = q.val) :
      rope (extractStridedSlice S144x1024 ![0, 4096] z slices_S144x10240_S144x1024_0_4096) (Idealize.ShloMosaic.ix2 n k)
        = turned (fun e => z (ix2 n e)) (fun i => angle (ix2 n i)) q := by
    exact (rope_slice z _ 32 (by omega) (fun n e => by pointwise; rfl) n k).trans (congrArg (turned _ _) (Fin.ext h))
  unfold qkv scaled
  pointwise
  simp only [show (ix2 n e : S144x6144.Idx) 1 = e from rfl, show (ix2 n e : S144x6144.Idx) 0 = n from rfl]
  unfold qkvRow
  have he : e.val < 6144 := e.isLt
  by_cases h0 : e.val < 1024
  · exact (dif_pos h0).trans (if_pos h0).symm
  refine (dif_neg h0).trans (Eq.trans ?_ (if_neg h0).symm)
  by_cases h1 : e.val - 1024 < 1024
  · refine (dif_pos h1).trans (Eq.trans ?_ (if_pos (by omega)).symm)
    exact hz _ _ (show 1024 + (e.val - 1024) = e.val by omega)
  refine (dif_neg h1).trans ?_
  by_cases h2 : e.val - 1024 - 1024 < 1024
  · refine (dif_pos h2).trans (Eq.trans ?_ (if_pos (by omega)).symm)
    exact hz _ _ (show 2048 + (e.val - 1024 - 1024) = e.val by omega)
  refine (dif_neg h2).trans (Eq.trans ?_ (if_neg (by omega)).symm)
  by_cases h3 : e.val - 1024 - 1024 - 1024 < 1024
  · refine (dif_pos h3).trans (Eq.trans ?_ (if_pos (by omega)).symm)
    exact congrArg (· * Cert.ProjIdeal.Pay.scale) (hq _ _ (show 3072 + (e.val - 1024 - 1024 - 1024) = e.val by omega))
  refine (dif_neg h3).trans (Eq.trans ?_ (if_neg (by omega)).symm)
  by_cases h4 : e.val - 1024 - 1024 - 1024 - 1024 < 1024
  · refine (dif_pos h4).trans (Eq.trans ?_ (if_pos (by omega)).symm)
    exact hk _ _ (show 4096 + (e.val - 1024 - 1024 - 1024 - 1024) = e.val by omega)
  refine (dif_neg h4).trans (Eq.trans ?_ (if_neg (by omega)).symm)
  exact hz _ _ (show 5120 + (e.val - 1024 - 1024 - 1024 - 1024 - 1024) = e.val by omega)

end

end Cert.SmallRefIdeal.Stage
-- ==== Proof.Small.Pay.lean ====
/- What the stores of the second projection call hold at one index. -/
module

public import proofs.«01_k».proof.Proof.Gen.SmallIdeal.Skeleton
public import proofs.«01_k».proof.Proof.Proj.Pay

@[expose] public section

set_option maxRecDepth 16384

namespace Cert.SmallIdeal.Pay

open Idealize.ShloMosaic hiding ix0 ix1 ix2 ix3 ix4
open Idealize.ShloMosaic.ValueIdx
open Cert.SmallIdeal Cert.SmallIdeal.Gen
open Cert.ProjIdeal.Pay (rot scale logistic half tanh_logistic)

noncomputable section

theorem pay6_apply (x : Vec Ideal S144x2048 .f32) (r : Fin 144) (d : Fin 2048) : k0_pay6 x (ix2 r d) = x (ix2 r d) := by
  unfold k0_pay6
  rw [shapeCast_self, shapeCast_self]
  rfl

theorem pay7_apply (x : Vec Ideal S144x2048 .bf16) (w : Vec Ideal S2048x512 .bf16) (r : Fin 144) (e : Fin 512) :
    k0_pay7 x w (ix2 r e) = ∑ d : Fin 2048, (x (ix2 r d) * w (ix2 d e) : EReal) := by
  unfold k0_pay7
  rw [shapeCast_self]
  refine (Ideal.matmul_plain_apply (M := 144) (K := 2048) (N := 512) none _ _ _ r e).trans ?_
  rw [constant_apply, Ideal.ofBits_zero_f32, zero_add]

theorem pay8_apply (x : Vec Ideal S144x2048 .bf16) (w : Vec Ideal S2048x512 .bf16) (r : Fin 144) (e : Fin 512) :
    k0_pay8 x w (ix2 r e) = (k0_pay7 x w (ix2 r e) * scale : EReal) := rfl

theorem pay2_apply (z : Vec Ideal S144x512 .f32) (r : Vec Ideal S144x384 .f32) (n : Fin 144) (e : Fin 512) :
    k0_pay2 z r (ix2 n e) = rot (fun l => z (ix2 n ⟨e.val / 128 * 128 + l.val, by omega⟩)) (fun q => r (ix2 n q))
      ⟨e.val % 128, by omega⟩ := by
  have hz (q q' : Fin 512) (h : q.val = q'.val) : z (Idealize.ShloMosaic.ix2 n q) = z (ix2 n q') := by
    obtain rfl := Fin.ext h; rfl
  have hr (q q' : Fin 384) (h : q.val = q'.val) : r (Idealize.ShloMosaic.ix2 n q) = r (ix2 n q') := by
    obtain rfl := Fin.ext h; rfl
  have hl : e.val < 512 := e.isLt
  pointwise [k0_pay2]
  simp only [show (ix2 n e : S144x512.Idx) 1 = e from rfl, show (ix2 n e : S144x512.Idx) 0 = n from rfl]
  unfold rot
  split_ifs
  all_goals
    refine congrArg₂ (· + ·) (congrArg₂ (· + ·) (congrArg₂ (· * ·) ?_ (hr _ _ ?_)) (congrArg₂ (· * ·) (hz _ _ ?_) (hr _ _ ?_)))
      (congrArg₂ (· * ·) (hz _ _ ?_) (hr _ _ ?_))
    first | (refine hz _ _ ?_; show _ = e.val / 128 * 128 + e.val % 128) | (refine hz e _ ?_; show _ = e.val / 128 * 128 + e.val % 128)
  all_goals (try dsimp only); omega

theorem pay1_apply (z : Vec Ideal S144x512 .f32) (r : Vec Ideal S144x384 .f32) (n : Fin 144) (e : Fin 512) :
    k0_pay1 z r (ix2 n e) = (k0_pay2 z r (ix2 n e) * scale : EReal) := rfl

theorem pay3_apply (z : Vec Ideal S144x512 .f32) (r : Vec Ideal S144x384 .f32) (n : Fin 144) (e : Fin 512) :
    k0_pay3 z r (ix2 n e) = k0_pay2 z r (ix2 n e) := rfl

theorem pay4_apply (z : Vec Ideal S144x512 .f32) (n : Fin 144) (e : Fin 512) :
    (k0_pay4 (F := Ideal) z (ix2 n e) : EReal) = z (ix2 n e) := rfl

theorem pay9_apply (x : Vec Ideal S144x2048 .bf16) (w : Vec Ideal S2048x512 .bf16) (n : Fin 144) (e : Fin 512) :
    k0_pay9 x w (ix2 n e) = k0_pay7 x w (ix2 n e) := rfl

theorem pay5_apply (z : Vec Ideal S144x512 .f32) (n : Fin 144) (e : Fin 512) :
    (k0_pay5 (F := Ideal) z (ix2 n e) : EReal) = logistic (z (ix2 n e)) := by
  refine Eq.trans ?_ (tanh_logistic _)
  rw [← half]
  rfl

end

end Cert.SmallIdeal.Pay
-- ==== Proof.Small.Final.lean ====
/- The arrays of the second projection call are the reference's. -/
module

public import proofs.«01_k».proof.Proof.Small.Run
public import proofs.«01_k».proof.Proof.Small.Stage
public import proofs.«01_k».proof.Proof.Small.Pay
public import proofs.«01_k».proof.Proof.Proj.Final
public import Idealize.ShloMosaic.Lib.Pipeline.ValueKit

@[expose] public section

set_option maxRecDepth 16384

namespace Cert.SmallIdeal.Final

open Idealize.ShloMosaic hiding ix0 ix1 ix2 ix3 ix4
open Idealize.ShloMosaic.ValueIdx Idealize.ShloMosaic.TcCoe Idealize.SL.Sem
open Cert.SmallIdeal Cert.SmallIdeal.Gen Cert.Proof.Small
open Cert.ProjIdeal.Final (tab rot_tab)
open Finset

noncomputable section

variable (m : (ℓ : Loc nD τ sig) → Buf (Elt Ideal) ℓ) (c : Dev nD)

/-- The block's row `r`, as a row of the call. -/
def row (t : Fin cfg0.N) (r : Fin 144) : Fin 144 := ⟨144 * (t.val / 20) + r.val, by have h : t.val < 20 := t.isLt; omega⟩
/-- The block's column `e`, as one of the projection's. -/
def col (t : Fin cfg0.N) (e : Fin 512) : Fin 10240 := ⟨512 * (t.val % 20) + e.val, by omega⟩

theorem idx0 : ∀ t : Fin cfg0.N, win0_0.index t = ![t.val / 20, 0] := (by decide +kernel : ∀ t : Fin grid0.N, _)
theorem idx1 : ∀ t : Fin cfg0.N, win0_1.index t = ![0, t.val % 20] := (by decide +kernel : ∀ t : Fin grid0.N, _)
theorem idx2 : ∀ t : Fin cfg0.N, win0_2.index t = ![t.val / 20, 0] := (by decide +kernel : ∀ t : Fin grid0.N, _)
theorem idx3 : ∀ t : Fin cfg0.N, win0_3.index t = ![t.val / 20, min (t.val % 20) 11] := (by decide +kernel : ∀ t : Fin grid0.N, _)
theorem idx4 : ∀ t : Fin cfg0.N, win0_4.index t = ![t.val / 20, min (t.val % 20 - 2) 3] := (by decide +kernel : ∀ t : Fin grid0.N, _)
theorem idx5 : ∀ t : Fin cfg0.N, win0_5.index t = ![t.val / 20, min (t.val % 20 - 8) 3] := (by decide +kernel : ∀ t : Fin grid0.N, _)
theorem idx6 : ∀ t : Fin cfg0.N, win0_6.index t = ![t.val / 20, min (t.val % 20 - 12) 7] := (by decide +kernel : ∀ t : Fin grid0.N, _)

/-- The rows. -/
def X : FVec Ideal Cert.SmallRefIdeal.S144x2048 .f32 :=
  Cert.SmallRefIdeal.Stage.rows (m ((c : Thread nD τ).loc main_arg0)) (m ((c : Thread nD τ).loc main_arg1))
/-- The weights. -/
abbrev W : S1x2048x10240.Idx → EReal := m ((c : Thread nD τ).loc main_arg2)

theorem x_eq : V m c main_v1 = X m c := by
  entry_read
  rfl

theorem w_apply (d : Fin 2048) (e : Fin 10240) : (V m c main_v7 : S2048x10240.Idx → EReal) (ix2 d e) = W m c (ix3 0 d e) := by
  entry_read
  show (truncf (F := Ideal) .bf16 _ bitsLt_bf16_f32 : S2048x10240.Idx → EReal) (Idealize.ShloMosaic.ix2 d e) = _
  pointwise
  rfl

theorem blk0 (t : Fin cfg0.N) (r : Fin 144) (d : Fin 2048) :
    (iblk m c 0 t : S144x2048.Idx → EReal) (ix2 r d) = X m c (ix2 (row t r) d) := by
  rw [← x_eq m c]
  blk_ext [iblk, (idx0 t), row, ValueIdx.ix2]

theorem blk1 (t : Fin cfg0.N) (d : Fin 2048) (e : Fin 512) :
    (iblk m c 1 t : S2048x512.Idx → EReal) (ix2 d e) = W m c (ix3 0 d (col t e)) := by
  rw [← w_apply m c]
  blk_ext [iblk, (idx1 t), col, ValueIdx.ix2]

/-- Three pieces of a third of the rotation's table. -/
def lanes (a b : FVec Ideal S144x16 .f32) (r : FVec Ideal S144x96 .f32) : FVec Ideal S144x128 .f32 :=
  concatenate S144x128 1 [⟨S144x16, a⟩, ⟨S144x16, b⟩, ⟨S144x96, r⟩] concatenates_S144x16_S144x16_S144x96_S144x128_d1

/-- Zero on the first lanes. -/
abbrev zero16 : FVec Ideal S144x16 .f32 := broadcastInDim S144x16 ![] bcast_S_S144x16 (constant S_ .f32 0x00000000#32)
/-- Zero on the lanes left alone. -/
abbrev zero96 : FVec Ideal S144x96 .f32 := broadcastInDim S144x96 ![] bcast_S_S144x96 (constant S_ .f32 0x00000000#32)
/-- One on the lanes left alone. -/
abbrev one96 : FVec Ideal S144x96 .f32 := broadcastInDim S144x96 ![] bcast_S_S144x96 (constant S_ .f32 0x3F800000#32)

/-- The rotation's table, from the angles. -/
def table (a : FVec Ideal S144x16 .f32) : FVec Ideal S144x384 .f32 :=
  concatenate S144x384 1 [⟨S144x128, lanes (Host.cos a) (Host.cos a) one96⟩, ⟨S144x128, lanes (Host.negf (Host.sin a)) zero16 zero96⟩,
    ⟨S144x128, lanes zero16 (Host.sin a) zero96⟩] concatenates_S144x128_S144x128_S144x128_S144x384_d1

set_option maxHeartbeats 4000000 in
theorem rope_table : V m c main_v29 = table Cert.SmallRefIdeal.Stage.angle := by
  show StableHlo.after hostOps0 (fun b => m (c, b)) main_v29 = _
  after_results_simp <;> (try dsimp only [Matrix.cons_val]) <;> (try after_results_simp) <;> (try dsimp only [Matrix.cons_val]) <;> (try after_results_simp) <;> rfl

theorem table_apply (a : FVec Ideal S144x16 .f32) (n : Fin 144) (q : Fin 384) :
    (table a (ix2 n q) : EReal) = tab (fun i => a (ix2 n i)) q := by
  unfold table lanes
  pointwise
  rfl

theorem blk2 (t : Fin cfg0.N) (r : Fin 144) (q : Fin 384) :
    (iblk m c 2 t : S144x384.Idx → EReal) (ix2 r q) = tab (fun i => Cert.SmallRefIdeal.Stage.angle (ix2 (row t r) i)) q := by
  refine Eq.trans ?_ (table_apply _ (row t r) q)
  rw [← rope_table m c]
  blk_ext [iblk, (idx2 t), row, ValueIdx.ix2]

/-- The projection of the kernel's arguments. -/
def Z : FVec Ideal Cert.SmallRefIdeal.S144x10240 .f32 :=
  Cert.SmallRefIdeal.Stage.proj (X m c) (m ((c : Thread nD τ).loc main_arg2))

/-- The scratch's rows. -/
theorem held9_apply (t : Fin cfg0.N) (r : Fin 144) (d : Fin 2048) :
    (held9 m c t (ix2 r d) : EReal) = X m c (ix2 (row t r) d) := by
  refine (Pay.pay6_apply _ r d).trans ((blk0 m c (inRow t 0 (by omega)) r d).trans ?_)
  refine congrArg (X m c) (congrArg (ix2 · d) (Fin.ext ?_))
  show 144 * ((20 * (t.val / 20) + 0) / 20) + r.val = 144 * (t.val / 20) + r.val
  omega

/-- The product at a point is its block of the projection. -/
theorem prod_apply (t : Fin cfg0.N) (r : Fin 144) (e : Fin 512) :
    (k0_pay7 (held9 m c t) (iblk m c 1 t) (ix2 r e) : EReal) = Z m c (ix2 (row t r) (col t e)) := by
  refine (Pay.pay7_apply _ _ r e).trans (Eq.trans ?_ (Cert.SmallRefIdeal.Stage.proj_apply _ _ (row t r) (col t e)).symm)
  exact Finset.sum_congr rfl fun d _ => congrArg₂ (· * ·) (held9_apply m c t r d) (blk1 m c t d e)

/-- The rotated product likewise. -/
theorem rotated_apply (t : Fin cfg0.N) (r : Fin 144) (e : Fin 512) :
    (k0_pay2 (k0_pay7 (held9 m c t) (iblk m c 1 t)) (iblk m c 2 t) (ix2 r e) : EReal)
      = Cert.ProjRefIdeal.Stage.turned (fun e => Z m c (ix2 (row t r) e)) (fun i => Cert.SmallRefIdeal.Stage.angle (ix2 (row t r) i)) (col t e) := by
  refine (Pay.pay2_apply _ _ r e).trans ?_
  rw [show (fun q => (iblk m c 2 t : S144x384.Idx → EReal) (ix2 r q)) = tab (fun i => Cert.SmallRefIdeal.Stage.angle (ix2 (row t r) i))
    from funext fun q => blk2 m c t r q, rot_tab]
  have hc : (col t e).val = 512 * (t.val % 20) + e.val := rfl
  refine congrArg₂ (Cert.ProjRefIdeal.Stage.turn · _ ·) (funext fun l => (prod_apply m c t r _).trans
    (congrArg (Z m c) (congrArg (ix2 (row t r)) (Fin.ext ?_)))) (Fin.ext ?_)
  · show 512 * (t.val % 20) + (e.val / 128 * 128 + l.val) = (512 * (t.val % 20) + e.val) / 128 * 128 + l.val
    omega
  · show e.val % 128 = (512 * (t.val % 20) + e.val) % 128
    omega

/-! ## The blocks that are stored -/

/-- Which column blocks meet which condition. -/
theorem conds : ∀ t : Fin cfg0.N, (k0_cond2 (grid0.coords t) = 1#1 ↔ t.val % 20 < 2)
    ∧ (k0_cond3 (grid0.coords t) = 1#1 ↔ 2 ≤ t.val % 20 ∧ t.val % 20 < 6)
    ∧ (k0_cond4 (grid0.coords t) = 1#1 ↔ 6 ≤ t.val % 20 ∧ t.val % 20 < 8)
    ∧ (k0_cond5 (grid0.coords t) = 1#1 ↔ 8 ≤ t.val % 20 ∧ t.val % 20 < 10) :=
  (by decide +kernel : ∀ t : Fin grid0.N, (k0_cond2 (grid0.coords t) = 1#1 ↔ t.val % 20 < 2)
    ∧ (k0_cond3 (grid0.coords t) = 1#1 ↔ 2 ≤ t.val % 20 ∧ t.val % 20 < 6)
    ∧ (k0_cond4 (grid0.coords t) = 1#1 ↔ 6 ≤ t.val % 20 ∧ t.val % 20 < 8)
    ∧ (k0_cond5 (grid0.coords t) = 1#1 ↔ 8 ≤ t.val % 20 ∧ t.val % 20 < 10))

/-- A block of queries, keys and values. -/
theorem qkv_point (t : Fin cfg0.N) (ht : t.val % 20 < 12) (r : Fin 144) (e : Fin 512) :
    (qkvAt m c t (ix2 r e) : EReal) = Cert.SmallRefIdeal.Stage.qkv (Z m c) (ix2 (row t r) ⟨512 * (t.val % 20) + e.val, by omega⟩) := by
  obtain ⟨h2, h3, h4, h5⟩ := conds t
  refine Eq.trans ?_ (Cert.SmallRefIdeal.Stage.qkv_apply (Z m c) (row t r) _).symm
  have hp := prod_apply m c t r e
  have hr := rotated_apply m c t r e
  unfold qkvAt qkvPay Cert.ProjRefIdeal.Stage.qkvRow
  dsimp only
  by_cases j2 : t.val % 20 < 2
  · rw [if_pos (h2.mpr j2), if_pos (show 512 * (t.val % 20) + e.val < 1024 by omega)]
    exact (Pay.pay8_apply _ _ r e).trans (congrArg (· * Cert.ProjIdeal.Pay.scale) hp)
  rw [if_neg (mt h2.mp j2), if_neg (show ¬ 512 * (t.val % 20) + e.val < 1024 by omega)]
  by_cases j3 : t.val % 20 < 6
  · rw [if_pos (h3.mpr ⟨by omega, j3⟩), if_pos (show 512 * (t.val % 20) + e.val < 3072 by omega)]
    exact (Pay.pay9_apply _ _ r e).trans hp
  rw [if_neg (mt h3.mp (by omega)), if_neg (show ¬ 512 * (t.val % 20) + e.val < 3072 by omega)]
  by_cases j4 : t.val % 20 < 8
  · rw [if_pos (h4.mpr ⟨by omega, j4⟩), if_pos (show 512 * (t.val % 20) + e.val < 4096 by omega)]
    exact (Pay.pay1_apply _ _ r e).trans (congrArg (· * Cert.ProjIdeal.Pay.scale) hr)
  rw [if_neg (mt h4.mp (by omega)), if_neg (show ¬ 512 * (t.val % 20) + e.val < 4096 by omega)]
  by_cases j5 : t.val % 20 < 10
  · rw [if_pos (h5.mpr ⟨by omega, j5⟩), if_pos (show 512 * (t.val % 20) + e.val < 5120 by omega)]
    exact (Pay.pay3_apply _ _ r e).trans hr
  rw [if_neg (mt h5.mp (by omega)), if_neg (show ¬ 512 * (t.val % 20) + e.val < 5120 by omega)]
  exact (Pay.pay4_apply _ r e).trans hp

/-- A block of the first attention's keys and values. -/
theorem sb_point (t : Fin cfg0.N) (ht : 2 ≤ t.val % 20) (hu : t.val % 20 < 6) (r : Fin 144) (e : Fin 512) :
    (sbAt m c t (ix2 r e) : EReal) = Cert.SmallRefIdeal.Stage.sb (Z m c) (ix2 (row t r) ⟨512 * (t.val % 20 - 2) + e.val, by omega⟩) := by
  refine (prod_apply m c t r e).trans (Eq.trans ?_ (Cert.SmallRefIdeal.Stage.sb_apply (Z m c) (row t r) _).symm)
  refine congrArg (Z m c) (congrArg (ix2 (row t r)) (Fin.ext ?_))
  show 512 * (t.val % 20) + e.val = 1024 + (512 * (t.val % 20 - 2) + e.val)
  omega

/-- A block of the second attention's keys and values. -/
theorem dkv_point (t : Fin cfg0.N) (ht : 8 ≤ t.val % 20) (hu : t.val % 20 < 12) (r : Fin 144) (e : Fin 512) :
    (dkvAt m c t (ix2 r e) : EReal) = Cert.SmallRefIdeal.Stage.dkv (Z m c) (ix2 (row t r) ⟨512 * (t.val % 20 - 8) + e.val, by omega⟩) := by
  obtain ⟨h2, h3, h4, h5⟩ := conds t
  refine Eq.trans ?_ (Cert.SmallRefIdeal.Stage.dkv_apply (Z m c) (row t r) _).symm
  have hc : col t e = ⟨4096 + (512 * (t.val % 20 - 8) + e.val), by omega⟩ :=
    Fin.ext (by show 512 * (t.val % 20) + e.val = 4096 + (512 * (t.val % 20 - 8) + e.val); omega)
  have hp := prod_apply m c t r e
  have hr := rotated_apply m c t r e
  rw [hc] at hp hr
  unfold dkvAt dkvPay Cert.ProjRefIdeal.Stage.dkvRow
  dsimp only
  by_cases j5 : t.val % 20 < 10
  · rw [if_pos (h5.mpr ⟨by omega, j5⟩), if_pos (by omega)]
    exact hr
  · rw [if_neg (mt h5.mp (by omega)), if_neg (by omega)]
    exact hp

/-- A block of the gates. -/
theorem gate_point (t : Fin cfg0.N) (ht : 12 ≤ t.val % 20) (r : Fin 144) (e : Fin 512) :
    (gateAt m c t (ix2 r e) : EReal) = Cert.SmallRefIdeal.Stage.gates (Z m c) (ix2 (row t r) ⟨512 * (t.val % 20 - 12) + e.val, by omega⟩) := by
  refine (Pay.pay5_apply _ r e).trans (Eq.trans ?_ (Cert.SmallRefIdeal.Stage.gates_apply (Z m c) (row t r) _).symm)
  refine congrArg Cert.ProjIdeal.Pay.logistic ((prod_apply m c t r e).trans (congrArg (Z m c) (congrArg (ix2 (row t r)) (Fin.ext ?_))))
  show 512 * (t.val % 20) + e.val = 6144 + (512 * (t.val % 20 - 12) + e.val)
  omega

/-! ## The arrays -/

/-- The point an output holds at `t` lies in the same row of the grid. -/
theorem held_row (w : Fin cfg0.W) (t : Fin cfg0.N) : (held w t).val / 20 = t.val / 20 := by
  show (20 * (t.val / 20) + min (t.val % 20) (lastAt w)) / 20 = t.val / 20
  omega

/-- And in this column block. -/
theorem held_col (w : Fin cfg0.W) (t : Fin cfg0.N) : (held w t).val % 20 = min (t.val % 20) (lastAt w) := by
  show (20 * (t.val / 20) + min (t.val % 20) (lastAt w)) % 20 = _
  omega

/-- A point that writes an output back is not before its range. -/
theorem flush_range (w : Fin cfg0.W) (hw : w ∈ outs) (t : Fin cfg0.N) (hf : (cfg0.win w).flush t = true) : firstAt w ≤ t.val % 20 := by
  by_contra h
  exact absurd (no_flush w hw t (by omega)) (by simp [hf])

theorem final3 : (dats m 0 c).arrAt 3 cfg0.N = Cert.SmallRefIdeal.Stage.qkv (Z m c) := by
  refine (dats m 0 c).arrAt_eq_of_covers 3 _ (by decide +kernel) fun t hf y => ?_
  obtain ⟨r, e, rfl⟩ : ∃ (r : Fin 144) (e : Fin 512), y = ix2 r e := ⟨y 0, y 1, by funext a; fin_cases a <;> rfl⟩
  have hr := held_row 3 t
  have hk : (held 3 t).val % 20 = min (t.val % 20) 11 := held_col 3 t
  blk_simp
  rw [after_3]
  refine (qkv_point m c (held 3 t) (by omega) r e).trans (congrArg (Cert.SmallRefIdeal.Stage.qkv (Z m c)) ?_)
  blk_ext [(idx3 t), row, ValueIdx.ix2, hr, hk]

theorem final4 : (dats m 0 c).arrAt 4 cfg0.N = Cert.SmallRefIdeal.Stage.sb (Z m c) := by
  refine (dats m 0 c).arrAt_eq_of_covers 4 _ (by decide +kernel) fun t hf y => ?_
  obtain ⟨r, e, rfl⟩ : ∃ (r : Fin 144) (e : Fin 512), y = ix2 r e := ⟨y 0, y 1, by funext a; fin_cases a <;> rfl⟩
  have hr := held_row 4 t
  have hk : (held 4 t).val % 20 = min (t.val % 20) 5 := held_col 4 t
  have hl : 2 ≤ t.val % 20 := flush_range 4 (by decide) t hf
  have hm : min (t.val % 20) 5 - 2 = min (t.val % 20 - 2) 3 := by omega
  blk_simp
  rw [after_4]
  refine (sb_point m c (held 4 t) (by omega) (by omega) r e).trans (congrArg (Cert.SmallRefIdeal.Stage.sb (Z m c)) ?_)
  blk_ext [(idx4 t), row, ValueIdx.ix2, hr, hk, hm]

theorem final5 : (dats m 0 c).arrAt 5 cfg0.N = Cert.SmallRefIdeal.Stage.dkv (Z m c) := by
  refine (dats m 0 c).arrAt_eq_of_covers 5 _ (by decide +kernel) fun t hf y => ?_
  obtain ⟨r, e, rfl⟩ : ∃ (r : Fin 144) (e : Fin 512), y = ix2 r e := ⟨y 0, y 1, by funext a; fin_cases a <;> rfl⟩
  have hr := held_row 5 t
  have hk : (held 5 t).val % 20 = min (t.val % 20) 11 := held_col 5 t
  have hl : 8 ≤ t.val % 20 := flush_range 5 (by decide) t hf
  have hm : min (t.val % 20) 11 - 8 = min (t.val % 20 - 8) 3 := by omega
  blk_simp
  rw [after_5]
  refine (dkv_point m c (held 5 t) (by omega) (by omega) r e).trans (congrArg (Cert.SmallRefIdeal.Stage.dkv (Z m c)) ?_)
  blk_ext [(idx5 t), row, ValueIdx.ix2, hr, hk, hm]

theorem final6 : (dats m 0 c).arrAt 6 cfg0.N = Cert.SmallRefIdeal.Stage.gates (Z m c) := by
  refine (dats m 0 c).arrAt_eq_of_covers 6 _ (by decide +kernel) fun t hf y => ?_
  obtain ⟨r, e, rfl⟩ : ∃ (r : Fin 144) (e : Fin 512), y = ix2 r e := ⟨y 0, y 1, by funext a; fin_cases a <;> rfl⟩
  have hr := held_row 6 t
  have hk : (held 6 t).val % 20 = min (t.val % 20) 19 := held_col 6 t
  have hl : 12 ≤ t.val % 20 := flush_range 6 (by decide) t hf
  have hm : min (t.val % 20) 19 - 12 = min (t.val % 20 - 12) 7 := by omega
  blk_simp
  rw [after_6]
  refine (gate_point m c (held 6 t) (by omega) r e).trans (congrArg (Cert.SmallRefIdeal.Stage.gates (Z m c)) ?_)
  blk_ext [(idx6 t), row, ValueIdx.ix2, hr, hk, hm]

end

end Cert.SmallIdeal.Final
-- ==== Proof.Small.Claims.lean ====
module

public import proofs.«01_k».proof.Defs
public import proofs.«01_k».proof.Proof.Small.Frames
public import proofs.«01_k».proof.Proof.Small.Final

@[expose] public section

set_option maxRecDepth 16384

/-!
The claims about the second projection call.
-/

namespace Cert.Proof.Small

open Idealize.ShloMosaic Idealize.ShloMosaic.TcCoe Idealize.SL.Sem
open Cert.SmallIdeal Cert.SmallIdeal.Gen Cert.SmallIdeal.Final

noncomputable section

/-- The reference runs and leaves its arguments as they were. -/
theorem frame_ref : Cert.quiescent_SmallRefIdeal := fun m ρ _ =>
  (θ_run Cert.SmallRefIdeal.defs _ _).mono (fun r h => ⟨fun c => (h c).2.2.2.2, sem_eq_zero_of_no_sems (by decide) r.2⟩) (Cert.SmallRefIdeal.Value.run m ρ)

/-- The kernel's run with its four arrays named. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30_0) = Cert.SmallRefIdeal.Stage.qkv (Z m c)
      ∧ r.2.mem ((c.tc : Thread nD τ).loc main_v30_1) = Cert.SmallRefIdeal.Stage.sb (Z m c)
      ∧ r.2.mem ((c.tc : Thread nD τ).loc main_v30_2) = Cert.SmallRefIdeal.Stage.dkv (Z m c)
      ∧ r.2.mem ((c.tc : Thread nD τ).loc main_v30_3) = Cert.SmallRefIdeal.Stage.gates (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c), ((h c).1 4).trans (final4 m c), ((h c).1 5).trans (final5 m c),
      ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run m ρ)

/-- Kernel and reference agree over the extended reals. -/
theorem algebraic : Cert.algebraic_SmallIdeal_SmallRefIdeal := fun m ρ m' ρ' _ hag =>
  ⟨fun c => Cert.SmallRefIdeal.Stage.qkv (Z m c), fun c => Cert.SmallRefIdeal.Stage.sb (Z m c),
    fun c => Cert.SmallRefIdeal.Stage.dkv (Z m c), fun c => Cert.SmallRefIdeal.Stage.gates (Z m c), run_values m ρ,
    (θ_run _ _ _).mono (fun _ h c => by
      obtain ⟨h0, h1, h2⟩ := hag c
      have e : Cert.SmallRefIdeal.Stage.Zr m' c = Z m c := by unfold Cert.SmallRefIdeal.Stage.Zr Z X; rw [h0, h1, h2]
      have hc := h c
      rw [e] at hc
      exact hc) (Cert.SmallRefIdeal.Stage.run_stages m' ρ')⟩

end

end Cert.Proof.Small
-- ==== Proof.RowNorm.lean ====
module

public import proofs.«01_k».proof.Proof.Read

@[expose] public section

/-! The layer norm of a row of 2048 numbers, and a kernel's layer norm read at one index. -/

namespace RowNorm

open Idealize.ShloMosaic hiding ix0 ix1 ix2 ix3 ix4
open Idealize.ShloMosaic.ValueIdx
open scoped BigOperators

noncomputable section

/-- The row's mean. -/
def mean (z : Fin 2048 → EReal) : EReal := Ideal.div (∑ k, z k) (Ideal.ofBits .f32 0x45000000#32)

/-- An entry's distance from the mean. -/
def dev (z : Fin 2048 → EReal) (e : Fin 2048) : EReal := z e - mean z

/-- The layer norm with weights `g` and offsets `b`. -/
def norm (z g b : Fin 2048 → EReal) (e : Fin 2048) : EReal :=
  dev z e * Ideal.rsqrt (mean (fun k => dev z k * dev z k) + Ideal.ofBits .f32 0x3727C5AC#32) * g e + b e

section
variable {a : ℕ} (v : FVec Ideal ⟨2, ![a, 2048]⟩ .f32) (g b : FVec Ideal ⟨2, ![1, 2048]⟩ .f32)
  (h : (⟨2, ![a, 2048]⟩ : Shape).Reduces [1] ⟨1, ![a]⟩) (hφ : FKind.Formats .f32) (hacc : 0x00000000#32 = FKind.add.neutral .f32 hφ)
  (hs : (⟨1, ![a]⟩ : Shape).ShapeCasts ⟨2, ![a, 1]⟩) (hb : (⟨2, ![a, 1]⟩ : Shape).Broadcasts ⟨2, ![a, 2048]⟩)
  (hg : (⟨2, ![1, 2048]⟩ : Shape).Broadcasts ⟨2, ![a, 2048]⟩)

/-- A kernel's row means, in a column. -/
abbrev meanK : FVec Ideal ⟨2, ![a, 1]⟩ .f32 :=
  divf (shapeCast ⟨2, ![a, 1]⟩ (multiReduction .add [1] ⟨1, ![a]⟩ v 0x00000000#32 h hφ hacc) hs)
    (broadcast ⟨2, ![a, 1]⟩ (Scalar.ofBits (F := Ideal) .f32 0x45000000#32))

/-- The rows' distances from their means. -/
abbrev devK : FVec Ideal ⟨2, ![a, 2048]⟩ .f32 := subf v (broadcastTo ⟨2, ![a, 2048]⟩ (meanK v h hφ hacc hs) hb)

/-- A kernel's layer norm. -/
abbrev normK : FVec Ideal ⟨2, ![a, 2048]⟩ .f32 :=
  addf (mulf (mulf (devK v h hφ hacc hs hb) (broadcastTo ⟨2, ![a, 2048]⟩ (rsqrt (addf
      (meanK (mulf (devK v h hφ hacc hs hb) (devK v h hφ hacc hs hb)) h hφ hacc hs)
      (broadcast ⟨2, ![a, 1]⟩ (Scalar.ofBits (F := Ideal) .f32 0x3727C5AC#32)))) hb))
    (broadcastTo ⟨2, ![a, 2048]⟩ g hg)) (broadcastTo ⟨2, ![a, 2048]⟩ b hg)

theorem meanK_apply (r : Fin a) : meanK v h hφ hacc hs (ix2 r 0) = mean fun k => v (ix2 r k) :=
  congrArg₂ Ideal.div ((shapeCast_a_a1_apply (a := a) _ hs r 0).trans (Read.rowSum _ _ _ _ _ r)) rfl

theorem devK_apply (r : Fin a) (e : Fin 2048) : devK v h hφ hacc hs hb (ix2 r e) = dev (fun k => v (ix2 r k)) e :=
  congrArg (v (ix2 r e) - ·) ((Read.bcol _ hb r e).trans (meanK_apply v h hφ hacc hs r))

theorem normK_apply (r : Fin a) (e : Fin 2048) :
    normK v g b h hφ hacc hs hb hg (ix2 r e) = norm (fun k => v (ix2 r k)) (fun k => g (ix2 0 k)) (fun k => b (ix2 0 k)) e := by
  refine congrArg₂ (· + ·) (congrArg₂ (· * ·) (congrArg₂ (· * ·) (devK_apply v h hφ hacc hs hb r e) ?_)
    (broadcastTo_1b_ab_apply (a := a) (b := 2048) g hg r e)) (broadcastTo_1b_ab_apply (a := a) (b := 2048) b hg r e)
  refine (Read.bcol _ hb r e).trans (congrArg (fun q : EReal => Ideal.rsqrt (q + Ideal.ofBits .f32 0x3727C5AC#32)) ?_)
  refine (meanK_apply _ h hφ hacc hs r).trans (congrArg mean (funext fun k => ?_))
  exact congrArg₂ (· * ·) (devK_apply v h hφ hacc hs hb r k) (devK_apply v h hφ hacc hs hb r k)

end

end

end RowNorm
-- ==== Proof.Ffn.Pay.lean ====
module

public import proofs.«01_k».proof.Proof.Gen.FfnIdeal.Skeleton
public import proofs.«01_k».proof.Proof.RowNorm

@[expose] public section

set_option maxRecDepth 16384

/-! What the stores of the feed-forward kernel hold at one index. -/

namespace Cert.FfnIdeal.Pay

open Idealize.ShloMosaic hiding ix0 ix1 ix2 ix3 ix4
open Idealize.ShloMosaic.ValueIdx
open Cert.FfnIdeal Cert.FfnIdeal.Gen

noncomputable section

/-- The rows kept in the narrow format are the rows. -/
theorem pay1_apply (x : Vec Ideal S512x2048 .f32) (r : Fin 512) (d : Fin 2048) : k0_pay1 x (ix2 r d) = x (ix2 r d) := by
  unfold k0_pay1
  rw [shapeCast_self]
  rfl

/-- The sums start at zero. -/
theorem pay2_apply (r : Fin 512) (e : Fin 2048) : (k0_pay2 (F := Ideal) : S512x2048.Idx → EReal) (ix2 r e) = 0 := by
  unfold k0_pay2
  rw [shapeCast_self]
  exact Ideal.ofBits_zero_f32

/-- A block of hidden units: the first product, cut off below at zero and squared. -/
def hidden (x : Fin 2048 → EReal) (u : Fin 2048 → EReal) : EReal :=
  max (∑ d, x d * u d) 0 * max (∑ d, x d * u d) 0

/-- A block's part of the second product is added to the sums. -/
theorem pay3_apply (x : Vec Ideal S512x2048 .bf16) (u : Vec Ideal S2048x1024 .bf16) (a : Vec Ideal S512x2048 .f32)
    (w : Vec Ideal S1024x2048 .bf16) (r : Fin 512) (e : Fin 2048) :
    k0_pay3 x u a w (ix2 r e)
      = a (ix2 r e) + ∑ k : Fin 1024, hidden (fun d => x (ix2 r d)) (fun d => u (ix2 d k)) * w (ix2 k e) := by
  unfold k0_pay3
  rw [shapeCast_self, addf_apply]
  refine congrArg (a (ix2 r e) + ·) ?_
  refine (Ideal.matmul_plain_apply (M := 512) (K := 1024) (N := 2048) none _ _ _ r e).trans ?_
  rw [constant_apply, Ideal.ofBits_zero_f32, zero_add]
  refine Finset.sum_congr rfl fun k _ => congrArg₂ (· * ·) ?_ ?_
  · have h : matmul (φ₁ := .bf16) (φ₂ := .bf16) dot_S512x2048_S2048x1024_S512x1024_1_0_0_1_n_n none x (shapeCast S2048x1024 u shapeCasts_S2048x1024_S2048x1024)
        (constant (F := Ideal) S512x1024 .f32 0x00000000#32) (ix2 r k) = ∑ d : Fin 2048, (x (ix2 r d) * u (ix2 d k) : EReal) := by
      refine (Ideal.matmul_plain_apply (M := 512) (K := 2048) (N := 1024) none _ _ _ r k).trans ?_
      rw [constant_apply, Ideal.ofBits_zero_f32, zero_add, shapeCast_self]
    have h0 : (Scalar.ofBits (F := Ideal) .f32 0x00000000#32 : EReal) = 0 := Ideal.ofBits_zero_f32
    unfold hidden
    rw [← h, ← h0]
    rfl
  · rw [shapeCast_self]

/-- The last block: the residual sum's layer norm. -/
theorem pay4_apply (x a : Vec Ideal S512x2048 .f32) (g b : Vec Ideal S1x2048 .f32) (r : Fin 512) (e : Fin 2048) :
    k0_pay4 x a g b (ix2 r e)
      = RowNorm.norm (fun k => Ideal.ofBits .f32 0x3F9837F0#32 * x (ix2 r k) + a (ix2 r k)) (fun k => g (ix2 0 k)) (fun k => b (ix2 0 k)) e :=
  RowNorm.normK_apply (a := 512) (addf (mulf (broadcast S512x2048 (Scalar.ofBits (F := Ideal) .f32 0x3F9837F0#32)) x) a) g b
    reduces_S512x2048_S512 (.inl rfl) rfl shapeCasts_S512_S512x1 broadcasts_S512x1_S512x2048 broadcasts_S1x2048_S512x2048 r e

end

end Cert.FfnIdeal.Pay
-- ==== Proof.Ffn.Stage.lean ====
module

public import proofs.«01_k».proof.Proof.Gen.FfnRefIdeal.Run
public import proofs.«01_k».proof.Proof.Ffn.Pay

@[expose] public section

set_option maxRecDepth 16384

/-! The reference of the feed-forward layer, stage by stage at one index. -/

namespace Cert.FfnRefIdeal.Stage

open Idealize.ShloMosaic hiding ix0 ix1 ix2 ix3 ix4
open Idealize.ShloMosaic.ValueIdx Cert.FfnRefIdeal Cert.FfnRefIdeal.Gen
open Finset

noncomputable section

/-- The first product, cut off below at zero. -/
def pos (x : FVec Ideal S8192x2048 .f32) (u : FVec Ideal S1x2048x8192 .f32) : FVec Ideal S8192x8192 .f32 :=
  maximumf (Host.dotGeneral dot_S8192x2048_S2048x8192_S8192x8192_1_0_0_1_n_n none x
    (shapeCast S2048x8192 u shapeCasts_S1x2048x8192_S2048x8192)) (broadcastInDim S8192x8192 ![] bcast_S_S8192x8192 (constant S_ .f32 0x00000000#32))

/-- The second product, added to the scaled rows. -/
def res (x : FVec Ideal S8192x2048 .f32) (u : FVec Ideal S1x2048x8192 .f32) (w : FVec Ideal S1x8192x2048 .f32) : FVec Ideal S8192x2048 .f32 :=
  addf (mulf (broadcastInDim S8192x2048 ![] bcast_S_S8192x2048 (constant S_ .f32 0x3F9837F0#32)) x)
    (Host.dotGeneral dot_S8192x8192_S8192x2048_S8192x2048_1_0_0_1_n_n none (mulf (pos x u) (pos x u))
      (shapeCast S8192x2048 w shapeCasts_S1x8192x2048_S8192x2048))

/-- Row means, in a column. -/
def mean (z : FVec Ideal S8192x2048 .f32) : FVec Ideal S8192x1 .f32 :=
  Host.divf (broadcastInDim S8192x1 ![0] bcast_S8192_S8192x1_0 (Host.reduceAdd z (constant S_ .f32 0x00000000#32) reducesTo_S8192x2048_S8192_d1 h_S_))
    (broadcastInDim S8192x1 ![] bcast_S_S8192x1 (constant S_ .f32 0x45000000#32))

/-- The rows' distances from their means. -/
def dev (z : FVec Ideal S8192x2048 .f32) : FVec Ideal S8192x2048 .f32 :=
  subf z (broadcastInDim S8192x2048 ![0, 1] bcast_S8192x1_S8192x2048_0_1 (mean z))

/-- The layer norm. -/
def norm (z : FVec Ideal S8192x2048 .f32) (g b : FVec Ideal S1x2048 .f32) : FVec Ideal S8192x2048 .f32 :=
  addf (mulf (mulf (dev z) (broadcastInDim S8192x2048 ![0, 1] bcast_S8192x1_S8192x2048_0_1 (Host.rsqrt (addf (mean (mulf (dev z) (dev z)))
      (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1
      (shapeCast S2048 g shapeCasts_S1x2048_S2048))))
    (broadcastInDim S8192x2048 ![0, 1] bcast_S1x2048_S8192x2048_0_1 (broadcastInDim S1x2048 ![1] bcast_S2048_S1x2048_1
      (shapeCast S2048 b shapeCasts_S1x2048_S2048)))

/-- The stages together are the reference's result. -/
theorem res_eq (m : (ℓ : Loc nD τ sig) → Buf (Elt Ideal) ℓ) (c : Dev nD) : Value.res_out0 m c
    = norm (res (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := by
  unfold Value.res_out0 Value.res_main_v34
  rfl

/-- One row's sum of two numbers over its hidden units' squares. -/
theorem pos_apply (x : FVec Ideal S8192x2048 .f32) (u : FVec Ideal S1x2048x8192 .f32) (n p : Fin 8192) :
    (pos x u (ix2 n p) : EReal) = max (∑ d : Fin 2048, x (ix2 n d) * u (ix3 0 d p)) 0 := by
  unfold pos
  pointwise
  rfl

theorem res_apply (x : FVec Ideal S8192x2048 .f32) (u : FVec Ideal S1x2048x8192 .f32) (w : FVec Ideal S1x8192x2048 .f32)
    (n : Fin 8192) (e : Fin 2048) : (res x u w (ix2 n e) : EReal)
    = Ideal.ofBits .f32 0x3F9837F0#32 * x (ix2 n e)
      + ∑ p : Fin 8192, Cert.FfnIdeal.Pay.hidden (fun d => x (ix2 n d)) (fun d => u (ix3 0 d p)) * w (ix3 0 p e) := by
  unfold res
  pointwise
  refine congrArg (Ideal.ofBits .f32 0x3F9837F0#32 * x (ix2 n e) + ·) (Finset.sum_congr rfl fun p _ => ?_)
  exact congrArg₂ (· * ·) (congrArg₂ (· * ·) (pos_apply x u n p) (pos_apply x u n p)) rfl

theorem mean_apply (z : FVec Ideal S8192x2048 .f32) (n : Fin 8192) : (mean z (ix2 n 0) : EReal) = RowNorm.mean fun k => z (ix2 n k) := by
  unfold mean
  pointwise
  rfl

theorem dev_apply (z : FVec Ideal S8192x2048 .f32) (n : Fin 8192) (e : Fin 2048) : (dev z (ix2 n e) : EReal) = RowNorm.dev (fun k => z (ix2 n k)) e := by
  unfold dev
  pointwise
  exact congrArg (z (ix2 n e) - ·) (mean_apply z n)

/-- The layer norm of a row. -/
theorem norm_apply (z : FVec Ideal S8192x2048 .f32) (g b : FVec Ideal S1x2048 .f32) (n : Fin 8192) (e : Fin 2048) :
    (norm z g b (ix2 n e) : EReal) = RowNorm.norm (fun k => z (ix2 n k)) (fun k => g (ix2 0 k)) (fun k => b (ix2 0 k)) e := by
  unfold norm
  pointwise
  refine congrArg₂ (· + ·) (congrArg₂ (· * ·) (congrArg₂ (· * ·) (dev_apply z n e) ?_) rfl) rfl
  refine congrArg (fun q : EReal => Ideal.rsqrt (q + Ideal.ofBits .f32 0x3727C5AC#32)) ?_
  refine (mean_apply _ n).trans (congrArg RowNorm.mean (funext fun k => ?_))
  exact congrArg₂ (· * ·) (dev_apply z n k) (dev_apply z n k)

end

end Cert.FfnRefIdeal.Stage
-- ==== Proof.Merge.Pay.lean ====
module

public import proofs.«01_k».proof.Proof.Gen.MergeIdeal.Value
public import proofs.«01_k».proof.Proof.RowNorm

@[expose] public section

set_option maxRecDepth 16384

/-! What the store of the merging kernel holds at one index. -/

namespace Cert.MergeIdeal.Pay

open Idealize.ShloMosaic hiding ix0 ix1 ix2 ix3 ix4
open Idealize.ShloMosaic.ValueIdx
open Cert.MergeIdeal Cert.MergeIdeal.Gen

noncomputable section

/-- A branch: a row of attention outputs through its weights, times the gates. -/
def branch (g : EReal) (o w : Fin 1024 → EReal) : EReal := g * ∑ d, o d * w d

variable (o₁ o₂ : Vec Ideal S256x1024 .bf16) (w₁ w₂ : Vec Ideal S1024x2048 .bf16) (g₁ g₂ : Vec Ideal S256x2048 .bf16)
  (w : Vec Ideal S2048x2048 .bf16) (x : Vec Ideal S256x2048 .f32) (g b : Vec Ideal S1x2048 .f32)

/-- The two branches together. -/
def both : FVec Ideal S256x2048 .f32 :=
  addf (mulf (extf .f32 g₁ bitsLt_bf16_f32) (matmul (φ₁ := .bf16) (φ₂ := .bf16) dot_S256x1024_S1024x2048_S256x2048_1_0_0_1_n_n none o₁
      (shapeCast S1024x2048 w₁ shapeCasts_S1024x2048_S1024x2048) (constant S256x2048 .f32 0x00000000#32)))
    (mulf (extf .f32 g₂ bitsLt_bf16_f32) (matmul (φ₁ := .bf16) (φ₂ := .bf16) dot_S256x1024_S1024x2048_S256x2048_1_0_0_1_n_n none o₂
      (shapeCast S1024x2048 w₂ shapeCasts_S1024x2048_S1024x2048) (constant S256x2048 .f32 0x00000000#32)))

/-- The residual sum. -/
def res : FVec Ideal S256x2048 .f32 :=
  addf (mulf (broadcast S256x2048 (Scalar.ofBits (F := Ideal) .f32 0x3F9837F0#32)) (shapeCast S256x2048 x shapeCasts_S256x2048_S256x2048))
    (matmul (φ₁ := .bf16) (φ₂ := .bf16) dot_S256x2048_S2048x2048_S256x2048_1_0_0_1_n_n none
      (truncf .bf16 (both o₁ o₂ w₁ w₂ g₁ g₂) bitsLt_bf16_f32) (shapeCast S2048x2048 w shapeCasts_S2048x2048_S2048x2048)
      (constant S256x2048 .f32 0x00000000#32))

theorem proj_apply (o : Vec Ideal S256x1024 .bf16) (w : Vec Ideal S1024x2048 .bf16) (r : Fin 256) (e : Fin 2048) :
    (matmul (φ₁ := .bf16) (φ₂ := .bf16) dot_S256x1024_S1024x2048_S256x2048_1_0_0_1_n_n none o
      (shapeCast S1024x2048 w shapeCasts_S1024x2048_S1024x2048) (constant (F := Ideal) S256x2048 .f32 0x00000000#32) (ix2 r e) : EReal)
      = ∑ d : Fin 1024, (o (ix2 r d) * w (ix2 d e) : EReal) := by
  refine (Ideal.matmul_plain_apply (M := 256) (K := 1024) (N := 2048) none _ _ _ r e).trans ?_
  rw [constant_apply, Ideal.ofBits_zero_f32, zero_add, shapeCast_self]

theorem both_apply (r : Fin 256) (e : Fin 2048) : (both o₁ o₂ w₁ w₂ g₁ g₂ (ix2 r e) : EReal)
    = branch (g₁ (ix2 r e)) (fun d => o₁ (ix2 r d)) (fun d => w₁ (ix2 d e))
      + branch (g₂ (ix2 r e)) (fun d => o₂ (ix2 r d)) (fun d => w₂ (ix2 d e)) :=
  congrArg₂ (· + ·) (congrArg (g₁ (ix2 r e) * ·) (proj_apply o₁ w₁ r e)) (congrArg (g₂ (ix2 r e) * ·) (proj_apply o₂ w₂ r e))

theorem res_apply (r : Fin 256) (e : Fin 2048) : (res o₁ o₂ w₁ w₂ g₁ g₂ w x (ix2 r e) : EReal)
    = Ideal.ofBits .f32 0x3F9837F0#32 * x (ix2 r e) + ∑ k : Fin 2048, both o₁ o₂ w₁ w₂ g₁ g₂ (ix2 r k) * w (ix2 k e) := by
  unfold res
  refine congrArg₂ (· + ·) ?_ ?_
  · rw [shapeCast_self]
    rfl
  · refine (Ideal.matmul_plain_apply (M := 256) (K := 2048) (N := 2048) none _ _ _ r e).trans ?_
    rw [constant_apply, Ideal.ofBits_zero_f32, zero_add, shapeCast_self]
    rfl

/-- The store is the residual sum's layer norm. -/
theorem pay_apply (r : Fin 256) (e : Fin 2048) :
    k0_pay1 g b (k0_pay2 o₁ w₁ o₂ w₂ g₁ g₂ w x) (k0_pay3 o₁ w₁ o₂ w₂ g₁ g₂ w x) (ix2 r e)
      = RowNorm.norm (fun k => res o₁ o₂ w₁ w₂ g₁ g₂ w x (ix2 r k)) (fun k => g (ix2 0 k)) (fun k => b (ix2 0 k)) e :=
  RowNorm.normK_apply (a := 256) (res o₁ o₂ w₁ w₂ g₁ g₂ w x) g b
    reduces_S256x2048_S256 (.inl rfl) rfl shapeCasts_S256_S256x1 broadcasts_S256x1_S256x2048 broadcasts_S1x2048_S256x2048 r e

end

end Cert.MergeIdeal.Pay
-- ==== Proof.Merge.Stage.lean ====
module

public import proofs.«01_k».proof.Proof.Gen.MergeRefIdeal.Run
public import proofs.«01_k».proof.Proof.Ffn.Stage
public import proofs.«01_k».proof.Proof.Merge.Pay

@[expose] public section

set_option maxRecDepth 16384

/-! The reference of the merge, stage by stage at one index. Its layer norm is the feed-forward layer's. -/

namespace Cert.MergeRefIdeal.Stage

open Idealize.ShloMosaic hiding ix0 ix1 ix2 ix3 ix4
open Idealize.ShloMosaic.ValueIdx Cert.MergeRefIdeal Cert.MergeRefIdeal.Gen
open Finset

noncomputable section

variable (x : FVec Ideal S1x8192x2048 .f32) (o₁ o₂ : FVec Ideal S8192x1024 .bf16) (gs : FVec Ideal S8192x4096 .bf16)
  (w₁ w₂ : FVec Ideal S1x1024x2048 .f32) (w : FVec Ideal S1x2048x2048 .f32)

/-- An attention's outputs through its weights. -/
def proj (o : FVec Ideal S8192x1024 .bf16) (w : FVec Ideal S1x1024x2048 .f32) : FVec Ideal S8192x2048 .f32 :=
  Host.dotGeneral dot_S8192x1024_S1024x2048_S8192x2048_1_0_0_1_n_n none (extf .f32 o bitsLt_bf16_f32)
    (shapeCast S1024x2048 w shapeCasts_S1x1024x2048_S1024x2048)

/-- The two branches together. -/
def both : FVec Ideal S8192x2048 .f32 :=
  addf (mulf (extf .f32 (extractStridedSlice S8192x2048 ![0, 0] gs slices_S8192x4096_S8192x2048_0_0) bitsLt_bf16_f32) (proj o₁ w₁))
    (mulf (extf .f32 (extractStridedSlice S8192x2048 ![0, 2048] gs slices_S8192x4096_S8192x2048_0_2048) bitsLt_bf16_f32) (proj o₂ w₂))

/-- The residual sum. -/
def res : FVec Ideal S8192x2048 .f32 :=
  addf (mulf (broadcastInDim S8192x2048 ![] bcast_S_S8192x2048 (constant S_ .f32 0x3F9837F0#32))
      (shapeCast S8192x2048 x shapeCasts_S1x8192x2048_S8192x2048))
    (Host.dotGeneral dot_S8192x2048_S2048x2048_S8192x2048_1_0_0_1_n_n none (both o₁ o₂ gs w₁ w₂)
      (shapeCast S2048x2048 w shapeCasts_S1x2048x2048_S2048x2048))

/-- The stages together are the reference's result. -/
theorem res_eq (m : (ℓ : Loc nD τ sig) → Buf (Elt Ideal) ℓ) (c : Dev nD) : Value.res_out0 m c
    = Cert.FfnRefIdeal.Stage.norm (res (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)))
      (m ((c.tc : Thread nD τ).loc main_arg7)) (m ((c.tc : Thread nD τ).loc main_arg8)) := by
  unfold Value.res_out0 Value.res_main_v44
  rfl

theorem proj_apply (o : FVec Ideal S8192x1024 .bf16) (w : FVec Ideal S1x1024x2048 .f32) (n : Fin 8192) (e : Fin 2048) :
    (proj o w (ix2 n e) : EReal) = ∑ d : Fin 1024, o (ix2 n d) * w (ix3 0 d e) := by
  unfold proj
  pointwise
  rfl

theorem both_apply (n : Fin 8192) (e : Fin 2048) : (both o₁ o₂ gs w₁ w₂ (ix2 n e) : EReal)
    = Cert.MergeIdeal.Pay.branch (gs (ix2 n ⟨e.val, by omega⟩)) (fun d => o₁ (ix2 n d)) (fun d => w₁ (ix3 0 d e))
      + Cert.MergeIdeal.Pay.branch (gs (ix2 n ⟨2048 + e.val, by omega⟩)) (fun d => o₂ (ix2 n d)) (fun d => w₂ (ix3 0 d e)) := by
  unfold both
  refine congrArg₂ (· + ·) (congrArg₂ (· * ·) ?_ (proj_apply o₁ w₁ n e)) (congrArg₂ (· * ·) ?_ (proj_apply o₂ w₂ n e))
  · refine (Read.slice_cols (a := 8192) (b := 2048) (c := 4096) gs slices_S8192x4096_S8192x2048_0_0 n e (by omega)).trans (congrArg gs (congrArg (ix2 n) (Fin.ext ?_)))
    show 0 + e.val = e.val
    omega
  · exact Read.slice_cols (a := 8192) (b := 2048) (c := 4096) gs slices_S8192x4096_S8192x2048_0_2048 n e (by omega)

theorem res_apply (n : Fin 8192) (e : Fin 2048) : (res x o₁ o₂ gs w₁ w₂ w (ix2 n e) : EReal)
    = Ideal.ofBits .f32 0x3F9837F0#32 * x (ix3 0 n e) + ∑ k : Fin 2048, both o₁ o₂ gs w₁ w₂ (ix2 n k) * w (ix3 0 k e) := by
  unfold res
  pointwise
  rfl

end

end Cert.MergeRefIdeal.Stage
-- ==== Proof.Merge.Final.lean ====
module

public import proofs.«01_k».proof.Proof.Merge.Stage
public import Idealize.ShloMosaic.Lib.Pipeline.ValueKit

@[expose] public section

set_option maxRecDepth 16384

/-! The merging call's array is the reference's. Point `t` works on block `t` of the rows. -/

namespace Cert.MergeIdeal.Final

open Idealize.ShloMosaic hiding ix0 ix1 ix2 ix3 ix4
open Idealize.ShloMosaic.ValueIdx Idealize.ShloMosaic.TcCoe Idealize.SL.Sem
open Cert.MergeIdeal Cert.MergeIdeal.Gen

noncomputable section

variable (m : (ℓ : Loc nD τ sig) → Buf (Elt Ideal) ℓ) (c : Dev nD)

/-- The block's row `r`, as a row of the prompt. -/
def row (t : Fin cfg0.N) (r : Fin 256) : Fin 8192 := ⟨256 * t.val + r.val, by have h : t.val < 32 := t.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_10.index t = ![t.val, 0] := (by decide +kernel : ∀ t : Fin grid0.N, _)
theorem idx5 : ∀ t : Fin cfg0.N, win0_5.index t = ![0, 0] ∧ win0_6.index t = ![0, 0] ∧ win0_7.index t = ![0, 0]
    ∧ win0_8.index t = ![0, 0] ∧ win0_9.index t = ![0, 0] := (by decide +kernel : ∀ t : Fin grid0.N, _)

abbrev X : S1x8192x2048.Idx → EReal := m ((c : Thread nD τ).loc main_arg0)
abbrev O₁ : S8192x1024.Idx → EReal := m ((c : Thread nD τ).loc main_arg1)
abbrev O₂ : S8192x1024.Idx → EReal := m ((c : Thread nD τ).loc main_arg2)
abbrev G : S8192x4096.Idx → EReal := m ((c : Thread nD τ).loc main_arg3)
abbrev W₁ : S1x1024x2048.Idx → EReal := m ((c : Thread nD τ).loc main_arg4)
abbrev W₂ : S1x1024x2048.Idx → EReal := m ((c : Thread nD τ).loc main_arg5)
abbrev W : S1x2048x2048.Idx → EReal := m ((c : Thread nD τ).loc main_arg6)

/-! The operands the host prepares. -/

theorem x_apply (n : Fin 8192) (e : Fin 2048) : (V m c main_v0 : S8192x2048.Idx → EReal) (ix2 n e) = X m c (ix3 0 n e) := by
  entry_read
  show (shapeCast S8192x2048 _ shapeCasts_S1x8192x2048_S8192x2048 : S8192x2048.Idx → EReal) (Idealize.ShloMosaic.ix2 n e) = _
  pointwise
  rfl
theorem w1_apply (d : Fin 1024) (e : Fin 2048) : (V m c main_v2 : S1024x2048.Idx → EReal) (ix2 d e) = W₁ m c (ix3 0 d e) := by
  entry_read
  show (truncf (F := Ideal) .bf16 _ bitsLt_bf16_f32 : S1024x2048.Idx → EReal) (Idealize.ShloMosaic.ix2 d e) = _
  pointwise
  rfl
theorem w2_apply (d : Fin 1024) (e : Fin 2048) : (V m c main_v4 : S1024x2048.Idx → EReal) (ix2 d e) = W₂ m c (ix3 0 d e) := by
  entry_read
  show (truncf (F := Ideal) .bf16 _ bitsLt_bf16_f32 : S1024x2048.Idx → EReal) (Idealize.ShloMosaic.ix2 d e) = _
  pointwise
  rfl
theorem w_apply (d : Fin 2048) (e : Fin 2048) : (V m c main_v6 : S2048x2048.Idx → EReal) (ix2 d e) = W m c (ix3 0 d e) := by
  entry_read
  show (truncf (F := Ideal) .bf16 _ bitsLt_bf16_f32 : S2048x2048.Idx → EReal) (Idealize.ShloMosaic.ix2 d e) = _
  pointwise
  rfl

/-! The blocks. -/

theorem blk0 (t : Fin cfg0.N) (r : Fin 256) (e : Fin 2048) :
    (iblk m c 0 t : S256x2048.Idx → EReal) (ix2 r e) = X m c (ix3 0 (row t r) e) := by
  rw [← x_apply m c]
  blk_ext [iblk, (idx0 t), row, ValueIdx.ix2]
theorem blk1 (t : Fin cfg0.N) (r : Fin 256) (d : Fin 1024) :
    (iblk m c 1 t : S256x1024.Idx → EReal) (ix2 r d) = O₁ m c (ix2 (row t r) d) := by
  blk_ext! [iblk, V, (idx0 t), row, ValueIdx.ix2]
theorem blk2 (t : Fin cfg0.N) (r : Fin 256) (d : Fin 1024) :
    (iblk m c 2 t : S256x1024.Idx → EReal) (ix2 r d) = O₂ m c (ix2 (row t r) d) := by
  blk_ext! [iblk, V, (idx0 t), row, ValueIdx.ix2]
theorem blk3 (t : Fin cfg0.N) (r : Fin 256) (e : Fin 2048) :
    (iblk m c 3 t : S256x2048.Idx → EReal) (ix2 r e) = G m c (ix2 (row t r) ⟨e.val, by omega⟩) := by
  blk_ext! [iblk, V, (idx0 t), row, ValueIdx.ix2]
theorem blk4 (t : Fin cfg0.N) (r : Fin 256) (e : Fin 2048) :
    (iblk m c 4 t : S256x2048.Idx → EReal) (ix2 r e) = G m c (ix2 (row t r) ⟨2048 + e.val, by omega⟩) := by
  blk_ext! [iblk, V, (idx0 t), row, ValueIdx.ix2]
theorem blk5 (t : Fin cfg0.N) (d : Fin 1024) (e : Fin 2048) :
    (iblk m c 5 t : S1024x2048.Idx → EReal) (ix2 d e) = W₁ m c (ix3 0 d e) := by
  rw [← w1_apply m c]
  blk_ext [iblk, (idx5 t), ValueIdx.ix2]
theorem blk6 (t : Fin cfg0.N) (d : Fin 1024) (e : Fin 2048) :
    (iblk m c 6 t : S1024x2048.Idx → EReal) (ix2 d e) = W₂ m c (ix3 0 d e) := by
  rw [← w2_apply m c]
  blk_ext [iblk, (idx5 t), ValueIdx.ix2]
theorem blk7 (t : Fin cfg0.N) (d : Fin 2048) (e : Fin 2048) :
    (iblk m c 7 t : S2048x2048.Idx → EReal) (ix2 d e) = W m c (ix3 0 d e) := by
  rw [← w_apply m c]
  blk_ext [iblk, (idx5 t), ValueIdx.ix2]
theorem blk8 (t : Fin cfg0.N) : iblk m c 8 t = m ((c : Thread nD τ).loc main_arg7) := by blk_ext! [iblk, V, (idx5 t)]
theorem blk9 (t : Fin cfg0.N) : iblk m c 9 t = m ((c : Thread nD τ).loc main_arg8) := by blk_ext! [iblk, V, (idx5 t)]

/-- The reference's residual sum over the kernel's arguments. -/
abbrev sum : S8192x2048.Idx → EReal :=
  Cert.MergeRefIdeal.Stage.res (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The reference's result over the kernel's arguments. -/
def want : S8192x2048.Idx → EReal :=
  Cert.FfnRefIdeal.Stage.norm (sum m c) (m ((c : Thread nD τ).loc main_arg7)) (m ((c : Thread nD τ).loc main_arg8))

/-- The point's residual sum is the reference's. -/
theorem res_eq (t : Fin cfg0.N) (r : Fin 256) (e : Fin 2048) :
    Pay.res (iblk m c 1 t) (iblk m c 2 t) (iblk m c 5 t) (iblk m c 6 t) (iblk m c 3 t) (iblk m c 4 t) (iblk m c 7 t) (iblk m c 0 t) (ix2 r e)
      = sum m c (ix2 (row t r) e) := by
  refine (Pay.res_apply _ _ _ _ _ _ _ _ r e).trans (Eq.trans ?_ (Cert.MergeRefIdeal.Stage.res_apply _ _ _ _ _ _ _ (row t r) e).symm)
  refine congrArg₂ (· + ·) (congrArg (Ideal.ofBits .f32 0x3F9837F0#32 * ·) (blk0 m c t r e)) (Finset.sum_congr rfl fun k _ => ?_)
  refine congrArg₂ (· * ·) ?_ (blk7 m c t k e)
  refine (Pay.both_apply _ _ _ _ _ _ r k).trans (Eq.trans ?_ (Cert.MergeRefIdeal.Stage.both_apply _ _ _ _ _ (row t r) k).symm)
  simp only [blk1, blk2, blk3, blk4, blk5, blk6]

/-- A point's output block is the reference's at its place. -/
theorem point (t : Fin cfg0.N) (r : Fin 256) (e : Fin 2048) :
    ((dats m 0 c).after 10 t : S256x2048.Idx → EReal) (ix2 r e) = want m c (ix2 (row t r) e) := by
  rw [after0_10]
  frame_out
  refine (Pay.pay_apply _ _ _ _ _ _ _ _ _ _ r e).trans ?_
  rw [blk8, blk9]
  refine Eq.trans ?_ (Cert.FfnRefIdeal.Stage.norm_apply _ _ _ (row t r) e).symm
  exact congrArg (fun z => RowNorm.norm z _ _ e) (funext fun k => res_eq m c t r k)

/-- The final array. -/
theorem final : (dats m 0 c).arrAt 10 cfg0.N = want m c := by
  refine (dats m 0 c).arrAt_eq_of_covers 10 _ (by decide +kernel) fun t hf y => ?_
  obtain ⟨r, e, rfl⟩ : ∃ (r : Fin 256) (e : Fin 2048), y = ix2 r e := ⟨y 0, y 1, by funext a; fin_cases a <;> rfl⟩
  blk_simp
  refine (point m c t r e).trans (congrArg (want m c) ?_)
  blk_ext [(idx0 t), row, ValueIdx.ix2]

end

end Cert.MergeIdeal.Final
-- ==== Proof.Merge.Claims.lean ====
module

public import proofs.«01_k».proof.Defs
public import proofs.«01_k».proof.Proof.Gen.Merge.Frame
public import proofs.«01_k».proof.Proof.Merge.Final

@[expose] public section

/-!
The claims about the merging call.
-/

namespace Cert.Proof.Merge

open Idealize.ShloMosaic Idealize.SL.Sem

noncomputable section

/-- The kernel runs and leaves its arguments as they were. -/
theorem frame : Cert.quiescent_Merge := fun m ρ _ => Cert.Merge.Gen.frame m ρ
/-- So does the ideal kernel. -/
theorem frame_ideal : Cert.quiescent_MergeIdeal := fun m ρ _ => Cert.MergeIdeal.Gen.frame m ρ
/-- The reference runs and leaves its arguments as they were. -/
theorem frame_ref : Cert.quiescent_MergeRefIdeal := fun m ρ _ =>
  (θ_run Cert.MergeRefIdeal.defs _ _).mono (fun r h => ⟨fun c => (h c).2, sem_eq_zero_of_no_sems (by decide) r.2⟩) (Cert.MergeRefIdeal.Value.run m ρ)

/-- Kernel and reference agree over the extended reals. -/
theorem algebraic : Cert.algebraic_MergeIdeal_MergeRefIdeal := fun m ρ m' ρ' _ hag =>
  ⟨fun c => Cert.MergeIdeal.Final.want m c,
    (θ_run _ _ _).mono (fun _ h c => ⟨(h c).1.trans (Cert.MergeIdeal.Final.final m c), (h c).2⟩) (Cert.MergeIdeal.Value.run_blocks m ρ),
    (θ_run _ _ _).mono (fun _ h c => ⟨(h c).1.trans (by
      obtain ⟨h0, h1, h2, h3, h4, h5, h6, h7, h8⟩ := hag c
      refine (Cert.MergeRefIdeal.Stage.res_eq m' c).trans ?_
      rw [h0, h1, h2, h3, h4, h5, h6, h7, h8]
      rfl), (h c).2⟩) (Cert.MergeRefIdeal.Value.run m' ρ')⟩

end

end Cert.Proof.Merge
-- ==== Proof.Ffn.Body.lean ====
module

public import proofs.«01_k».proof.Proof.Gen.FfnIdeal.Value
public import proofs.«01_k».proof.Proof.Ffn.Pay
public import Idealize.ShloMosaic.Lib.Pipeline.ReadBack

@[expose] public section

set_option maxRecDepth 16384

/-! What a point of the feed-forward kernel leaves in its buffers, by its place in the run of eight. -/

namespace Cert.FfnIdeal.Body

open Idealize.ShloMosaic Idealize.SL.Sem Idealize.ShloMosaic.TcCoe
open Cert.FfnIdeal Cert.FfnIdeal.Gen

noncomputable section

variable {F : FTy → Type} [FloatOps F]
variable (m : (ℓ : Loc nD τ sig) → Buf (Elt F) ℓ) (c : Dev nD)

/-- The point before. -/
theorem before_lt (t : Fin cfg0.N) : t.val - 1 < cfg0.N := Nat.lt_of_le_of_lt (Nat.sub_le _ _) t.isLt

/-- The first point of a run: the rows are copied and the first block's part is added to zero. -/
theorem first (t : Fin cfg0.N) (h0 : t.val % 8 = 0) :
    (outsAt0 m c t.val t.isLt).2
      = (k0_pay1 (iblk m c 0 t), k0_pay3 (k0_pay1 (iblk m c 0 t)) (iblk m c 1 t) k0_pay2 (iblk m c 2 t)) := by
  rw [outsAt0_A m c t h0 (by omega)]
  dsimp only
  refine Prod.ext ?_ ?_ <;> dsimp only
  · unfold sout0_A_0
    frame_out
  · unfold sout0_A_1
    frame_out

/-- A later point adds its block's part. -/
theorem later (t : Fin cfg0.N) (h0 : ¬t.val % 8 = 0) :
    (outsAt0 m c t.val t.isLt).2
      = ((outsAt0 m c (t.val - 1) (before_lt t)).2.1,
          k0_pay3 (outsAt0 m c (t.val - 1) (before_lt t)).2.1 (iblk m c 1 t) (outsAt0 m c (t.val - 1) (before_lt t)).2.2 (iblk m c 2 t)) := by
  by_cases h1 : t.val % 8 = 7
  · rw [outsAt0_C m c t h0 h1]
    dsimp only
    refine Prod.ext rfl ?_
    dsimp only
    unfold sout0_C_1
    frame_out
    simp only [read_unread_whole]
  · rw [outsAt0_B m c t h0 h1]
    dsimp only
    refine Prod.ext rfl ?_
    dsimp only
    unfold sout0_B_1
    frame_out
    simp only [read_unread_whole]

/-- The last point of a run writes the layer norm of the residual sum. -/
theorem last (t : Fin cfg0.N) (h1 : t.val % 8 = 7) :
    (outsAt0 m c t.val t.isLt).1 = k0_pay4 (iblk m c 0 t) (outsAt0 m c t.val t.isLt).2.2 (iblk m c 3 t) (iblk m c 4 t) := by
  rw [later m c t (by omega), outsAt0_C m c t (by omega) h1]
  dsimp only
  unfold out0_C_5
  frame_out
  simp only [read_unread_whole]

end

end Cert.FfnIdeal.Body
-- ==== Proof.Ffn.Final.lean ====
module

public import proofs.«01_k».proof.Proof.Ffn.Body
public import proofs.«01_k».proof.Proof.Ffn.Stage
public import Idealize.ShloMosaic.Lib.Pipeline.ValueKit

@[expose] public section

set_option maxRecDepth 16384

/-!
The feed-forward call's array is the reference's. Point `t` works on block `t / 8` of the rows and block `t % 8` of
the hidden units.
-/

namespace Cert.FfnIdeal.Final

open Idealize.ShloMosaic hiding ix0 ix1 ix2 ix3 ix4
open Idealize.ShloMosaic.ValueIdx Idealize.ShloMosaic.TcCoe Idealize.SL.Sem
open Cert.FfnIdeal Cert.FfnIdeal.Gen
open Finset

noncomputable section

variable (m : (ℓ : Loc nD τ sig) → Buf (Elt Ideal) ℓ) (c : Dev nD)

/-- The block's row `r`, as a row of the prompt. -/
def row (t : Fin cfg0.N) (r : Fin 512) : Fin 8192 := ⟨512 * (t.val / 8) + r.val, by have h : t.val < 128 := t.isLt; omega⟩
/-- The block's hidden unit `k`, as one of all. -/
def unit (t : Fin cfg0.N) (k : Fin 1024) : Fin 8192 := ⟨1024 * (t.val % 8) + k.val, by omega⟩

theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val % 8, 0] := (by decide +kernel : ∀ t : Fin grid0.N, _)
theorem idx3 : ∀ t : Fin cfg0.N, win0_3.index t = ![0, 0] ∧ win0_4.index t = ![0, 0] := (by decide +kernel : ∀ t : Fin grid0.N, _)
theorem idx5 : ∀ t : Fin cfg0.N, win0_5.index t = ![t.val / 8, 0] := (by decide +kernel : ∀ t : Fin grid0.N, _)

/-- The rows. -/
abbrev X : S8192x2048.Idx → EReal := m ((c : Thread nD τ).loc main_arg0)
/-- The first weights. -/
abbrev U : S1x2048x8192.Idx → EReal := m ((c : Thread nD τ).loc main_arg1)
/-- The second weights. -/
abbrev W : S1x8192x2048.Idx → EReal := m ((c : Thread nD τ).loc main_arg2)

theorem blk0 (t : Fin cfg0.N) (r : Fin 512) (d : Fin 2048) :
    (iblk m c 0 t : S512x2048.Idx → EReal) (ix2 r d) = X m c (ix2 (row t r) d) := by
  blk_ext! [iblk, V, (idx0 t), row, ValueIdx.ix2]

theorem up_apply (d : Fin 2048) (p : Fin 8192) : (V m c main_v1 : S2048x8192.Idx → EReal) (ix2 d p) = U m c (ix3 0 d p) := by
  entry_read
  show (truncf (F := Ideal) .bf16 _ bitsLt_bf16_f32 : S2048x8192.Idx → EReal) (Idealize.ShloMosaic.ix2 d p) = _
  pointwise
  rfl

theorem down_apply (p : Fin 8192) (e : Fin 2048) : (V m c main_v3 : S8192x2048.Idx → EReal) (ix2 p e) = W m c (ix3 0 p e) := by
  entry_read
  show (truncf (F := Ideal) .bf16 _ bitsLt_bf16_f32 : S8192x2048.Idx → EReal) (Idealize.ShloMosaic.ix2 p e) = _
  pointwise
  rfl

theorem blk1 (t : Fin cfg0.N) (d : Fin 2048) (k : Fin 1024) :
    (iblk m c 1 t : S2048x1024.Idx → EReal) (ix2 d k) = U m c (ix3 0 d (unit t k)) := by
  rw [← up_apply m c]
  blk_ext [iblk, (idx1 t), unit, ValueIdx.ix2]

theorem blk2 (t : Fin cfg0.N) (k : Fin 1024) (e : Fin 2048) :
    (iblk m c 2 t : S1024x2048.Idx → EReal) (ix2 k e) = W m c (ix3 0 (unit t k) e) := by
  rw [← down_apply m c]
  blk_ext [iblk, (idx2 t), unit, ValueIdx.ix2]

theorem blk3 (t : Fin cfg0.N) : iblk m c 3 t = m ((c : Thread nD τ).loc main_arg3) := by blk_ext! [iblk, V, (idx3 t)]
theorem blk4 (t : Fin cfg0.N) : iblk m c 4 t = m ((c : Thread nD τ).loc main_arg4) := by blk_ext! [iblk, V, (idx3 t)]

/-- Hidden unit `p`'s part of entry `e` of row `n`. -/
def part (n : Fin 8192) (e : Fin 2048) (p : ℕ) : EReal :=
  if h : p < 8192 then Pay.hidden (fun d => X m c (ix2 n d)) (fun d => U m c (ix3 0 d ⟨p, h⟩)) * W m c (ix3 0 ⟨p, h⟩ e) else 0

/-- A block's part. -/
theorem block_part (t : Fin cfg0.N) (x : Vec Ideal S512x2048 .bf16) (r : Fin 512) (e : Fin 2048)
    (hx : ∀ d, x (ix2 r d) = X m c (ix2 (row t r) d)) (a : Vec Ideal S512x2048 .f32) :
    k0_pay3 x (iblk m c 1 t) a (iblk m c 2 t) (ix2 r e)
      = a (ix2 r e) + ∑ k ∈ range 1024, part m c (row t r) e (1024 * (t.val % 8) + k) := by
  rw [Pay.pay3_apply, Finset.sum_range]
  refine congrArg (a (ix2 r e) + ·) (Finset.sum_congr rfl fun k _ => ?_)
  unfold part
  rw [dif_pos (by omega), blk2]
  simp only [hx, blk1]
  rfl

/-- After each point the first scratch holds the rows and the second the sum over the blocks so far. -/
theorem sofar : ∀ (k : ℕ) (t : Fin cfg0.N), t.val % 8 = k → ∀ (r : Fin 512) (e : Fin 2048),
    ((outsAt0 m c t.val t.isLt).2.1 : S512x2048.Idx → EReal) (ix2 r e) = X m c (ix2 (row t r) e)
    ∧ ((outsAt0 m c t.val t.isLt).2.2 : S512x2048.Idx → EReal) (ix2 r e) = ∑ p ∈ range (1024 * (k + 1)), part m c (row t r) e p := by
  intro k
  induction k with
  | zero =>
    intro t ht r e
    rw [Body.first m c t ht]
    have hx (d : Fin 2048) : k0_pay1 (iblk m c 0 t) (ix2 r d) = X m c (ix2 (row t r) d) := (Pay.pay1_apply _ r d).trans (blk0 m c t r d)
    refine ⟨hx e, ?_⟩
    refine (block_part m c t _ r e hx _).trans ?_
    rw [Pay.pay2_apply, zero_add, ht]
    simp only [Nat.mul_zero, Nat.zero_add, Nat.mul_one]
  | succ k ih =>
    intro t ht r e
    have hp := ih ⟨t.val - 1, Body.before_lt t⟩ (by show (t.val - 1) % 8 = k; omega)
    have hrow : row ⟨t.val - 1, Body.before_lt t⟩ r = row t r := Fin.ext (by show 512 * ((t.val - 1) / 8) + _ = 512 * (t.val / 8) + _; omega)
    rw [Body.later m c t (by omega)]
    refine ⟨(hp r e).1.trans (by rw [hrow]), ?_⟩
    refine (block_part m c t _ r e (fun d => (hp r d).1.trans (by rw [hrow])) _).trans ?_
    rw [show 1024 * (k + 1 + 1) = 1024 * (k + 1) + 1024 from by omega, Finset.sum_range_add, ht]
    refine congrArg (· + _) ((hp r e).2.trans ?_)
    rw [hrow]

/-- The reference's result over the kernel's arguments. -/
def want : S8192x2048.Idx → EReal :=
  Cert.FfnRefIdeal.Stage.norm (Cert.FfnRefIdeal.Stage.res (m ((c : Thread nD τ).loc main_arg0)) (m ((c : Thread nD τ).loc main_arg1))
    (m ((c : Thread nD τ).loc main_arg2))) (m ((c : Thread nD τ).loc main_arg3)) (m ((c : Thread nD τ).loc main_arg4))

/-- The block a run ends with is the reference's at its place. -/
theorem point (t : Fin cfg0.N) (ht : t.val % 8 = 7) (r : Fin 512) (e : Fin 2048) :
    (outsAt0 m c t.val t.isLt).1 (ix2 r e) = want m c (ix2 (row t r) e) := by
  rw [Body.last m c t ht, Pay.pay4_apply, blk3, blk4]
  refine Eq.trans ?_ (Cert.FfnRefIdeal.Stage.norm_apply _ _ _ (row t r) e).symm
  refine congrArg (fun z => RowNorm.norm z _ _ e) (funext fun k => ?_)
  rw [blk0, (sofar m c 7 t ht r k).2]
  refine Eq.trans ?_ (Cert.FfnRefIdeal.Stage.res_apply _ _ _ (row t r) k).symm
  refine congrArg (Ideal.ofBits .f32 0x3F9837F0#32 * X m c (ix2 (row t r) k) + ·) ?_
  refine (Finset.sum_range (n := 8192) _).trans (Finset.sum_congr rfl fun p _ => ?_)
  exact dif_pos p.isLt

/-- The final array. -/
theorem final : (dats m 0 c).arrAt 5 cfg0.N = want m c := by
  refine (dats m 0 c).arrAt_eq_of_covers 5 _ (by decide +kernel) fun t hf y => ?_
  obtain ⟨r, e, rfl⟩ : ∃ (r : Fin 512) (e : Fin 2048), y = ix2 r e := ⟨y 0, y 1, by funext a; fin_cases a <;> rfl⟩
  blk_simp
  rw [after0_5]
  refine (point m c t ((flush0_5 t).mp hf) r e).trans (congrArg (want m c) ?_)
  blk_ext [(idx5 t), row, ValueIdx.ix2]

end

end Cert.FfnIdeal.Final
-- ==== Proof.Ffn.Claims.lean ====
module

public import proofs.«01_k».proof.Defs
public import proofs.«01_k».proof.Proof.Gen.Ffn.Frame
public import proofs.«01_k».proof.Proof.Ffn.Final

@[expose] public section

/-!
The claims about the feed-forward call.
-/

namespace Cert.Proof.Ffn

open Idealize.ShloMosaic Idealize.SL.Sem

noncomputable section

/-- The kernel runs and leaves its arguments as they were. -/
theorem frame : Cert.quiescent_Ffn := fun m ρ _ => Cert.Ffn.Gen.frame m ρ
/-- So does the ideal kernel. -/
theorem frame_ideal : Cert.quiescent_FfnIdeal := fun m ρ _ => Cert.FfnIdeal.Gen.frame m ρ
/-- The reference runs and leaves its arguments as they were. -/
theorem frame_ref : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run m ρ)

/-- Kernel and reference agree over the extended reals. -/
theorem algebraic : Cert.algebraic_FfnIdeal_FfnRefIdeal := fun m ρ m' ρ' _ hag =>
  ⟨fun c => Cert.FfnIdeal.Final.want m c,
    (θ_run _ _ _).mono (fun _ h c => ⟨(h c).1.trans (Cert.FfnIdeal.Final.final m c), (h c).2⟩) (Cert.FfnIdeal.Value.run_blocks m ρ),
    (θ_run _ _ _).mono (fun _ h c => ⟨(h c).1.trans (by
      obtain ⟨h0, h1, h2, h3, h4⟩ := hag c
      refine (Cert.FfnRefIdeal.Stage.res_eq m' c).trans ?_
      rw [h0, h1, h2, h3, h4]
      rfl), (h c).2⟩) (Cert.FfnRefIdeal.Value.run m' ρ')⟩

end

end Cert.Proof.Ffn
-- ==== Proof.FfnS.Pay.lean ====
module

public import proofs.«01_k».proof.Proof.Gen.FfnSIdeal.Skeleton
public import proofs.«01_k».proof.Proof.Ffn.Pay

@[expose] public section

set_option maxRecDepth 16384

/-! What the stores of the sample rows' feed-forward call hold at one index. -/

namespace Cert.FfnSIdeal.Pay

open Idealize.ShloMosaic hiding ix0 ix1 ix2 ix3 ix4
open Idealize.ShloMosaic.ValueIdx
open Cert.FfnSIdeal Cert.FfnSIdeal.Gen

noncomputable section

/-- The rows kept in the narrow format are the rows. -/
theorem pay1_apply (x : Vec Ideal S128x2048 .f32) (r : Fin 128) (d : Fin 2048) : k0_pay1 x (ix2 r d) = x (ix2 r d) := by
  unfold k0_pay1
  rw [shapeCast_self]
  rfl

/-- The sums start at zero. -/
theorem pay2_apply (r : Fin 128) (e : Fin 2048) : (k0_pay2 (F := Ideal) : S128x2048.Idx → EReal) (ix2 r e) = 0 := by
  unfold k0_pay2
  rw [shapeCast_self]
  exact Ideal.ofBits_zero_f32

/-- A block's part of the second product is added to the sums. -/
theorem pay3_apply (x : Vec Ideal S128x2048 .bf16) (u : Vec Ideal S2048x512 .bf16) (a : Vec Ideal S128x2048 .f32)
    (w : Vec Ideal S512x2048 .bf16) (r : Fin 128) (e : Fin 2048) :
    k0_pay3 x u a w (ix2 r e)
      = a (ix2 r e) + ∑ k : Fin 512, Cert.FfnIdeal.Pay.hidden (fun d => x (ix2 r d)) (fun d => u (ix2 d k)) * w (ix2 k e) := by
  unfold k0_pay3
  rw [shapeCast_self, addf_apply]
  refine congrArg (a (ix2 r e) + ·) ?_
  refine (Ideal.matmul_plain_apply (M := 128) (K := 512) (N := 2048) none _ _ _ r e).trans ?_
  rw [constant_apply, Ideal.ofBits_zero_f32, zero_add]
  refine Finset.sum_congr rfl fun k _ => congrArg₂ (· * ·) ?_ ?_
  · have h : matmul (φ₁ := .bf16) (φ₂ := .bf16) dot_S128x2048_S2048x512_S128x512_1_0_0_1_n_n none x (shapeCast S2048x512 u shapeCasts_S2048x512_S2048x512)
        (constant (F := Ideal) S128x512 .f32 0x00000000#32) (ix2 r k) = ∑ d : Fin 2048, (x (ix2 r d) * u (ix2 d k) : EReal) := by
      refine (Ideal.matmul_plain_apply (M := 128) (K := 2048) (N := 512) none _ _ _ r k).trans ?_
      rw [constant_apply, Ideal.ofBits_zero_f32, zero_add, shapeCast_self]
    have h0 : (Scalar.ofBits (F := Ideal) .f32 0x00000000#32 : EReal) = 0 := Ideal.ofBits_zero_f32
    unfold Cert.FfnIdeal.Pay.hidden
    rw [← h, ← h0]
    rfl
  · rw [shapeCast_self]

/-- The last block: the residual sum's layer norm. -/
theorem pay4_apply (x a : Vec Ideal S128x2048 .f32) (g b : Vec Ideal S1x2048 .f32) (r : Fin 128) (e : Fin 2048) :
    k0_pay4 x a g b (ix2 r e)
      = RowNorm.norm (fun k => Ideal.ofBits .f32 0x3F9837F0#32 * x (ix2 r k) + a (ix2 r k)) (fun k => g (ix2 0 k)) (fun k => b (ix2 0 k)) e :=
  RowNorm.normK_apply (a := 128) (addf (mulf (broadcast S128x2048 (Scalar.ofBits (F := Ideal) .f32 0x3F9837F0#32)) x) a) g b
    reduces_S128x2048_S128 (.inl rfl) rfl shapeCasts_S128_S128x1 broadcasts_S128x1_S128x2048 broadcasts_S1x2048_S128x2048 r e

end

end Cert.FfnSIdeal.Pay
-- ==== Proof.FfnS.Stage.lean ====
module

public import proofs.«01_k».proof.Proof.Gen.FfnSRefIdeal.Run
public import proofs.«01_k».proof.Proof.FfnS.Pay

@[expose] public section

set_option maxRecDepth 16384

/-! The reference of the sample rows' feed-forward layer, stage by stage at one index. -/

namespace Cert.FfnSRefIdeal.Stage

open Idealize.ShloMosaic hiding ix0 ix1 ix2 ix3 ix4
open Idealize.ShloMosaic.ValueIdx Cert.FfnSRefIdeal Cert.FfnSRefIdeal.Gen
open Finset

noncomputable section

/-- The first product, cut off below at zero. -/
def pos (x : FVec Ideal S128x2048 .f32) (u : FVec Ideal S1x2048x8192 .f32) : FVec Ideal S128x8192 .f32 :=
  maximumf (Host.dotGeneral dot_S128x2048_S2048x8192_S128x8192_1_0_0_1_n_n none x
    (shapeCast S2048x8192 u shapeCasts_S1x2048x8192_S2048x8192)) (broadcastInDim S128x8192 ![] bcast_S_S128x8192 (constant S_ .f32 0x00000000#32))

/-- The second product, added to the scaled rows. -/
def res (x : FVec Ideal S128x2048 .f32) (u : FVec Ideal S1x2048x8192 .f32) (w : FVec Ideal S1x8192x2048 .f32) : FVec Ideal S128x2048 .f32 :=
  addf (mulf (broadcastInDim S128x2048 ![] bcast_S_S128x2048 (constant S_ .f32 0x3F9837F0#32)) x)
    (Host.dotGeneral dot_S128x8192_S8192x2048_S128x2048_1_0_0_1_n_n none (mulf (pos x u) (pos x u))
      (shapeCast S8192x2048 w shapeCasts_S1x8192x2048_S8192x2048))

/-- Row means, in a column. -/
def mean (z : FVec Ideal S128x2048 .f32) : FVec Ideal S128x1 .f32 :=
  Host.divf (broadcastInDim S128x1 ![0] bcast_S128_S128x1_0 (Host.reduceAdd z (constant S_ .f32 0x00000000#32) reducesTo_S128x2048_S128_d1 h_S_))
    (broadcastInDim S128x1 ![] bcast_S_S128x1 (constant S_ .f32 0x45000000#32))

/-- The rows' distances from their means. -/
def dev (z : FVec Ideal S128x2048 .f32) : FVec Ideal S128x2048 .f32 :=
  subf z (broadcastInDim S128x2048 ![0, 1] bcast_S128x1_S128x2048_0_1 (mean z))

/-- The layer norm. -/
def norm (z : FVec Ideal S128x2048 .f32) (g b : FVec Ideal S1x2048 .f32) : FVec Ideal S128x2048 .f32 :=
  addf (mulf (mulf (dev z) (broadcastInDim S128x2048 ![0, 1] bcast_S128x1_S128x2048_0_1 (Host.rsqrt (addf (mean (mulf (dev z) (dev z)))
      (broadcastInDim S128x1 ![] bcast_S_S128x1 (constant S_ .f32 0x3727C5AC#32))))))
    (broadcastInDim S128x2048 ![0, 1] bcast_S1x2048_S128x2048_0_1 (broadcastInDim S1x2048 ![1] bcast_S2048_S1x2048_1
      (shapeCast S2048 g shapeCasts_S1x2048_S2048))))
    (broadcastInDim S128x2048 ![0, 1] bcast_S1x2048_S128x2048_0_1 (broadcastInDim S1x2048 ![1] bcast_S2048_S1x2048_1
      (shapeCast S2048 b shapeCasts_S1x2048_S2048)))

/-- The stages together are the reference's result. -/
theorem res_eq (m : (ℓ : Loc nD τ sig) → Buf (Elt Ideal) ℓ) (c : Dev nD) : Value.res_out0 m c
    = norm (res (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := by
  unfold Value.res_out0 Value.res_main_v34
  rfl

/-- One row's sum of two numbers over its hidden units' squares. -/
theorem pos_apply (x : FVec Ideal S128x2048 .f32) (u : FVec Ideal S1x2048x8192 .f32) (n : Fin 128) (p : Fin 8192) :
    (pos x u (ix2 n p) : EReal) = max (∑ d : Fin 2048, x (ix2 n d) * u (ix3 0 d p)) 0 := by
  unfold pos
  pointwise
  rfl

theorem res_apply (x : FVec Ideal S128x2048 .f32) (u : FVec Ideal S1x2048x8192 .f32) (w : FVec Ideal S1x8192x2048 .f32)
    (n : Fin 128) (e : Fin 2048) : (res x u w (ix2 n e) : EReal)
    = Ideal.ofBits .f32 0x3F9837F0#32 * x (ix2 n e)
      + ∑ p : Fin 8192, Cert.FfnIdeal.Pay.hidden (fun d => x (ix2 n d)) (fun d => u (ix3 0 d p)) * w (ix3 0 p e) := by
  unfold res
  pointwise
  refine congrArg (Ideal.ofBits .f32 0x3F9837F0#32 * x (ix2 n e) + ·) (Finset.sum_congr rfl fun p _ => ?_)
  exact congrArg₂ (· * ·) (congrArg₂ (· * ·) (pos_apply x u n p) (pos_apply x u n p)) rfl

theorem mean_apply (z : FVec Ideal S128x2048 .f32) (n : Fin 128) : (mean z (ix2 n 0) : EReal) = RowNorm.mean fun k => z (ix2 n k) := by
  unfold mean
  pointwise
  rfl

theorem dev_apply (z : FVec Ideal S128x2048 .f32) (n : Fin 128) (e : Fin 2048) : (dev z (ix2 n e) : EReal) = RowNorm.dev (fun k => z (ix2 n k)) e := by
  unfold dev
  pointwise
  exact congrArg (z (ix2 n e) - ·) (mean_apply z n)

/-- The layer norm of a row. -/
theorem norm_apply (z : FVec Ideal S128x2048 .f32) (g b : FVec Ideal S1x2048 .f32) (n : Fin 128) (e : Fin 2048) :
    (norm z g b (ix2 n e) : EReal) = RowNorm.norm (fun k => z (ix2 n k)) (fun k => g (ix2 0 k)) (fun k => b (ix2 0 k)) e := by
  unfold norm
  pointwise
  refine congrArg₂ (· + ·) (congrArg₂ (· * ·) (congrArg₂ (· * ·) (dev_apply z n e) ?_) rfl) rfl
  refine congrArg (fun q : EReal => Ideal.rsqrt (q + Ideal.ofBits .f32 0x3727C5AC#32)) ?_
  refine (mean_apply _ n).trans (congrArg RowNorm.mean (funext fun k => ?_))
  exact congrArg₂ (· * ·) (dev_apply z n k) (dev_apply z n k)

end

end Cert.FfnSRefIdeal.Stage
-- ==== Proof.MergeS.Pay.lean ====
module

public import proofs.«01_k».proof.Proof.Gen.MergeSIdeal.Value
public import proofs.«01_k».proof.Proof.Merge.Pay

@[expose] public section

set_option maxRecDepth 16384

/-! What the store of the sample rows' merging call holds at one index. -/

namespace Cert.MergeSIdeal.Pay

open Idealize.ShloMosaic hiding ix0 ix1 ix2 ix3 ix4
open Idealize.ShloMosaic.ValueIdx
open Cert.MergeSIdeal Cert.MergeSIdeal.Gen
open Cert.MergeIdeal.Pay (branch)

noncomputable section

variable (o₁ o₂ : Vec Ideal S128x1024 .bf16) (w₁ w₂ : Vec Ideal S1024x2048 .bf16) (g₁ g₂ : Vec Ideal S128x2048 .bf16)
  (w : Vec Ideal S2048x2048 .bf16) (x : Vec Ideal S128x2048 .f32) (g b : Vec Ideal S1x2048 .f32)

/-- The two branches together. -/
def both : FVec Ideal S128x2048 .f32 :=
  addf (mulf (extf .f32 g₁ bitsLt_bf16_f32) (matmul (φ₁ := .bf16) (φ₂ := .bf16) dot_S128x1024_S1024x2048_S128x2048_1_0_0_1_n_n none o₁
      (shapeCast S1024x2048 w₁ shapeCasts_S1024x2048_S1024x2048) (constant S128x2048 .f32 0x00000000#32)))
    (mulf (extf .f32 g₂ bitsLt_bf16_f32) (matmul (φ₁ := .bf16) (φ₂ := .bf16) dot_S128x1024_S1024x2048_S128x2048_1_0_0_1_n_n none o₂
      (shapeCast S1024x2048 w₂ shapeCasts_S1024x2048_S1024x2048) (constant S128x2048 .f32 0x00000000#32)))

/-- The residual sum. -/
def res : FVec Ideal S128x2048 .f32 :=
  addf (mulf (broadcast S128x2048 (Scalar.ofBits (F := Ideal) .f32 0x3F9837F0#32)) (shapeCast S128x2048 x shapeCasts_S128x2048_S128x2048))
    (matmul (φ₁ := .bf16) (φ₂ := .bf16) dot_S128x2048_S2048x2048_S128x2048_1_0_0_1_n_n none
      (truncf .bf16 (both o₁ o₂ w₁ w₂ g₁ g₂) bitsLt_bf16_f32) (shapeCast S2048x2048 w shapeCasts_S2048x2048_S2048x2048)
      (constant S128x2048 .f32 0x00000000#32))

theorem proj_apply (o : Vec Ideal S128x1024 .bf16) (w : Vec Ideal S1024x2048 .bf16) (r : Fin 128) (e : Fin 2048) :
    (matmul (φ₁ := .bf16) (φ₂ := .bf16) dot_S128x1024_S1024x2048_S128x2048_1_0_0_1_n_n none o
      (shapeCast S1024x2048 w shapeCasts_S1024x2048_S1024x2048) (constant (F := Ideal) S128x2048 .f32 0x00000000#32) (ix2 r e) : EReal)
      = ∑ d : Fin 1024, (o (ix2 r d) * w (ix2 d e) : EReal) := by
  refine (Ideal.matmul_plain_apply (M := 128) (K := 1024) (N := 2048) none _ _ _ r e).trans ?_
  rw [constant_apply, Ideal.ofBits_zero_f32, zero_add, shapeCast_self]

theorem both_apply (r : Fin 128) (e : Fin 2048) : (both o₁ o₂ w₁ w₂ g₁ g₂ (ix2 r e) : EReal)
    = branch (g₁ (ix2 r e)) (fun d => o₁ (ix2 r d)) (fun d => w₁ (ix2 d e))
      + branch (g₂ (ix2 r e)) (fun d => o₂ (ix2 r d)) (fun d => w₂ (ix2 d e)) :=
  congrArg₂ (· + ·) (congrArg (g₁ (ix2 r e) * ·) (proj_apply o₁ w₁ r e)) (congrArg (g₂ (ix2 r e) * ·) (proj_apply o₂ w₂ r e))

theorem res_apply (r : Fin 128) (e : Fin 2048) : (res o₁ o₂ w₁ w₂ g₁ g₂ w x (ix2 r e) : EReal)
    = Ideal.ofBits .f32 0x3F9837F0#32 * x (ix2 r e) + ∑ k : Fin 2048, both o₁ o₂ w₁ w₂ g₁ g₂ (ix2 r k) * w (ix2 k e) := by
  unfold res
  refine congrArg₂ (· + ·) ?_ ?_
  · rw [shapeCast_self]
    rfl
  · refine (Ideal.matmul_plain_apply (M := 128) (K := 2048) (N := 2048) none _ _ _ r e).trans ?_
    rw [constant_apply, Ideal.ofBits_zero_f32, zero_add, shapeCast_self]
    rfl

/-- The store is the residual sum's layer norm. -/
theorem pay_apply (r : Fin 128) (e : Fin 2048) :
    k0_pay1 g b (k0_pay2 o₁ w₁ o₂ w₂ g₁ g₂ w x) (k0_pay3 o₁ w₁ o₂ w₂ g₁ g₂ w x) (ix2 r e)
      = RowNorm.norm (fun k => res o₁ o₂ w₁ w₂ g₁ g₂ w x (ix2 r k)) (fun k => g (ix2 0 k)) (fun k => b (ix2 0 k)) e :=
  RowNorm.normK_apply (a := 128) (res o₁ o₂ w₁ w₂ g₁ g₂ w x) g b
    reduces_S128x2048_S128 (.inl rfl) rfl shapeCasts_S128_S128x1 broadcasts_S128x1_S128x2048 broadcasts_S1x2048_S128x2048 r e

end

end Cert.MergeSIdeal.Pay
-- ==== Proof.MergeS.Stage.lean ====
module

public import proofs.«01_k».proof.Proof.Gen.MergeSRefIdeal.Run
public import proofs.«01_k».proof.Proof.FfnS.Stage
public import proofs.«01_k».proof.Proof.MergeS.Pay

@[expose] public section

set_option maxRecDepth 16384

/-! The reference of the sample rows' merge, stage by stage at one index. Its layer norm is the feed-forward layer's. -/

namespace Cert.MergeSRefIdeal.Stage

open Idealize.ShloMosaic hiding ix0 ix1 ix2 ix3 ix4
open Idealize.ShloMosaic.ValueIdx Cert.MergeSRefIdeal Cert.MergeSRefIdeal.Gen
open Finset

noncomputable section

variable (x : FVec Ideal S128x1x2048 .f32) (o₁ o₂ : FVec Ideal S128x1024 .bf16) (gs : FVec Ideal S128x4096 .bf16)
  (w₁ w₂ : FVec Ideal S1x1024x2048 .f32) (w : FVec Ideal S1x2048x2048 .f32)

/-- An attention's outputs through its weights. -/
def proj (o : FVec Ideal S128x1024 .bf16) (w : FVec Ideal S1x1024x2048 .f32) : FVec Ideal S128x2048 .f32 :=
  Host.dotGeneral dot_S128x1024_S1024x2048_S128x2048_1_0_0_1_n_n none (extf .f32 o bitsLt_bf16_f32)
    (shapeCast S1024x2048 w shapeCasts_S1x1024x2048_S1024x2048)

/-- The two branches together. -/
def both : FVec Ideal S128x2048 .f32 :=
  addf (mulf (extf .f32 (extractStridedSlice S128x2048 ![0, 0] gs slices_S128x4096_S128x2048_0_0) bitsLt_bf16_f32) (proj o₁ w₁))
    (mulf (extf .f32 (extractStridedSlice S128x2048 ![0, 2048] gs slices_S128x4096_S128x2048_0_2048) bitsLt_bf16_f32) (proj o₂ w₂))

/-- The residual sum. -/
def res : FVec Ideal S128x2048 .f32 :=
  addf (mulf (broadcastInDim S128x2048 ![] bcast_S_S128x2048 (constant S_ .f32 0x3F9837F0#32))
      (shapeCast S128x2048 (transpose S1x128x2048 [1, 0, 2] x transposes_S128x1x2048_S1x128x2048_1_0_2) shapeCasts_S1x128x2048_S128x2048))
    (Host.dotGeneral dot_S128x2048_S2048x2048_S128x2048_1_0_0_1_n_n none (both o₁ o₂ gs w₁ w₂)
      (shapeCast S2048x2048 w shapeCasts_S1x2048x2048_S2048x2048))

/-- The stages together are the reference's result. -/
theorem res_eq (m : (ℓ : Loc nD τ sig) → Buf (Elt Ideal) ℓ) (c : Dev nD) : Value.res_out0 m c
    = Cert.FfnSRefIdeal.Stage.norm (res (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)))
      (m ((c.tc : Thread nD τ).loc main_arg7)) (m ((c.tc : Thread nD τ).loc main_arg8)) := by
  unfold Value.res_out0 Value.res_main_v45
  rfl

theorem proj_apply (o : FVec Ideal S128x1024 .bf16) (w : FVec Ideal S1x1024x2048 .f32) (n : Fin 128) (e : Fin 2048) :
    (proj o w (ix2 n e) : EReal) = ∑ d : Fin 1024, o (ix2 n d) * w (ix3 0 d e) := by
  unfold proj
  pointwise
  rfl

theorem both_apply (n : Fin 128) (e : Fin 2048) : (both o₁ o₂ gs w₁ w₂ (ix2 n e) : EReal)
    = Cert.MergeIdeal.Pay.branch (gs (ix2 n ⟨e.val, by omega⟩)) (fun d => o₁ (ix2 n d)) (fun d => w₁ (ix3 0 d e))
      + Cert.MergeIdeal.Pay.branch (gs (ix2 n ⟨2048 + e.val, by omega⟩)) (fun d => o₂ (ix2 n d)) (fun d => w₂ (ix3 0 d e)) := by
  unfold both
  refine congrArg₂ (· + ·) (congrArg₂ (· * ·) ?_ (proj_apply o₁ w₁ n e)) (congrArg₂ (· * ·) ?_ (proj_apply o₂ w₂ n e))
  · refine (Read.slice_cols (a := 128) (b := 2048) (c := 4096) gs slices_S128x4096_S128x2048_0_0 n e (by omega)).trans (congrArg gs (congrArg (ix2 n) (Fin.ext ?_)))
    show 0 + e.val = e.val
    omega
  · exact Read.slice_cols (a := 128) (b := 2048) (c := 4096) gs slices_S128x4096_S128x2048_0_2048 n e (by omega)

theorem res_apply (n : Fin 128) (e : Fin 2048) : (res x o₁ o₂ gs w₁ w₂ w (ix2 n e) : EReal)
    = Ideal.ofBits .f32 0x3F9837F0#32 * x (ix3 n 0 e) + ∑ k : Fin 2048, both o₁ o₂ gs w₁ w₂ (ix2 n k) * w (ix3 0 k e) := by
  unfold res
  pointwise
  rfl

end

end Cert.MergeSRefIdeal.Stage
-- ==== Proof.MergeS.Final.lean ====
module

public import proofs.«01_k».proof.Proof.MergeS.Stage
public import Idealize.ShloMosaic.Lib.Pipeline.ValueKit

@[expose] public section

set_option maxRecDepth 16384

/-! The array of the sample rows' merging call is the reference's. All rows are one block. -/

namespace Cert.MergeSIdeal.Final

open Idealize.ShloMosaic hiding ix0 ix1 ix2 ix3 ix4
open Idealize.ShloMosaic.ValueIdx Idealize.ShloMosaic.TcCoe Idealize.SL.Sem
open Cert.MergeSIdeal Cert.MergeSIdeal.Gen

noncomputable section

variable (m : (ℓ : Loc nD τ sig) → Buf (Elt Ideal) ℓ) (c : Dev nD)

/-- The block's row `r`, as a sample's. -/
def row (t : Fin cfg0.N) (r : Fin 128) : Fin 128 := ⟨128 * t.val + r.val, by have h : t.val < 1 := t.isLt; omega⟩

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_10.index t = ![t.val, 0] := (by decide +kernel : ∀ t : Fin grid0.N, _)
theorem idx5 : ∀ t : Fin cfg0.N, win0_5.index t = ![0, 0] ∧ win0_6.index t = ![0, 0] ∧ win0_7.index t = ![0, 0]
    ∧ win0_8.index t = ![0, 0] ∧ win0_9.index t = ![0, 0] := (by decide +kernel : ∀ t : Fin grid0.N, _)

abbrev X : S128x1x2048.Idx → EReal := m ((c : Thread nD τ).loc main_arg0)
abbrev O₁ : S128x1024.Idx → EReal := m ((c : Thread nD τ).loc main_arg1)
abbrev O₂ : S128x1024.Idx → EReal := m ((c : Thread nD τ).loc main_arg2)
abbrev G : S128x4096.Idx → EReal := m ((c : Thread nD τ).loc main_arg3)
abbrev W₁ : S1x1024x2048.Idx → EReal := m ((c : Thread nD τ).loc main_arg4)
abbrev W₂ : S1x1024x2048.Idx → EReal := m ((c : Thread nD τ).loc main_arg5)
abbrev W : S1x2048x2048.Idx → EReal := m ((c : Thread nD τ).loc main_arg6)

/-! The operands the host prepares. -/

theorem x_apply (n : Fin 128) (e : Fin 2048) : (V m c main_v0 : S128x2048.Idx → EReal) (ix2 n e) = X m c (ix3 n 0 e) := by
  entry_read
  show (shapeCast S128x2048 _ shapeCasts_S128x1x2048_S128x2048 : S128x2048.Idx → EReal) (Idealize.ShloMosaic.ix2 n e) = _
  pointwise
  rfl
theorem w1_apply (d : Fin 1024) (e : Fin 2048) : (V m c main_v2 : S1024x2048.Idx → EReal) (ix2 d e) = W₁ m c (ix3 0 d e) := by
  entry_read
  show (truncf (F := Ideal) .bf16 _ bitsLt_bf16_f32 : S1024x2048.Idx → EReal) (Idealize.ShloMosaic.ix2 d e) = _
  pointwise
  rfl
theorem w2_apply (d : Fin 1024) (e : Fin 2048) : (V m c main_v4 : S1024x2048.Idx → EReal) (ix2 d e) = W₂ m c (ix3 0 d e) := by
  entry_read
  show (truncf (F := Ideal) .bf16 _ bitsLt_bf16_f32 : S1024x2048.Idx → EReal) (Idealize.ShloMosaic.ix2 d e) = _
  pointwise
  rfl
theorem w_apply (d : Fin 2048) (e : Fin 2048) : (V m c main_v6 : S2048x2048.Idx → EReal) (ix2 d e) = W m c (ix3 0 d e) := by
  entry_read
  show (truncf (F := Ideal) .bf16 _ bitsLt_bf16_f32 : S2048x2048.Idx → EReal) (Idealize.ShloMosaic.ix2 d e) = _
  pointwise
  rfl

/-! The blocks. -/

theorem blk0 (t : Fin cfg0.N) (r : Fin 128) (e : Fin 2048) :
    (iblk m c 0 t : S128x2048.Idx → EReal) (ix2 r e) = X m c (ix3 (row t r) 0 e) := by
  rw [← x_apply m c]
  blk_ext [iblk, (idx0 t), row, ValueIdx.ix2]
theorem blk1 (t : Fin cfg0.N) (r : Fin 128) (d : Fin 1024) :
    (iblk m c 1 t : S128x1024.Idx → EReal) (ix2 r d) = O₁ m c (ix2 (row t r) d) := by
  blk_ext! [iblk, V, (idx0 t), row, ValueIdx.ix2]
theorem blk2 (t : Fin cfg0.N) (r : Fin 128) (d : Fin 1024) :
    (iblk m c 2 t : S128x1024.Idx → EReal) (ix2 r d) = O₂ m c (ix2 (row t r) d) := by
  blk_ext! [iblk, V, (idx0 t), row, ValueIdx.ix2]
theorem blk3 (t : Fin cfg0.N) (r : Fin 128) (e : Fin 2048) :
    (iblk m c 3 t : S128x2048.Idx → EReal) (ix2 r e) = G m c (ix2 (row t r) ⟨e.val, by omega⟩) := by
  blk_ext! [iblk, V, (idx0 t), row, ValueIdx.ix2]
theorem blk4 (t : Fin cfg0.N) (r : Fin 128) (e : Fin 2048) :
    (iblk m c 4 t : S128x2048.Idx → EReal) (ix2 r e) = G m c (ix2 (row t r) ⟨2048 + e.val, by omega⟩) := by
  blk_ext! [iblk, V, (idx0 t), row, ValueIdx.ix2]
theorem blk5 (t : Fin cfg0.N) (d : Fin 1024) (e : Fin 2048) :
    (iblk m c 5 t : S1024x2048.Idx → EReal) (ix2 d e) = W₁ m c (ix3 0 d e) := by
  rw [← w1_apply m c]
  blk_ext [iblk, (idx5 t), ValueIdx.ix2]
theorem blk6 (t : Fin cfg0.N) (d : Fin 1024) (e : Fin 2048) :
    (iblk m c 6 t : S1024x2048.Idx → EReal) (ix2 d e) = W₂ m c (ix3 0 d e) := by
  rw [← w2_apply m c]
  blk_ext [iblk, (idx5 t), ValueIdx.ix2]
theorem blk7 (t : Fin cfg0.N) (d : Fin 2048) (e : Fin 2048) :
    (iblk m c 7 t : S2048x2048.Idx → EReal) (ix2 d e) = W m c (ix3 0 d e) := by
  rw [← w_apply m c]
  blk_ext [iblk, (idx5 t), ValueIdx.ix2]
theorem blk8 (t : Fin cfg0.N) : iblk m c 8 t = m ((c : Thread nD τ).loc main_arg7) := by blk_ext! [iblk, V, (idx5 t)]
theorem blk9 (t : Fin cfg0.N) : iblk m c 9 t = m ((c : Thread nD τ).loc main_arg8) := by blk_ext! [iblk, V, (idx5 t)]

/-- The reference's residual sum over the kernel's arguments. -/
abbrev sum : S128x2048.Idx → EReal :=
  Cert.MergeSRefIdeal.Stage.res (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The reference's result over the kernel's arguments. -/
def want : S128x2048.Idx → EReal :=
  Cert.FfnSRefIdeal.Stage.norm (sum m c) (m ((c : Thread nD τ).loc main_arg7)) (m ((c : Thread nD τ).loc main_arg8))

/-- The point's residual sum is the reference's. -/
theorem res_eq (t : Fin cfg0.N) (r : Fin 128) (e : Fin 2048) :
    Pay.res (iblk m c 1 t) (iblk m c 2 t) (iblk m c 5 t) (iblk m c 6 t) (iblk m c 3 t) (iblk m c 4 t) (iblk m c 7 t) (iblk m c 0 t) (ix2 r e)
      = sum m c (ix2 (row t r) e) := by
  refine (Pay.res_apply _ _ _ _ _ _ _ _ r e).trans (Eq.trans ?_ (Cert.MergeSRefIdeal.Stage.res_apply _ _ _ _ _ _ _ (row t r) e).symm)
  refine congrArg₂ (· + ·) (congrArg (Ideal.ofBits .f32 0x3F9837F0#32 * ·) (blk0 m c t r e)) (Finset.sum_congr rfl fun k _ => ?_)
  refine congrArg₂ (· * ·) ?_ (blk7 m c t k e)
  refine (Pay.both_apply _ _ _ _ _ _ r k).trans (Eq.trans ?_ (Cert.MergeSRefIdeal.Stage.both_apply _ _ _ _ _ (row t r) k).symm)
  simp only [blk1, blk2, blk3, blk4, blk5, blk6]

/-- A point's output block is the reference's at its place. -/
theorem point (t : Fin cfg0.N) (r : Fin 128) (e : Fin 2048) :
    ((dats m 0 c).after 10 t : S128x2048.Idx → EReal) (ix2 r e) = want m c (ix2 (row t r) e) := by
  rw [after0_10]
  frame_out
  refine (Pay.pay_apply _ _ _ _ _ _ _ _ _ _ r e).trans ?_
  rw [blk8, blk9]
  refine Eq.trans ?_ (Cert.FfnSRefIdeal.Stage.norm_apply _ _ _ (row t r) e).symm
  exact congrArg (fun z => RowNorm.norm z _ _ e) (funext fun k => res_eq m c t r k)

/-- The final array. -/
theorem final : (dats m 0 c).arrAt 10 cfg0.N = want m c := by
  refine (dats m 0 c).arrAt_eq_of_covers 10 _ (by decide +kernel) fun t hf y => ?_
  obtain ⟨r, e, rfl⟩ : ∃ (r : Fin 128) (e : Fin 2048), y = ix2 r e := ⟨y 0, y 1, by funext a; fin_cases a <;> rfl⟩
  blk_simp
  refine (point m c t r e).trans (congrArg (want m c) ?_)
  blk_ext [(idx0 t), row, ValueIdx.ix2]

end

end Cert.MergeSIdeal.Final
-- ==== Proof.MergeS.Claims.lean ====
module

public import proofs.«01_k».proof.Defs
public import proofs.«01_k».proof.Proof.Gen.MergeS.Frame
public import proofs.«01_k».proof.Proof.MergeS.Final

@[expose] public section

/-!
The claims about the sample rows' merging call.
-/

namespace Cert.Proof.MergeS

open Idealize.ShloMosaic Idealize.SL.Sem

noncomputable section

/-- The kernel runs and leaves its arguments as they were. -/
theorem frame : Cert.quiescent_MergeS := fun m ρ _ => Cert.MergeS.Gen.frame m ρ
/-- So does the ideal kernel. -/
theorem frame_ideal : Cert.quiescent_MergeSIdeal := fun m ρ _ => Cert.MergeSIdeal.Gen.frame m ρ
/-- The reference runs and leaves its arguments as they were. -/
theorem frame_ref : Cert.quiescent_MergeSRefIdeal := fun m ρ _ =>
  (θ_run Cert.MergeSRefIdeal.defs _ _).mono (fun r h => ⟨fun c => (h c).2, sem_eq_zero_of_no_sems (by decide) r.2⟩) (Cert.MergeSRefIdeal.Value.run m ρ)

/-- Kernel and reference agree over the extended reals. -/
theorem algebraic : Cert.algebraic_MergeSIdeal_MergeSRefIdeal := fun m ρ m' ρ' _ hag =>
  ⟨fun c => Cert.MergeSIdeal.Final.want m c,
    (θ_run _ _ _).mono (fun _ h c => ⟨(h c).1.trans (Cert.MergeSIdeal.Final.final m c), (h c).2⟩) (Cert.MergeSIdeal.Value.run_blocks m ρ),
    (θ_run _ _ _).mono (fun _ h c => ⟨(h c).1.trans (by
      obtain ⟨h0, h1, h2, h3, h4, h5, h6, h7, h8⟩ := hag c
      refine (Cert.MergeSRefIdeal.Stage.res_eq m' c).trans ?_
      rw [h0, h1, h2, h3, h4, h5, h6, h7, h8]
      rfl), (h c).2⟩) (Cert.MergeSRefIdeal.Value.run m' ρ')⟩

end

end Cert.Proof.MergeS
-- ==== Proof.FfnS.Body.lean ====
module

public import proofs.«01_k».proof.Proof.Gen.FfnSIdeal.Value
public import proofs.«01_k».proof.Proof.FfnS.Pay
public import Idealize.ShloMosaic.Lib.Pipeline.ReadBack

@[expose] public section

set_option maxRecDepth 16384

/-! What a point of the sample rows' feed-forward call leaves in its buffers, by its place in the run of sixteen. -/

namespace Cert.FfnSIdeal.Body

open Idealize.ShloMosaic Idealize.SL.Sem Idealize.ShloMosaic.TcCoe
open Cert.FfnSIdeal Cert.FfnSIdeal.Gen

noncomputable section

variable {F : FTy → Type} [FloatOps F]
variable (m : (ℓ : Loc nD τ sig) → Buf (Elt F) ℓ) (c : Dev nD)

/-- The point before. -/
theorem before_lt (t : Fin cfg0.N) : t.val - 1 < cfg0.N := Nat.lt_of_le_of_lt (Nat.sub_le _ _) t.isLt

/-- The first point of a run: the rows are copied and the first block's part is added to zero. -/
theorem first (t : Fin cfg0.N) (h0 : t.val % 16 = 0) :
    (outsAt0 m c t.val t.isLt).2
      = (k0_pay1 (iblk m c 0 t), k0_pay3 (k0_pay1 (iblk m c 0 t)) (iblk m c 1 t) k0_pay2 (iblk m c 2 t)) := by
  rw [outsAt0_A m c t h0 (by omega)]
  dsimp only
  refine Prod.ext ?_ ?_ <;> dsimp only
  · unfold sout0_A_0
    frame_out
  · unfold sout0_A_1
    frame_out

/-- A later point adds its block's part. -/
theorem later (t : Fin cfg0.N) (h0 : ¬t.val % 16 = 0) :
    (outsAt0 m c t.val t.isLt).2
      = ((outsAt0 m c (t.val - 1) (before_lt t)).2.1,
          k0_pay3 (outsAt0 m c (t.val - 1) (before_lt t)).2.1 (iblk m c 1 t) (outsAt0 m c (t.val - 1) (before_lt t)).2.2 (iblk m c 2 t)) := by
  by_cases h1 : t.val % 16 = 15
  · rw [outsAt0_C m c t h0 h1]
    dsimp only
    refine Prod.ext rfl ?_
    dsimp only
    unfold sout0_C_1
    frame_out
    simp only [read_unread_whole]
  · rw [outsAt0_B m c t h0 h1]
    dsimp only
    refine Prod.ext rfl ?_
    dsimp only
    unfold sout0_B_1
    frame_out
    simp only [read_unread_whole]

/-- The last point of a run writes the layer norm of the residual sum. -/
theorem last (t : Fin cfg0.N) (h1 : t.val % 16 = 15) :
    (outsAt0 m c t.val t.isLt).1 = k0_pay4 (iblk m c 0 t) (outsAt0 m c t.val t.isLt).2.2 (iblk m c 3 t) (iblk m c 4 t) := by
  rw [later m c t (by omega), outsAt0_C m c t (by omega) h1]
  dsimp only
  unfold out0_C_5
  frame_out
  simp only [read_unread_whole]

end

end Cert.FfnSIdeal.Body
-- ==== Proof.FfnS.Final.lean ====
module

public import proofs.«01_k».proof.Proof.FfnS.Body
public import proofs.«01_k».proof.Proof.FfnS.Stage
public import Idealize.ShloMosaic.Lib.Pipeline.ValueKit

@[expose] public section

set_option maxRecDepth 16384

/-!
The array of the sample rows' feed-forward call is the reference's. Point `t` works on block `t / 8` of the rows and block `t % 16` of
the hidden units.
-/

namespace Cert.FfnSIdeal.Final

open Idealize.ShloMosaic hiding ix0 ix1 ix2 ix3 ix4
open Idealize.ShloMosaic.ValueIdx Idealize.ShloMosaic.TcCoe Idealize.SL.Sem
open Cert.FfnSIdeal Cert.FfnSIdeal.Gen
open Finset

noncomputable section

variable (m : (ℓ : Loc nD τ sig) → Buf (Elt Ideal) ℓ) (c : Dev nD)

/-- The block's row `r`, as a sample's. -/
def row (t : Fin cfg0.N) (r : Fin 128) : Fin 128 := ⟨128 * (t.val / 16) + r.val, by have h : t.val < 16 := t.isLt; omega⟩
/-- The block's hidden unit `k`, as one of all. -/
def unit (t : Fin cfg0.N) (k : Fin 512) : Fin 8192 := ⟨512 * (t.val % 16) + k.val, by omega⟩

theorem idx0 : ∀ t : Fin cfg0.N, win0_0.index t = ![t.val / 16, 0] := (by decide +kernel : ∀ t : Fin grid0.N, _)
theorem idx1 : ∀ t : Fin cfg0.N, win0_1.index t = ![0, t.val % 16] := (by decide +kernel : ∀ t : Fin grid0.N, _)
theorem idx2 : ∀ t : Fin cfg0.N, win0_2.index t = ![t.val % 16, 0] := (by decide +kernel : ∀ t : Fin grid0.N, _)
theorem idx3 : ∀ t : Fin cfg0.N, win0_3.index t = ![0, 0] ∧ win0_4.index t = ![0, 0] := (by decide +kernel : ∀ t : Fin grid0.N, _)
theorem idx5 : ∀ t : Fin cfg0.N, win0_5.index t = ![t.val / 16, 0] := (by decide +kernel : ∀ t : Fin grid0.N, _)

/-- The rows. -/
abbrev X : S128x2048.Idx → EReal := m ((c : Thread nD τ).loc main_arg0)
/-- The first weights. -/
abbrev U : S1x2048x8192.Idx → EReal := m ((c : Thread nD τ).loc main_arg1)
/-- The second weights. -/
abbrev W : S1x8192x2048.Idx → EReal := m ((c : Thread nD τ).loc main_arg2)

theorem blk0 (t : Fin cfg0.N) (r : Fin 128) (d : Fin 2048) :
    (iblk m c 0 t : S128x2048.Idx → EReal) (ix2 r d) = X m c (ix2 (row t r) d) := by
  blk_ext! [iblk, V, (idx0 t), row, ValueIdx.ix2]

theorem up_apply (d : Fin 2048) (p : Fin 8192) : (V m c main_v1 : S2048x8192.Idx → EReal) (ix2 d p) = U m c (ix3 0 d p) := by
  entry_read
  show (truncf (F := Ideal) .bf16 _ bitsLt_bf16_f32 : S2048x8192.Idx → EReal) (Idealize.ShloMosaic.ix2 d p) = _
  pointwise
  rfl

theorem down_apply (p : Fin 8192) (e : Fin 2048) : (V m c main_v3 : S8192x2048.Idx → EReal) (ix2 p e) = W m c (ix3 0 p e) := by
  entry_read
  show (truncf (F := Ideal) .bf16 _ bitsLt_bf16_f32 : S8192x2048.Idx → EReal) (Idealize.ShloMosaic.ix2 p e) = _
  pointwise
  rfl

theorem blk1 (t : Fin cfg0.N) (d : Fin 2048) (k : Fin 512) :
    (iblk m c 1 t : S2048x512.Idx → EReal) (ix2 d k) = U m c (ix3 0 d (unit t k)) := by
  rw [← up_apply m c]
  blk_ext [iblk, (idx1 t), unit, ValueIdx.ix2]

theorem blk2 (t : Fin cfg0.N) (k : Fin 512) (e : Fin 2048) :
    (iblk m c 2 t : S512x2048.Idx → EReal) (ix2 k e) = W m c (ix3 0 (unit t k) e) := by
  rw [← down_apply m c]
  blk_ext [iblk, (idx2 t), unit, ValueIdx.ix2]

theorem blk3 (t : Fin cfg0.N) : iblk m c 3 t = m ((c : Thread nD τ).loc main_arg3) := by blk_ext! [iblk, V, (idx3 t)]
theorem blk4 (t : Fin cfg0.N) : iblk m c 4 t = m ((c : Thread nD τ).loc main_arg4) := by blk_ext! [iblk, V, (idx3 t)]

/-- Hidden unit `p`'s part of entry `e` of row `n`. -/
def part (n : Fin 128) (e : Fin 2048) (p : ℕ) : EReal :=
  if h : p < 8192 then Cert.FfnIdeal.Pay.hidden (fun d => X m c (ix2 n d)) (fun d => U m c (ix3 0 d ⟨p, h⟩)) * W m c (ix3 0 ⟨p, h⟩ e) else 0

/-- A block's part. -/
theorem block_part (t : Fin cfg0.N) (x : Vec Ideal S128x2048 .bf16) (r : Fin 128) (e : Fin 2048)
    (hx : ∀ d, x (ix2 r d) = X m c (ix2 (row t r) d)) (a : Vec Ideal S128x2048 .f32) :
    k0_pay3 x (iblk m c 1 t) a (iblk m c 2 t) (ix2 r e)
      = a (ix2 r e) + ∑ k ∈ range 512, part m c (row t r) e (512 * (t.val % 16) + k) := by
  rw [Pay.pay3_apply, Finset.sum_range]
  refine congrArg (a (ix2 r e) + ·) (Finset.sum_congr rfl fun k _ => ?_)
  unfold part
  rw [dif_pos (by omega), blk2]
  simp only [hx, blk1]
  rfl

/-- After each point the first scratch holds the rows and the second the sum over the blocks so far. -/
theorem sofar : ∀ (k : ℕ) (t : Fin cfg0.N), t.val % 16 = k → ∀ (r : Fin 128) (e : Fin 2048),
    ((outsAt0 m c t.val t.isLt).2.1 : S128x2048.Idx → EReal) (ix2 r e) = X m c (ix2 (row t r) e)
    ∧ ((outsAt0 m c t.val t.isLt).2.2 : S128x2048.Idx → EReal) (ix2 r e) = ∑ p ∈ range (512 * (k + 1)), part m c (row t r) e p := by
  intro k
  induction k with
  | zero =>
    intro t ht r e
    rw [Body.first m c t ht]
    have hx (d : Fin 2048) : k0_pay1 (iblk m c 0 t) (ix2 r d) = X m c (ix2 (row t r) d) := (Pay.pay1_apply _ r d).trans (blk0 m c t r d)
    refine ⟨hx e, ?_⟩
    refine (block_part m c t _ r e hx _).trans ?_
    rw [Pay.pay2_apply, zero_add, ht]
    simp only [Nat.mul_zero, Nat.zero_add, Nat.mul_one]
  | succ k ih =>
    intro t ht r e
    have hp := ih ⟨t.val - 1, Body.before_lt t⟩ (by show (t.val - 1) % 16 = k; omega)
    have hrow : row ⟨t.val - 1, Body.before_lt t⟩ r = row t r := Fin.ext (by show 128 * ((t.val - 1) / 16) + _ = 128 * (t.val / 16) + _; omega)
    rw [Body.later m c t (by omega)]
    refine ⟨(hp r e).1.trans (by rw [hrow]), ?_⟩
    refine (block_part m c t _ r e (fun d => (hp r d).1.trans (by rw [hrow])) _).trans ?_
    rw [show 512 * (k + 1 + 1) = 512 * (k + 1) + 512 from by omega, Finset.sum_range_add, ht]
    refine congrArg (· + _) ((hp r e).2.trans ?_)
    rw [hrow]

/-- The reference's result over the kernel's arguments. -/
def want : S128x2048.Idx → EReal :=
  Cert.FfnSRefIdeal.Stage.norm (Cert.FfnSRefIdeal.Stage.res (m ((c : Thread nD τ).loc main_arg0)) (m ((c : Thread nD τ).loc main_arg1))
    (m ((c : Thread nD τ).loc main_arg2))) (m ((c : Thread nD τ).loc main_arg3)) (m ((c : Thread nD τ).loc main_arg4))

/-- The block a run ends with is the reference's at its place. -/
theorem point (t : Fin cfg0.N) (ht : t.val % 16 = 15) (r : Fin 128) (e : Fin 2048) :
    (outsAt0 m c t.val t.isLt).1 (ix2 r e) = want m c (ix2 (row t r) e) := by
  rw [Body.last m c t ht, Pay.pay4_apply, blk3, blk4]
  refine Eq.trans ?_ (Cert.FfnSRefIdeal.Stage.norm_apply _ _ _ (row t r) e).symm
  refine congrArg (fun z => RowNorm.norm z _ _ e) (funext fun k => ?_)
  rw [blk0, (sofar m c 15 t ht r k).2]
  refine Eq.trans ?_ (Cert.FfnSRefIdeal.Stage.res_apply _ _ _ (row t r) k).symm
  refine congrArg (Ideal.ofBits .f32 0x3F9837F0#32 * X m c (ix2 (row t r) k) + ·) ?_
  refine (Finset.sum_range (n := 8192) _).trans (Finset.sum_congr rfl fun p _ => ?_)
  exact dif_pos p.isLt

/-- The final array. -/
theorem final : (dats m 0 c).arrAt 5 cfg0.N = want m c := by
  refine (dats m 0 c).arrAt_eq_of_covers 5 _ (by decide +kernel) fun t hf y => ?_
  obtain ⟨r, e, rfl⟩ : ∃ (r : Fin 128) (e : Fin 2048), y = ix2 r e := ⟨y 0, y 1, by funext a; fin_cases a <;> rfl⟩
  blk_simp
  rw [after0_5]
  refine (point m c t ((flush0_5 t).mp hf) r e).trans (congrArg (want m c) ?_)
  blk_ext [(idx5 t), row, ValueIdx.ix2]

end

end Cert.FfnSIdeal.Final
-- ==== Proof.FfnS.Claims.lean ====
module

public import proofs.«01_k».proof.Defs
public import proofs.«01_k».proof.Proof.Gen.FfnS.Frame
public import proofs.«01_k».proof.Proof.FfnS.Final

@[expose] public section

/-!
The claims about the sample rows' feed-forward call.
-/

namespace Cert.Proof.FfnS

open Idealize.ShloMosaic Idealize.SL.Sem

noncomputable section

/-- The kernel runs and leaves its arguments as they were. -/
theorem frame : Cert.quiescent_FfnS := fun m ρ _ => Cert.FfnS.Gen.frame m ρ
/-- So does the ideal kernel. -/
theorem frame_ideal : Cert.quiescent_FfnSIdeal := fun m ρ _ => Cert.FfnSIdeal.Gen.frame m ρ
/-- The reference runs and leaves its arguments as they were. -/
theorem frame_ref : Cert.quiescent_FfnSRefIdeal := fun m ρ _ =>
  (θ_run Cert.FfnSRefIdeal.defs _ _).mono (fun r h => ⟨fun c => (h c).2, sem_eq_zero_of_no_sems (by decide) r.2⟩) (Cert.FfnSRefIdeal.Value.run m ρ)

/-- Kernel and reference agree over the extended reals. -/
theorem algebraic : Cert.algebraic_FfnSIdeal_FfnSRefIdeal := fun m ρ m' ρ' _ hag =>
  ⟨fun c => Cert.FfnSIdeal.Final.want m c,
    (θ_run _ _ _).mono (fun _ h c => ⟨(h c).1.trans (Cert.FfnSIdeal.Final.final m c), (h c).2⟩) (Cert.FfnSIdeal.Value.run_blocks m ρ),
    (θ_run _ _ _).mono (fun _ h c => ⟨(h c).1.trans (by
      obtain ⟨h0, h1, h2, h3, h4⟩ := hag c
      refine (Cert.FfnSRefIdeal.Stage.res_eq m' c).trans ?_
      rw [h0, h1, h2, h3, h4]
      rfl), (h c).2⟩) (Cert.FfnSRefIdeal.Value.run m' ρ')⟩

end

end Cert.Proof.FfnS
-- ==== Proof.Sb.Kit.lean ====
/- The set-up of the stick-breaking call: the arrays as the launch finds them, the blocks its points take, and what is
   left of the arguments after any run of it. -/
module

public import proofs.«01_k».proof.Proof.Gen.SbIdeal.Launch
public import proofs.«01_k».proof.Proof.Gen.SbIdeal.Points
public import proofs.«01_k».proof.Proof.Gen.SbIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Sb

open Cert.SbIdeal Cert.SbIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by exact (by decide : ∀ w : Fin 7, (spec0 w).arr.view.ref ≠ main_arg1)))).trans (V_main_arg1 m c)⟩) h

end Cert.Proof.Sb

end
-- ==== Proof.Sb.Step.lean ====
/- One point of the stick-breaking kernel: the block on the diagonal, the earlier blocks while the loop's test holds, the
   block of the rows beside the prompt if it still holds, and what the body leaves in its output. -/
module

public import proofs.«01_k».proof.Proof.Sb.Kit
public import Idealize.ShloMosaic.Lib.VecWindow

@[expose] public section

set_option maxRecDepth 16384

noncomputable section

namespace Cert.Proof.Sb

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Loads and stores of a buffer held whole -/

section Whole

variable (c : Dev nD) (bd : Option Variants.nat.V) (E : Set ℕ) {s : Shape} {e : EltTy} (m : Memref sig .tc .vmem s e)

/-- A load reads its rectangle of what the buffer holds. -/
theorem load_held (X : s.Idx → Elt F e) (r : Rect s) {hl : m.view.LoadsAt r.toLoadRect} {α : Type}
    {k : (r.toLoadRect.shape.Idx → Elt F e) → Prog (TpuEff nD τ sig (Elt F) (Λ₀ F) .tc) α} {Q : α → sProp 𝕄} :
    (owns (c : Thread nD τ) m fullShare X : sProp 𝕄)
      ⊢ iprop((owns (c : Thread nD τ) m fullShare X
          -∗ wp frame (wpE (defs₀ (F := F)) Variants.nat (c : Thread nD τ) bd) E (k (View.ld X r)) Q)
        -∗ wp frame (wpE (defs₀ (F := F)) Variants.nat (c : Thread nD τ) bd) E (.op (.load m r.toLoadRect hl) k) Q) := by
  unfold owns
  iintro ⟨%f, %hf, H⟩ Hk
  iapply (wp_load Variants.nat (c : Thread nD τ) bd E (m := m) (View.setOn_subset_set _ _)) $$ H
  iintro H
  have e : m.view.readAt (Elt F) r.toLoadRect f = View.ld X r := by rw [← hf]; rfl
  rw [e]
  iapply Hk
  iexists f; isplitr
  · ipureintro; exact hf
  iexact H

/-- A load of the whole buffer reads what it holds. -/
theorem load_all (X : s.Idx → Elt F e) {off : Fin s.rank → ℕ} (inb : ∀ a, off a + s.size a ≤ s.size a)
    {hl : m.view.LoadsAt (Rect.unit off s.size inb).toLoadRect} {α : Type}
    {k : (s.Idx → Elt F e) → Prog (TpuEff nD τ sig (Elt F) (Λ₀ F) .tc) α} {Q : α → sProp 𝕄} :
    (owns (c : Thread nD τ) m fullShare X : sProp 𝕄)
      ⊢ iprop((owns (c : Thread nD τ) m fullShare X
          -∗ wp frame (wpE (defs₀ (F := F)) Variants.nat (c : Thread nD τ) bd) E (k X) Q)
        -∗ wp frame (wpE (defs₀ (F := F)) Variants.nat (c : Thread nD τ) bd) E
            (.op (.load m (Rect.unit off s.size inb).toLoadRect hl) k) Q) := by
  have e : View.ld X (Rect.unit off s.size inb) = X := by
    funext y
    exact congrArg X (funext fun a => Fin.ext (by
      show off a + 1 * (y a).val = (y a).val
      have := inb a; omega))
  have h := load_held c bd E m X (Rect.unit off s.size inb) (hl := hl) (k := k) (Q := Q)
  rw [e] at h
  exact h

/-- A store over the whole buffer leaves its payload. -/
theorem store_held (hm : m.IsWhole) (X : s.Idx → Elt F e) {off : Fin s.rank → ℕ} (inb : ∀ a, off a + s.size a ≤ s.size a)
    (w : (Rect.unit off s.size inb).shape.Idx → Elt F e)
    {hx : (m.access (Rect.unit off s.size inb)).Stores Finset.univ} {hs : Finset.univ = Finset.univ ∨ ∀ a, (Rect.unit off s.size inb).stride a = 1}
    {α : Type} {k : PUnit → Prog (TpuEff nD τ sig (Elt F) (Λ₀ F) .tc) α} {Q : α → sProp 𝕄} :
    (owns (c : Thread nD τ) m fullShare X : sProp 𝕄)
      ⊢ iprop((owns (c : Thread nD τ) m fullShare (w : s.Idx → Elt F e)
          -∗ wp frame (wpE (defs₀ (F := F)) Variants.nat (c : Thread nD τ) bd) E (k ⟨⟩) Q)
        -∗ wp frame (wpE (defs₀ (F := F)) Variants.nat (c : Thread nD τ) bd) E
            (.op (.store m (Rect.unit off s.size inb) w Finset.univ hx hs) k) Q) := by
  unfold owns
  iintro ⟨%f, %hf, H⟩ Hk
  obtain rfl := hm.eq_unread hf
  iapply (wp_store Variants.nat (c : Thread nD τ) bd E (m := m) (r := Rect.unit off s.size inb) (Mk := Finset.univ) (Memref.setOn_access_subset m _ _)) $$ H
  iintro H
  iapply Hk
  iexists _; isplitr
  swap; · iexact H
  ipureintro
  exact View.read_writes_full m.view (hm.unread X) inb w []

/-- A store at a rectangle puts its payload there. -/
theorem put_held (hm : m.IsWhole) (X : s.Idx → Elt F e) {off size : Fin s.rank → ℕ} (inb : ∀ a, off a + size a ≤ s.size a)
    (w : (Rect.unit off size inb).shape.Idx → Elt F e)
    {hx : (m.access (Rect.unit off size inb)).Stores Finset.univ} {hs : Finset.univ = Finset.univ ∨ ∀ a, (Rect.unit off size inb).stride a = 1}
    {α : Type} {k : PUnit → Prog (TpuEff nD τ sig (Elt F) (Λ₀ F) .tc) α} {Q : α → sProp 𝕄} :
    (owns (c : Thread nD τ) m fullShare X : sProp 𝕄)
      ⊢ iprop((owns (c : Thread nD τ) m fullShare (VecWindow.put X off size w)
          -∗ wp frame (wpE (defs₀ (F := F)) Variants.nat (c : Thread nD τ) bd) E (k ⟨⟩) Q)
        -∗ wp frame (wpE (defs₀ (F := F)) Variants.nat (c : Thread nD τ) bd) E
            (.op (.store m (Rect.unit off size inb) w Finset.univ hx hs) k) Q) := by
  unfold owns
  iintro ⟨%f, %hf, H⟩ Hk
  obtain rfl := hm.eq_unread hf
  iapply (wp_store Variants.nat (c : Thread nD τ) bd E (m := m) (r := Rect.unit off size inb) (Mk := Finset.univ) (Memref.setOn_access_subset m _ _)) $$ H
  iintro H
  iapply Hk
  iexists _; isplitr
  swap; · iexact H
  ipureintro
  refine (View.read_writes_cons_put m.view (hm.unread X) inb w [] rfl).trans ?_
  rw [View.writes_nil, hf]

end Whole

/-! ## What a point computes -/

/-- The four heads' columns of a block of rows. -/
abbrev head0 (X : Vec F S256x512 .bf16) : Vec F S256x128 .bf16 :=
  View.ld X (Rect.unit (s := S256x512) ![0, 0] S256x128.size inb_S256x512_S256x128_0_0)
abbrev head1 (X : Vec F S256x512 .bf16) : Vec F S256x128 .bf16 :=
  View.ld X (Rect.unit (s := S256x512) ![0, 128] S256x128.size inb_S256x512_S256x128_0_128)
abbrev head2 (X : Vec F S256x512 .bf16) : Vec F S256x128 .bf16 :=
  View.ld X (Rect.unit (s := S256x512) ![0, 256] S256x128.size inb_S256x512_S256x128_0_256)
abbrev head3 (X : Vec F S256x512 .bf16) : Vec F S256x128 .bf16 :=
  View.ld X (Rect.unit (s := S256x512) ![0, 384] S256x128.size inb_S256x512_S256x128_0_384)

/-- Those of the rows of the point's own block, -/
abbrev own0 (i : grid0.Coords) (X : Vec F S8192x512 .bf16) : Vec F S256x128 .bf16 :=
  View.ld X (Rect.unit (s := S8192x512) (k0_off1 i) S256x128.size (k0_off1_inb i))
abbrev own1 (i : grid0.Coords) (X : Vec F S8192x512 .bf16) : Vec F S256x128 .bf16 :=
  View.ld X (Rect.unit (s := S8192x512) (k0_off2 i) S256x128.size (k0_off2_inb i))
abbrev own2 (i : grid0.Coords) (X : Vec F S8192x512 .bf16) : Vec F S256x128 .bf16 :=
  View.ld X (Rect.unit (s := S8192x512) (k0_off3 i) S256x128.size (k0_off3_inb i))
abbrev own3 (i : grid0.Coords) (X : Vec F S8192x512 .bf16) : Vec F S256x128 .bf16 :=
  View.ld X (Rect.unit (s := S8192x512) (k0_off4 i) S256x128.size (k0_off4_inb i))

/-- and those of the rows of block `b`. -/
abbrev at0 (b : BitVec 32) (hb : k0_chk1 b) (X : Vec F S8192x512 .bf16) : Vec F S256x128 .bf16 :=
  View.ld X (Rect.unit (s := S8192x512) (k0_off5 b) S256x128.size (k0_off5_inb b hb))
abbrev at1 (b : BitVec 32) (hb : k0_chk1 b) (X : Vec F S8192x512 .bf16) : Vec F S256x128 .bf16 :=
  View.ld X (Rect.unit (s := S8192x512) (k0_off6 b) S256x128.size (k0_off6_inb b hb))
abbrev at2 (b : BitVec 32) (hb : k0_chk1 b) (X : Vec F S8192x512 .bf16) : Vec F S256x128 .bf16 :=
  View.ld X (Rect.unit (s := S8192x512) (k0_off7 b) S256x128.size (k0_off7_inb b hb))
abbrev at3 (b : BitVec 32) (hb : k0_chk1 b) (X : Vec F S8192x512 .bf16) : Vec F S256x128 .bf16 :=
  View.ld X (Rect.unit (s := S8192x512) (k0_off8 b) S256x128.size (k0_off8_inb b hb))

/-- The carried logarithms, the weighted values so far, and the greatest logarithm. -/
structure St (F : FTy → Type) where
  c : Vec F S1024x256 .f32
  a : Vec F S1024x128 .f32
  m : F .f32

/-- The test on the greatest logarithm. -/
def goes (x : F .f32) : Prop := Scalar.cmpf .ogt x (Scalar.ofBits .f32 0xC2D00000#32) = 1#1

instance (x : F .f32) : Decidable (goes x) := by unfold goes; infer_instance

section Point

variable (q0 q1 q2 q3 : Vec F S256x128 .bf16) (tr : FVec F S256x256 .bf16) (K V : Vec F S8192x512 .bf16)

/-- One earlier block, -/
def trip (b : BitVec 32) (hb : k0_chk1 b) (s : St F) : St F where
  c := k0_pay4 s.c (k0_pay35 q0 q1 q2 q3 (at0 b hb K) (at1 b hb K) (at2 b hb K) (at3 b hb K))
    (k0_pay36 q0 q1 q2 q3 tr (at0 b hb K) (at1 b hb K) (at2 b hb K) (at3 b hb K))
  a := k0_pay5 s.c s.a (k0_pay36 q0 q1 q2 q3 tr (at0 b hb K) (at1 b hb K) (at2 b hb K) (at3 b hb K))
    (k0_pay37 q0 q1 q2 q3 (at0 b hb K) (at1 b hb K) (at2 b hb K) (at3 b hb K)) (at0 b hb V) (at1 b hb V) (at2 b hb V) (at3 b hb V)
  m := k0_pay6 s.c (k0_pay35 q0 q1 q2 q3 (at0 b hb K) (at1 b hb K) (at2 b hb K) (at3 b hb K))
    (k0_pay36 q0 q1 q2 q3 tr (at0 b hb K) (at1 b hb K) (at2 b hb K) (at3 b hb K))

/-- Every block of the 32 lies inside the keys and the values. -/
theorem chk_of_lt : ∀ k < 32, k0_chk1 (BitVec.ofNat 32 k) := by decide

/-- and the blocks below `k`, the nearest first, while the test holds. -/
def run : (k : ℕ) → k ≤ 32 → St F → St F
  | 0, _, s => s
  | k + 1, h, s =>
    if goes s.m then run k (by omega) (trip q0 q1 q2 q3 tr K V (BitVec.ofNat 32 k) (chk_of_lt k (by omega)) s) else s

end Point

/-! ## The loop's counter -/

theorem and_one : ∀ x y : BitVec 1, Scalar.andi x y = 1#1 ↔ x = 1#1 ∧ y = 1#1 := by decide
theorem guard_one : ∀ x : BitVec 1, Scalar.cmpi .ne (Scalar.extui x) 0#32 = 1#1 ↔ x = 1#1 := by decide
theorem below_none : ¬Scalar.cmpi .sge (Scalar.subi (BitVec.ofNat 32 0) 1#32) 0#32 = 1#1 := by decide
theorem below_some : ∀ k < 32, Scalar.cmpi .sge (BitVec.ofNat 32 k) 0#32 = 1#1 := by decide
theorem next_below : ∀ k < 32, Scalar.subi (BitVec.ofNat 32 (k + 1)) 1#32 = BitVec.ofNat 32 k := by decide

/-! ## The loop -/

section Loop

variable (c : Dev nD) (i : grid0.Coords) (arg3 arg4 : Memref sig .tc .vmem S8192x512 .bf16) (harg3 : arg3.IsWhole) (harg4 : arg4.IsWhole)
  (arg9 : Memref sig .tc .vmem S1024x256 .f32) (harg9 : arg9.IsWhole) (arg10 : Memref sig .tc .vmem S1024x128 .f32) (harg10 : arg10.IsWhole)
  (q0 q1 q2 q3 : Vec F S256x128 .bf16) (tr : FVec F S256x256 .bf16) (K V : Vec F S8192x512 .bf16)

/-- The buffers the loop reads and writes. -/
def held (s : St F) : sProp 𝕄 :=
  iprop(owns (c : Thread nD τ) arg3 fullShare K ∗ owns (c : Thread nD τ) arg4 fullShare V
    ∗ owns (c : Thread nD τ) arg9 fullShare s.c ∗ owns (c : Thread nD τ) arg10 fullShare s.a)

/-- The loop with `k` blocks below it: it leaves what `run` says and returns the greatest logarithm of it. -/
def spec (k : ℕ) (hk : k ≤ 32) (s : St F) : sWPT 𝕄 (BitVec 32 × F .f32) := do
  sWPT.consume (held c arg3 arg4 arg9 arg10 K V s)
  let r ← sWPT.arbitrary
  sWPT.assume (r.2 = (run q0 q1 q2 q3 tr K V k hk s).m)
  sWPT.produce (held c arg3 arg4 arg9 arg10 K V (run q0 q1 q2 q3 tr K V k hk s))
  pure r

theorem spec_apply (k : ℕ) (hk : k ≤ 32) (s : St F) (Q : BitVec 32 × F .f32 → sProp 𝕄) :
    spec c arg3 arg4 arg9 arg10 q0 q1 q2 q3 tr K V k hk s Q
      = iprop(held c arg3 arg4 arg9 arg10 K V s ∗ ∀ r : BitVec 32 × F .f32, ⌜r.2 = (run q0 q1 q2 q3 tr K V k hk s).m⌝
          -∗ (held c arg3 arg4 arg9 arg10 K V (run q0 q1 q2 q3 tr K V k hk s) -∗ Q r)) := rfl

set_option maxHeartbeats 1600000 in
/-- One turn of the loop: the block `b`, then whatever answers the call below it. -/
theorem turn (E : Set ℕ) (b : BitVec 32) (hb : k0_chk1 b) (h0 : Scalar.cmpi .sge b 0#32 = 1#1) (k : ℕ) (s : St F) (hg : goes s.m)
    (S : sWPT 𝕄 (BitVec 32 × F .f32))
    (hS : ∀ Q, S Q ⊢ wp frame (wpE (defs₀ (F := F)) Variants.nat (c : Thread nD τ) (some k)) E
          (defs₀ (F := F) .tc 1 ⟨i, arg9, harg9, arg10, harg10, arg3, harg3, q0, q1, q2, q3, tr, arg4, harg4,
            Scalar.subi b 1#32, (trip q0 q1 q2 q3 tr K V b hb s).m⟩) Q) (Q : BitVec 32 × F .f32 → sProp 𝕄) :
    iprop(held c arg3 arg4 arg9 arg10 K V s ∗ (held c arg3 arg4 arg9 arg10 K V (trip q0 q1 q2 q3 tr K V b hb s) -∗ S (fun x => wp frame (wpE (defs₀ (F := F)) Variants.nat (c : Thread nD τ) (some (k + 1))) E (.ret x) Q)))
      ⊢ wp frame (wpE (defs₀ (F := F)) Variants.nat (c : Thread nD τ) (some (k + 1))) E
          (cc0_while1 i arg9 harg9 arg10 harg10 arg3 harg3 q0 q1 q2 q3 tr arg4 harg4 b s.m) Q := by
  rw [cc0_while1_eq_skeleton]; unfold cc0_while1_skel
  dsimp only
  rw [if_pos ((and_one _ _).mpr ⟨h0, hg⟩)]
  rw [k0_part5_eq_skeleton]; unfold k0_part5_skel
  simp only [Prog.lift, Prog.bind_op, Prog.bind_ret, Prog.pure_eq_ret]
  have hS' := hS
  simp only [trip] at hS'
  unfold held
  simp only [trip]
  iintro ⟨⟨H3, H4, H9, H10⟩, Hk⟩
  iapply (wp_assume Variants.nat (c : Thread nD τ) (some (k + 1)) E hb)
  iapply (load_all c (some (k + 1)) E arg9 s.c inb_S1024x256_S1024x256_0_0) $$ H9; iintro H9
  iapply (load_all c (some (k + 1)) E arg10 s.a inb_S1024x128_S1024x128_0_0) $$ H10; iintro H10
  iapply (load_held c (some (k + 1)) E arg3 K) $$ H3; iintro H3
  iapply (load_held c (some (k + 1)) E arg3 K) $$ H3; iintro H3
  iapply (load_held c (some (k + 1)) E arg3 K) $$ H3; iintro H3
  iapply (load_held c (some (k + 1)) E arg3 K) $$ H3; iintro H3
  iapply (load_held c (some (k + 1)) E arg4 V) $$ H4; iintro H4
  iapply (load_held c (some (k + 1)) E arg4 V) $$ H4; iintro H4
  iapply (load_held c (some (k + 1)) E arg4 V) $$ H4; iintro H4
  iapply (load_held c (some (k + 1)) E arg4 V) $$ H4; iintro H4
  iapply (load_all c (some (k + 1)) E arg9 s.c inb_S1024x256_S1024x256_0_0) $$ H9; iintro H9
  iapply (store_held c (some (k + 1)) E arg9 harg9 s.c) $$ H9; iintro H9
  iapply (load_all c (some (k + 1)) E arg10 s.a inb_S1024x128_S1024x128_0_0) $$ H10; iintro H10
  iapply (store_held c (some (k + 1)) E arg10 harg10 s.a) $$ H10; iintro H10
  iapply (wp_call_spec Variants.nat (c : Thread nD τ) (some (k + 1)) E _ k (fun u hu => by cases hu; exact Nat.lt_succ_self k) hS')
  iapply Hk
  isplitl [H3]; · iexact H3
  isplitl [H4]; · iexact H4
  isplitl [H9]; · iexact H9
  iexact H10

theorem spec_le (E : Set ℕ) : ∀ k (hk : k ≤ 32) (s : St F) (Q : BitVec 32 × F .f32 → sProp 𝕄),
    spec c arg3 arg4 arg9 arg10 q0 q1 q2 q3 tr K V k hk s Q
      ⊢ wp frame (wpE (defs₀ (F := F)) Variants.nat (c : Thread nD τ) (some k)) E
          (defs₀ (F := F) .tc 1 ⟨i, arg9, harg9, arg10, harg10, arg3, harg3, q0, q1, q2, q3, tr, arg4, harg4,
            Scalar.subi (BitVec.ofNat 32 k) 1#32, s.m⟩) Q := by
  intro k
  induction k with
  | zero =>
    intro hk s Q
    rw [spec_apply]
    show _ ⊢ wp frame (wpE (defs₀ (F := F)) Variants.nat (c : Thread nD τ) (some 0)) E
      (cc0_while1 i arg9 harg9 arg10 harg10 arg3 harg3 q0 q1 q2 q3 tr arg4 harg4 (Scalar.subi (BitVec.ofNat 32 0) 1#32) s.m) Q
    rw [cc0_while1_eq_skeleton]; unfold cc0_while1_skel
    dsimp only
    rw [if_neg fun h => below_none ((and_one _ _).mp h).1]
    simp only [Prog.pure_eq_ret]
    iintro ⟨H, Hk⟩
    rw [wp_ret]; imodintro
    iapply Hk
    · ipureintro; rfl
    · simp only [run]; iexact H
  | succ k ih =>
    intro hk s Q
    rw [spec_apply]
    show _ ⊢ wp frame (wpE (defs₀ (F := F)) Variants.nat (c : Thread nD τ) (some (k + 1))) E
      (cc0_while1 i arg9 harg9 arg10 harg10 arg3 harg3 q0 q1 q2 q3 tr arg4 harg4 (Scalar.subi (BitVec.ofNat 32 (k + 1)) 1#32) s.m) Q
    rw [next_below k (by omega)]
    by_cases hg : goes s.m
    · refine BIBase.Entails.trans ?_ (turn c i arg3 arg4 harg3 harg4 arg9 harg9 arg10 harg10 q0 q1 q2 q3 tr K V E (BitVec.ofNat 32 k)
        (chk_of_lt k (by omega)) (below_some k (by omega)) k s hg
        (spec c arg3 arg4 arg9 arg10 q0 q1 q2 q3 tr K V k (by omega)
          (trip q0 q1 q2 q3 tr K V (BitVec.ofNat 32 k) (chk_of_lt k (by omega)) s)) (ih (by omega) _) Q)
      rw [spec_apply]
      have e : run q0 q1 q2 q3 tr K V (k + 1) hk s
          = run q0 q1 q2 q3 tr K V k (by omega) (trip q0 q1 q2 q3 tr K V (BitVec.ofNat 32 k) (chk_of_lt k (by omega)) s) := by
        rw [run, if_pos hg]
      rw [e]
      iintro ⟨H, Hk⟩
      isplitl [H]; · iexact H
      iintro H
      isplitl [H]; · iexact H
      iintro %r %hr H
      rw [wp_ret]; imodintro
      iapply Hk
      · ipureintro; exact hr
      · iexact H
    · rw [cc0_while1_eq_skeleton]; unfold cc0_while1_skel
      dsimp only
      rw [if_neg fun h => hg ((and_one _ _).mp h).2]
      simp only [Prog.pure_eq_ret]
      iintro ⟨H, Hk⟩
      rw [wp_ret]; imodintro
      have e : run q0 q1 q2 q3 tr K V (k + 1) hk s = s := by rw [run, if_neg hg]
      rw [e]
      iapply Hk
      · ipureintro; rfl
      · iexact H

end Loop

/-! ## The whole body -/

section Body

variable (i : grid0.Coords) (Q : Vec F S256x512 .bf16) (K V : Vec F S8192x512 .bf16) (Km Vm : Vec F S256x512 .bf16) (T : Vec F S256x256 .bf16)

/-- After the block on the diagonal. -/
def start : St F where
  c := k0_pay28 k0_pay17
    (k0_pay22 (head2 Q) (head3 Q) k0_pay16 (k0_pay19 (head0 Q) (own0 i K)) (k0_pay20 (head1 Q) (own1 i K)) (own2 i K) (own3 i K))
    (k0_pay23 (k0_pay15 T) (head2 Q) (head3 Q) k0_pay16 (k0_pay19 (head0 Q) (own0 i K)) (k0_pay20 (head1 Q) (own1 i K)) (own2 i K) (own3 i K))
  a := k0_pay29 k0_pay18
    (k0_pay24 (k0_pay15 T) (head2 Q) (head3 Q) k0_pay16 k0_pay17 (k0_pay19 (head0 Q) (own0 i K)) (k0_pay20 (head1 Q) (own1 i K)) (own2 i K) (own3 i K))
    (k0_pay25 (k0_pay15 T) (head2 Q) (head3 Q) k0_pay16 k0_pay17 (k0_pay19 (head0 Q) (own0 i K)) (k0_pay20 (head1 Q) (own1 i K)) (own2 i K) (own3 i K) (own0 i V))
    (k0_pay26 (k0_pay15 T) (head2 Q) (head3 Q) k0_pay16 k0_pay17 (k0_pay19 (head0 Q) (own0 i K)) (k0_pay20 (head1 Q) (own1 i K)) (own2 i K) (own3 i K))
    (own1 i V) (own2 i V) (own3 i V)
  m := k0_pay30 k0_pay17
    (k0_pay22 (head2 Q) (head3 Q) k0_pay16 (k0_pay19 (head0 Q) (own0 i K)) (k0_pay20 (head1 Q) (own1 i K)) (own2 i K) (own3 i K))
    (k0_pay23 (k0_pay15 T) (head2 Q) (head3 Q) k0_pay16 (k0_pay19 (head0 Q) (own0 i K)) (k0_pay20 (head1 Q) (own1 i K)) (own2 i K) (own3 i K))

theorem row_le (i : grid0.Coords) : (i 1).val ≤ 32 := Nat.le_of_lt (i 1).isLt

/-- After the earlier blocks too. -/
def met : St F :=
  run (head0 Q) (head1 Q) (head2 Q) (head3 Q) (k0_pay15 T) K V (i 1).val (row_le i) (start i Q K V T)

abbrev lanes : IVec S1024x256 32 := iota .tc S1024x256 32 [1] iota_S1024x256_d1_w32

/-- What the rows beside the prompt add to a state. -/
def beside (s : St F) : Vec F S1024x128 .f32 :=
  k0_pay31 (k0_pay15 T) (k0_pay7 lanes) s.c s.a
    (k0_pay8 (head0 Q) (head1 Q) (head2 Q) (head3 Q) (head0 Km) (head1 Km) (head2 Km) (head3 Km))
    (k0_pay9 lanes (head0 Q) (head1 Q) (head2 Q) (head3 Q) (head0 Km) (head1 Km) (head2 Km) (head3 Km))
    (k0_pay12 lanes (head0 Q) (head1 Q) (head2 Q) (head3 Q) (head0 Km) (head1 Km) (head2 Km) (head3 Km))
    (k0_pay13 lanes (head0 Q) (head1 Q) (head2 Q) (head3 Q) (head0 Km) (head1 Km) (head2 Km) (head3 Km))
    (k0_pay14 (k0_pay15 T) lanes (head0 Q) (head1 Q) (head2 Q) (head3 Q) (head0 Km) (head1 Km) (head2 Km) (head3 Km))
    (constant S1024x256 .f32 0x00000000#32) (head0 Vm) (head1 Vm) (head2 Vm) (head3 Vm)

/-- The weighted values the body ends with, -/
def total : Vec F S1024x128 .f32 :=
  if goes (met i Q K V T).m then beside Q Km Vm T (met i Q K V T) else (met i Q K V T).a

/-- and what it puts into an output that held `d`. -/
def stored (a : Vec F S1024x128 .f32) (d : Vec F S256x512 .bf16) : Vec F S256x512 .bf16 :=
  VecWindow.put (VecWindow.put (VecWindow.put (VecWindow.put d
    ![0, 0] S256x128.size (k0_pay32 (View.ld a (Rect.unit (s := S1024x128) ![0, 0] S256x128.size inb_S1024x128_S256x128_0_0))))
    ![0, 128] S256x128.size (k0_pay33 (View.ld a (Rect.unit (s := S1024x128) ![256, 0] S256x128.size inb_S1024x128_S256x128_256_0))))
    ![0, 256] S256x128.size (k0_pay1 (View.ld a (Rect.unit (s := S1024x128) ![512, 0] S256x128.size inb_S1024x128_S256x128_512_0))))
    ![0, 384] S256x128.size (k0_pay2 (View.ld a (Rect.unit (s := S1024x128) ![768, 0] S256x128.size inb_S1024x128_S256x128_768_0)))

set_option maxHeartbeats 4000000 in
/-- THE STEP. -/
theorem step (c : Dev nD) (arg2 : Memref sig .tc .vmem S256x512 .bf16) (harg2 : arg2.IsWhole) (arg3 : Memref sig .tc .vmem S8192x512 .bf16)
    (harg3 : arg3.IsWhole) (arg4 : Memref sig .tc .vmem S8192x512 .bf16) (harg4 : arg4.IsWhole) (arg5 : Memref sig .tc .vmem S256x512 .bf16)
    (harg5 : arg5.IsWhole) (arg6 : Memref sig .tc .vmem S256x512 .bf16) (harg6 : arg6.IsWhole) (arg7 : Memref sig .tc .vmem S256x256 .bf16)
    (harg7 : arg7.IsWhole) (arg8 : Memref sig .tc .vmem S256x512 .bf16) (harg8 : arg8.IsWhole) (arg9 : Memref sig .tc .vmem S1024x256 .f32)
    (harg9 : arg9.IsWhole) (arg10 : Memref sig .tc .vmem S1024x128 .f32) (harg10 : arg10.IsWhole)
    (d : Vec F S256x512 .bf16) (s9 : Vec F S1024x256 .f32) (s10 : Vec F S1024x128 .f32) (E : Set ℕ) (Φ : PUnit → sProp 𝕄) :
    iprop(owns (c : Thread nD τ) arg2 fullShare Q ∗ owns (c : Thread nD τ) arg3 fullShare K
        ∗ owns (c : Thread nD τ) arg4 fullShare V ∗ owns (c : Thread nD τ) arg5 fullShare Km
        ∗ owns (c : Thread nD τ) arg6 fullShare Vm ∗ owns (c : Thread nD τ) arg7 fullShare T
        ∗ owns (c : Thread nD τ) arg8 fullShare d ∗ owns (c : Thread nD τ) arg9 fullShare s9
        ∗ owns (c : Thread nD τ) arg10 fullShare s10
        ∗ (iprop(owns (c : Thread nD τ) arg2 fullShare Q ∗ owns (c : Thread nD τ) arg3 fullShare K
            ∗ owns (c : Thread nD τ) arg4 fullShare V ∗ owns (c : Thread nD τ) arg5 fullShare Km
            ∗ owns (c : Thread nD τ) arg6 fullShare Vm ∗ owns (c : Thread nD τ) arg7 fullShare T
            ∗ owns (c : Thread nD τ) arg8 fullShare (stored (total i Q K V Km Vm T) d)
            ∗ owns (c : Thread nD τ) arg9 fullShare (met i Q K V T).c
            ∗ owns (c : Thread nD τ) arg10 fullShare (total i Q K V Km Vm T)) -∗ Φ ⟨⟩))
      ⊢ wp frame (wpE (defs₀ (F := F)) Variants.nat c none) E
          (cc0_sb_attn i arg2 harg2 arg3 harg3 arg4 harg4 arg5 harg5 arg6 harg6 arg7 harg7 arg8 harg8 arg9 harg9 arg10 harg10) Φ := by
  rw [cc0_sb_attn_eq_skeleton]; unfold cc0_sb_attn_skel
  rw [k0_part2_eq_skeleton, k0_part3_eq_skeleton, k0_part4_eq_skeleton]
  unfold k0_part2_skel k0_part3_skel k0_part4_skel
  simp only [Prog.lift, Prog.bind_op, Prog.bind_ret, Prog.pure_eq_ret]
  iintro ⟨H2, H3, H4, H5, H6, H7, H8, H9, H10, Hk⟩
  iapply (load_all c none E arg7 T inb_S256x256_S256x256_0_0) $$ H7; iintro H7
  iapply (load_held c none E arg2 Q) $$ H2; iintro H2
  iapply (load_held c none E arg2 Q) $$ H2; iintro H2
  iapply (load_held c none E arg2 Q) $$ H2; iintro H2
  iapply (load_held c none E arg2 Q) $$ H2; iintro H2
  iapply (load_held c none E arg3 K) $$ H3; iintro H3
  iapply (load_held c none E arg3 K) $$ H3; iintro H3
  iapply (load_held c none E arg3 K) $$ H3; iintro H3
  iapply (load_held c none E arg3 K) $$ H3; iintro H3
  iapply (load_held c none E arg4 V) $$ H4; iintro H4
  iapply (load_held c none E arg4 V) $$ H4; iintro H4
  iapply (load_held c none E arg4 V) $$ H4; iintro H4
  iapply (load_held c none E arg4 V) $$ H4; iintro H4
  iapply (load_held c none E arg9 s9) $$ H9; iintro H9
  iapply (store_held c none E arg9 harg9 s9) $$ H9; iintro H9
  iapply (load_held c none E arg10 s10) $$ H10; iintro H10
  iapply (store_held c none E arg10 harg10 s10) $$ H10; iintro H10
  have hl := spec_le c i arg3 arg4 harg3 harg4 arg9 harg9 arg10 harg10 (head0 Q) (head1 Q) (head2 Q) (head3 Q) (k0_pay15 T) K V E (i 1).val
    (row_le i) (start i Q K V T)
  have hm : run (head0 Q) (head1 Q) (head2 Q) (head3 Q) (k0_pay15 T) K V (i 1).val (row_le i) (start i Q K V T) = met i Q K V T := rfl
  simp only [start] at hl hm
  iapply (wp_call_spec Variants.nat (c : Thread nD τ) none E _ (i 1).val (fun u hu => nomatch hu) hl)
  rw [spec_apply, hm]; unfold held
  isplitl [H3 H4 H9 H10]
  · isplitl [H3]; · iexact H3
    isplitl [H4]; · iexact H4
    isplitl [H9]; · iexact H9
    iexact H10
  iintro %r %hr ⟨H3, H4, H9, H10⟩
  by_cases h : goes (met i Q K V T).m
  · have et : total i Q K V Km Vm T = beside Q Km Vm T (met i Q K V T) := if_pos h
    rw [hr, if_pos ((guard_one _).mpr h), k0_part1_eq_skeleton]; unfold k0_part1_skel
    simp only [Prog.lift, Prog.bind_op, Prog.bind_ret, Prog.pure_eq_ret]
    rw [et]
    iapply (load_all c none E arg9 (met i Q K V T).c inb_S1024x256_S1024x256_0_0) $$ H9; iintro H9
    iapply (load_all c none E arg10 (met i Q K V T).a inb_S1024x128_S1024x128_0_0) $$ H10; iintro H10
    iapply (load_held c none E arg5 Km) $$ H5; iintro H5
    iapply (load_held c none E arg5 Km) $$ H5; iintro H5
    iapply (load_held c none E arg5 Km) $$ H5; iintro H5
    iapply (load_held c none E arg5 Km) $$ H5; iintro H5
    iapply (load_held c none E arg6 Vm) $$ H6; iintro H6
    iapply (load_held c none E arg6 Vm) $$ H6; iintro H6
    iapply (load_held c none E arg6 Vm) $$ H6; iintro H6
    iapply (load_held c none E arg6 Vm) $$ H6; iintro H6
    iapply (load_all c none E arg10 (met i Q K V T).a inb_S1024x128_S1024x128_0_0) $$ H10; iintro H10
    iapply (store_held c none E arg10 harg10 _) $$ H10; iintro H10
    iapply (load_held c none E arg10 _) $$ H10; iintro H10
    iapply (load_held c none E arg8 d) $$ H8; iintro H8
    iapply (put_held c none E arg8 harg8 d) $$ H8; iintro H8
    iapply (load_held c none E arg10 _) $$ H10; iintro H10
    iapply (load_held c none E arg8 _) $$ H8; iintro H8
    iapply (put_held c none E arg8 harg8 _) $$ H8; iintro H8
    iapply (load_held c none E arg10 _) $$ H10; iintro H10
    iapply (load_held c none E arg8 _) $$ H8; iintro H8
    iapply (put_held c none E arg8 harg8 _) $$ H8; iintro H8
    iapply (load_held c none E arg10 _) $$ H10; iintro H10
    iapply (load_held c none E arg8 _) $$ H8; iintro H8
    iapply (put_held c none E arg8 harg8 _) $$ H8; iintro H8
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · unfold stored beside; iexact H8
    isplitl [H9]; · iexact H9
    unfold beside; iexact H10
  · have et : total i Q K V Km Vm T = (met i Q K V T).a := if_neg h
    rw [hr, if_neg fun h' => h ((guard_one _).mp h')]
    simp only [Prog.lift, Prog.bind_op, Prog.bind_ret, Prog.pure_eq_ret]
    rw [et]
    iapply (load_held c none E arg10 (met i Q K V T).a) $$ H10; iintro H10
    iapply (load_held c none E arg8 d) $$ H8; iintro H8
    iapply (put_held c none E arg8 harg8 d) $$ H8; iintro H8
    iapply (load_held c none E arg10 (met i Q K V T).a) $$ H10; iintro H10
    iapply (load_held c none E arg8 _) $$ H8; iintro H8
    iapply (put_held c none E arg8 harg8 _) $$ H8; iintro H8
    iapply (load_held c none E arg10 (met i Q K V T).a) $$ H10; iintro H10
    iapply (load_held c none E arg8 _) $$ H8; iintro H8
    iapply (put_held c none E arg8 harg8 _) $$ H8; iintro H8
    iapply (load_held c none E arg10 (met i Q K V T).a) $$ H10; iintro H10
    iapply (load_held c none E arg8 _) $$ H8; iintro H8
    iapply (put_held c none E arg8 harg8 _) $$ H8; iintro H8
    rw [wp_ret]; imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · unfold stored; iexact H8
    isplitl [H9]; · iexact H9
    iexact H10

end Body

end Cert.Proof.Sb

end
-- ==== Proof.Sb.Run.lean ====
/- The run of the stick-breaking call: what every staging buffer holds after each grid point, and the frame. -/
module

public import proofs.«01_k».proof.Proof.Sb.Step
public import Idealize.ShloMosaic.Lib.Claim

@[expose] public section

set_option maxRecDepth 16384

noncomputable section

namespace Cert.Proof.Sb

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The column of the output block in which column block `j` of it starts. -/
theorem put_cols (d : Vec F S256x512 .bf16) (o : ℕ) (y : Vec F S256x128 .bf16) (x : S256x512.Idx) :
    VecWindow.put d ![0, o] S256x128.size y x
      = if h : o ≤ (x 1).val ∧ (x 1).val < o + 128 then
          y (fun a => match a with | ⟨0, _⟩ => ⟨(x 0).val, (x 0).isLt⟩ | ⟨1, _⟩ => ⟨(x 1).val - o, by show _ < 128; omega⟩)
        else d x := by
  unfold VecWindow.put
  have hx : (x 0).val < 256 := (x 0).isLt
  by_cases h : o ≤ (x 1).val ∧ (x 1).val < o + 128
  · have h' : ∀ a : Fin S256x512.rank, (![0, o] : Fin 2 → ℕ) a ≤ (x a).val ∧ (x a).val < (![0, o] : Fin 2 → ℕ) a + S256x128.size a := fun a => by
      match a with
      | ⟨0, _⟩ => exact ⟨Nat.zero_le _, by show _ < 0 + 256; rw [Nat.zero_add]; exact hx⟩
      | ⟨1, _⟩ => exact h
    rw [dif_pos h, dif_pos h']
    refine congrArg y (funext fun a => ?_)
    match a with
    | ⟨0, _⟩ => rfl
    | ⟨1, _⟩ => rfl
  · rw [dif_neg h, dif_neg fun h' => h (h' 1)]

/-- The four column blocks cover the output, so what it held before is gone. -/
theorem stored_any (a : Vec F S1024x128 .f32) (d e : Vec F S256x512 .bf16) : stored a d = stored a e := by
  funext x
  have hx : (x 1).val < 512 := (x 1).isLt
  unfold stored
  rw [put_cols, put_cols _ 384, put_cols _ 256, put_cols _ 128, put_cols _ 0, put_cols _ 256, put_cols _ 128, put_cols _ 0]
  split_ifs <;> first | rfl | omega

/-- What the body leaves in the output at point `t`. -/
def outAt (c : Dev nD) (t : Fin (cfg0 (F := F)).N) : Vec F S256x512 .bf16 :=
  stored (total (grid0.coords t) (iblk m c 0 t) (iblk m c 1 t) (iblk m c 2 t) (iblk m c 3 t) (iblk m c 4 t) (iblk m c 5 t)) (iblk m c 0 t)

theorem launch_inv (c : Dev nD) :
    (Pipeline.ΦA spec0 c : sProp 𝕄)
      = iprop(((∃ d, owns (c : Thread nD τ) (Memref.whole cc0_scratch0 : Memref sig .tc .vmem S1024x256 .f32) fullShare d)
          ∗ (∃ d, owns (c : Thread nD τ) (Memref.whole cc0_scratch1 : Memref sig .tc .vmem S1024x128 .f32) fullShare d)) ∗ (∃ r, prngReg c r)) := by
  unfold Pipeline.ΦA; rw [scopedRest0_eq]; simp only [owns_whole]; try rfl

/-- The proof data: the arrays as the call finds them, the inputs' blocks left in place, the output at what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = iblk m c 5 t := rfl
theorem after_6 (c : Dev nD) (t : Fin (cfg0 (F := F)).N) : (dats m 0 c).after 6 t = outAt m c t := rfl

theorem before_0 (c : Dev nD) (t : Fin (cfg0 (F := F)).N) (d) : (dats m 0 c).before 0 t d = iblk m c 0 t :=
  before0_0_of m (dats m 0 c) (A_eq m c 0) (after_0 m c) t d
theorem before_1 (c : Dev nD) (t : Fin (cfg0 (F := F)).N) (d) : (dats m 0 c).before 1 t d = iblk m c 1 t :=
  before0_1_of m (dats m 0 c) (A_eq m c 1) (after_1 m c) t d
theorem before_2 (c : Dev nD) (t : Fin (cfg0 (F := F)).N) (d) : (dats m 0 c).before 2 t d = iblk m c 2 t :=
  before0_2_of m (dats m 0 c) (A_eq m c 2) (after_2 m c) t d
theorem before_3 (c : Dev nD) (t : Fin (cfg0 (F := F)).N) (d) : (dats m 0 c).before 3 t d = iblk m c 3 t :=
  before0_3_of m (dats m 0 c) (A_eq m c 3) (after_3 m c) t d
theorem before_4 (c : Dev nD) (t : Fin (cfg0 (F := F)).N) (d) : (dats m 0 c).before 4 t d = iblk m c 4 t :=
  before0_4_of m (dats m 0 c) (A_eq m c 4) (after_4 m c) t d
theorem before_5 (c : Dev nD) (t : Fin (cfg0 (F := F)).N) (d) : (dats m 0 c).before 5 t d = iblk m c 5 t :=
  before0_5_of m (dats m 0 c) (A_eq m c 5) (after_5 m c) t d

/-- What the body is called with at point `t`, the windows one by one, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body meets its obligation at every point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, launch_inv]
  iintro ⟨⟨⟨⟨%s, H9⟩, ⟨%s', H10⟩⟩, Hg⟩, Ho, ⟨%d0, H0⟩, ⟨%d1, H1⟩, ⟨%d2, H2⟩, ⟨%d3, H3⟩, ⟨%d4, H4⟩, ⟨%d5, H5⟩, ⟨%d6, H6⟩⟩
  iapply (step (grid0.coords t) (iblk m c 0 t) (iblk m c 1 t) (iblk m c 2 t) (iblk m c 3 t) (iblk m c 4 t) (iblk m c 5 t) c
    _ _ _ _ _ _ _ _ _ _ _ _ _ _ _ _ _ _ ((dats m 0 c).before 6 t d6) s s' Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  rw [stored_any _ ((dats m 0 c).before 6 t d6) (iblk m c 0 t)]
  iintro ⟨H0, H1, H2, H3, H4, H5, H6, H9, H10⟩
  isplitl [H9 H10 Hg]
  · isplitl [H9 H10]
    · isplitl [H9]
      · iexists _; iexact H9
      iexists _; iexact H10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold outAt; iexact H6

/-- The body the pipeline runs at `t` is the kernel's on the buffers of `t`. -/
theorem body_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, body_row]
  exact triple_restated (sound_body m c t) rfl .rfl fun _ => .rfl

set_option backward.isDefEq.respectTransparency.types false in
/-- The call runs; every array the pipeline stages ends as the proof data say, and every counter at zero. -/
theorem run_quiescent : θ_run defs (onTc (τ := τ) (main (F := F))) (s₀ m ρ)
    (fun r => (Pipeline.FramePost (cfgs (F := F)) (dats m) 0 (V m)) r ∧ r.2.sem = fun _ => 0) :=
  Pipeline.θ_run_frame_shared (Q' := _) (cfgs (F := F)) (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- The same without the counters. -/
theorem run_call : θ_run defs (onTc (τ := τ) (main (F := F))) (s₀ m ρ) (Pipeline.FramePost (cfgs (F := F)) (dats m) 0 (V m)) :=
  (θ_run defs _ _).mono (fun _ h => h.1) (run_quiescent m ρ)

/-- THE FRAME: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_call m ρ)) ((θ_run defs _ _).mono (fun _ h => h.2) (run_quiescent m ρ))

end Cert.Proof.Sb

end
-- ==== Proof.Sb.Frames.lean ====
/- The frames of the stick-breaking call: the run's frame at either float instance. -/
module

public import proofs.«01_k».proof.Defs
public import proofs.«01_k».proof.Proof.Sb.Run
public import proofs.«01_k».proof.Proof.SbK.Run

@[expose] public section

noncomputable section

namespace Cert.Proof.Sb

/-- The kernel runs and leaves its arguments as they were. -/
theorem frame_kernel : Cert.quiescent_Sb := fun m ρ _ => SbK.frame m ρ

/-- So does the ideal kernel. -/
theorem frame_ideal : Cert.quiescent_SbIdeal := fun m ρ _ => frame m ρ

end Cert.Proof.Sb

end
-- ==== Proof.Sb.Spec.lean ====
module

public import Idealize.ShloMosaic.Lib.ValueIdx
public import Idealize.ShloMosaic.PureOps.Ideal
public import Idealize.ShloMosaic.PureOps.Ideal.Laws
public import proofs.«01_k».proof.Proof.Diff.Spec

@[expose] public section

/-!
One row of the stick-breaking attention. Key `p` of the 8208 has score `z p` and is seen if `p < N`; the
kernel takes the keys in blocks from the last to the first and carries the logarithms of what is left.
-/

namespace Stick

open Idealize.ShloMosaic Finset

noncomputable section

/-- The logarithm of the share a key leaves over, as the kernel computes it. -/
def keep (z : EReal) : EReal := 0 - (max z 0 + Ideal.log1p (Ideal.exp (0 - max z (-z))))

theorem max_coe (x y : ℝ) : max (x : EReal) (y : EReal) = ((max x y : ℝ) : EReal) :=
  (EReal.coe_strictMono.monotone.map_max).symm

/-- The logarithm part of a real. -/
theorem log1p_exp (x : ℝ) : Ideal.log1p (Ideal.exp (x : EReal)) = ((Real.log (1 + Real.exp x) : ℝ) : EReal) := by
  unfold Ideal.log1p
  have h : (1 : EReal) + Ideal.exp (x : EReal) = ((1 + Real.exp x : ℝ) : EReal) := by
    rw [EReal.coe_add]; rfl
  rw [h]
  show (if 1 + Real.exp x ≤ 0 then ⊥ else ((Real.log (1 + Real.exp x) : ℝ) : EReal)) = _
  rw [if_neg (by have := Real.exp_pos x; linarith)]

theorem keep_coe (x : ℝ) : keep (x : EReal) = ((-(max x 0 + Real.log (1 + Real.exp (-|x|))) : ℝ) : EReal) := by
  unfold keep
  have h1 : max (x : EReal) (-(x : EReal)) = ((|x| : ℝ) : EReal) := by rw [← EReal.coe_neg, max_coe]; rfl
  have h2 : max (x : EReal) 0 = ((max x 0 : ℝ) : EReal) := max_coe x 0
  rw [h1, h2, zero_sub, zero_sub, ← EReal.coe_neg, log1p_exp, ← EReal.coe_add, ← EReal.coe_neg]

/-- Nothing is taken at the score `-∞`, so everything is kept; -/
theorem log1p_zero : Ideal.log1p (Ideal.exp ⊥) = 0 := by
  show Ideal.log1p 0 = 0
  unfold Ideal.log1p
  rw [add_zero]
  show (if (1 : ℝ) ≤ 0 then ⊥ else ((Real.log 1 : ℝ) : EReal)) = 0
  rw [if_neg (by norm_num), Real.log_one, EReal.coe_zero]

theorem keep_bot : keep ⊥ = 0 := by
  unfold keep
  rw [EReal.neg_bot, max_eq_right (bot_le : (⊥ : EReal) ≤ 0), max_eq_right (bot_le : (⊥ : EReal) ≤ ⊤), zero_sub, zero_sub, EReal.neg_top, log1p_zero, add_zero, neg_zero]

/-- everything is taken at `+∞`. -/
theorem keep_top : keep ⊤ = ⊥ := by
  unfold keep
  rw [EReal.neg_top, max_eq_left (le_top : (0 : EReal) ≤ ⊤), max_eq_left (le_top : (⊥ : EReal) ≤ ⊤), zero_sub, zero_sub, EReal.neg_top, log1p_zero, add_zero, EReal.neg_top]

/-- The logarithm as a real number, -/
def keepR (x : EReal) : ℝ := (keep x).toReal

/-- which it is unless the score is `+∞`. -/
theorem keep_eq {x : EReal} (hx : x ≠ ⊤) : keep x = (keepR x : EReal) := by
  unfold keepR
  induction x with
  | bot => rw [keep_bot, EReal.toReal_zero, EReal.coe_zero]
  | coe x => rw [keep_coe, EReal.toReal_coe]
  | top => exact absurd rfl hx

theorem keepR_le (x : EReal) : keepR x ≤ 0 := by
  unfold keepR
  induction x with
  | bot => rw [keep_bot, EReal.toReal_zero]
  | coe x =>
    rw [keep_coe, EReal.toReal_coe]
    have h1 : 0 ≤ max x 0 := le_max_right _ _
    have h2 : 0 ≤ Real.log (1 + Real.exp (-|x|)) := Real.log_nonneg (by have := Real.exp_pos (-|x|); linarith)
    linarith
  | top => rw [keep_top, EReal.toReal_bot]

section Row
variable (z : ℕ → EReal) (N : ℕ)

/-- What key `p` contributes, -/
def lk (p : ℕ) : ℝ := if p < N then keepR (z p) else 0
/-- what the keys from `p` on contribute together, -/
def tail (p : ℕ) : ℝ := ∑ j ∈ Ico p 8208, lk z N j
/-- the key's weight, -/
def wt (p : ℕ) : EReal := if p < N then Ideal.exp (z p + ((lk z N p + tail z N (p + 1) : ℝ) : EReal)) else 0
/-- and the weighted values of the keys from `p` on. -/
def acc (v : ℕ → EReal) (p : ℕ) : EReal := ∑ j ∈ Ico p 8208, wt z N j * v j

theorem lk_le (p : ℕ) : lk z N p ≤ 0 := by
  unfold lk; split_ifs
  · exact keepR_le _
  · exact le_refl _

/-- The whole row's logarithm is the least. -/
theorem tail_mono (p : ℕ) (hp : p ≤ 8208) : tail z N 0 ≤ tail z N p := by
  unfold tail
  rw [← Finset.sum_Ico_consecutive (lk z N) (Nat.zero_le p) hp]
  have := Finset.sum_nonpos (s := Ico 0 p) fun i _ => lk_le z N i
  linarith

/-- Nothing is seen from `N` on. -/
theorem tail_end (p : ℕ) (hp : N ≤ p) : tail z N p = 0 :=
  Finset.sum_eq_zero fun j hj => if_neg (by rw [mem_Ico] at hj; omega)
theorem acc_end (v : ℕ → EReal) (p : ℕ) (hp : N ≤ p) : acc z N v p = 0 :=
  Finset.sum_eq_zero fun j hj => by
    unfold wt
    rw [if_neg (by rw [mem_Ico] at hj; omega), zero_mul]

/-- The seen keys of a block of `n` from `B` on, by their place in the block. -/
def part (n B : ℕ) (l : ℕ) : ℝ := if l < n then lk z N (B + l) else 0

theorem part_sum (n B : ℕ) (hn : n ≤ 256) (a : ℕ) :
    ∑ l ∈ range 256, (if a ≤ l then part z N n B l else 0) = ∑ j ∈ Ico (B + a) (B + n), lk z N j := by
  have h : ∀ l, (if a ≤ l then part z N n B l else 0) = if a ≤ l ∧ l < n then lk z N (B + l) else 0 := fun l => by
    unfold part; split_ifs <;> first | rfl | omega
  simp only [h]
  rw [← Finset.sum_filter, Finset.sum_Ico_eq_sum_range]
  have hs : (range 256).filter (fun l => a ≤ l ∧ l < n) = Ico a n := by
    ext l; simp only [mem_filter, mem_range, mem_Ico]; omega
  rw [hs, Finset.sum_Ico_eq_sum_range]
  have e : B + n - (B + a) = n - a := by omega
  rw [e]
  exact Finset.sum_congr rfl fun k _ => by rw [Nat.add_assoc]

end Row

/-! ## A block as the kernel computes it -/

section Block
variable (M : Fin 256 → Prop) [DecidablePred M] (s : Fin 256 → EReal)

/-- The masked logarithms, -/
def kLk (l : Fin 256) : EReal := if M l then keep (s l) else 0
/-- the sums of the later ones, taken in three parts whose last two are differences, -/
def kSuf (T : Fin 256 → Fin 256 → EReal) (l : Fin 256) : EReal :=
  ∑ j, kLk M s j * T j l + ∑ j, (kLk M s j - kLk M s j) * T j l
    + ∑ j, ((kLk M s j - kLk M s j) - (kLk M s j - kLk M s j)) * T j l
/-- and the weights. -/
def kWt (T : Fin 256 → Fin 256 → EReal) (c : Fin 256 → EReal) (l : Fin 256) : EReal :=
  if M l then Ideal.exp (((s l + kLk M s l) + kSuf M s T l) + c l) else 0

/-- The strict triangle. -/
def tri (j l : Fin 256) : EReal := if l.val < j.val then 1 else 0

variable (z : ℕ → EReal) (N n B : ℕ) (hn : n ≤ 256) (hB : B + n ≤ 8208)
  (hM : ∀ l : Fin 256, M l ↔ l.val < n ∧ B + l.val < N) (hs : ∀ l : Fin 256, M l → s l = z (B + l.val))
  (hz : ∀ p, p < N → z p ≠ ⊤)
include hM hs hz

theorem kLk_eq (l : Fin 256) : kLk M s l = (part z N n B l.val : EReal) := by
  unfold kLk part lk
  by_cases h : M l
  · have h' := (hM l).1 h
    rw [if_pos h, hs l h, keep_eq (hz _ h'.2), if_pos h'.1, if_pos h'.2]
  · rw [if_neg h]
    split_ifs with h1 h2
    · exact absurd ((hM l).2 ⟨h1, h2⟩) h
    · rfl
    · rfl

include hn in
theorem kSuf_eq (l : Fin 256) : kSuf M s tri l = ((∑ j ∈ Ico (B + (l.val + 1)) (B + n), lk z N j : ℝ) : EReal) := by
  unfold kSuf
  simp only [kLk_eq M s z N n B hM hs hz]
  have h0 : ∀ x : ℝ, (x : EReal) - (x : EReal) = 0 := fun x => by rw [← EReal.coe_sub, sub_self, EReal.coe_zero]
  simp only [h0, sub_zero, zero_mul, Finset.sum_const_zero, add_zero]
  rw [← part_sum z N n B hn (l.val + 1), Finset.sum_range, Diff.coe_sum]
  refine Finset.sum_congr rfl fun j _ => ?_
  unfold tri
  by_cases h : l.val < j.val
  · rw [if_pos h, mul_one, if_pos (by omega)]
  · rw [if_neg h, mul_zero, if_neg (by omega)]; rfl

include hn hB in
/-- The carried logarithms after the block. -/
theorem carry (c : EReal) (hc : c = (tail z N (B + n) : EReal)) (hpos : 0 < n) :
    c + (kSuf M s tri 0 + kLk M s 0) = (tail z N B : EReal) := by
  rw [kSuf_eq M s z N n B hn hM hs hz, kLk_eq M s z N n B hM hs hz, hc, ← EReal.coe_add, ← EReal.coe_add]
  congr 1
  unfold tail
  rw [← Finset.sum_Ico_consecutive (lk z N) (Nat.le_add_right B n) hB, Finset.sum_eq_sum_Ico_succ_bot (by omega : B < B + n)]
  have e : part z N n B (0 : Fin 256).val = lk z N B := by
    show (if 0 < n then lk z N (B + 0) else 0) = _
    rw [if_pos hpos, Nat.add_zero]
  rw [e]
  show _ + (∑ j ∈ Ico (B + 1) (B + n), lk z N j + lk z N B) = _
  ring

include hn hB in
theorem kWt_eq (c : Fin 256 → EReal) (hc : ∀ l, c l = (tail z N (B + n) : EReal)) (l : Fin 256) :
    kWt M s tri c l = if l.val < n then wt z N (B + l.val) else 0 := by
  unfold kWt wt
  by_cases h : M l
  · have h' := (hM l).1 h
    rw [if_pos h, if_pos h'.1, if_pos h'.2, kSuf_eq M s z N n B hn hM hs hz, kLk_eq M s z N n B hM hs hz, hc, hs l h, add_assoc, add_assoc,
      ← EReal.coe_add, ← EReal.coe_add]
    congr 3
    have e : part z N n B l.val = lk z N (B + l.val) := if_pos h'.1
    unfold tail
    rw [e, ← Finset.sum_Ico_consecutive (lk z N) (by omega : B + l.val + 1 ≤ B + n) hB, Nat.add_assoc B]
  · rw [if_neg h]
    split_ifs with h1 h2
    · exact absurd ((hM l).2 ⟨h1, h2⟩) h
    · rfl
    · rfl

include hn hB in
/-- The weighted values after the block. -/
theorem gather (c : Fin 256 → EReal) (hc : ∀ l, c l = (tail z N (B + n) : EReal)) (v : ℕ → EReal) (w : Fin 256 → EReal)
    (hw : ∀ l : Fin 256, l.val < n → w l = v (B + l.val)) (a : EReal) (ha : a = acc z N v (B + n)) :
    a + ∑ l, kWt M s tri c l * w l = acc z N v B := by
  have e : ∑ l, kWt M s tri c l * w l = ∑ l ∈ range 256, if l < n then wt z N (B + l) * v (B + l) else 0 := by
    rw [Finset.sum_range]
    refine Finset.sum_congr rfl fun l _ => ?_
    rw [kWt_eq M s z N n B hn hB hM hs hz c hc]
    split_ifs with h
    · rw [hw l h]
    · rw [zero_mul]
  rw [e, ha]
  unfold acc
  rw [← Finset.sum_Ico_consecutive _ (Nat.le_add_right B n) hB, add_comm]
  congr 1
  rw [← Finset.sum_filter, Finset.sum_Ico_eq_sum_range]
  have hs' : (range 256).filter (fun l => l < n) = range n := by
    ext l; simp only [mem_filter, mem_range]; omega
  rw [hs', Nat.add_sub_cancel_left]

end Block

/-! ## A row as the reference computes it -/

/-- The smooth positive part, as the reference computes it. -/
def soft (x : EReal) : EReal := max x 0 + Ideal.log1p (Ideal.exp (-(max (x - 0) (-(x - 0)))))

/-- The logarithm of the share left over. -/
theorem neg_soft (x : EReal) : -soft x = keep x := by
  unfold soft keep
  simp only [sub_zero, zero_sub]

/-- The logarithm of the share taken. -/
theorem neg_soft_neg {x : EReal} (hx : x ≠ ⊤) : -soft (-x) = x + (keepR x : EReal) := by
  rw [neg_soft, ← keep_eq hx]
  induction x with
  | bot => rw [EReal.neg_bot, keep_top, EReal.bot_add]
  | coe x =>
    rw [← EReal.coe_neg, keep_coe, keep_coe, ← EReal.coe_add]
    congr 1
    rw [abs_neg]
    have h : max (-x) 0 = max x 0 - x := by
      rcases le_total x 0 with h | h
      · rw [max_eq_left (by linarith), max_eq_right h]; ring
      · rw [max_eq_right (by linarith), max_eq_left h]; ring
    rw [h]; ring
  | top => exact absurd rfl hx

section Ref
variable (z : ℕ → EReal) (N : ℕ)

/-- The masked logarithms, -/
def rLk (p : ℕ) : EReal := if p < N then -soft (- -z p) else 0
/-- and the weights. -/
def rWt (p : ℕ) : EReal :=
  if p < N then Ideal.exp (-soft (-z p) + (∑ j ∈ Ico p 8208, rLk z N j - rLk z N p)) else 0

/-- A row whose logarithms add up to more than `-∞` has no score `+∞` among the keys it sees. -/
theorem not_top (hN : N ≤ 8208) {a : EReal} (h : a < ∑ j ∈ Ico 0 8208, rLk z N j) (p : ℕ) (hp : p < N) : z p ≠ ⊤ := by
  intro hz
  rw [← Finset.add_sum_erase _ _ (mem_Ico.2 ⟨Nat.zero_le p, by omega⟩ : p ∈ Ico 0 8208)] at h
  have e : rLk z N p = ⊥ := by unfold rLk; rw [if_pos hp, neg_neg, neg_soft, hz, keep_top]
  rw [e, EReal.bot_add] at h
  exact not_lt_bot h

variable (hz : ∀ p, p < N → z p ≠ ⊤)
include hz

theorem rLk_eq (p : ℕ) : rLk z N p = (lk z N p : EReal) := by
  unfold rLk lk
  split_ifs with h
  · rw [neg_neg, neg_soft, keep_eq (hz p h)]
  · rfl

theorem rTail_eq (p : ℕ) : ∑ j ∈ Ico p 8208, rLk z N j = (tail z N p : EReal) := by
  simp only [rLk_eq z N hz]
  unfold tail
  rw [Diff.coe_sum]

theorem rWt_eq (p : ℕ) (hp : p < 8208) : rWt z N p = wt z N p := by
  unfold rWt wt
  split_ifs with h
  · rw [rTail_eq z N hz, rLk_eq z N hz, neg_soft_neg (hz p h), ← EReal.coe_sub, add_assoc, ← EReal.coe_add]
    congr 3
    unfold tail
    rw [Finset.sum_eq_sum_Ico_succ_bot hp]
    have e : lk z N p = keepR (z p) := if_pos h
    rw [e]; ring
  · rfl

end Ref

end

end Stick
-- ==== Proof.Sb.Pay.lean ====
module

public import proofs.«01_k».proof.Proof.Sb.Step
public import proofs.«01_k».proof.Proof.Sb.Spec
public import proofs.«01_k».proof.Proof.Read
public import Idealize.ShloMosaic.Lib.WordCmp

@[expose] public section

set_option maxRecDepth 16384

/-! What the stick-breaking body's value terms are at one index, over the extended reals. -/

namespace Cert.SbIdeal.Pay

open Idealize.ShloMosaic hiding ix0 ix1 ix2 ix3 ix4
open Idealize.ShloMosaic.ValueIdx Cert.SbIdeal Cert.SbIdeal.Gen
open Finset

noncomputable section

/-- Row `r` of head `g` among the four heads' stacked rows. -/
def row (g : Fin 4) (r : Fin 256) : Fin 1024 := ⟨256 * g.val + r.val, by omega⟩

/-- The one of four that belongs to a head. -/
def pick {α : Type} (a b c d : α) : Fin 4 → α
  | 0 => a | 1 => b | 2 => c | 3 => d

/-- Four arrays of 256 rows stacked, read in head `g`'s rows. -/
theorem stack {α : Type} {n : ℕ} (a b c d : (⟨2, ![256, n]⟩ : Shape).Idx → α)
    (h : Shape.Concatenates [⟨2, ![256, n]⟩, ⟨2, ![256, n]⟩, ⟨2, ![256, n]⟩, ⟨2, ![256, n]⟩] ⟨2, ![1024, n]⟩ 0)
    (g : Fin 4) (r : Fin 256) (l : Fin n) :
    concatenate ⟨2, ![1024, n]⟩ 0 [⟨⟨2, ![256, n]⟩, a⟩, ⟨⟨2, ![256, n]⟩, b⟩, ⟨⟨2, ![256, n]⟩, c⟩, ⟨⟨2, ![256, n]⟩, d⟩] h (ix2 (row g r) l)
      = pick a b c d g (ix2 r l) := by
  have hr := r.isLt
  match g with
  | 0 =>
    pointwise
    refine (dif_pos (show 256 * 0 + r.val < 256 by omega)).trans (congrArg a (funext fun k => Fin.ext ?_))
    match k with
    | ⟨0, _⟩ => show 256 * 0 + r.val = r.val; omega
    | ⟨1, _⟩ => rfl
  | 1 =>
    pointwise
    refine (dif_neg (show ¬ 256 * 1 + r.val < 256 by omega)).trans ((dif_pos (show 256 * 1 + r.val - 256 < 256 by omega)).trans
      (congrArg b (funext fun k => Fin.ext ?_)))
    match k with
    | ⟨0, _⟩ => show 256 * 1 + r.val - 256 = r.val; omega
    | ⟨1, _⟩ => rfl
  | 2 =>
    pointwise
    refine (dif_neg (show ¬ 256 * 2 + r.val < 256 by omega)).trans ((dif_neg (show ¬ 256 * 2 + r.val - 256 < 256 by omega)).trans
      ((dif_pos (show 256 * 2 + r.val - 256 - 256 < 256 by omega)).trans (congrArg c (funext fun k => Fin.ext ?_))))
    match k with
    | ⟨0, _⟩ => show 256 * 2 + r.val - 256 - 256 = r.val; omega
    | ⟨1, _⟩ => rfl
  | 3 =>
    pointwise
    refine (dif_neg (show ¬ 256 * 3 + r.val < 256 by omega)).trans ((dif_neg (show ¬ 256 * 3 + r.val - 256 < 256 by omega)).trans
      ((dif_neg (show ¬ 256 * 3 + r.val - 256 - 256 < 256 by omega)).trans (congrArg d (funext fun k => Fin.ext ?_))))
    match k with
    | ⟨0, _⟩ => show 256 * 3 + r.val - 256 - 256 - 256 = r.val; omega
    | ⟨1, _⟩ => rfl

/-- A head's rows of a stacked array. -/
theorem rowsOf {α : Type} {n : ℕ} (v : (⟨2, ![1024, n]⟩ : Shape).Idx → α) (o : ℕ)
    (h : (⟨2, ![1024, n]⟩ : Shape).Slices ![o, 0] ⟨2, ![256, n]⟩) (g : Fin 4) (ho : o = 256 * g.val) (r : Fin 256) (l : Fin n) :
    extractStridedSlice ⟨2, ![256, n]⟩ ![o, 0] v h (ix2 r l) = v (ix2 (row g r) l) := by
  subst ho
  refine extractStridedSlice_apply _ _ _ _ _ fun k => ?_
  match k with
  | ⟨0, _⟩ => rfl
  | ⟨1, _⟩ => simp

/-- A block of query rows against a block of keys. -/
theorem dot_apply (q k : FVec Ideal S256x128 .bf16) (r l : Fin 256) :
    matmul dot_S256x128_S256x128_S256x256_1_1_0_0_n_n none q k (constant (F := Ideal) S256x256 .f32 0x00000000#32) (ix2 r l)
      = ∑ d : Fin 128, (q (ix2 r d) * k (ix2 l d) : EReal) := by
  refine (Ideal.matmul_transposedRhs_apply (M := 256) (K := 128) (N := 256) none q k _ r l).trans ?_
  rw [constant_apply, Ideal.ofBits_zero_f32, zero_add]

/-- A block of weights against a block of values. -/
theorem pv_apply (p : FVec Ideal S256x256 .bf16) (v : FVec Ideal S256x128 .bf16) (r : Fin 256) (e : Fin 128) :
    matmul dot_S256x256_S256x128_S256x128_1_0_0_1_n_n none p v (constant (F := Ideal) S256x128 .f32 0x00000000#32) (ix2 r e)
      = ∑ l : Fin 256, (p (ix2 r l) * v (ix2 l e) : EReal) := by
  refine (Ideal.matmul_plain_apply (M := 256) (K := 256) (N := 128) none p v _ r e).trans ?_
  rw [constant_apply, Ideal.ofBits_zero_f32, zero_add]

/-- A stacked array against the triangle. -/
theorem tri_apply (x : FVec Ideal S1024x256 .bf16) (t : FVec Ideal S256x256 .bf16) (R : Fin 1024) (l : Fin 256) :
    matmul dot_S1024x256_S256x256_S1024x256_1_0_0_1_n_n none x t (constant (F := Ideal) S1024x256 .f32 0x00000000#32) (ix2 R l)
      = ∑ j : Fin 256, (x (ix2 R j) * t (ix2 j l) : EReal) := by
  refine (Ideal.matmul_plain_apply (M := 1024) (K := 256) (N := 256) none x t _ R l).trans ?_
  rw [constant_apply, Ideal.ofBits_zero_f32, zero_add]

/-- The pattern of zero. -/
theorem zero_word : (Scalar.ofBits (F := Ideal) .f32 0x00000000#32 : EReal) = 0 := Ideal.ofBits_zero_f32

/-- The scores of a row of head `g`. -/
def sco (q k : Fin 4 → (S256x128.Idx → EReal)) (g : Fin 4) (r l : Fin 256) : EReal := ∑ d : Fin 128, q g (ix2 r d) * k g (ix2 l d)

section
variable (q0 q1 q2 q3 k0 k1 k2 k3 : Vec Ideal S256x128 .bf16) (g : Fin 4) (r l : Fin 256)

theorem pay34_apply : k0_pay34 q0 q1 q2 q3 k0 k1 k2 k3 (ix2 (row g r) l) = sco (pick q0 q1 q2 q3) (pick k0 k1 k2 k3) g r l := by
  unfold k0_pay34
  refine (stack _ _ _ _ _ g r l).trans ?_
  match g with
  | 0 => exact dot_apply q0 k0 r l
  | 1 => exact dot_apply q1 k1 r l
  | 2 => exact dot_apply q2 k2 r l
  | 3 => exact dot_apply q3 k3 r l

/-- The other two blocks' scores are the same array. -/
theorem pay21_eq : k0_pay21 q2 q3 (k0_pay19 q0 k0) (k0_pay20 q1 k1) k2 k3 = k0_pay34 q0 q1 q2 q3 k0 k1 k2 k3 := rfl
theorem pay8_eq : k0_pay8 q0 q1 q2 q3 k0 k1 k2 k3 = k0_pay34 q0 q1 q2 q3 k0 k1 k2 k3 := by
  have h : ∀ x : FVec Ideal S256x128 .bf16, shapeCast S256x128 x shapeCasts_S256x128_S256x128 = x := fun x => shapeCast_self x _
  show k0_pay34 q0 q1 q2 q3 (shapeCast S256x128 k0 shapeCasts_S256x128_S256x128) (shapeCast S256x128 k1 shapeCasts_S256x128_S256x128)
    (shapeCast S256x128 k2 shapeCasts_S256x128_S256x128) (shapeCast S256x128 k3 shapeCasts_S256x128_S256x128) = _
  rw [h k0, h k1, h k2, h k3]

/-- The logarithms of an unmasked block. -/
theorem pay35_apply (i : S1024x256.Idx) : k0_pay35 q0 q1 q2 q3 k0 k1 k2 k3 i = Stick.keep (k0_pay34 q0 q1 q2 q3 k0 k1 k2 k3 i) := by
  unfold k0_pay35 Stick.keep
  show (Scalar.ofBits (F := Ideal) .f32 0x00000000#32 : EReal) - (max _ (Scalar.ofBits (F := Ideal) .f32 0x00000000#32 : EReal)
    + Ideal.log1p (Ideal.exp ((Scalar.ofBits (F := Ideal) .f32 0x00000000#32 : EReal) - max _ _))) = _
  rw [zero_word]
end

/-- The triangle's sums of an array in three parts. -/
def threeWay (x : FVec Ideal S1024x256 .f32) (t : FVec Ideal S256x256 .bf16) : FVec Ideal S1024x256 .f32 :=
  let h : FVec Ideal S1024x256 .bf16 := truncf .bf16 x bitsLt_bf16_f32
  let m : FVec Ideal S1024x256 .f32 := subf x (extf .f32 h bitsLt_bf16_f32)
  let m' : FVec Ideal S1024x256 .bf16 := truncf .bf16 m bitsLt_bf16_f32
  let lo : FVec Ideal S1024x256 .f32 := subf m (extf .f32 m' bitsLt_bf16_f32)
  addf (addf (matmul dot_S1024x256_S256x256_S1024x256_1_0_0_1_n_n none h t (constant S1024x256 .f32 0x00000000#32))
    (matmul dot_S1024x256_S256x256_S1024x256_1_0_0_1_n_n none m' t (constant S1024x256 .f32 0x00000000#32)))
    (matmul dot_S1024x256_S256x256_S1024x256_1_0_0_1_n_n none (truncf .bf16 lo bitsLt_bf16_f32) t (constant S1024x256 .f32 0x00000000#32))

theorem threeWay_apply (x : FVec Ideal S1024x256 .f32) (t : FVec Ideal S256x256 .bf16) (M : Fin 256 → Prop) [DecidablePred M]
    (s : Fin 256 → EReal) (R : Fin 1024) (hx : ∀ l, x (ix2 R l) = Stick.kLk M s l) (l : Fin 256) :
    threeWay x t (ix2 R l) = Stick.kSuf M s (fun j l => t (ix2 j l)) l := by
  unfold threeWay Stick.kSuf
  simp only [addf_apply]
  rw [tri_apply, tri_apply, tri_apply]
  simp only [← hx]
  rfl

theorem pay36_eq (q0 q1 q2 q3 : Vec Ideal S256x128 .bf16) (t : FVec Ideal S256x256 .bf16) (k0 k1 k2 k3 : Vec Ideal S256x128 .bf16) :
    k0_pay36 q0 q1 q2 q3 t k0 k1 k2 k3 = threeWay (k0_pay35 q0 q1 q2 q3 k0 k1 k2 k3) t := rfl

/-- The weighted values of a stacked array of weights. -/
theorem blend (w : FVec Ideal S1024x256 .bf16) (v0 v1 v2 v3 : FVec Ideal S256x128 .bf16) (g : Fin 4) (r : Fin 256) (e : Fin 128) :
    concatenate S1024x128 0
      [⟨S256x128, matmul dot_S256x256_S256x128_S256x128_1_0_0_1_n_n none (extractStridedSlice S256x256 ![0, 0] w slices_S1024x256_o0_0_S256x256) v0 (constant (F := Ideal) S256x128 .f32 0x00000000#32)⟩,
       ⟨S256x128, matmul dot_S256x256_S256x128_S256x128_1_0_0_1_n_n none (extractStridedSlice S256x256 ![256, 0] w slices_S1024x256_o256_0_S256x256) v1 (constant (F := Ideal) S256x128 .f32 0x00000000#32)⟩,
       ⟨S256x128, matmul dot_S256x256_S256x128_S256x128_1_0_0_1_n_n none (extractStridedSlice S256x256 ![512, 0] w slices_S1024x256_o512_0_S256x256) v2 (constant (F := Ideal) S256x128 .f32 0x00000000#32)⟩,
       ⟨S256x128, matmul dot_S256x256_S256x128_S256x128_1_0_0_1_n_n none (extractStridedSlice S256x256 ![768, 0] w slices_S1024x256_o768_0_S256x256) v3 (constant (F := Ideal) S256x128 .f32 0x00000000#32)⟩]
      concatenates_S256x128_S256x128_S256x128_S256x128_S1024x128_d0 (ix2 (row g r) e)
    = ∑ l : Fin 256, (w (ix2 (row g r) l) * pick v0 v1 v2 v3 g (ix2 l e) : EReal) := by
  refine (stack _ _ _ _ _ g r e).trans ?_
  match g with
  | 0 => exact (pv_apply _ v0 r e).trans (Finset.sum_congr rfl fun l _ => congrArg (· * _) (rowsOf w 0 _ 0 rfl r l))
  | 1 => exact (pv_apply _ v1 r e).trans (Finset.sum_congr rfl fun l _ => congrArg (· * _) (rowsOf w 256 _ 1 rfl r l))
  | 2 => exact (pv_apply _ v2 r e).trans (Finset.sum_congr rfl fun l _ => congrArg (· * _) (rowsOf w 512 _ 2 rfl r l))
  | 3 => exact (pv_apply _ v3 r e).trans (Finset.sum_congr rfl fun l _ => congrArg (· * _) (rowsOf w 768 _ 3 rfl r l))

/-- The carried logarithms after a block. -/
theorem pay3_apply (c lk sf : FVec Ideal S1024x256 .f32) (R : Fin 1024) (l : Fin 256) :
    k0_pay3 c lk sf (ix2 R l) = c (ix2 R l) + (sf (ix2 R 0) + lk (ix2 R 0) : EReal) := by
  unfold k0_pay3
  rw [addf_apply, Read.bcol, addf_apply]
  refine congrArg (c (ix2 R l) + ·) (congrArg₂ (· + ·) ?_ ?_) <;> exact Read.slice_cols _ _ R 0 (by decide)

theorem pay4_apply (c lk sf : FVec Ideal S1024x256 .f32) (R : Fin 1024) (l : Fin 256) :
    k0_pay4 c lk sf (ix2 R l) = c (ix2 R l) + (sf (ix2 R 0) + lk (ix2 R 0) : EReal) := by
  unfold k0_pay4
  rw [shapeCast_self]
  exact pay3_apply c lk sf R l

theorem pay28_eq (c lk sf : FVec Ideal S1024x256 .f32) : k0_pay28 c lk sf = k0_pay4 c lk sf := rfl
theorem pay30_eq (c lk sf : FVec Ideal S1024x256 .f32) : k0_pay30 c lk sf = k0_pay6 c lk sf := rfl

/-- The greatest carried logarithm is above each. -/
theorem pay6_ge (c lk sf : FVec Ideal S1024x256 .f32) (R : Fin 1024) (l : Fin 256) :
    k0_pay4 c lk sf (ix2 R l) ≤ (k0_pay6 c lk sf : EReal) := by
  unfold k0_pay4 k0_pay6
  rw [shapeCast_self]
  pointwise
  exact Finset.le_fold_max _ |>.2 (Or.inr ⟨(R, l), Finset.mem_univ _, le_of_eq rfl⟩)

/-- The test on the greatest logarithm. -/
theorem goes_of {x y : EReal} (h : y ≤ x) (hy : ((-104 : ℝ) : EReal) < y) : Cert.Proof.Sb.goes (F := Ideal) x := by
  unfold Cert.Proof.Sb.goes
  have e : (Scalar.ofBits (F := Ideal) .f32 0xC2D00000#32 : EReal) = ((-104 : ℝ) : EReal) := by
    show Ideal.ofBits .f32 0xC2D00000#32 = _
    simp [Ideal.ofBits, Ideal.ieee]
    rw [← EReal.coe_mul]; norm_num
  show BitVec.ofBool (decide (_ < x)) = 1#1
  rw [e, decide_eq_true (hy.trans_le h)]
  rfl

/-- A stacked row's place in its head's block, as the kernel computes it. -/
theorem place (R : Fin 1024) : Scalar.select
      (IntOp.andi (IntOp.xori (IntOp.cmpi .slt (IntOp.remsi .vector (BitVec.ofNat 32 R.val) 256#32) 0#32) 0#1)
        (IntOp.cmpi .ne (IntOp.remsi .vector (BitVec.ofNat 32 R.val) 256#32) 0#32))
      (IntOp.addi (IntOp.remsi .vector (BitVec.ofNat 32 R.val) 256#32) 256#32)
      (IntOp.remsi .vector (BitVec.ofNat 32 R.val) 256#32) = BitVec.ofNat 32 (R.val % 256) :=
  (by decide +kernel +revert)

/-- Which keys of the point's own block a row sees. -/
theorem pay16_apply (g : Fin 4) (r l : Fin 256) : k0_pay16 (ix2 (row g r) l) = BitVec.ofBool (decide (l.val < r.val)) := by
  unfold k0_pay16
  pointwise
  have h := place (row g r)
  have e : (row g r).val % 256 = r.val := by show (256 * g.val + r.val) % 256 = _; omega
  rw [e] at h
  refine (congrArg (IntOp.cmpi .slt (BitVec.ofNat 32 l.val)) h).trans ?_
  exact WordCmp.cmpi_slt_ofNat (by omega) (by omega)

/-- The rows beside the prompt. -/
theorem pay7_apply (R : Fin 1024) (l : Fin 256) : k0_pay7 Cert.Proof.Sb.lanes (ix2 R l) = BitVec.ofBool (decide (l.val < 16)) := by
  unfold k0_pay7
  pointwise
  exact WordCmp.cmpi_slt_ofNat (a := l.val) (b := 16) (by omega) (by omega)

end

end Cert.SbIdeal.Pay
-- ==== Proof.Sb.Rows.lean ====
module

public import proofs.«01_k».proof.Proof.Sb.Pay

@[expose] public section

set_option maxRecDepth 16384

/-! What a point's state is row by row, as the blocks are taken from the last to the first. -/

namespace Cert.SbIdeal.Rows

open Idealize.ShloMosaic hiding ix0 ix1 ix2 ix3 ix4
open Idealize.ShloMosaic.ValueIdx Cert.SbIdeal Cert.SbIdeal.Gen Cert.SbIdeal.Pay
open Cert.Proof.Sb (St head0 head1 head2 head3 own0 own1 own2 own3 at0 at1 at2 at3 trip run start met beside total goes chk_of_lt lanes)
open Finset

noncomputable section

/-- The triangle's entries. -/
abbrev ent (t : FVec Ideal S256x256 .bf16) : Fin 256 → Fin 256 → EReal := fun j l => t (ix2 j l)

/-- A choice by the word of a decided proposition. -/
theorem sel {p : Prop} [Decidable p] (x y : EReal) : Scalar.select (BitVec.ofBool (decide p)) x y = if p then x else y := by
  by_cases h : p
  · rw [if_pos h, decide_eq_true h]; rfl
  · rw [if_neg h, decide_eq_false h]; rfl

/-! ## An earlier block -/

section Trip
variable (q0 q1 q2 q3 : Vec Ideal S256x128 .bf16) (tr : FVec Ideal S256x256 .bf16) (K V : Vec Ideal S8192x512 .bf16)
  (b : BitVec 32) (hb : Cert.SbIdeal.k0_chk1 b) (s : St Ideal) (g : Fin 4) (r : Fin 256)

/-- The block's scores. -/
abbrev tripS : Fin 256 → EReal := sco (pick q0 q1 q2 q3) (pick (at0 b hb K) (at1 b hb K) (at2 b hb K) (at3 b hb K)) g r

theorem trip_lk (l : Fin 256) : k0_pay35 q0 q1 q2 q3 (at0 b hb K) (at1 b hb K) (at2 b hb K) (at3 b hb K) (ix2 (row g r) l)
    = Stick.kLk (fun _ => True) (tripS q0 q1 q2 q3 K b hb g r) l := by
  rw [pay35_apply, pay34_apply]
  exact (if_pos trivial).symm

theorem trip_suf (l : Fin 256) : k0_pay36 q0 q1 q2 q3 tr (at0 b hb K) (at1 b hb K) (at2 b hb K) (at3 b hb K) (ix2 (row g r) l)
    = Stick.kSuf (fun _ => True) (tripS q0 q1 q2 q3 K b hb g r) (ent tr) l := by
  rw [pay36_eq]
  exact threeWay_apply _ tr (fun _ => True) _ (row g r) (trip_lk q0 q1 q2 q3 K b hb g r) l

theorem trip_c (l : Fin 256) : (trip q0 q1 q2 q3 tr K V b hb s).c (ix2 (row g r) l)
    = s.c (ix2 (row g r) l) + (Stick.kSuf (fun _ => True) (tripS q0 q1 q2 q3 K b hb g r) (ent tr) 0
        + Stick.kLk (fun _ => True) (tripS q0 q1 q2 q3 K b hb g r) 0 : EReal) := by
  refine (pay4_apply s.c _ _ (row g r) l).trans ?_
  rw [trip_suf, trip_lk]

theorem trip_a (e : Fin 128) : (trip q0 q1 q2 q3 tr K V b hb s).a (ix2 (row g r) e)
    = s.a (ix2 (row g r) e) + ∑ l : Fin 256, (Stick.kWt (fun _ => True) (tripS q0 q1 q2 q3 K b hb g r) (ent tr)
        (fun l => s.c (ix2 (row g r) l)) l * pick (at0 b hb V) (at1 b hb V) (at2 b hb V) (at3 b hb V) g (ix2 l e) : EReal) := by
  show k0_pay5 s.c s.a _ _ _ _ _ _ (ix2 (row g r) e) = _
  unfold k0_pay5
  rw [shapeCast_self, addf_apply]
  refine congrArg (s.a (ix2 (row g r) e) + ·) ((blend _ (at0 b hb V) (at1 b hb V) (at2 b hb V) (at3 b hb V) g r e).trans ?_)
  refine Finset.sum_congr rfl fun l _ => congrArg (· * _) ?_
  unfold Stick.kWt
  rw [if_pos trivial]
  show Ideal.exp (((k0_pay34 q0 q1 q2 q3 (at0 b hb K) (at1 b hb K) (at2 b hb K) (at3 b hb K) (ix2 (row g r) l) : EReal)
      + k0_pay35 q0 q1 q2 q3 (at0 b hb K) (at1 b hb K) (at2 b hb K) (at3 b hb K) (ix2 (row g r) l)
      + k0_pay36 q0 q1 q2 q3 tr (at0 b hb K) (at1 b hb K) (at2 b hb K) (at3 b hb K) (ix2 (row g r) l))
      + s.c (ix2 (row g r) l)) = _
  rw [pay34_apply, trip_lk, trip_suf]

theorem trip_cd : (trip q0 q1 q2 q3 tr K V b hb s).c = k0_pay4 s.c (k0_pay35 q0 q1 q2 q3 (at0 b hb K) (at1 b hb K) (at2 b hb K) (at3 b hb K))
    (k0_pay36 q0 q1 q2 q3 tr (at0 b hb K) (at1 b hb K) (at2 b hb K) (at3 b hb K)) := rfl
theorem trip_md : (trip q0 q1 q2 q3 tr K V b hb s).m = k0_pay6 s.c (k0_pay35 q0 q1 q2 q3 (at0 b hb K) (at1 b hb K) (at2 b hb K) (at3 b hb K))
    (k0_pay36 q0 q1 q2 q3 tr (at0 b hb K) (at1 b hb K) (at2 b hb K) (at3 b hb K)) := by
  unfold trip; dsimp only

theorem trip_go (l : Fin 256) (h : ((-104 : ℝ) : EReal) < (trip q0 q1 q2 q3 tr K V b hb s).c (ix2 (row g r) l)) :
    goes (trip q0 q1 q2 q3 tr K V b hb s).m := by
  rw [trip_cd] at h
  rw [trip_md]
  exact goes_of (pay6_ge s.c _ _ (row g r) l) h
end Trip

/-! ## The point's own block -/

section Start
variable (i : grid0.Coords) (Q : Vec Ideal S256x512 .bf16) (K V : Vec Ideal S8192x512 .bf16) (T : Vec Ideal S256x256 .bf16)
  (g : Fin 4) (r : Fin 256)

/-- The block's scores. -/
abbrev startS : Fin 256 → EReal :=
  sco (pick (head0 Q) (head1 Q) (head2 Q) (head3 Q)) (pick (own0 i K) (own1 i K) (own2 i K) (own3 i K)) g r

abbrev startZ : FVec Ideal S1024x256 .f32 :=
  k0_pay34 (head0 Q) (head1 Q) (head2 Q) (head3 Q) (own0 i K) (own1 i K) (own2 i K) (own3 i K)
abbrev startLk : FVec Ideal S1024x256 .f32 :=
  k0_pay22 (head2 Q) (head3 Q) k0_pay16 (k0_pay19 (head0 Q) (own0 i K)) (k0_pay20 (head1 Q) (own1 i K)) (own2 i K) (own3 i K)

theorem start_lk (l : Fin 256) : startLk i Q K (ix2 (row g r) l) = Stick.kLk (fun l => l.val < r.val) (startS i Q K g r) l := by
  have h : startLk i Q K (ix2 (row g r) l) = Scalar.select (k0_pay16 (ix2 (row g r) l))
      (k0_pay35 (head0 Q) (head1 Q) (head2 Q) (head3 Q) (own0 i K) (own1 i K) (own2 i K) (own3 i K) (ix2 (row g r) l))
      (Scalar.ofBits (F := Ideal) .f32 0x00000000#32) := rfl
  rw [h, pay16_apply, zero_word, pay35_apply, pay34_apply]
  exact sel _ _

theorem start_suf (l : Fin 256) :
    k0_pay23 (k0_pay15 T) (head2 Q) (head3 Q) k0_pay16 (k0_pay19 (head0 Q) (own0 i K)) (k0_pay20 (head1 Q) (own1 i K)) (own2 i K) (own3 i K) (ix2 (row g r) l)
      = Stick.kSuf (fun l => l.val < r.val) (startS i Q K g r) (ent (k0_pay15 T)) l :=
  threeWay_apply (startLk i Q K) (k0_pay15 T) _ _ (row g r) (start_lk i Q K g r) l

theorem start_c (l : Fin 256) : (start i Q K V T).c (ix2 (row g r) l)
    = 0 + (Stick.kSuf (fun l => l.val < r.val) (startS i Q K g r) (ent (k0_pay15 T)) 0
        + Stick.kLk (fun l => l.val < r.val) (startS i Q K g r) 0 : EReal) := by
  refine (pay4_apply k0_pay17 _ _ (row g r) l).trans ?_
  rw [start_suf]
  refine congrArg₂ (· + ·) zero_word (congrArg (_ + ·) (start_lk i Q K g r 0))

theorem start_a (e : Fin 128) : (start i Q K V T).a (ix2 (row g r) e)
    = 0 + ∑ l : Fin 256, (Stick.kWt (fun l => l.val < r.val) (startS i Q K g r) (ent (k0_pay15 T)) (fun _ => 0) l
        * pick (own0 i V) (own1 i V) (own2 i V) (own3 i V) g (ix2 l e) : EReal) := by
  show k0_pay29 _ _ _ _ _ _ _ (ix2 (row g r) e) = _
  unfold k0_pay29
  rw [shapeCast_self, addf_apply]
  refine congrArg₂ (· + ·) zero_word ((blend _ (own0 i V) (own1 i V) (own2 i V) (own3 i V) g r e).trans ?_)
  refine Finset.sum_congr rfl fun l _ => congrArg (· * _) ?_
  have h : k0_pay24 (k0_pay15 T) (head2 Q) (head3 Q) k0_pay16 k0_pay17 (k0_pay19 (head0 Q) (own0 i K)) (k0_pay20 (head1 Q) (own1 i K)) (own2 i K) (own3 i K) (ix2 (row g r) l)
      = Scalar.select (k0_pay16 (ix2 (row g r) l)) (Ideal.exp (((startZ i Q K (ix2 (row g r) l) : EReal) + startLk i Q K (ix2 (row g r) l)
        + k0_pay23 (k0_pay15 T) (head2 Q) (head3 Q) k0_pay16 (k0_pay19 (head0 Q) (own0 i K)) (k0_pay20 (head1 Q) (own1 i K)) (own2 i K) (own3 i K) (ix2 (row g r) l))
        + Scalar.ofBits (F := Ideal) .f32 0x00000000#32)) (Scalar.ofBits (F := Ideal) .f32 0x00000000#32) := rfl
  have hz : startZ i Q K (ix2 (row g r) l) = startS i Q K g r l := pay34_apply _ _ _ _ _ _ _ _ g r l
  rw [h, pay16_apply, zero_word, hz, start_lk, start_suf]
  exact sel _ _

theorem start_cd : (start i Q K V T).c = k0_pay4 k0_pay17 (startLk i Q K)
    (k0_pay23 (k0_pay15 T) (head2 Q) (head3 Q) k0_pay16 (k0_pay19 (head0 Q) (own0 i K)) (k0_pay20 (head1 Q) (own1 i K)) (own2 i K) (own3 i K)) := rfl
theorem start_md : (start i Q K V T).m = k0_pay6 k0_pay17 (startLk i Q K)
    (k0_pay23 (k0_pay15 T) (head2 Q) (head3 Q) k0_pay16 (k0_pay19 (head0 Q) (own0 i K)) (k0_pay20 (head1 Q) (own1 i K)) (own2 i K) (own3 i K)) := by
  unfold start; dsimp only; rw [pay30_eq]

theorem start_go (l : Fin 256) (h : ((-104 : ℝ) : EReal) < (start i Q K V T).c (ix2 (row g r) l)) : goes (start i Q K V T).m := by
  rw [start_cd] at h
  rw [start_md]
  exact goes_of (pay6_ge k0_pay17 _ _ (row g r) l) h
end Start

/-! ## The rows beside the prompt -/

section Beside
variable (Q Km Vm : Vec Ideal S256x512 .bf16) (T : Vec Ideal S256x256 .bf16) (s : St Ideal) (g : Fin 4) (r : Fin 256)

/-- Their scores. -/
abbrev besideS : Fin 256 → EReal :=
  sco (pick (head0 Q) (head1 Q) (head2 Q) (head3 Q)) (pick (head0 Km) (head1 Km) (head2 Km) (head3 Km)) g r

abbrev besideLk : FVec Ideal S1024x256 .f32 :=
  k0_pay9 lanes (head0 Q) (head1 Q) (head2 Q) (head3 Q) (head0 Km) (head1 Km) (head2 Km) (head3 Km)

theorem beside_lk (l : Fin 256) : besideLk Q Km (ix2 (row g r) l) = Stick.kLk (fun l => l.val < 16) (besideS Q Km g r) l := by
  have h : besideLk Q Km (ix2 (row g r) l) = Scalar.select (k0_pay7 lanes (ix2 (row g r) l))
      ((Scalar.ofBits (F := Ideal) .f32 0x00000000#32 : EReal) - (max (k0_pay8 (head0 Q) (head1 Q) (head2 Q) (head3 Q) (head0 Km) (head1 Km) (head2 Km) (head3 Km) (ix2 (row g r) l)) (Scalar.ofBits (F := Ideal) .f32 0x00000000#32 : EReal)
        + Ideal.log1p (Ideal.exp ((Scalar.ofBits (F := Ideal) .f32 0x00000000#32 : EReal)
          - max (k0_pay8 (head0 Q) (head1 Q) (head2 Q) (head3 Q) (head0 Km) (head1 Km) (head2 Km) (head3 Km) (ix2 (row g r) l) : EReal)
            (-(k0_pay8 (head0 Q) (head1 Q) (head2 Q) (head3 Q) (head0 Km) (head1 Km) (head2 Km) (head3 Km) (ix2 (row g r) l)))))))
      (Scalar.ofBits (F := Ideal) .f32 0x00000000#32) := rfl
  rw [h, pay7_apply, zero_word, pay8_eq, pay34_apply]
  exact sel _ _

theorem beside_a (e : Fin 128) : beside Q Km Vm T s (ix2 (row g r) e)
    = s.a (ix2 (row g r) e) + ∑ l : Fin 256, (Stick.kWt (fun l => l.val < 16) (besideS Q Km g r) (ent (k0_pay15 T))
        (fun l => s.c (ix2 (row g r) l)) l * pick (head0 Vm) (head1 Vm) (head2 Vm) (head3 Vm) g (ix2 l e) : EReal) := by
  have hs : ∀ x : FVec Ideal S256x128 .bf16, shapeCast S256x128 x shapeCasts_S256x128_S256x128 = x := fun x => shapeCast_self x _
  unfold beside k0_pay31
  rw [shapeCast_self, addf_apply]
  refine congrArg (s.a (ix2 (row g r) e) + ·) ((blend _ (shapeCast S256x128 (head0 Vm) shapeCasts_S256x128_S256x128)
    (shapeCast S256x128 (head1 Vm) shapeCasts_S256x128_S256x128) (shapeCast S256x128 (head2 Vm) shapeCasts_S256x128_S256x128)
    (shapeCast S256x128 (head3 Vm) shapeCasts_S256x128_S256x128) g r e).trans ?_)
  rw [hs (head0 Vm), hs (head1 Vm), hs (head2 Vm), hs (head3 Vm)]
  refine Finset.sum_congr rfl fun l _ => congrArg (· * _) ?_
  show Scalar.select (k0_pay7 lanes (ix2 (row g r) l)) (Ideal.exp (((k0_pay8 (head0 Q) (head1 Q) (head2 Q) (head3 Q) (head0 Km) (head1 Km) (head2 Km) (head3 Km) (ix2 (row g r) l) : EReal) + besideLk Q Km (ix2 (row g r) l)
        + threeWay (besideLk Q Km) (k0_pay15 T) (ix2 (row g r) l))
        + s.c (ix2 (row g r) l))) (Scalar.ofBits (F := Ideal) .f32 0x00000000#32) = _
  rw [pay7_apply, zero_word, pay8_eq, pay34_apply, threeWay_apply _ (k0_pay15 T) _ _ (row g r) (beside_lk Q Km g r), beside_lk]
  exact sel _ _
end Beside

/-! ## What the loads read -/

section Loads
theorem off_at : ∀ k < 32, (k0_off5 (BitVec.ofNat 32 k)) 0 = 256 * k ∧ (k0_off6 (BitVec.ofNat 32 k)) 0 = 256 * k
    ∧ (k0_off7 (BitVec.ofNat 32 k)) 0 = 256 * k ∧ (k0_off8 (BitVec.ofNat 32 k)) 0 = 256 * k := by decide

theorem off_word : ∀ k < 32, (Scalar.indexCast (Scalar.muli (BitVec.ofNat 32 k) 256#32)).toNat = 256 * k := by decide

theorem pick_head (X : Vec Ideal S256x512 .bf16) (g : Fin 4) (l : Fin 256) (e : Fin 128) :
    pick (head0 X) (head1 X) (head2 X) (head3 X) g (ix2 l e) = X (ix2 l ⟨128 * g.val + e.val, by omega⟩) := by
  match g with
  | 0 => exact congrArg X (funext fun a => Fin.ext (by match a with
      | ⟨0, _⟩ => show 0 + 1 * l.val = l.val; omega
      | ⟨1, _⟩ => show 0 + 1 * e.val = 128 * 0 + e.val; omega))
  | 1 => exact congrArg X (funext fun a => Fin.ext (by match a with
      | ⟨0, _⟩ => show 0 + 1 * l.val = l.val; omega
      | ⟨1, _⟩ => show 128 + 1 * e.val = 128 * 1 + e.val; omega))
  | 2 => exact congrArg X (funext fun a => Fin.ext (by match a with
      | ⟨0, _⟩ => show 0 + 1 * l.val = l.val; omega
      | ⟨1, _⟩ => show 256 + 1 * e.val = 128 * 2 + e.val; omega))
  | 3 => exact congrArg X (funext fun a => Fin.ext (by match a with
      | ⟨0, _⟩ => show 0 + 1 * l.val = l.val; omega
      | ⟨1, _⟩ => show 384 + 1 * e.val = 128 * 3 + e.val; omega))

theorem pick_at (X : Vec Ideal S8192x512 .bf16) (k : ℕ) (hk : k < 32) (g : Fin 4) (l : Fin 256) (e : Fin 128) :
    pick (at0 (BitVec.ofNat 32 k) (chk_of_lt k hk) X) (at1 (BitVec.ofNat 32 k) (chk_of_lt k hk) X)
      (at2 (BitVec.ofNat 32 k) (chk_of_lt k hk) X) (at3 (BitVec.ofNat 32 k) (chk_of_lt k hk) X) g (ix2 l e)
      = X (ix2 ⟨256 * k + l.val, by omega⟩ ⟨128 * g.val + e.val, by omega⟩) := by
  have h := off_word k hk
  match g with
  | 0 => exact congrArg X (funext fun a => Fin.ext (by match a with
      | ⟨0, _⟩ => show (Scalar.indexCast (Scalar.muli (BitVec.ofNat 32 k) 256#32)).toNat + 1 * l.val = 256 * k + l.val; omega
      | ⟨1, _⟩ => show 0 + 1 * e.val = 128 * 0 + e.val; omega))
  | 1 => exact congrArg X (funext fun a => Fin.ext (by match a with
      | ⟨0, _⟩ => show (Scalar.indexCast (Scalar.muli (BitVec.ofNat 32 k) 256#32)).toNat + 1 * l.val = 256 * k + l.val; omega
      | ⟨1, _⟩ => show 128 + 1 * e.val = 128 * 1 + e.val; omega))
  | 2 => exact congrArg X (funext fun a => Fin.ext (by match a with
      | ⟨0, _⟩ => show (Scalar.indexCast (Scalar.muli (BitVec.ofNat 32 k) 256#32)).toNat + 1 * l.val = 256 * k + l.val; omega
      | ⟨1, _⟩ => show 256 + 1 * e.val = 128 * 2 + e.val; omega))
  | 3 => exact congrArg X (funext fun a => Fin.ext (by match a with
      | ⟨0, _⟩ => show (Scalar.indexCast (Scalar.muli (BitVec.ofNat 32 k) 256#32)).toNat + 1 * l.val = 256 * k + l.val; omega
      | ⟨1, _⟩ => show 384 + 1 * e.val = 128 * 3 + e.val; omega))

theorem pick_own (X : Vec Ideal S8192x512 .bf16) (i : grid0.Coords) (hk : (i 1).val < 32) (g : Fin 4) (l : Fin 256) (e : Fin 128) :
    pick (own0 i X) (own1 i X) (own2 i X) (own3 i X) g (ix2 l e)
      = X (ix2 ⟨256 * (i 1).val + l.val, by omega⟩ ⟨128 * g.val + e.val, by omega⟩) := by
  have h := off_word (i 1).val hk
  match g with
  | 0 => exact congrArg X (funext fun a => Fin.ext (by match a with
      | ⟨0, _⟩ => show (Scalar.indexCast (Scalar.muli (BitVec.ofNat 32 (i 1).val) 256#32)).toNat + 1 * l.val = 256 * (i 1).val + l.val; omega
      | ⟨1, _⟩ => show 0 + 1 * e.val = 128 * 0 + e.val; omega))
  | 1 => exact congrArg X (funext fun a => Fin.ext (by match a with
      | ⟨0, _⟩ => show (Scalar.indexCast (Scalar.muli (BitVec.ofNat 32 (i 1).val) 256#32)).toNat + 1 * l.val = 256 * (i 1).val + l.val; omega
      | ⟨1, _⟩ => show 128 + 1 * e.val = 128 * 1 + e.val; omega))
  | 2 => exact congrArg X (funext fun a => Fin.ext (by match a with
      | ⟨0, _⟩ => show (Scalar.indexCast (Scalar.muli (BitVec.ofNat 32 (i 1).val) 256#32)).toNat + 1 * l.val = 256 * (i 1).val + l.val; omega
      | ⟨1, _⟩ => show 256 + 1 * e.val = 128 * 2 + e.val; omega))
  | 3 => exact congrArg X (funext fun a => Fin.ext (by match a with
      | ⟨0, _⟩ => show (Scalar.indexCast (Scalar.muli (BitVec.ofNat 32 (i 1).val) 256#32)).toNat + 1 * l.val = 256 * (i 1).val + l.val; omega
      | ⟨1, _⟩ => show 384 + 1 * e.val = 128 * 3 + e.val; omega))
end Loads

/-! ## The blocks together -/

/-- What a point is run on: the scores of its rows, how many keys each sees, and the values. -/
structure Data (i : grid0.Coords) (Q : Vec Ideal S256x512 .bf16) (K V : Vec Ideal S8192x512 .bf16) (Km Vm : Vec Ideal S256x512 .bf16)
    (T : Vec Ideal S256x256 .bf16) (z : Fin 4 → Fin 256 → ℕ → EReal) (v : Fin 4 → Fin 128 → ℕ → EReal) : Prop where
  lt : (i 1).val < 32
  key : ∀ g r (p : Fin 8192), ∑ d : Fin 128, (Q (ix2 r ⟨128 * g.val + d.val, by omega⟩) * K (ix2 p ⟨128 * g.val + d.val, by omega⟩) : EReal) = z g r (16 + p.val)
  val : ∀ (g : Fin 4) (e : Fin 128) (p : Fin 8192), (V (ix2 p ⟨128 * g.val + e.val, by omega⟩) : EReal) = v g e (16 + p.val)
  keyM : ∀ g r (j : Fin 256), j.val < 16 → ∑ d : Fin 128, (Q (ix2 r ⟨128 * g.val + d.val, by omega⟩) * Km (ix2 j ⟨128 * g.val + d.val, by omega⟩) : EReal) = z g r j.val
  valM : ∀ (g : Fin 4) (e : Fin 128) (j : Fin 256), j.val < 16 → (Vm (ix2 j ⟨128 * g.val + e.val, by omega⟩) : EReal) = v g e j.val
  tr : ∀ j l : Fin 256, (T (ix2 j l) : EReal) = Stick.tri j l
  fin : ∀ g r p, p < 16 + (256 * (i 1).val + r.val) → z g r p ≠ ⊤
  alive : ∀ g r, -104 < Stick.tail (z g r) (16 + (256 * (i 1).val + r.val)) 0

section Together
variable {i : grid0.Coords} {Q : Vec Ideal S256x512 .bf16} {K V : Vec Ideal S8192x512 .bf16} {Km Vm : Vec Ideal S256x512 .bf16}
    {T : Vec Ideal S256x256 .bf16} {z : Fin 4 → Fin 256 → ℕ → EReal} {v : Fin 4 → Fin 128 → ℕ → EReal} (D : Data i Q K V Km Vm T z v)
include D

/-- The state when the keys from `p` on have been taken. -/
structure Inv (i : grid0.Coords) (z : Fin 4 → Fin 256 → ℕ → EReal) (v : Fin 4 → Fin 128 → ℕ → EReal) (p : ℕ) (s : St Ideal) : Prop where
  c : ∀ g r l, s.c (ix2 (row g r) l) = (Stick.tail (z g r) (16 + (256 * (i 1).val + r.val)) p : EReal)
  a : ∀ g r e, s.a (ix2 (row g r) e) = Stick.acc (z g r) (16 + (256 * (i 1).val + r.val)) (v g e) p
  go : goes s.m

theorem ent_eq : ent (k0_pay15 T) = Stick.tri := by
  funext j l
  have h : k0_pay15 T = T := by unfold k0_pay15; exact shapeCast_self T _
  show k0_pay15 T (ix2 j l) = _
  rw [h]; exact D.tr j l

/-- A carried logarithm is above the threshold. -/
theorem above (g : Fin 4) (r : Fin 256) (p : ℕ) (hp : p ≤ 8208) :
    ((-104 : ℝ) : EReal) < (Stick.tail (z g r) (16 + (256 * (i 1).val + r.val)) p : EReal) :=
  EReal.coe_lt_coe_iff.2 ((D.alive g r).trans_le (Stick.tail_mono _ _ p hp))

theorem tripS_eq (k : ℕ) (hk : k < 32) (g : Fin 4) (r l : Fin 256) :
    tripS (head0 Q) (head1 Q) (head2 Q) (head3 Q) K (BitVec.ofNat 32 k) (chk_of_lt k hk) g r l = z g r (16 + 256 * k + l.val) := by
  have h := D.key g r ⟨256 * k + l.val, by omega⟩
  rw [Nat.add_assoc, ← h]
  exact Finset.sum_congr rfl fun d _ => congrArg₂ (· * ·) (pick_head Q g r d) (pick_at K k hk g l d)

theorem startS_eq (g : Fin 4) (r l : Fin 256) : startS i Q K g r l = z g r (16 + 256 * (i 1).val + l.val) := by
  have hk := D.lt
  have h := D.key g r ⟨256 * (i 1).val + l.val, by omega⟩
  rw [Nat.add_assoc, ← h]
  exact Finset.sum_congr rfl fun d _ => congrArg₂ (· * ·) (pick_head Q g r d) (pick_own K i hk g l d)

theorem start_inv : Inv i z v (16 + 256 * (i 1).val) (start i Q K V T) := by
  have hk := D.lt
  have hM : ∀ r l : Fin 256, l.val < r.val ↔ l.val < 256 ∧ 16 + 256 * (i 1).val + l.val < 16 + (256 * (i 1).val + r.val) :=
    fun r l => by have := l.isLt; omega
  have c : ∀ g r l, (start i Q K V T).c (ix2 (row g r) l) = (Stick.tail (z g r) (16 + (256 * (i 1).val + r.val)) (16 + 256 * (i 1).val) : EReal) := fun g r l => by
    rw [start_c, ent_eq D]
    exact Stick.carry (fun l => l.val < r.val) (startS i Q K g r) (z g r) _ 256 (16 + 256 * (i 1).val) (le_refl _) (by omega) (hM r)
      (fun l _ => startS_eq D g r l) (D.fin g r) 0 (by rw [Stick.tail_end _ _ _ (by omega)]; rfl) (by omega)
  refine ⟨c, fun g r e => ?_, start_go i Q K V T 0 0 0 ?_⟩
  · rw [start_a, ent_eq D]
    refine Stick.gather (fun l => l.val < r.val) (startS i Q K g r) (z g r) _ 256 (16 + 256 * (i 1).val) (le_refl _) (by omega) (hM r)
      (fun l _ => startS_eq D g r l) (D.fin g r) (fun _ => 0) (fun l => by rw [Stick.tail_end _ _ _ (by omega)]; rfl) (v g e) _ (fun l _ => ?_) 0
      (Stick.acc_end _ _ _ _ (by omega)).symm
    rw [pick_own V i hk g l e, D.val g e ⟨256 * (i 1).val + l.val, by omega⟩, Nat.add_assoc]
  · rw [c]; exact above D 0 0 _ (by omega)

theorem trip_inv (k : ℕ) (hk : k < (i 1).val) (s : St Ideal) (I : Inv i z v (16 + 256 * (k + 1)) s) :
    Inv i z v (16 + 256 * k) (trip (head0 Q) (head1 Q) (head2 Q) (head3 Q) (k0_pay15 T) K V (BitVec.ofNat 32 k)
      (chk_of_lt k (hk.trans D.lt)) s) := by
  have hk' := hk.trans D.lt
  have hM : ∀ r l : Fin 256, True ↔ l.val < 256 ∧ 16 + 256 * k + l.val < 16 + (256 * (i 1).val + r.val) :=
    fun r l => ⟨fun _ => by have := l.isLt; omega, fun _ => trivial⟩
  have eB : 16 + 256 * k + 256 = 16 + 256 * (k + 1) := by ring
  have c : ∀ g r l, (trip (head0 Q) (head1 Q) (head2 Q) (head3 Q) (k0_pay15 T) K V (BitVec.ofNat 32 k) (chk_of_lt k hk') s).c (ix2 (row g r) l)
      = (Stick.tail (z g r) (16 + (256 * (i 1).val + r.val)) (16 + 256 * k) : EReal) := fun g r l => by
    rw [trip_c, ent_eq D]
    exact Stick.carry (fun _ => True) _ (z g r) _ 256 (16 + 256 * k) (le_refl _) (by omega) (hM r)
      (fun l _ => tripS_eq D k hk' g r l) (D.fin g r) _ (by rw [I.c, eB]) (by omega)
  refine ⟨c, fun g r e => ?_, trip_go _ _ _ _ _ K V _ _ s 0 0 0 ?_⟩
  · rw [trip_a, ent_eq D]
    refine Stick.gather (fun _ => True) _ (z g r) _ 256 (16 + 256 * k) (le_refl _) (by omega) (hM r)
      (fun l _ => tripS_eq D k hk' g r l) (D.fin g r) _ (fun l => by rw [I.c, eB]) (v g e) _ (fun l _ => ?_) _ (by rw [I.a, eB])
    rw [pick_at V k hk' g l e, D.val g e ⟨256 * k + l.val, by omega⟩, Nat.add_assoc]
  · rw [c]; exact above D 0 0 _ (by omega)

theorem run_inv : ∀ (k : ℕ) (hk : k ≤ 32) (hk' : k ≤ (i 1).val) (s : St Ideal), Inv i z v (16 + 256 * k) s →
    Inv i z v 16 (run (head0 Q) (head1 Q) (head2 Q) (head3 Q) (k0_pay15 T) K V k hk s)
  | 0, _, _, s, I => I
  | k + 1, hk, hk', s, I => by
    unfold run
    rw [if_pos I.go]
    exact run_inv k (by omega) (by omega) _ (trip_inv D k (by omega) s I)

/-- What the body ends with: every key taken. -/
theorem total_eq (g : Fin 4) (r : Fin 256) (e : Fin 128) :
    total i Q K V Km Vm T (ix2 (row g r) e) = Stick.acc (z g r) (16 + (256 * (i 1).val + r.val)) (v g e) 0 := by
  have I : Inv i z v 16 (met i Q K V T) := run_inv D _ _ (le_refl _) _ (start_inv D)
  unfold total
  rw [if_pos I.go, beside_a, ent_eq D]
  refine Stick.gather (fun l => l.val < 16) (besideS Q Km g r) (z g r) _ 16 0 (by omega) (by omega)
    (fun l => ⟨fun h => ⟨h, by omega⟩, fun h => h.1⟩) (fun l h => ?_) (D.fin g r) _ (fun l => by rw [I.c]) (v g e) _ (fun l h => ?_) _ (by rw [I.a])
  · rw [Nat.zero_add, ← D.keyM g r l h]
    exact Finset.sum_congr rfl fun d _ => congrArg₂ (· * ·) (pick_head Q g r d) (pick_head Km g l d)
  · rw [pick_head Vm g l e, D.valM g e l h, Nat.zero_add]

end Together

end

end Cert.SbIdeal.Rows
-- ==== Proof.Sb.Sums.lean ====
module

public import Idealize.ShloMosaic.Lib.Pointwise
public import proofs.«01_k».proof.Proof.Diff.Spec
public import proofs.«01_k».proof.Proof.Sb.Spec

@[expose] public section

/-! The scores of the stick-breaking attention in plain indices, and the sums from each place on. -/

namespace Stick

open Idealize.ShloMosaic hiding ix0 ix1 ix2 ix3 ix4
open Idealize.ShloMosaic.ValueIdx Finset

noncomputable section

/-- Column `d` of the query of head `h`. -/
def qcol (h : Fin 8) (d : Fin 128) : Fin 6144 := ⟨128 * h.val + d.val, by omega⟩
/-- Column `d` of the key of head `h`. -/
def kcol (h : Fin 8) (d : Fin 128) : Fin 6144 := ⟨1024 + (128 * h.val + d.val), by omega⟩
/-- Column `e` of the value of head `h`. -/
def vcol (h : Fin 8) (e : Fin 128) : Fin 6144 := ⟨2048 + (128 * h.val + e.val), by omega⟩

/-- The scores of query row `n`. -/
def sc (P : (⟨2, ![8192, 6144]⟩ : Shape).Idx → EReal) (A : (⟨2, ![144, 6144]⟩ : Shape).Idx → EReal)
    (h : Fin 8) (n : Fin 8192) (t : ℕ) : EReal :=
  ∑ d : Fin 128, P (ix2 n (qcol h d)) * Diff.entry P A (kcol h d) t

/-- Adding up a list of numbers from nought. -/
theorem foldl_sum {n : ℕ} (g : Fin n → EReal) : (List.finRange n).foldl (fun r k => r + g k) 0 = ∑ k, g k := by
  rw [← List.sum_ofFn, List.ofFn_eq_map, List.sum_eq_foldl, List.foldl_map]

/-- The sums from each place on, along the last axis. -/
theorem sums_on {a b N Nm1 : ℕ} (hN : Nm1 + 1 = N) (x : FVec Ideal ⟨3, ![a, b, N]⟩ .f32) (f : ℕ → EReal) (i : Fin a) (q : Fin b)
    (hx : ∀ l : Fin N, x (ix3 i q l) = f l.val) (init : FVec Ideal ⟨0, ![]⟩ .f32) (hi : ∀ i, init i = (0 : EReal))
    (h : (⟨3, ![a, b, N]⟩ : Shape).ReduceWindows (![1, 1, N] : Fin 3 → Nat) ![1, 1, 1] ![0, 0, 0] ![0, 0, Nm1] ⟨3, ![a, b, N]⟩)
    (hu : 0 < (⟨0, ![]⟩ : Shape).numel) (p : Fin N) :
    Host.reduceWindowAdd ![1, 1, N] ![1, 1, 1] ![0, 0, 0] ![0, 0, Nm1] x init h hu (ix3 i q p) = ∑ j ∈ Ico p.val N, f j := by
  let W : Shape := ⟨3, ![1, 1, N]⟩
  have bij : Function.Bijective (fun l : Fin N => (ix3 0 0 l : W.Idx)) := by
    refine ⟨fun l l' e => congrFun e 2, fun w => ⟨w 2, funext fun c => ?_⟩⟩
    match c with
    | ⟨0, _⟩ => exact Fin.ext (by have : (w 0).val < 1 := (w 0).isLt; show 0 = (w 0).val; omega)
    | ⟨1, _⟩ => exact Fin.ext (by have : (w 1).val < 1 := (w 1).isLt; show 0 = (w 1).val; omega)
    | ⟨2, _⟩ => rfl
  show Host.reduceWindow (fun r y : EReal => r + y) ![1, 1, N] ![1, 1, 1] ![0, 0, 0] ![0, 0, Nm1] x init h hu (ix3 i q p) = _
  unfold Host.reduceWindow
  dsimp only
  rw [hi]
  refine (foldl_sum _).trans ?_
  refine (Finset.sum_congr rfl fun k _ => ?_ : _ = ∑ k, (fun w : W.Idx => if p.val + (w 2).val < N then f (p.val + (w 2).val) else 0) (W.rowMajor.symm k)).trans ?_
  · obtain ⟨l, hl⟩ := bij.2 (W.rowMajor.symm k)
    have h0 : (W.rowMajor.symm k 0).val = 0 := by rw [← hl]; rfl
    have h1 : (W.rowMajor.symm k 1).val = 0 := by rw [← hl]; rfl
    by_cases hk : p.val + (W.rowMajor.symm k 2).val < N
    · refine Eq.trans (dif_pos fun c => ?_) ?_
      · match c with
        | ⟨0, _⟩ => show 0 ≤ i.val * 1 + (W.rowMajor.symm k 0).val ∧ i.val * 1 + (W.rowMajor.symm k 0).val - 0 < a; omega
        | ⟨1, _⟩ => show 0 ≤ q.val * 1 + (W.rowMajor.symm k 1).val ∧ q.val * 1 + (W.rowMajor.symm k 1).val - 0 < b; omega
        | ⟨2, _⟩ => show 0 ≤ p.val * 1 + (W.rowMajor.symm k 2).val ∧ p.val * 1 + (W.rowMajor.symm k 2).val - 0 < N; omega
      · show _ = if p.val + (W.rowMajor.symm k 2).val < N then f (p.val + (W.rowMajor.symm k 2).val) else 0
        rw [if_pos hk, ← hx ⟨_, hk⟩]
        refine congrArg x (funext fun c => Fin.ext ?_)
        match c with
        | ⟨0, _⟩ => show i.val * 1 + (W.rowMajor.symm k 0).val - 0 = i.val; omega
        | ⟨1, _⟩ => show q.val * 1 + (W.rowMajor.symm k 1).val - 0 = q.val; omega
        | ⟨2, _⟩ => show p.val * 1 + (W.rowMajor.symm k 2).val - 0 = p.val + (W.rowMajor.symm k 2).val; omega
    · refine Eq.trans (dif_neg fun hin => hk ?_) (if_neg hk).symm
      have h2 := (hin 2).2
      change p.val * 1 + (W.rowMajor.symm k 2).val - 0 < N at h2
      omega
  refine (Equiv.sum_comp W.rowMajor.symm (fun w : W.Idx => if p.val + (w 2).val < N then f (p.val + (w 2).val) else 0)).trans ?_
  rw [← bij.sum_comp, Finset.sum_Ico_eq_sum_range]
  show ∑ l : Fin N, (if p.val + l.val < N then f (p.val + l.val) else 0) = _
  rw [← Finset.sum_range (fun l => if p.val + l < N then f (p.val + l) else 0)]
  refine Eq.symm ((Finset.sum_congr rfl fun l hl => ?_).trans (Finset.sum_subset (s₁ := range (N - p.val)) (fun l hl => ?_) fun l _ hl => ?_))
  · rw [if_pos (by have := Finset.mem_range.1 hl; omega)]
  · exact Finset.mem_range.2 (by have := Finset.mem_range.1 hl; omega)
  · exact if_neg (fun h => hl (Finset.mem_range.2 (by omega)))

end

end Stick
-- ==== Proof.Sb.Windows.lean ====
module

public import proofs.«01_k».proof.Proof.Sb.Rows
public import proofs.«01_k».proof.Proof.Sb.Run
public import proofs.«01_k».proof.Proof.Sb.Sums
public import Idealize.ShloMosaic.Lib.Pipeline.ValueKit
public import Idealize.ShloMosaic.Lib.Pointwise

@[expose] public section

set_option maxRecDepth 16384

/-!
What the blocks of the stick-breaking call hold: point `t` is head group `t / 32` and block `t % 32` of the queries.
-/

namespace Cert.SbIdeal.Windows

open Idealize.ShloMosaic hiding ix0 ix1 ix2 ix3 ix4
open Idealize.ShloMosaic.ValueIdx Idealize.ShloMosaic.TcCoe Idealize.SL.Sem
open Cert.SbIdeal Cert.SbIdeal.Gen Cert.Proof.Sb

noncomputable section

variable (m : (ℓ : Loc nD τ sig) → Buf (Elt Ideal) ℓ) (c : Dev nD)

/-- The grid's points. -/
abbrev PT := Fin (cfg0 (F := Ideal)).N

/-- The point's head `g`. -/
def head (t : PT) (g : Fin 4) : Fin 8 := ⟨4 * (t.val / 32) + g.val, by have h : t.val < 64 := t.isLt; omega⟩

/-- The point's row `r`, as a row of the prompt. -/
def row (t : PT) (r : Fin 256) : Fin 8192 := ⟨256 * (t.val % 32) + r.val, by omega⟩

/-- The second grid coordinate is the block of queries. -/
theorem coord (t : PT) : ((grid0.coords t) 1).val = t.val % 32 :=
  (by decide +kernel : ∀ t : Fin grid0.N, ((grid0.coords t) 1).val = t.val % 32) t

theorem idx0 : ∀ t : PT, win0_0.index t = ![t.val % 32, t.val / 32] := (by decide +kernel : ∀ t : Fin grid0.N, win0_0.index t = ![t.val % 32, t.val / 32])
theorem idx1 : ∀ t : PT, win0_1.index t = ![0, 2 + t.val / 32] := (by decide +kernel : ∀ t : Fin grid0.N, win0_1.index t = ![0, 2 + t.val / 32])
theorem idx2 : ∀ t : PT, win0_2.index t = ![0, 4 + t.val / 32] := (by decide +kernel : ∀ t : Fin grid0.N, win0_2.index t = ![0, 4 + t.val / 32])
theorem idx3 : ∀ t : PT, win0_3.index t = ![0, 2 + t.val / 32] := (by decide +kernel : ∀ t : Fin grid0.N, win0_3.index t = ![0, 2 + t.val / 32])
theorem idx4 : ∀ t : PT, win0_4.index t = ![0, 4 + t.val / 32] := (by decide +kernel : ∀ t : Fin grid0.N, win0_4.index t = ![0, 4 + t.val / 32])
theorem idx5 : ∀ t : PT, win0_5.index t = ![0, 0] := (by decide +kernel : ∀ t : Fin grid0.N, win0_5.index t = ![0, 0])
theorem idx6 : ∀ t : PT, win0_6.index t = ![t.val % 32, t.val / 32] := (by decide +kernel : ∀ t : Fin grid0.N, win0_6.index t = ![t.val % 32, t.val / 32])

/-- The prompt's rows. -/
abbrev P : (⟨2, ![8192, 6144]⟩ : Shape).Idx → EReal := m ((c : Thread nD τ).loc main_arg0)
/-- The small rows, the meta rows first. -/
abbrev A : (⟨2, ![144, 6144]⟩ : Shape).Idx → EReal := m ((c : Thread nD τ).loc main_arg1)

/-- The queries. -/
theorem blk0 (t : PT) (r : Fin 256) (g : Fin 4) (d : Fin 128) :
    (iblk m c 0 t : S256x512.Idx → EReal) (ix2 r ⟨128 * g.val + d.val, by omega⟩) = P m c (ix2 (row t r) (Stick.qcol (head t g) d)) := by
  blk_ext! [iblk, Cert.Proof.Sb.V, (idx0 t), row, head, Stick.qcol, ValueIdx.ix2]
/-- The keys. -/
theorem blk1 (t : PT) (p : Fin 8192) (g : Fin 4) (d : Fin 128) :
    (iblk m c 1 t : S8192x512.Idx → EReal) (ix2 p ⟨128 * g.val + d.val, by omega⟩) = P m c (ix2 p (Stick.kcol (head t g) d)) := by
  blk_ext! [iblk, Cert.Proof.Sb.V, (idx1 t), row, head, Stick.kcol, ValueIdx.ix2]
/-- The values. -/
theorem blk2 (t : PT) (p : Fin 8192) (g : Fin 4) (d : Fin 128) :
    (iblk m c 2 t : S8192x512.Idx → EReal) (ix2 p ⟨128 * g.val + d.val, by omega⟩) = P m c (ix2 p (Stick.vcol (head t g) d)) := by
  blk_ext! [iblk, Cert.Proof.Sb.V, (idx2 t), row, head, Stick.vcol, ValueIdx.ix2]

/-- The padded meta rows the host prepares: the first 16 are the small rows'. -/
theorem meta_apply (j : Fin 256) (hj : j.val < 16) (k : Fin 6144) :
    (V m c main_v2 : S256x6144.Idx → EReal) (ix2 j k) = A m c (ix2 ⟨j.val, by omega⟩ k) := by
  entry_read
  show (concatenate S256x6144 0 _ _ : S256x6144.Idx → EReal) (Idealize.ShloMosaic.ix2 j k) = _
  pointwise
  exact dif_pos hj

/-- The meta keys. -/
theorem blk3 (t : PT) (j : Fin 256) (hj : j.val < 16) (g : Fin 4) (d : Fin 128) :
    (iblk m c 3 t : S256x512.Idx → EReal) (ix2 j ⟨128 * g.val + d.val, by omega⟩) = A m c (ix2 ⟨j.val, by omega⟩ (Stick.kcol (head t g) d)) := by
  rw [← meta_apply m c j hj]
  blk_ext [iblk, (idx3 t), row, head, Stick.kcol, ValueIdx.ix2]
/-- The meta values. -/
theorem blk4 (t : PT) (j : Fin 256) (hj : j.val < 16) (g : Fin 4) (d : Fin 128) :
    (iblk m c 4 t : S256x512.Idx → EReal) (ix2 j ⟨128 * g.val + d.val, by omega⟩) = A m c (ix2 ⟨j.val, by omega⟩ (Stick.vcol (head t g) d)) := by
  rw [← meta_apply m c j hj]
  blk_ext [iblk, (idx4 t), row, head, Stick.vcol, ValueIdx.ix2]

/-- The triangle the host prepares. -/
theorem triangle_apply (j l : Fin 256) : (V m c main_v10 : S256x256.Idx → EReal) (ix2 j l) = Stick.tri j l := by
  entry_read
  show (uitofp (F := Ideal) (w := 1) (s := S256x256) .bf16 _) (Idealize.ShloMosaic.ix2 j l) = _
  pointwise
  have hj := j.isLt
  have hl := l.isLt
  have e1 : (BitVec.ofNat 32 j.val).toInt = j.val := Idealize.ShloMosaic.WordCmp.toInt_ofNat_of_lt (by norm_num; omega)
  have e2 : (BitVec.ofNat 32 l.val).toInt = l.val := Idealize.ShloMosaic.WordCmp.toInt_ofNat_of_lt (by norm_num; omega)
  show (((BitVec.ofBool (BitVec.slt (BitVec.ofNat 32 l.val) (BitVec.ofNat 32 j.val))).toNat : ℝ) : EReal) = if l.val < j.val then 1 else 0
  rw [BitVec.slt_eq_decide, e1, e2]
  by_cases h : l.val < j.val
  · rw [if_pos h, decide_eq_true (by omega)]; simp
  · rw [if_neg h, decide_eq_false (by omega)]; simp
/-- The triangle. -/
theorem blk5 (t : PT) (j l : Fin 256) : (iblk m c 5 t : S256x256.Idx → EReal) (ix2 j l) = Stick.tri j l := by
  rw [← triangle_apply m c j l]
  blk_ext [iblk, (idx5 t), ValueIdx.ix2]

/-- Column block `g` of what the body stores. -/
theorem stored_apply (a : Vec Ideal S1024x128 .f32) (d : Vec Ideal S256x512 .bf16) (r : Fin 256) (g : Fin 4) (e : Fin 128) :
    stored a d (ix2 r ⟨128 * g.val + e.val, by omega⟩) = a (ix2 (Pay.row g r) e) := by
  unfold stored
  rw [put_cols, put_cols _ 256, put_cols _ 128, put_cols _ 0]
  have he := e.isLt
  match g with
  | 0 =>
    rw [dif_neg (by show ¬ (384 ≤ 128 * 0 + e.val ∧ _); omega), dif_neg (by show ¬ (256 ≤ 128 * 0 + e.val ∧ _); omega),
      dif_neg (by show ¬ (128 ≤ 128 * 0 + e.val ∧ _); omega), dif_pos (by show 0 ≤ 128 * 0 + e.val ∧ 128 * 0 + e.val < 0 + 128; omega)]
    refine congrArg a (funext fun b => Fin.ext ?_)
    match b with
    | ⟨0, _⟩ => show 0 + 1 * r.val = 256 * 0 + r.val; omega
    | ⟨1, _⟩ => show 0 + 1 * (128 * 0 + e.val - 0) = e.val; omega
  | 1 =>
    rw [dif_neg (by show ¬ (384 ≤ 128 * 1 + e.val ∧ _); omega), dif_neg (by show ¬ (256 ≤ 128 * 1 + e.val ∧ _); omega),
      dif_pos (by show 128 ≤ 128 * 1 + e.val ∧ 128 * 1 + e.val < 128 + 128; omega)]
    refine congrArg a (funext fun b => Fin.ext ?_)
    match b with
    | ⟨0, _⟩ => show 256 + 1 * r.val = 256 * 1 + r.val; omega
    | ⟨1, _⟩ => show 0 + 1 * (128 * 1 + e.val - 128) = e.val; omega
  | 2 =>
    rw [dif_neg (by show ¬ (384 ≤ 128 * 2 + e.val ∧ _); omega), dif_pos (by show 256 ≤ 128 * 2 + e.val ∧ 128 * 2 + e.val < 256 + 128; omega)]
    refine congrArg a (funext fun b => Fin.ext ?_)
    match b with
    | ⟨0, _⟩ => show 512 + 1 * r.val = 256 * 2 + r.val; omega
    | ⟨1, _⟩ => show 0 + 1 * (128 * 2 + e.val - 256) = e.val; omega
  | 3 =>
    rw [dif_pos (by show 384 ≤ 128 * 3 + e.val ∧ 128 * 3 + e.val < 384 + 128; omega)]
    refine congrArg a (funext fun b => Fin.ext ?_)
    match b with
    | ⟨0, _⟩ => show 768 + 1 * r.val = 256 * 3 + r.val; omega
    | ⟨1, _⟩ => show 0 + 1 * (128 * 3 + e.val - 384) = e.val; omega

end

end Cert.SbIdeal.Windows
-- ==== Proof.Sb.Stage.lean ====
module

public import proofs.«01_k».proof.Proof.Gen.SbRefIdeal.Run
public import Idealize.ShloMosaic.Lib.Pointwise
public import Idealize.ShloMosaic.Lib.WordCmp
public import proofs.«01_k».proof.Proof.Sb.Sums

@[expose] public section

set_option maxRecDepth 16384

/-! The reference of the stick-breaking attention, its result read at one index stage by stage. -/

namespace Cert.SbRefIdeal.Stage

open Idealize.ShloMosaic hiding ix0 ix1 ix2 ix3 ix4
open Idealize.ShloMosaic.ValueIdx Cert.SbRefIdeal Cert.SbRefIdeal.Gen
open Finset

noncomputable section

variable (P : FVec Ideal S8192x6144 .bf16) (A : FVec Ideal S144x6144 .bf16)

/-- Meta rows, then prompt rows, of the attention's columns. -/
def cat : FVec Ideal S8208x3072 .f32 :=
  extf .f32 (concatenate S8208x3072 0 [⟨S16x3072, (extractStridedSlice S16x3072 ![0, 0] A slices_S144x6144_S16x3072_0_0)⟩,
    ⟨S8192x3072, (extractStridedSlice S8192x3072 ![0, 0] P slices_S8192x6144_S8192x3072_0_0)⟩]
    concatenates_S16x3072_S8192x3072_S8208x3072_d0) bitsLt_bf16_f32

/-- The queries by head. -/
def qs : FVec Ideal S8192x8x128 .f32 :=
  shapeCast _ (extractStridedSlice S8192x1024 ![16, 0] (extractStridedSlice S8208x1024 ![0, 0] (cat P A)
    slices_S8208x3072_S8208x1024_0_0) slices_S8208x1024_S8192x1024_16_0) shapeCasts_S8192x1024_S8192x8x128

/-- The keys by head. -/
def ks : FVec Ideal S8208x8x128 .f32 :=
  shapeCast _ (extractStridedSlice S8208x1024 ![0, 1024] (cat P A) slices_S8208x3072_S8208x1024_0_1024)
    shapeCasts_S8208x1024_S8208x8x128

/-- The values by head. -/
def vs : FVec Ideal S8208x8x128 .f32 :=
  shapeCast _ (extractStridedSlice S8208x1024 ![0, 2048] (cat P A) slices_S8208x3072_S8208x1024_0_2048)
    shapeCasts_S8208x1024_S8208x8x128

/-- Which keys a query sees. -/
def seen : IVec S8x8192x8208 1 :=
  broadcastInDim S8x8192x8208 ![1, 2] bcast_S8192x8208_S8x8192x8208_1_2
    (cmpi .slt (broadcastInDim S8192x8208 ![0, 1] bcast_S1x8208_S8192x8208_0_1 (broadcastInDim S1x8208 ![1] bcast_S8208_S1x8208_1 (iotaInDim S8208 32 0)))
      (broadcastInDim S8192x8208 ![0, 1] bcast_S8192x1_S8192x8208_0_1 (broadcastInDim S8192x1 ![0] bcast_S8192_S8192x1_0
        (extractStridedSlice S8192 ![16] (iotaInDim S8208 32 0) slices_S8208_S8192_16))))

/-- The scores. -/
def zs : FVec Ideal S8x8192x8208 .f32 :=
  Host.dotGeneral dot_S8192x8x128_S8208x8x128_S8x8192x8208_2_2_0_0_1_1 none (qs P A) (ks P A)

/-- Nought everywhere. -/
def no : FVec Ideal S8x8192x8208 .f32 := broadcastInDim S8x8192x8208 ![] bcast_S_S8x8192x8208 (constant S_ .f32 0x00000000#32)

/-- The softplus of an array. -/
def sp (y : FVec Ideal S8x8192x8208 .f32) : FVec Ideal S8x8192x8208 .f32 :=
  select (cmpf .une (subf y no) (subf y no)) (addf y no) (addf (maximumf y no) (Host.log1p (Host.exp (Host.negf (Host.absf (subf y no))))))

/-- An array where a key is seen, nought elsewhere. -/
def only (y : FVec Ideal S8x8192x8208 .f32) : FVec Ideal S8x8192x8208 .f32 :=
  select seen y (broadcastInDim S8x8192x8208 ![] bcast_S_S8x8192x8208 (id (constant S_ .f32 0x00000000#32)))

/-- The logarithms of what is kept. -/
def lks : FVec Ideal S8x8192x8208 .f32 := only (Host.negf (sp (Host.negf (Host.negf (zs P A)))))

/-- The weights. -/
def ws : FVec Ideal S8x8192x8208 .f32 :=
  only (Host.exp (addf (Host.negf (sp (Host.negf (zs P A)))) (subf (Host.reduceWindowAdd ![1, 1, 8208] ![1, 1, 1] ![0, 0, 0] ![0, 0, 8207] (lks P A)
    (broadcastInDim S_ ![] bcast_S_S_ (constant S_ .f32 0x00000000#32)) reduceWindows_S8x8192x8208_S8x8192x8208_w1s1p0_0_w1s1p0_0_w8208s1p0_8207 h_S_) (lks P A))))

/-- The result. -/
def out : FVec Ideal S8192x1024 .bf16 :=
  truncf .bf16 (shapeCast _ (transpose S8192x8x128 [2, 0, 1] (Host.dotGeneral dot_S8208x8x128_S8x8192x8208_S8x128x8192_0_2_2_1_1_0 none (vs P A) (ws P A))
    transposes_S8x128x8192_S8192x8x128_2_0_1) shapeCasts_S8192x8x128_S8192x1024) bitsLt_bf16_f32

set_option maxHeartbeats 4000000 in
/-- The stages together are the reference's result. -/
theorem res_eq (m : (ℓ : Loc nD τ sig) → Buf (Elt Ideal) ℓ) (c : Dev nD) : Value.res_out0 m c
    = out (m ((c.tc : Thread nD τ).loc main_arg0)) (m ((c.tc : Thread nD τ).loc main_arg1)) := by
  unfold Value.res_out0 Value.res_main_v31
  rfl

/-- The rows of both parts. -/
theorem cat_apply (t : Fin 8208) (c : Fin 3072) :
    cat P A (ix2 t c) = Diff.entry P A ⟨c.val, by omega⟩ t := by
  unfold cat Diff.entry
  pointwise
  show (if h : t.val < 16 then _ else _) = _
  by_cases h : t.val < 16
  · rw [dif_pos h, dif_pos h]
    rfl
  · rw [dif_neg h, dif_neg h, dif_pos (by omega : t.val - 16 < 8192)]
    rfl

theorem qs_apply (h : Fin 8) (n : Fin 8192) (d : Fin 128) : qs P A (ix3 n h d) = P (ix2 n (Stick.qcol h d)) := by
  unfold qs
  pointwise
  refine (cat_apply P A ⟨16 + n.val, _⟩ ⟨h.val * 128 + d.val, _⟩).trans ?_
  unfold Diff.entry
  rw [dif_neg (by show ¬ 16 + n.val < 16; omega), dif_pos (by show 16 + n.val - 16 < 8192; omega)]
  refine congrArg P (congrArg₂ ix2 (Fin.ext ?_) (Fin.ext ?_))
  · show 16 + n.val - 16 = n.val; omega
  · show h.val * 128 + d.val = 128 * h.val + d.val; omega

theorem ks_apply (h : Fin 8) (t : Fin 8208) (d : Fin 128) : ks P A (ix3 t h d) = Diff.entry P A (Stick.kcol h d) t := by
  unfold ks
  pointwise
  refine (cat_apply P A t ⟨1024 + (h.val * 128 + d.val), _⟩).trans ?_
  refine congrArg (fun c => Diff.entry P A c t) (Fin.ext ?_)
  show 1024 + (h.val * 128 + d.val) = 1024 + (128 * h.val + d.val); omega

theorem vs_apply (h : Fin 8) (t : Fin 8208) (e : Fin 128) : vs P A (ix3 t h e) = Diff.entry P A (Stick.vcol h e) t := by
  unfold vs
  pointwise
  refine (cat_apply P A t ⟨2048 + (h.val * 128 + e.val), _⟩).trans ?_
  refine congrArg (fun c => Diff.entry P A c t) (Fin.ext ?_)
  show 2048 + (h.val * 128 + e.val) = 2048 + (128 * h.val + e.val); omega

theorem zs_apply (h : Fin 8) (n : Fin 8192) (t : Fin 8208) : zs P A (ix3 h n t) = Stick.sc P A h n t := by
  unfold zs
  pointwise
  exact Finset.sum_congr rfl fun d _ => congrArg₂ (· * ·) (qs_apply P A h n d) (ks_apply P A h t d)

theorem no_word : (Scalar.ofBits (F := Ideal) .f32 0x00000000#32 : EReal) = 0 := Ideal.ofBits_zero_f32

theorem no_apply (i : S8x8192x8208.Idx) : no i = (0 : EReal) := no_word

/-- No ideal number differs from itself. -/
theorem sp_apply (y : FVec Ideal S8x8192x8208 .f32) (i : S8x8192x8208.Idx) : sp y i = Stick.soft (y i) := by
  show Scalar.select (BitVec.ofBool (decide ((y i - no i : EReal) ≠ (y i - no i : EReal)))) (y i + no i : EReal)
    (max (y i : EReal) (no i) + Ideal.log1p (Ideal.exp (-(max (y i - no i : EReal) (-(y i - no i)))))) = _
  rw [no_apply, decide_eq_false (fun h => h rfl)]
  rfl

theorem only_apply (y : FVec Ideal S8x8192x8208 .f32) (h : Fin 8) (n : Fin 8192) (t : Fin 8208) :
    only y (ix3 h n t) = if t.val < 16 + n.val then (y (ix3 h n t) : EReal) else 0 := by
  have e : seen (ix3 h n t) = IntOp.cmpi .slt (BitVec.ofNat 32 t.val) (BitVec.ofNat 32 (16 + n.val)) := by
    unfold seen
    pointwise
  show Scalar.select (seen (ix3 h n t)) (y (ix3 h n t) : EReal) (Scalar.ofBits (F := Ideal) .f32 0x00000000#32) = _
  rw [e, no_word, WordCmp.cmpi_slt_ofNat (by omega) (by omega)]
  by_cases ht : t.val < 16 + n.val
  · rw [if_pos ht]; simp only [ht, decide_true]; rfl
  · rw [if_neg ht]; simp only [ht, decide_false]; rfl

theorem lks_apply (h : Fin 8) (n : Fin 8192) (t : Fin 8208) :
    lks P A (ix3 h n t) = Stick.rLk (Stick.sc P A h n) (16 + n.val) t.val := by
  unfold lks
  rw [only_apply]
  unfold Stick.rLk
  refine congrArg (fun x => if t.val < 16 + n.val then x else 0) ?_
  show (-(sp (Host.negf (Host.negf (zs P A))) (ix3 h n t)) : EReal) = _
  rw [sp_apply]
  show (-Stick.soft (- -(zs P A (ix3 h n t))) : EReal) = _
  rw [zs_apply]

theorem ws_apply (h : Fin 8) (n : Fin 8192) (t : Fin 8208) :
    ws P A (ix3 h n t) = Stick.rWt (Stick.sc P A h n) (16 + n.val) t.val := by
  unfold ws
  rw [only_apply]
  unfold Stick.rWt
  refine congrArg (fun x => if t.val < 16 + n.val then x else 0) ?_
  have e := Stick.sums_on (Nm1 := 8207) rfl (lks P A) (Stick.rLk (Stick.sc P A h n) (16 + n.val)) h n (fun l => lks_apply P A h n l)
    (broadcastInDim S_ ![] bcast_S_S_ (constant S_ .f32 0x00000000#32)) (fun _ => no_word)
    reduceWindows_S8x8192x8208_S8x8192x8208_w1s1p0_0_w1s1p0_0_w8208s1p0_8207 h_S_ t
  refine congrArg Ideal.exp (congrArg₂ (· + ·) ?_ (congrArg₂ (· - ·) e (lks_apply P A h n t)))
  show (-(sp (Host.negf (zs P A)) (ix3 h n t)) : EReal) = _
  rw [sp_apply]
  show (-Stick.soft (-(zs P A (ix3 h n t))) : EReal) = _
  rw [zs_apply]

/-- The result at one index. -/
theorem out_apply (n : Fin 8192) (h : Fin 8) (e : Fin 128) (hc : 128 * h.val + e.val < 1024) :
    out P A (ix2 n ⟨128 * h.val + e.val, hc⟩)
      = ∑ t ∈ range 8208, Diff.entry P A (Stick.vcol h e) t * Stick.rWt (Stick.sc P A h n) (16 + n.val) t := by
  unfold out
  pointwise
  have e1 : (⟨(128 * h.val + e.val) / 128, by omega⟩ : Fin 8) = h := Fin.ext (by show (128 * h.val + e.val) / 128 = _; omega)
  have e2 : (⟨(128 * h.val + e.val) % 128, by omega⟩ : Fin 128) = e := Fin.ext (by show (128 * h.val + e.val) % 128 = _; omega)
  rw [Finset.sum_range (n := 8208)]
  show ∑ t : Fin 8208, (vs P A (ix3 t ⟨(128 * h.val + e.val) / 128, _⟩ ⟨(128 * h.val + e.val) % 128, _⟩)
    * ws P A (ix3 ⟨(128 * h.val + e.val) / 128, _⟩ n t) : EReal) = _
  rw [e1, e2]
  exact Finset.sum_congr rfl fun t _ => congrArg₂ (· * ·) (vs_apply P A h t e) (ws_apply P A h n t)

end

end Cert.SbRefIdeal.Stage
-- ==== Proof.Sb.Alive.lean ====
module

public import proofs.«01_k».proof.Defs
public import proofs.«01_k».proof.Proof.Gen.Pre_alive
public import proofs.«01_k».proof.Proof.Sb.Stage
public import proofs.«01_k».proof.Proof.Diff.Finite

@[expose] public section

set_option maxRecDepth 16384

/-!
What the precondition of the stick-breaking attention says: in every row the logarithms of what is kept add
up to more than the kernel's threshold.
-/

namespace Stick

open Idealize.ShloMosaic hiding ix0 ix1 ix2 ix3 ix4
open Idealize.ShloMosaic.ValueIdx Finset
open Cert.SbRefIdeal (S8192x6144 S144x6144 S8192x8x128 S8208x8x128 S8x8192x8208 S8192x1024)

noncomputable section

variable (P : FVec Ideal S8192x6144 .bf16) (A : FVec Ideal S144x6144 .bf16)

/-- The precondition's queries. -/
def preQ : FVec Ideal S8192x8x128 .f32 :=
  shapeCast _ (extractStridedSlice S8192x1024 ![16, 0] (Cert.SbRefIdeal.Stage.cat P A) Cert.Pre_alive.Facts.slices_S8208x3072_S8192x1024_16_0)
    Cert.Pre_alive.Facts.shapeCasts_S8192x1024_S8192x8x128

/-- Its scores. -/
def preZ : FVec Ideal S8x8192x8208 .f32 :=
  Host.dotGeneral Cert.Pre_alive.dot_S8192x8x128_S8208x8x128_S8x8192x8208_2_2_0_0_1_1 none (preQ P A) (Cert.SbRefIdeal.Stage.ks P A)

/-- Its logarithms. -/
def preL : FVec Ideal S8x8192x8208 .f32 :=
  Cert.SbRefIdeal.Stage.only (Host.negf (Cert.SbRefIdeal.Stage.sp (Host.negf (Host.negf (preZ P A)))))

set_option maxHeartbeats 4000000 in
/-- The precondition over them. -/
theorem pre_eq : Cert.Pre_alive.fn (F := Ideal) P A = Cert.Pre_alive.fn_part1 (F := Ideal)
    (Host.reduceAdd (preL P A) (constant (F := Ideal) Cert.Pre_alive.S_ .f32 0x00000000#32)
      Cert.Pre_alive.Facts.reducesTo_S8x8192x8208_S8x8192_d2 Cert.Pre_alive.Facts.h_S_)
    (broadcastInDim Cert.Pre_alive.S8x8192 ![] Cert.Pre_alive.Facts.bcast_S_S8x8192 (constant (F := Ideal) Cert.Pre_alive.S_ .f32 0xC2D00000#32)) := rfl

theorem preQ_apply (h : Fin 8) (n : Fin 8192) (d : Fin 128) : preQ P A (ix3 n h d) = P (ix2 n (qcol h d)) := by
  unfold preQ
  pointwise
  refine (Cert.SbRefIdeal.Stage.cat_apply P A ⟨16 + n.val, _⟩ ⟨h.val * 128 + d.val, _⟩).trans ?_
  unfold Diff.entry
  rw [dif_neg (by show ¬ 16 + n.val < 16; omega), dif_pos (by show 16 + n.val - 16 < 8192; omega)]
  refine congrArg P (congrArg₂ ix2 (Fin.ext ?_) (Fin.ext ?_))
  · show 16 + n.val - 16 = n.val; omega
  · show h.val * 128 + d.val = 128 * h.val + d.val; omega

theorem preZ_apply (h : Fin 8) (n : Fin 8192) (t : Fin 8208) : preZ P A (ix3 h n t) = sc P A h n t := by
  unfold preZ
  pointwise
  exact Finset.sum_congr rfl fun d _ => congrArg₂ (· * ·) (preQ_apply P A h n d) (Cert.SbRefIdeal.Stage.ks_apply P A h t d)

theorem preL_apply (h : Fin 8) (n : Fin 8192) (t : Fin 8208) :
    preL P A (ix3 h n t) = rLk (sc P A h n) (16 + n.val) t.val := by
  unfold preL
  rw [Cert.SbRefIdeal.Stage.only_apply]
  unfold rLk
  refine congrArg (fun x => if t.val < 16 + n.val then x else 0) ?_
  show (-(Cert.SbRefIdeal.Stage.sp (Host.negf (Host.negf (preZ P A))) (ix3 h n t)) : EReal) = _
  rw [Cert.SbRefIdeal.Stage.sp_apply]
  show (-soft (- -(preZ P A (ix3 h n t))) : EReal) = _
  rw [preZ_apply]

/-- The threshold. -/
theorem threshold : (Ideal.ofBits .f32 0xC2D00000#32 : EReal) = ((-104 : ℝ) : EReal) := by
  simp [Ideal.ofBits, Ideal.ieee]
  rw [← EReal.coe_mul]; norm_num

variable {P A}

/-- A row's logarithms added up. -/
theorem rowSum (x : FVec Ideal S8x8192x8208 .f32) (h : Fin 8) (n : Fin 8192) :
    Host.reduceAdd x (constant (F := Ideal) Cert.Pre_alive.S_ .f32 0x00000000#32) Cert.Pre_alive.Facts.reducesTo_S8x8192x8208_S8x8192_d2
      Cert.Pre_alive.Facts.h_S_ (ix2 h n) = ∑ t : Fin 8208, (x (ix3 h n t) : EReal) := by
  pointwise
  exact Finset.sum_congr rfl fun _ _ => rfl

/-- The precondition. -/
theorem of_pre (h : Cert.Pre_alive.fn (F := Ideal) P A = fun _ => 1#1) (k : Fin 8) (n : Fin 8192) :
    ((-104 : ℝ) : EReal) < ∑ j ∈ Ico 0 8208, rLk (sc P A k n) (16 + n.val) j := by
  rw [pre_eq] at h
  have hs := congrFun h ix0
  unfold Cert.Pre_alive.fn_part1 at hs
  dsimp only at hs
  have e := Host.reduce_andi_all _ _ _ _ _ hs (ix2 k n)
  have e' : BitVec.ofBool (decide ((Ideal.ofBits .f32 0xC2D00000#32 : EReal) < Host.reduceAdd (preL P A) (constant (F := Ideal) Cert.Pre_alive.S_ .f32 0x00000000#32)
      Cert.Pre_alive.Facts.reducesTo_S8x8192x8208_S8x8192_d2 Cert.Pre_alive.Facts.h_S_ (ix2 k n))) = 1#1 := e
  rw [rowSum, threshold] at e'
  have e3 : ((-104 : ℝ) : EReal) < ∑ t : Fin 8208, (preL P A (ix3 k n t) : EReal) := by
    by_contra hc
    rw [decide_eq_false hc] at e'
    exact absurd e' (by decide)
  refine e3.trans_eq ?_
  rw [← Finset.range_eq_Ico, Finset.sum_range (n := 8208)]
  exact Finset.sum_congr rfl fun t _ => preL_apply P A k n t

/-- No score that is seen is `+∞`, -/
theorem fin_of_pre (h : Cert.Pre_alive.fn (F := Ideal) P A = fun _ => 1#1) (k : Fin 8) (n : Fin 8192) (p : ℕ) (hp : p < 16 + n.val) :
    sc P A k n p ≠ ⊤ :=
  not_top _ _ (by have := n.isLt; omega) (of_pre h k n) p hp

/-- and every row stays above the threshold. -/
theorem above_of_pre (h : Cert.Pre_alive.fn (F := Ideal) P A = fun _ => 1#1) (k : Fin 8) (n : Fin 8192) :
    -104 < tail (sc P A k n) (16 + n.val) 0 := by
  have e := of_pre h k n
  rw [rTail_eq _ _ (fin_of_pre h k n) 0] at e
  exact EReal.coe_lt_coe_iff.1 e

end

end Stick
-- ==== Proof.Sb.Final.lean ====
module

public import proofs.«01_k».proof.Proof.Sb.Windows
public import proofs.«01_k».proof.Proof.Sb.Alive

@[expose] public section

set_option maxRecDepth 16384

/-!
The stick-breaking call's array is the reference's.
-/

namespace Cert.SbIdeal.Final

open Idealize.ShloMosaic hiding ix0 ix1 ix2 ix3 ix4
open Idealize.ShloMosaic.ValueIdx Idealize.ShloMosaic.TcCoe Idealize.SL.Sem Finset
open Cert.SbIdeal Cert.SbIdeal.Gen Cert.SbIdeal.Windows Cert.Proof.Sb

noncomputable section

variable (m : (ℓ : Loc nD τ sig) → Buf (Elt Ideal) ℓ) (c : Dev nD)

/-- The reference's result over the kernel's arguments. -/
def want : S8192x1024.Idx → EReal :=
  Cert.SbRefIdeal.Stage.out (m ((c : Thread nD τ).loc main_arg0)) (m ((c : Thread nD τ).loc main_arg1))

section
variable {m c}
variable (hpre : Cert.Pre_alive.fn (F := Ideal) (m ((c : Thread nD τ).loc main_arg0)) (m ((c : Thread nD τ).loc main_arg1)) = fun _ => 1#1)
include hpre

/-- A point's data. -/
theorem data (t : PT) :
    Rows.Data (grid0.coords t) (iblk m c 0 t) (iblk m c 1 t) (iblk m c 2 t) (iblk m c 3 t) (iblk m c 4 t) (iblk m c 5 t)
      (fun g r => Stick.sc (P m c) (A m c) (head t g) (row t r)) (fun g e => Diff.entry (P m c) (A m c) (Stick.vcol (head t g) e)) where
  lt := by rw [coord]; exact Nat.mod_lt _ (by decide)
  key g r p := by
    unfold Stick.sc
    refine Finset.sum_congr rfl fun d _ => ?_
    have hp' := p.isLt
    rw [blk0, blk1, Diff.entry, dif_neg (by omega), dif_pos (by omega)]
    simp only [Nat.add_sub_cancel_left]
  val g e p := by
    have hp' := p.isLt
    rw [blk2, Diff.entry, dif_neg (by omega), dif_pos (by omega)]
    simp only [Nat.add_sub_cancel_left]
  keyM g r j hj := by
    unfold Stick.sc
    refine Finset.sum_congr rfl fun d _ => ?_
    rw [blk0, blk3 m c t j hj, Diff.entry, dif_pos hj]
  valM g e j hj := by rw [blk4 m c t j hj, Diff.entry, dif_pos hj]
  tr j l := blk5 m c t j l
  fin g r p hp := by
    rw [coord] at hp
    exact Stick.fin_of_pre hpre (head t g) (row t r) p hp
  alive g r := by
    rw [coord]
    exact Stick.above_of_pre hpre (head t g) (row t r)

/-- A point's output block is the reference's at the block's place. -/
theorem point (t : PT) (r : Fin 256) (g : Fin 4) (e : Fin 128) :
    outAt m c t (ix2 r ⟨128 * g.val + e.val, by omega⟩)
      = want m c (ix2 (row t r) ⟨128 * (head t g).val + e.val, by have := (head t g).isLt; omega⟩) := by
  unfold outAt
  rw [stored_apply, Rows.total_eq (data hpre t) g r e]
  refine Eq.trans ?_ (Cert.SbRefIdeal.Stage.out_apply _ _ (row t r) (head t g) e _).symm
  unfold Stick.acc
  rw [← Finset.range_eq_Ico, coord]
  refine Finset.sum_congr rfl fun p hp => ?_
  rw [Stick.rWt_eq _ _ (fun q hq => Stick.fin_of_pre hpre (head t g) (row t r) q hq) p (Finset.mem_range.1 hp), mul_comm]
  rfl

/-- The final array. -/
theorem final : (dats m 0 c).arrAt 6 (cfg0 (F := Ideal)).N = want m c := by
  refine (dats m 0 c).arrAt_eq_of_covers 6 _ (by decide +kernel) fun t hf y => ?_
  obtain ⟨r, g, e, rfl⟩ : ∃ (r : Fin 256) (g : Fin 4) (e : Fin 128), y = ix2 r ⟨128 * g.val + e.val, by omega⟩ := by
    have h1 : (y 1).val < 512 := (y 1).isLt
    refine ⟨y 0, ⟨(y 1).val / 128, by omega⟩, ⟨(y 1).val % 128, by omega⟩, ?_⟩
    funext a
    match a with
    | ⟨0, _⟩ => rfl
    | ⟨1, _⟩ => exact Fin.ext (by show (y 1).val = 128 * ((y 1).val / 128) + (y 1).val % 128; omega)
  blk_simp
  rw [after_6]
  refine (point hpre t r g e).trans (congrArg (want m c) ?_)
  blk_ext [(idx6 t), row, head, ValueIdx.ix2]
end

end

end Cert.SbIdeal.Final
-- ==== Proof.Sb.Claims.lean ====
module

public import proofs.«01_k».proof.Defs
public import proofs.«01_k».proof.Proof.Sb.Frames
public import proofs.«01_k».proof.Proof.Sb.Final

@[expose] public section

/-!
The claims about the stick-breaking call.
-/

namespace Cert.Proof.Sb

open Idealize.ShloMosaic Idealize.ShloMosaic.TcCoe Idealize.SL.Sem

noncomputable section

/-- The ideal kernel's frame under the precondition. -/
theorem frame_ideal_pre : Cert.quiescent_SbIdeal_pre_alive := fun m ρ _ => frame m ρ
/-- The reference runs and leaves its arguments as they were. -/
theorem frame_ref : Cert.quiescent_SbRefIdeal := fun m ρ _ =>
  (θ_run Cert.SbRefIdeal.defs _ _).mono (fun r h => ⟨fun c => (h c).2, sem_eq_zero_of_no_sems (by decide) r.2⟩) (Cert.SbRefIdeal.Value.run m ρ)
/-- And under the precondition. -/
theorem frame_ref_pre : Cert.quiescent_SbRefIdeal_pre_alive := fun m ρ _ => frame_ref m ρ trivial

open Cert.SbIdeal Cert.SbIdeal.Gen in
/-- The run's result and its arguments. -/
theorem run_value (m : (ℓ : Loc nD τ sig) → Buf (Elt Ideal) ℓ) (ρ : Dev nD → PrngReg)
    (hp : ∀ c : Dev nD, Cert.Pre_alive.fn (F := Ideal) (m ((c : Thread nD τ).loc main_arg0)) (m ((c : Thread nD τ).loc main_arg1)) = fun _ => 1#1) :
    θ_run defs (onTc (τ := τ) (main (F := Ideal))) ⟨m, fun _ => 0, ρ⟩ (fun r => ∀ c : Dev nD,
      r.2.mem ((c : Thread nD τ).loc main_v11) = Cert.SbIdeal.Final.want m c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).1 6).trans (Cert.SbIdeal.Final.final (hp c)), h.2.1 c⟩)
    (θ_run_and (run_call m ρ) (frame m ρ))

/-- Kernel and reference agree over the extended reals, of the precondition's inputs. -/
theorem algebraic : Cert.algebraic_SbIdeal_SbRefIdeal_pre_alive := fun m ρ m' ρ' hp hag =>
  ⟨fun c => Cert.SbIdeal.Final.want m c, run_value m ρ hp,
    (θ_run _ _ _).mono (fun _ h c => ⟨(h c).1.trans (by
      obtain ⟨h0, h1⟩ := hag c
      refine (Cert.SbRefIdeal.Stage.res_eq m' c).trans ?_
      rw [h0, h1]
      rfl), (h c).2⟩) (Cert.SbRefIdeal.Value.run m' ρ')⟩

end

end Cert.Proof.Sb
-- ==== Proof.lean ====
/- The claims about eight calls of the layer: both attentions over the prompt, and the projection, the merge and the
   feed-forward part of the prompt and of the rows beside it. Each is proved in its own directory; here they are put together. -/
module

public import proofs.«01_k».proof.Defs
public import proofs.«01_k».proof.Proof.Gen.Diff
public import proofs.«01_k».proof.Proof.Gen.DiffIdeal
public import proofs.«01_k».proof.Proof.Gen.DiffRefIdeal
public import proofs.«01_k».proof.Proof.Gen.Proj
public import proofs.«01_k».proof.Proof.Gen.ProjIdeal
public import proofs.«01_k».proof.Proof.Gen.ProjRefIdeal
public import proofs.«01_k».proof.Proof.Gen.Small
public import proofs.«01_k».proof.Proof.Gen.SmallIdeal
public import proofs.«01_k».proof.Proof.Gen.SmallRefIdeal
public import proofs.«01_k».proof.Proof.Gen.Merge
public import proofs.«01_k».proof.Proof.Gen.MergeIdeal
public import proofs.«01_k».proof.Proof.Gen.MergeRefIdeal
public import proofs.«01_k».proof.Proof.Gen.Ffn
public import proofs.«01_k».proof.Proof.Gen.FfnIdeal
public import proofs.«01_k».proof.Proof.Gen.FfnRefIdeal
public import proofs.«01_k».proof.Proof.Gen.MergeS
public import proofs.«01_k».proof.Proof.Gen.MergeSIdeal
public import proofs.«01_k».proof.Proof.Gen.MergeSRefIdeal
public import proofs.«01_k».proof.Proof.Gen.FfnS
public import proofs.«01_k».proof.Proof.Gen.FfnSIdeal
public import proofs.«01_k».proof.Proof.Gen.FfnSRefIdeal
public import proofs.«01_k».proof.Proof.Gen.Sb
public import proofs.«01_k».proof.Proof.Gen.Sb.Skeleton
public import proofs.«01_k».proof.Proof.Gen.Sb.Launch
public import proofs.«01_k».proof.Proof.Gen.Sb.Points
public import proofs.«01_k».proof.Proof.Gen.SbIdeal
public import proofs.«01_k».proof.Proof.Gen.SbIdeal.Skeleton
public import proofs.«01_k».proof.Proof.Gen.SbIdeal.Launch
public import proofs.«01_k».proof.Proof.Gen.SbIdeal.Points
public import proofs.«01_k».proof.Proof.Gen.SbRefIdeal
public import proofs.«01_k».proof.Proof.Gen.SbRefIdeal.Run
public import proofs.«01_k».proof.Proof.Gen.Pre_alive
public import proofs.«01_k».proof.Proof.Gen.Pre_finite
public import proofs.«01_k».proof.Proof.Diff.Claims
public import proofs.«01_k».proof.Proof.Proj.Claims
public import proofs.«01_k».proof.Proof.Small.Claims
public import proofs.«01_k».proof.Proof.Merge.Claims
public import proofs.«01_k».proof.Proof.Ffn.Claims
public import proofs.«01_k».proof.Proof.MergeS.Claims
public import proofs.«01_k».proof.Proof.FfnS.Claims
public import proofs.«01_k».proof.Proof.Sb.Claims

@[expose] public section

noncomputable section

namespace Cert.Proof

open Idealize.ShloMosaic Idealize.SL.Sem

/-- Every claim of the certificate. -/
theorem claim : Cert.Claim := ⟨Cert.Diff.Gen.facts, Cert.DiffIdeal.Gen.facts, Cert.DiffRefIdeal.Gen.facts,
  Cert.Proj.Gen.facts, Cert.ProjIdeal.Gen.facts, Cert.ProjRefIdeal.Gen.facts,
  Cert.Small.Gen.facts, Cert.SmallIdeal.Gen.facts, Cert.SmallRefIdeal.Gen.facts,
  Cert.Merge.Gen.facts, Cert.MergeIdeal.Gen.facts, Cert.MergeRefIdeal.Gen.facts,
  Cert.Ffn.Gen.facts, Cert.FfnIdeal.Gen.facts, Cert.FfnRefIdeal.Gen.facts,
  Cert.MergeS.Gen.facts, Cert.MergeSIdeal.Gen.facts, Cert.MergeSRefIdeal.Gen.facts,
  Cert.FfnS.Gen.facts, Cert.FfnSIdeal.Gen.facts, Cert.FfnSRefIdeal.Gen.facts, Cert.Sb.Gen.facts, Cert.SbIdeal.Gen.facts, Cert.SbRefIdeal.Gen.facts,
  Cert.Pre_finite.Gen.facts, Cert.Pre_alive.Gen.facts,
  Diff.frame, Diff.frame_ideal, Diff.frame_ideal_pre, Diff.frame_ref, Diff.frame_ref_pre,
  Proj.frame_kernel, Proj.frame_ideal, Proj.frame_ref,
  Small.frame_kernel, Small.frame_ideal, Small.frame_ref,
  Merge.frame, Merge.frame_ideal, Merge.frame_ref, Ffn.frame, Ffn.frame_ideal, Ffn.frame_ref,
  MergeS.frame, MergeS.frame_ideal, MergeS.frame_ref, FfnS.frame, FfnS.frame_ideal, FfnS.frame_ref,
  Sb.frame_kernel, Sb.frame_ideal, Sb.frame_ideal_pre, Sb.frame_ref, Sb.frame_ref_pre,
  trivial, Diff.algebraic, trivial, Proj.algebraic, trivial, Small.algebraic, trivial, Merge.algebraic, trivial, Ffn.algebraic,
  trivial, MergeS.algebraic, trivial, FfnS.algebraic, trivial, Sb.algebraic⟩

end Cert.Proof

end
